-- ==== Defs.lean ====
def Pre_Kernel [hPre_tiles : Cert.Pre_tiles.Facts] (m : (ℓ : Loc Cert.Kernel.nD Cert.Kernel.τ Cert.Kernel.sig) → Buf (Elt Bits) ℓ) : Prop :=
  ∀ c : Dev Cert.Kernel.nD,
    (Cert.Pre_tiles.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tiles : Cert.Pre_tiles.Facts] (m : (ℓ : Loc Cert.KernelIdeal.nD Cert.KernelIdeal.τ Cert.KernelIdeal.sig) → Buf (Elt Ideal) ℓ) : Prop :=
  ∀ c : Dev Cert.KernelIdeal.nD,
    (Cert.Pre_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tiles : Cert.Pre_tiles.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tiles : Cert.Pre_tiles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tiles : Cert.Pre_tiles.Facts) (hPre_packed : Cert.Pre_packed.Facts),
    quiescent_Kernel (hKernel := hKernel) (hPre_tiles := hPre_tiles)
    ∧ quiescent_KernelIdeal (hKernelIdeal := hKernelIdeal) (hPre_tiles := hPre_tiles)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_packed (hKernelIdeal := hKernelIdeal) (hReferenceIdeal := hReferenceIdeal) (hPre_packed := hPre_packed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_packed.lean ====
abbrev S16x16384x128 : Shape := ⟨3, ![16, 16384, 128]⟩
abbrev S16x32x80x512 : Shape := ⟨4, ![16, 32, 80, 512]⟩
abbrev S16x16 : Shape := ⟨2, ![16, 16]⟩
abbrev S16 : Shape := ⟨1, ![16]⟩
abbrev S1x16 : Shape := ⟨2, ![1, 16]⟩
abbrev S_ : Shape := ⟨0, ![]⟩
abbrev S16x32x1x512 : Shape := ⟨4, ![16, 32, 1, 512]⟩
abbrev S16x32x512 : Shape := ⟨3, ![16, 32, 512]⟩

class Facts : Prop where
  bcast_S16_S1x16_1 : S16.BroadcastsInDim S1x16 (![1] : Fin 1 → Fin S1x16.rank)
  bcast_S_S16x16 : S_.BroadcastsInDim S16x16 (![] : Fin 0 → Fin S16x16.rank)
  bcast_S_S1x16 : S_.BroadcastsInDim S1x16 (![] : Fin 0 → Fin S1x16.rank)
  bcast_S1x16_S16x16_0_1 : S1x16.BroadcastsInDim S16x16 (![0, 1] : Fin 2 → Fin S16x16.rank)
  bitsLt_bf16_f32 : FTy.bits .bf16 < FTy.bits .f32
  bcast_S_S16x16384x128 : S_.BroadcastsInDim S16x16384x128 (![] : Fin 0 → Fin S16x16384x128.rank)
  reducesTo_S16x16384x128_S_d0_1_2 : S16x16384x128.ReducesTo [0, 1, 2] S_
  h_S_ : 0 < S_.numel
  reducesTo_S16x16_S_d0_1 : S16x16.ReducesTo [0, 1] S_
  slices_S16x32x80x512_S16x32x1x512_0_0_64_0 : S16x32x80x512.Slices ![0, 0, 64, 0] S16x32x1x512
  shapeCasts_S16x32x1x512_S16x32x512 : S16x32x1x512.ShapeCasts S16x32x512
  bcast_S_S16x32x512 : S_.BroadcastsInDim S16x32x512 (![] : Fin 0 → Fin S16x32x512.rank)
  reducesTo_S16x32x512_S_d0_1_2 : S16x32x512.ReducesTo [0, 1, 2] S_

variable [Facts]

def fn_part1 {F : FTy → Type} [FloatOps F] (main_arg1 : FVec F S16x16384x128 .bf16) (main_arg2 : FVec F S16x32x80x512 .bf16) (main_v13 : IVec S16x16 1) (main_v17 : IVec S16x16384x128 1) (main_c_3 : IVec S_ 1) : IVec S_ 1 :=
  let main_v18 : IVec S_ 1 := (fun x v => Host.reduce IntOp.andi x v reducesTo_S16x16384x128_S_d0_1_2 h_S_) main_v17 main_c_3
  let main_v19 : FVec F S16x16384x128 .f32 := (extf .f32 · bitsLt_bf16_f32) main_arg1
  let main_v20 : FVec F S16x16384x128 .f32 := Host.absf main_v19
  let main_cst_4 : FVec F S_ .f32 := constant S_ .f32 0x7F800000#32
  let main_v21 : FVec F S16x16384x128 .f32 := broadcastInDim S16x16384x128 ![] bcast_S_S16x16384x128 main_cst_4
  let main_v22 : IVec S16x16384x128 1 := cmpf .olt main_v20 main_v21
  let main_c_5 : IVec S_ 1 := constantI S_ 1 1#1
  let main_v23 : IVec S_ 1 := (fun x v => Host.reduce IntOp.andi x v reducesTo_S16x16384x128_S_d0_1_2 h_S_) main_v22 main_c_5
  let main_v24 : IVec S_ 1 := andi main_v18 main_v23
  let main_c_6 : IVec S_ 1 := constantI S_ 1 1#1
  let main_v25 : IVec S_ 1 := (fun x v => Host.reduce IntOp.andi x v reducesTo_S16x16_S_d0_1 h_S_) main_v13 main_c_6
  let main_v26 : IVec S_ 1 := andi main_v25 main_v24
  let main_v27 : FVec F S16x32x1x512 .bf16 := (extractStridedSlice S16x32x1x512 ![0, 0, 64, 0] · slices_S16x32x80x512_S16x32x1x512_0_0_64_0) main_arg2
  let main_v28 : FVec F S16x32x512 .bf16 := shapeCast S16x32x512 main_v27 shapeCasts_S16x32x1x512_S16x32x512
  let main_v29 : FVec F S16x32x512 .f32 := (extf .f32 · bitsLt_bf16_f32) main_v28
  let main_cst_7 : FVec F S_ .f32 := constant S_ .f32 0x3F800000#32
  let main_v30 : FVec F S16x32x512 .f32 := broadcastInDim S16x32x512 ![] bcast_S_S16x32x512 main_cst_7
  let main_v31 : IVec S16x32x512 1 := cmpf .oeq main_v29 main_v30
  let main_c_8 : IVec S_ 1 := constantI S_ 1 1#1
  let main_v32 : IVec S_ 1 := (fun x v => Host.reduce IntOp.andi x v reducesTo_S16x32x512_S_d0_1_2 h_S_) main_v31 main_c_8
  let main_v33 : IVec S_ 1 := andi main_v26 main_v32
  main_v33

def fn {F : FTy → Type} [FloatOps F] (main_arg0 : FVec F S16x16384x128 .bf16) (main_arg1 : FVec F S16x16384x128 .bf16) (main_arg2 : FVec F S16x32x80x512 .bf16) (main_arg3 : IVec S16x16 32) : IVec S_ 1 :=
  let main_v0 : IVec S16 32 := iotaInDim S16 32 0
  let main_v1 : IVec S1x16 32 := broadcastInDim S1x16 ![1] bcast_S16_S1x16_1 main_v0
  let main_c : IVec S_ 32 := constantI S_ 32 0#32
  let main_v2 : IVec S16x16 32 := broadcastInDim S16x16 ![] bcast_S_S16x16 main_c
  let main_v3 : IVec S16x16 1 := cmpi .sge main_arg3 main_v2
  let main_c_0 : IVec S_ 32 := constantI S_ 32 2#32
  let main_v4 : IVec S1x16 32 := broadcastInDim S1x16 ![] bcast_S_S1x16 main_c_0
  let main_v5 : IVec S1x16 32 := muli main_v4 main_v1
  let main_v6 : IVec S16x16 32 := broadcastInDim S16x16 ![0, 1] bcast_S1x16_S16x16_0_1 main_v5
  let main_v7 : IVec S16x16 1 := cmpi .sle main_arg3 main_v6
  let main_v8 : IVec S16x16 1 := andi main_v3 main_v7
  let main_c_1 : IVec S_ 32 := constantI S_ 32 1#32
  let main_v9 : IVec S16x16 32 := broadcastInDim S16x16 ![] bcast_S_S16x16 main_c_1
  let main_v10 : IVec S16x16 32 := andi main_arg3 main_v9
  let main_c_2 : IVec S_ 32 := constantI S_ 32 0#32
  let main_v11 : IVec S16x16 32 := broadcastInDim S16x16 ![] bcast_S_S16x16 main_c_2
  let main_v12 : IVec S16x16 1 := cmpi .eq main_v10 main_v11
  let main_v13 : IVec S16x16 1 := andi main_v8 main_v12
  let main_v14 : FVec F S16x16384x128 .f32 := (extf .f32 · bitsLt_bf16_f32) main_arg0
  let main_v15 : FVec F S16x16384x128 .f32 := Host.absf main_v14
  let main_cst : FVec F S_ .f32 := constant S_ .f32 0x7F800000#32
  let main_v16 : FVec F S16x16384x128 .f32 := broadcastInDim S16x16384x128 ![] bcast_S_S16x16384x128 main_cst
  let main_v17 : IVec S16x16384x128 1 := cmpf .olt main_v15 main_v16
  let main_c_3 : IVec S_ 1 := constantI S_ 1 1#1
  fn_part1 (F := F) main_arg1 main_arg2 main_v13 main_v17 main_c_3
-- ==== Pre_tiles.lean ====
abbrev S16x16384x128 : Shape := ⟨3, ![16, 16384, 128]⟩
abbrev S16x32x80x512 : Shape := ⟨4, ![16, 32, 80, 512]⟩
abbrev S16x16 : Shape := ⟨2, ![16, 16]⟩
abbrev S_ : Shape := ⟨0, ![]⟩

class Facts : Prop where
  bcast_S_S16x16 : S_.BroadcastsInDim S16x16 (![] : Fin 0 → Fin S16x16.rank)

variable [Facts]

def fn {F : FTy → Type} [FloatOps F] (main_arg0 : FVec F S16x16384x128 .bf16) (main_arg1 : FVec F S16x16384x128 .bf16) (main_arg2 : FVec F S16x32x80x512 .bf16) (main_arg3 : IVec S16x16 32) : IVec S16x16 1 :=
  let main_c : IVec S_ 32 := constantI S_ 32 0#32
  let main_v0 : IVec S16x16 32 := broadcastInDim S16x16 ![] bcast_S_S16x16 main_c
  let main_v1 : IVec S16x16 1 := cmpi .sge main_arg3 main_v0
  let main_c_0 : IVec S_ 32 := constantI S_ 32 32#32
  let main_v2 : IVec S16x16 32 := broadcastInDim S16x16 ![] bcast_S_S16x16 main_c_0
  let main_v3 : IVec S16x16 1 := cmpi .sle main_arg3 main_v2
  let main_v4 : IVec S16x16 1 := andi main_v1 main_v3
  main_v4
-- ==== Kernel.lean ====
abbrev S16x16384x128 : Shape := ⟨3, ![16, 16384, 128]⟩
abbrev S16x32x80x512 : Shape := ⟨4, ![16, 32, 80, 512]⟩
abbrev S16x16 : Shape := ⟨2, ![16, 16]⟩
abbrev S16384x1024 : Shape := ⟨2, ![16384, 1024]⟩
abbrev S2x1024x128 : Shape := ⟨3, ![2, 1024, 128]⟩
abbrev S2x16384x128 : Shape := ⟨3, ![2, 16384, 128]⟩
abbrev S2x32x80x512 : Shape := ⟨4, ![2, 32, 80, 512]⟩
abbrev S1024x128 : Shape := ⟨2, ![1024, 128]⟩
abbrev S2x1x1024 : Shape := ⟨3, ![2, 1, 1024]⟩
abbrev S2x80x1024 : Shape := ⟨3, ![2, 80, 1024]⟩
abbrev S2x512x1024 : Shape := ⟨3, ![2, 512, 1024]⟩
abbrev S1x1 : Shape := ⟨2, ![1, 1]⟩
abbrev S1x1024 : Shape := ⟨2, ![1, 1024]⟩
abbrev S1x1x1024 : Shape := ⟨3, ![1, 1, 1024]⟩
abbrev S80x1024 : Shape := ⟨2, ![80, 1024]⟩
abbrev S1x80x1024 : Shape := ⟨3, ![1, 80, 1024]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x1x256 : Shape := ⟨3, ![1, 1, 256]⟩
abbrev S1x256 : Shape := ⟨2, ![1, 256]⟩
abbrev S256 : Shape := ⟨1, ![256]⟩
abbrev S1x1x80x512 : Shape := ⟨4, ![1, 1, 80, 512]⟩
abbrev S80x512 : Shape := ⟨2, ![80, 512]⟩
abbrev S80x256 : Shape := ⟨2, ![80, 256]⟩
abbrev S1x80x256 : Shape := ⟨3, ![1, 80, 256]⟩
abbrev S64x1024 : Shape := ⟨2, ![64, 1024]⟩
abbrev S128x1024 : Shape := ⟨2, ![128, 1024]⟩

abbrev nBuf : Space → Nat
  | .hbm => 4
  | .vmem => 12
  | .smem => 1
  | _ => 0

abbrev bufTy : (tb : Table) → Fin (tcTables nBuf tb) → BufTy
  | .hbm, ⟨0, _⟩ => ⟨S16x16384x128, .bf16⟩
  | .hbm, ⟨1, _⟩ => ⟨S16x16384x128, .bf16⟩
  | .hbm, ⟨2, _⟩ => ⟨S16x32x80x512, .bf16⟩
  | .hbm, ⟨3, _⟩ => ⟨S16384x1024, .bf16⟩
  | .local _ .vmem, ⟨0, _⟩ => ⟨S2x1024x128, .bf16⟩
  | .local _ .vmem, ⟨1, _⟩ => ⟨S2x1024x128, .bf16⟩
  | .local _ .vmem, ⟨2, _⟩ => ⟨S2x16384x128, .bf16⟩
  | .local _ .vmem, ⟨3, _⟩ => ⟨S2x16384x128, .bf16⟩
  | .local _ .vmem, ⟨4, _⟩ => ⟨S2x32x80x512, .bf16⟩
  | .local _ .vmem, ⟨5, _⟩ => ⟨S2x32x80x512, .bf16⟩
  | .local _ .vmem, ⟨6, _⟩ => ⟨S1024x128, .bf16⟩
  | .local _ .vmem, ⟨7, _⟩ => ⟨S1024x128, .bf16⟩
  | .local _ .vmem, ⟨8, _⟩ => ⟨S2x1x1024, .f32⟩
  | .local _ .vmem, ⟨9, _⟩ => ⟨S2x80x1024, .f32⟩
  | .local _ .vmem, ⟨10, _⟩ => ⟨S2x512x1024, .f32⟩
  | .local _ .vmem, ⟨11, _⟩ => ⟨S2x512x1024, .f32⟩
  | .local _ .smem, ⟨0, _⟩ => ⟨S16x16, .i32⟩
  | _, _ => ⟨S16x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c2_i32 : BitVec 32 := 2#32
  let arg0 : BitVec 32 := BitVec.ofNat 32 (i 0).val
  let v0 : BitVec 32 := Scalar.muli c2_i32 arg0
  let v1 : Index := Scalar.indexCast v0
  let arg1 : BitVec 32 := BitVec.ofNat 32 (i 1).val
  let v2 : Index := Scalar.indexCast arg1
  ![v1.toNat, v2.toNat]
def k0_off2 (i : grid0.Coords) : Fin 2 → Nat :=
  let c2_i32_0 : BitVec 32 := 2#32
  let arg0 : BitVec 32 := BitVec.ofNat 32 (i 0).val
  let v4 : BitVec 32 := Scalar.muli c2_i32_0 arg0
  let c1_i32 : BitVec 32 := 1#32
  let v5 : BitVec 32 := Scalar.addi v4 c1_i32
  let v6 : Index := Scalar.indexCast v5
  let arg1 : BitVec 32 := BitVec.ofNat 32 (i 1).val
  let v7 : Index := Scalar.indexCast arg1
  ![v6.toNat, v7.toNat]
def k0_mult1 (i : grid0.Coords) : BitVec 32 :=
  let c2_i32_15 : BitVec 32 := 2#32
  let arg1 : BitVec 32 := BitVec.ofNat 32 (i 1).val
  let v29 : BitVec 32 := Scalar.muli c2_i32_15 arg1
  let c512_i32 : BitVec 32 := 512#32
  let v30 : BitVec 32 := Scalar.muli v29 c512_i32
  v30
def k0_off3 (i : grid0.Coords) : Fin 3 → Nat :=
  let c0_19 : Index := 0#32
  let c2_i32_15 : BitVec 32 := 2#32
  let arg1 : BitVec 32 := BitVec.ofNat 32 (i 1).val
  let v29 : BitVec 32 := Scalar.muli c2_i32_15 arg1
  let c512_i32 : BitVec 32 := 512#32
  let v30 : BitVec 32 := Scalar.muli v29 c512_i32
  let v31 : BitVec 32 := v30
  let v34 : Index := Scalar.indexCast v31
  let c0_20 : Index := 0#32
  ![0, v34.toNat, 0]
def k0_mult2 (i : grid0.Coords) : BitVec 32 :=
  let c2_i32_25 : BitVec 32 := 2#32
  let arg1 : BitVec 32 := BitVec.ofNat 32 (i 1).val
  let v41 : BitVec 32 := Scalar.muli c2_i32_25 arg1
  let c512_i32_26 : BitVec 32 := 512#32
  let v42 : BitVec 32 := Scalar.muli v41 c512_i32_26
  v42
def k0_mult3 (i : grid0.Coords) : BitVec 32 :=
  let c2_i32_35 : BitVec 32 := 2#32
  let arg1 : BitVec 32 := BitVec.ofNat 32 (i 1).val
  let v53 : BitVec 32 := Scalar.muli c2_i32_35 arg1
  let c512_i32_36 : BitVec 32 := 512#32
  let v54 : BitVec 32 := Scalar.muli v53 c512_i32_36
  v54
def k0_mult4 (i : grid0.Coords) : BitVec 32 :=
  let c2_i32_45 : BitVec 32 := 2#32
  let arg1 : BitVec 32 := BitVec.ofNat 32 (i 1).val
  let v65 : BitVec 32 := Scalar.muli c2_i32_45 arg1
  let c512_i32_46 : BitVec 32 := 512#32
  let v66 : BitVec 32 := Scalar.muli v65 c512_i32_46
  v66
def k0_mult5 (i : grid0.Coords) : BitVec 32 :=
  let c2_i32_55 : BitVec 32 := 2#32
  let arg1 : BitVec 32 := BitVec.ofNat 32 (i 1).val
  let v77 : BitVec 32 := Scalar.muli c2_i32_55 arg1
  let c512_i32_56 : BitVec 32 := 512#32
  let v78 : BitVec 32 := Scalar.muli v77 c512_i32_56
  v78
def k0_off4 (i : grid0.Coords) : Fin 3 → Nat :=
  let c1_60 : Index := 1#32
  let c2_i32_55 : BitVec 32 := 2#32
  let arg1 : BitVec 32 := BitVec.ofNat 32 (i 1).val
  let v77 : BitVec 32 := Scalar.muli c2_i32_55 arg1
  let c512_i32_56 : BitVec 32 := 512#32
  let v78 : BitVec 32 := Scalar.muli v77 c512_i32_56
  let v79 : BitVec 32 := v78
  let v82 : Index := Scalar.indexCast v79
  let c0_61 : Index := 0#32
  ![1, v82.toNat, 0]
def k0_mult6 (i : grid0.Coords) : BitVec 32 :=
  let c2_i32_66 : BitVec 32 := 2#32
  let arg1 : BitVec 32 := BitVec.ofNat 32 (i 1).val
  let v89 : BitVec 32 := Scalar.muli c2_i32_66 arg1
  let c512_i32_67 : BitVec 32 := 512#32
  let v90 : BitVec 32 := Scalar.muli v89 c512_i32_67
  v90
def k0_mult7 (i : grid0.Coords) : BitVec 32 :=
  let c2_i32_77 : BitVec 32 := 2#32
  let arg1 : BitVec 32 := BitVec.ofNat 32 (i 1).val
  let v101 : BitVec 32 := Scalar.muli c2_i32_77 arg1
  let c512_i32_78 : BitVec 32 := 512#32
  let v102 : BitVec 32 := Scalar.muli v101 c512_i32_78
  v102
def k0_mult8 (i : grid0.Coords) : BitVec 32 :=
  let c2_i32_88 : BitVec 32 := 2#32
  let arg1 : BitVec 32 := BitVec.ofNat 32 (i 1).val
  let v113 : BitVec 32 := Scalar.muli c2_i32_88 arg1
  let c512_i32_89 : BitVec 32 := 512#32
  let v114 : BitVec 32 := Scalar.muli v113 c512_i32_89
  v114
def k0_mult9 (i : grid0.Coords) : BitVec 32 :=
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_105 : BitVec 32 := 512#32
  let v130 : BitVec 32 := Scalar.muli v127 c512_i32_105
  v130
def k0_off5 (i : grid0.Coords) : Fin 3 → Nat :=
  let c0_109 : Index := 0#32
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_105 : BitVec 32 := 512#32
  let v130 : BitVec 32 := Scalar.muli v127 c512_i32_105
  let v131 : BitVec 32 := v130
  let v134 : Index := Scalar.indexCast v131
  let c0_110 : Index := 0#32
  ![0, v134.toNat, 0]
def k0_off6 (i : grid0.Coords) : Fin 4 → Nat :=
  let c0_121 : Index := 0#32
  let c2_i32_99 : BitVec 32 := 2#32
  let arg1 : BitVec 32 := BitVec.ofNat 32 (i 1).val
  let v125 : BitVec 32 := Scalar.muli c2_i32_99 arg1
  let v156 : Index := Scalar.indexCast v125
  let c0_122 : Index := 0#32
  let c0_123 : Index := 0#32
  ![0, v156.toNat, 0, 0]
def k0_mult10 (i : grid0.Coords) : BitVec 32 :=
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_137 : BitVec 32 := 512#32
  let v176 : BitVec 32 := Scalar.muli v127 c512_i32_137
  v176
def k0_mult11 (i : grid0.Coords) : BitVec 32 :=
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_168 : BitVec 32 := 512#32
  let v222 : BitVec 32 := Scalar.muli v127 c512_i32_168
  v222
def k0_mult12 (i : grid0.Coords) : BitVec 32 :=
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_199 : BitVec 32 := 512#32
  let v268 : BitVec 32 := Scalar.muli v127 c512_i32_199
  v268
def k0_mult13 (i : grid0.Coords) : BitVec 32 :=
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_230 : BitVec 32 := 512#32
  let v314 : BitVec 32 := Scalar.muli v127 c512_i32_230
  v314
def k0_off7 (i : grid0.Coords) : Fin 3 → Nat :=
  let c1_234 : Index := 1#32
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_230 : BitVec 32 := 512#32
  let v314 : BitVec 32 := Scalar.muli v127 c512_i32_230
  let v315 : BitVec 32 := v314
  let v318 : Index := Scalar.indexCast v315
  let c0_235 : Index := 0#32
  ![1, v318.toNat, 0]
def k0_off8 (i : grid0.Coords) : Fin 4 → Nat :=
  let c1_246 : Index := 1#32
  let c2_i32_99 : BitVec 32 := 2#32
  let arg1 : BitVec 32 := BitVec.ofNat 32 (i 1).val
  let v125 : BitVec 32 := Scalar.muli c2_i32_99 arg1
  let v340 : Index := Scalar.indexCast v125
  let c0_247 : Index := 0#32
  let c0_248 : Index := 0#32
  ![1, v340.toNat, 0, 0]
def k0_mult14 (i : grid0.Coords) : BitVec 32 :=
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_262 : BitVec 32 := 512#32
  let v360 : BitVec 32 := Scalar.muli v127 c512_i32_262
  v360
def k0_mult15 (i : grid0.Coords) : BitVec 32 :=
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_294 : BitVec 32 := 512#32
  let v406 : BitVec 32 := Scalar.muli v127 c512_i32_294
  v406
def k0_mult16 (i : grid0.Coords) : BitVec 32 :=
  let c2_i32_100 : BitVec 32 := 2#32
  let arg1 : BitVec 32 := BitVec.ofNat 32 (i 1).val
  let v126 : BitVec 32 := Scalar.muli c2_i32_100 arg1
  let c1_i32_101 : BitVec 32 := 1#32
  let v127 : BitVec 32 := Scalar.addi v126 c1_i32_101
  let c512_i32_326 : BitVec 32 := 512#32
  let v452 : BitVec 32 := Scalar.muli v127 c512_i32_326
  v452
def k0_mult17 (i : grid0.Coords) : BitVec 32 :=
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_363 : BitVec 32 := 512#32
  let v503 : BitVec 32 := Scalar.muli v500 c512_i32_363
  v503
def k0_off9 (i : grid0.Coords) : Fin 3 → Nat :=
  let c0_367 : Index := 0#32
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_363 : BitVec 32 := 512#32
  let v503 : BitVec 32 := Scalar.muli v500 c512_i32_363
  let v504 : BitVec 32 := v503
  let v507 : Index := Scalar.indexCast v504
  let c0_368 : Index := 0#32
  ![0, v507.toNat, 0]
def k0_off10 (i : grid0.Coords) : Fin 4 → Nat :=
  let c0_379 : Index := 0#32
  let c2_i32_355 : BitVec 32 := 2#32
  let arg1 : BitVec 32 := BitVec.ofNat 32 (i 1).val
  let v496 : BitVec 32 := Scalar.muli c2_i32_355 arg1
  let c1_i32_356 : BitVec 32 := 1#32
  let v497 : BitVec 32 := Scalar.addi v496 c1_i32_356
  let v529 : Index := Scalar.indexCast v497
  let c0_380 : Index := 0#32
  let c0_381 : Index := 0#32
  ![0, v529.toNat, 0, 0]
def k0_mult18 (i : grid0.Coords) : BitVec 32 :=
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_395 : BitVec 32 := 512#32
  let v549 : BitVec 32 := Scalar.muli v500 c512_i32_395
  v549
def k0_mult19 (i : grid0.Coords) : BitVec 32 :=
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_426 : BitVec 32 := 512#32
  let v595 : BitVec 32 := Scalar.muli v500 c512_i32_426
  v595
def k0_mult20 (i : grid0.Coords) : BitVec 32 :=
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_458 : BitVec 32 := 512#32
  let v641 : BitVec 32 := Scalar.muli v500 c512_i32_458
  v641
def k0_mult21 (i : grid0.Coords) : BitVec 32 :=
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_490 : BitVec 32 := 512#32
  let v687 : BitVec 32 := Scalar.muli v500 c512_i32_490
  v687
def k0_off11 (i : grid0.Coords) : Fin 3 → Nat :=
  let c1_494 : Index := 1#32
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_490 : BitVec 32 := 512#32
  let v687 : BitVec 32 := Scalar.muli v500 c512_i32_490
  let v688 : BitVec 32 := v687
  let v691 : Index := Scalar.indexCast v688
  let c0_495 : Index := 0#32
  ![1, v691.toNat, 0]
def k0_off12 (i : grid0.Coords) : Fin 4 → Nat :=
  let c1_506 : Index := 1#32
  let c2_i32_355 : BitVec 32 := 2#32
  let arg1 : BitVec 32 := BitVec.ofNat 32 (i 1).val
  let v496 : BitVec 32 := Scalar.muli c2_i32_355 arg1
  let c1_i32_356 : BitVec 32 := 1#32
  let v497 : BitVec 32 := Scalar.addi v496 c1_i32_356
  let v713 : Index := Scalar.indexCast v497
  let c0_507 : Index := 0#32
  let c0_508 : Index := 0#32
  ![1, v713.toNat, 0, 0]
def k0_mult22 (i : grid0.Coords) : BitVec 32 :=
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_522 : BitVec 32 := 512#32
  let v733 : BitVec 32 := Scalar.muli v500 c512_i32_522
  v733
def k0_mult23 (i : grid0.Coords) : BitVec 32 :=
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_554 : BitVec 32 := 512#32
  let v779 : BitVec 32 := Scalar.muli v500 c512_i32_554
  v779
def k0_mult24 (i : grid0.Coords) : BitVec 32 :=
  let c2_i32_357 : BitVec 32 := 2#32
  let arg1 : BitVec 32 := BitVec.ofNat 32 (i 1).val
  let v498 : BitVec 32 := Scalar.muli c2_i32_357 arg1
  let c1_i32_358 : BitVec 32 := 1#32
  let v499 : BitVec 32 := Scalar.subi v498 c1_i32_358
  let c0_i32_359 : BitVec 32 := 0#32
  let v500 : BitVec 32 := Scalar.maxsi v499 c0_i32_359
  let c512_i32_586 : BitVec 32 := 512#32
  let v825 : BitVec 32 := Scalar.muli v500 c512_i32_586
  v825
@[reducible] def k0_t1_loop (i : grid0.Coords) (v3 : BitVec 32) (v8 : BitVec 32) : Scf.Loop 32 :=
  let c0_i32_624 : BitVec 32 := 0#32
  let c2_i32_615 : BitVec 32 := 2#32
  let arg1 : BitVec 32 := BitVec.ofNat 32 (i 1).val
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_626 : BitVec 32 := 1#32
  ⟨c0_i32_624, v892, c1_i32_626⟩

def k0_mult25 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_655 : BitVec 32 := 512#32
  let v939 : BitVec 32 := Scalar.muli v936 c512_i32_655
  v939
def k0_off13 (i : grid0.Coords) (v3 : BitVec 32) (v8 : BitVec 32) (k0_t1 : Fin (k0_t1_loop i v3 v8).trips) : Fin 3 → Nat :=
  let c0_659 : Index := 0#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_655 : BitVec 32 := 512#32
  let v939 : BitVec 32 := Scalar.muli v936 c512_i32_655
  let v940 : BitVec 32 := v939
  let v943 : Index := Scalar.indexCast v940
  let c0_660 : Index := 0#32
  ![0, v943.toNat, 0]
def k0_off14 (i : grid0.Coords) (v3 : BitVec 32) (v8 : BitVec 32) (k0_t1 : Fin (k0_t1_loop i v3 v8).trips) : Fin 4 → Nat :=
  let c0_669 : Index := 0#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let v958 : Index := Scalar.indexCast v935
  let c0_670 : Index := 0#32
  let c0_671 : Index := 0#32
  ![0, v958.toNat, 0, 0]
def k0_mult26 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_685 : BitVec 32 := 512#32
  let v978 : BitVec 32 := Scalar.muli v936 c512_i32_685
  v978
def k0_mult27 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_715 : BitVec 32 := 512#32
  let v1017 : BitVec 32 := Scalar.muli v936 c512_i32_715
  v1017
def k0_mult28 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_745 : BitVec 32 := 512#32
  let v1056 : BitVec 32 := Scalar.muli v936 c512_i32_745
  v1056
def k0_mult29 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_775 : BitVec 32 := 512#32
  let v1095 : BitVec 32 := Scalar.muli v936 c512_i32_775
  v1095
def k0_off15 (i : grid0.Coords) (v3 : BitVec 32) (v8 : BitVec 32) (k0_t1 : Fin (k0_t1_loop i v3 v8).trips) : Fin 3 → Nat :=
  let c1_779 : Index := 1#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_775 : BitVec 32 := 512#32
  let v1095 : BitVec 32 := Scalar.muli v936 c512_i32_775
  let v1096 : BitVec 32 := v1095
  let v1099 : Index := Scalar.indexCast v1096
  let c0_780 : Index := 0#32
  ![1, v1099.toNat, 0]
def k0_off16 (i : grid0.Coords) (v3 : BitVec 32) (v8 : BitVec 32) (k0_t1 : Fin (k0_t1_loop i v3 v8).trips) : Fin 4 → Nat :=
  let c1_789 : Index := 1#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let v1114 : Index := Scalar.indexCast v935
  let c0_790 : Index := 0#32
  let c0_791 : Index := 0#32
  ![1, v1114.toNat, 0, 0]
def k0_mult30 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_805 : BitVec 32 := 512#32
  let v1134 : BitVec 32 := Scalar.muli v936 c512_i32_805
  v1134
def k0_mult31 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_835 : BitVec 32 := 512#32
  let v1173 : BitVec 32 := Scalar.muli v936 c512_i32_835
  v1173
def k0_mult32 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_865 : BitVec 32 := 512#32
  let v1212 : BitVec 32 := Scalar.muli v936 c512_i32_865
  v1212
def k0_mult33 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_898 : BitVec 32 := 512#32
  let v1254 : BitVec 32 := Scalar.muli v1251 c512_i32_898
  v1254
def k0_off17 (i : grid0.Coords) (v3 : BitVec 32) (v8 : BitVec 32) (k0_t1 : Fin (k0_t1_loop i v3 v8).trips) : Fin 3 → Nat :=
  let c0_902 : Index := 0#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_898 : BitVec 32 := 512#32
  let v1254 : BitVec 32 := Scalar.muli v1251 c512_i32_898
  let v1255 : BitVec 32 := v1254
  let v1258 : Index := Scalar.indexCast v1255
  let c0_903 : Index := 0#32
  ![0, v1258.toNat, 0]
def k0_off18 (i : grid0.Coords) (v3 : BitVec 32) (v8 : BitVec 32) (k0_t1 : Fin (k0_t1_loop i v3 v8).trips) : Fin 4 → Nat :=
  let c0_912 : Index := 0#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_892 : BitVec 32 := 1#32
  let v1249 : BitVec 32 := Scalar.subi v935 c1_i32_892
  let v1273 : Index := Scalar.indexCast v1249
  let c0_913 : Index := 0#32
  let c0_914 : Index := 0#32
  ![0, v1273.toNat, 0, 0]
def k0_mult34 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_928 : BitVec 32 := 512#32
  let v1293 : BitVec 32 := Scalar.muli v1251 c512_i32_928
  v1293
def k0_mult35 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_958 : BitVec 32 := 512#32
  let v1332 : BitVec 32 := Scalar.muli v1251 c512_i32_958
  v1332
def k0_mult36 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_988 : BitVec 32 := 512#32
  let v1371 : BitVec 32 := Scalar.muli v1251 c512_i32_988
  v1371
def k0_mult37 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1018 : BitVec 32 := 512#32
  let v1410 : BitVec 32 := Scalar.muli v1251 c512_i32_1018
  v1410
def k0_off19 (i : grid0.Coords) (v3 : BitVec 32) (v8 : BitVec 32) (k0_t1 : Fin (k0_t1_loop i v3 v8).trips) : Fin 3 → Nat :=
  let c1_1022 : Index := 1#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1018 : BitVec 32 := 512#32
  let v1410 : BitVec 32 := Scalar.muli v1251 c512_i32_1018
  let v1411 : BitVec 32 := v1410
  let v1414 : Index := Scalar.indexCast v1411
  let c0_1023 : Index := 0#32
  ![1, v1414.toNat, 0]
def k0_off20 (i : grid0.Coords) (v3 : BitVec 32) (v8 : BitVec 32) (k0_t1 : Fin (k0_t1_loop i v3 v8).trips) : Fin 4 → Nat :=
  let c1_1032 : Index := 1#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c1_i32_892 : BitVec 32 := 1#32
  let v1249 : BitVec 32 := Scalar.subi v935 c1_i32_892
  let v1429 : Index := Scalar.indexCast v1249
  let c0_1033 : Index := 0#32
  let c0_1034 : Index := 0#32
  ![1, v1429.toNat, 0, 0]
def k0_mult38 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1048 : BitVec 32 := 512#32
  let v1449 : BitVec 32 := Scalar.muli v1251 c512_i32_1048
  v1449
def k0_mult39 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1078 : BitVec 32 := 512#32
  let v1488 : BitVec 32 := Scalar.muli v1251 c512_i32_1078
  v1488
def k0_mult40 (i : grid0.Coords) (v3 : BitVec 32) (v8 : BitVec 32) (k0_t1 : Fin (k0_t1_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c1_i32_626 : BitVec 32 := 1#32
  let arg11 : BitVec 32 := Scf.iv c0_i32_624 c1_i32_626 k0_t1
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1108 : BitVec 32 := 512#32
  let v1527 : BitVec 32 := Scalar.muli v1251 c512_i32_1108
  v1527
@[reducible] def k0_t2_loop (i : grid0.Coords) (v3 : BitVec 32) (v8 : BitVec 32) : Scf.Loop 32 :=
  let c0_i32_624 : BitVec 32 := 0#32
  let c2_i32_615 : BitVec 32 := 2#32
  let arg1 : BitVec 32 := BitVec.ofNat 32 (i 1).val
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let v889 : BitVec 32 := Scalar.addi c0_i32_624 v888
  let c1_i32_627 : BitVec 32 := 1#32
  ⟨v892, v889, c1_i32_627⟩
def k0_mult41 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_655 : BitVec 32 := 512#32
  let v939 : BitVec 32 := Scalar.muli v936 c512_i32_655
  v939
def k0_off21 (i : grid0.Coords) (v3 : BitVec 32) (v8 : BitVec 32) (k0_t2 : Fin (k0_t2_loop i v3 v8).trips) : Fin 3 → Nat :=
  let c0_659 : Index := 0#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_655 : BitVec 32 := 512#32
  let v939 : BitVec 32 := Scalar.muli v936 c512_i32_655
  let v940 : BitVec 32 := v939
  let v943 : Index := Scalar.indexCast v940
  let c0_660 : Index := 0#32
  ![0, v943.toNat, 0]
def k0_off22 (i : grid0.Coords) (v3 : BitVec 32) (v8 : BitVec 32) (k0_t2 : Fin (k0_t2_loop i v3 v8).trips) : Fin 4 → Nat :=
  let c0_669 : Index := 0#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let v958 : Index := Scalar.indexCast v935
  let c0_670 : Index := 0#32
  let c0_671 : Index := 0#32
  ![0, v958.toNat, 0, 0]
def k0_mult42 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_685 : BitVec 32 := 512#32
  let v978 : BitVec 32 := Scalar.muli v936 c512_i32_685
  v978
def k0_mult43 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_715 : BitVec 32 := 512#32
  let v1017 : BitVec 32 := Scalar.muli v936 c512_i32_715
  v1017
def k0_mult44 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_745 : BitVec 32 := 512#32
  let v1056 : BitVec 32 := Scalar.muli v936 c512_i32_745
  v1056
def k0_mult45 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_775 : BitVec 32 := 512#32
  let v1095 : BitVec 32 := Scalar.muli v936 c512_i32_775
  v1095
def k0_off23 (i : grid0.Coords) (v3 : BitVec 32) (v8 : BitVec 32) (k0_t2 : Fin (k0_t2_loop i v3 v8).trips) : Fin 3 → Nat :=
  let c1_779 : Index := 1#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_775 : BitVec 32 := 512#32
  let v1095 : BitVec 32 := Scalar.muli v936 c512_i32_775
  let v1096 : BitVec 32 := v1095
  let v1099 : Index := Scalar.indexCast v1096
  let c0_780 : Index := 0#32
  ![1, v1099.toNat, 0]
def k0_off24 (i : grid0.Coords) (v3 : BitVec 32) (v8 : BitVec 32) (k0_t2 : Fin (k0_t2_loop i v3 v8).trips) : Fin 4 → Nat :=
  let c1_789 : Index := 1#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let v1114 : Index := Scalar.indexCast v935
  let c0_790 : Index := 0#32
  let c0_791 : Index := 0#32
  ![1, v1114.toNat, 0, 0]
def k0_mult46 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_805 : BitVec 32 := 512#32
  let v1134 : BitVec 32 := Scalar.muli v936 c512_i32_805
  v1134
def k0_mult47 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_835 : BitVec 32 := 512#32
  let v1173 : BitVec 32 := Scalar.muli v936 c512_i32_835
  v1173
def k0_mult48 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_651 : BitVec 32 := 1#32
  let v936 : BitVec 32 := Scalar.subi v935 c1_i32_651
  let c512_i32_865 : BitVec 32 := 512#32
  let v1212 : BitVec 32 := Scalar.muli v936 c512_i32_865
  v1212
def k0_mult49 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_898 : BitVec 32 := 512#32
  let v1254 : BitVec 32 := Scalar.muli v1251 c512_i32_898
  v1254
def k0_off25 (i : grid0.Coords) (v3 : BitVec 32) (v8 : BitVec 32) (k0_t2 : Fin (k0_t2_loop i v3 v8).trips) : Fin 3 → Nat :=
  let c0_902 : Index := 0#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_898 : BitVec 32 := 512#32
  let v1254 : BitVec 32 := Scalar.muli v1251 c512_i32_898
  let v1255 : BitVec 32 := v1254
  let v1258 : Index := Scalar.indexCast v1255
  let c0_903 : Index := 0#32
  ![0, v1258.toNat, 0]
def k0_off26 (i : grid0.Coords) (v3 : BitVec 32) (v8 : BitVec 32) (k0_t2 : Fin (k0_t2_loop i v3 v8).trips) : Fin 4 → Nat :=
  let c0_912 : Index := 0#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_892 : BitVec 32 := 1#32
  let v1249 : BitVec 32 := Scalar.subi v935 c1_i32_892
  let v1273 : Index := Scalar.indexCast v1249
  let c0_913 : Index := 0#32
  let c0_914 : Index := 0#32
  ![0, v1273.toNat, 0, 0]
def k0_mult50 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_928 : BitVec 32 := 512#32
  let v1293 : BitVec 32 := Scalar.muli v1251 c512_i32_928
  v1293
def k0_mult51 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_958 : BitVec 32 := 512#32
  let v1332 : BitVec 32 := Scalar.muli v1251 c512_i32_958
  v1332
def k0_mult52 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_988 : BitVec 32 := 512#32
  let v1371 : BitVec 32 := Scalar.muli v1251 c512_i32_988
  v1371
def k0_mult53 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1018 : BitVec 32 := 512#32
  let v1410 : BitVec 32 := Scalar.muli v1251 c512_i32_1018
  v1410
def k0_off27 (i : grid0.Coords) (v3 : BitVec 32) (v8 : BitVec 32) (k0_t2 : Fin (k0_t2_loop i v3 v8).trips) : Fin 3 → Nat :=
  let c1_1022 : Index := 1#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1018 : BitVec 32 := 512#32
  let v1410 : BitVec 32 := Scalar.muli v1251 c512_i32_1018
  let v1411 : BitVec 32 := v1410
  let v1414 : Index := Scalar.indexCast v1411
  let c0_1023 : Index := 0#32
  ![1, v1414.toNat, 0]
def k0_off28 (i : grid0.Coords) (v3 : BitVec 32) (v8 : BitVec 32) (k0_t2 : Fin (k0_t2_loop i v3 v8).trips) : Fin 4 → Nat :=
  let c1_1032 : Index := 1#32
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c1_i32_892 : BitVec 32 := 1#32
  let v1249 : BitVec 32 := Scalar.subi v935 c1_i32_892
  let v1429 : Index := Scalar.indexCast v1249
  let c0_1033 : Index := 0#32
  let c0_1034 : Index := 0#32
  ![1, v1429.toNat, 0, 0]
def k0_mult54 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1048 : BitVec 32 := 512#32
  let v1449 : BitVec 32 := Scalar.muli v1251 c512_i32_1048
  v1449
def k0_mult55 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1078 : BitVec 32 := 512#32
  let v1488 : BitVec 32 := Scalar.muli v1251 c512_i32_1078
  v1488
def k0_mult56 (i : grid0.Coords) (v3 : BitVec 32) (v8 : BitVec 32) (k0_t2 : Fin (k0_t2_loop i v3 v8).trips) : BitVec 32 :=
  let c2_i32_648 : BitVec 32 := 2#32
  let arg1 : BitVec 32 := BitVec.ofNat 32 (i 1).val
  let v932 : BitVec 32 := Scalar.muli c2_i32_648 arg1
  let c1_i32_649 : BitVec 32 := 1#32
  let v933 : BitVec 32 := Scalar.subi v932 c1_i32_649
  let c2_i32_650 : BitVec 32 := 2#32
  let c0_i32_624 : BitVec 32 := 0#32
  let c2_i32_615 : BitVec 32 := 2#32
  let v869 : BitVec 32 := Scalar.muli c2_i32_615 arg1
  let v9 : BitVec 32 := Scalar.maxsi v3 v8
  let v870 : BitVec 32 := Scalar.subi v869 v9
  let c0_i32_617 : BitVec 32 := 0#32
  let v872 : BitVec 1 := Scalar.cmpi .sgt v870 c0_i32_617
  let v873 : BitVec 32 := Scalar.extui v872
  let c0_i32_618 : BitVec 32 := 0#32
  let v874 : BitVec 1 := Scalar.cmpi .slt v870 c0_i32_618
  let v875 : BitVec 32 := Scalar.extui v874
  let v876 : BitVec 32 := Scalar.subi v873 v875
  let c2_i32_616 : BitVec 32 := 2#32
  let c0_i32_619 : BitVec 32 := 0#32
  let v877 : BitVec 1 := Scalar.cmpi .sgt c2_i32_616 c0_i32_619
  let v878 : BitVec 32 := Scalar.extui v877
  let c0_i32_620 : BitVec 32 := 0#32
  let v879 : BitVec 1 := Scalar.cmpi .slt c2_i32_616 c0_i32_620
  let v880 : BitVec 32 := Scalar.extui v879
  let v881 : BitVec 32 := Scalar.subi v878 v880
  let v882 : BitVec 1 := Scalar.cmpi .ne v876 v881
  let v883 : BitVec 32 := Scalar.remsi v870 c2_i32_616
  let c0_i32_621 : BitVec 32 := 0#32
  let v884 : BitVec 1 := Scalar.cmpi .ne v883 c0_i32_621
  let v885 : BitVec 1 := Scalar.andi v882 v884
  let v871 : BitVec 32 := Scalar.divsi v870 c2_i32_616
  let c1_i32_622 : BitVec 32 := 1#32
  let v886 : BitVec 32 := Scalar.subi v871 c1_i32_622
  let v887 : BitVec 32 := Scalar.select v885 v886 v871
  let v888 : BitVec 32 := Scalar.subi v887 c0_i32_624
  let c1_i32_625 : BitVec 32 := 1#32
  let v890 : BitVec 32 := Scalar.divsi v888 c1_i32_625
  let v891 : BitVec 32 := Scalar.muli v890 c1_i32_625
  let v892 : BitVec 32 := Scalar.addi c0_i32_624 v891
  let c1_i32_627 : BitVec 32 := 1#32
  let arg11 : BitVec 32 := Scf.iv v892 c1_i32_627 k0_t2
  let v934 : BitVec 32 := Scalar.muli c2_i32_650 arg11
  let v935 : BitVec 32 := Scalar.subi v933 v934
  let c2_i32_893 : BitVec 32 := 2#32
  let v1250 : BitVec 32 := Scalar.subi v935 c2_i32_893
  let c0_i32_894 : BitVec 32 := 0#32
  let v1251 : BitVec 32 := Scalar.maxsi v1250 c0_i32_894
  let c512_i32_1108 : BitVec 32 := 512#32
  let v1527 : BitVec 32 := Scalar.muli v1251 c512_i32_1108
  v1527
@[reducible] def k0_t3_loop (v3 : BitVec 32) (v8 : BitVec 32) : Scf.Loop 32 :=
  let c0_i32_636 : BitVec 32 := 0#32
  let v9 : BitVec 32 := Scalar.maxsi v3 v8
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_638 : BitVec 32 := 1#32
  ⟨c0_i32_636, v915, c1_i32_638⟩
def k0_off29 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v936 : Index := Scalar.indexCast v12
  let c0_651 : Index := 0#32
  let c0_652 : Index := 0#32
  ![v936.toNat, 0, 0]
def k0_mult57 (v3 : BitVec 32) (v8 : BitVec 32) (k0_t3 : Fin (k0_t3_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_653 : BitVec 32 := 512#32
  let v939 : BitVec 32 := Scalar.muli v935 c512_i32_653
  v939
def k0_off30 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v941 : Index := Scalar.indexCast v12
  let c0_654 : Index := 0#32
  let c0_655 : Index := 0#32
  ![v941.toNat, 0, 0]
def k0_off31 (v3 : BitVec 32) (v8 : BitVec 32) (k0_t3 : Fin (k0_t3_loop v3 v8).trips) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v944 : Index := Scalar.indexCast v12
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_653 : BitVec 32 := 512#32
  let v939 : BitVec 32 := Scalar.muli v935 c512_i32_653
  let v940 : BitVec 32 := v939
  let v945 : Index := Scalar.indexCast v940
  let c0_656 : Index := 0#32
  ![v944.toNat, v945.toNat, 0]
def k0_off32 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v953 : Index := Scalar.indexCast v12
  let c0_660 : Index := 0#32
  let c0_661 : Index := 0#32
  ![v953.toNat, 0, 0]
def k0_off33 (v3 : BitVec 32) (v8 : BitVec 32) (k0_t3 : Fin (k0_t3_loop v3 v8).trips) : Fin 4 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v962 : Index := Scalar.indexCast v12
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let v963 : Index := Scalar.indexCast v934
  let c0_663 : Index := 0#32
  let c0_664 : Index := 0#32
  ![v962.toNat, v963.toNat, 0, 0]
def k0_off34 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v970 : Index := Scalar.indexCast v12
  let c0_666 : Index := 0#32
  let c0_667 : Index := 0#32
  ![v970.toNat, 0, 0]
def k0_off35 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v984 : Index := Scalar.indexCast v12
  let c0_672 : Index := 0#32
  let c256_673 : Index := 256#32
  ![v984.toNat, 0, 256]
def k0_mult58 (v3 : BitVec 32) (v8 : BitVec 32) (k0_t3 : Fin (k0_t3_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_674 : BitVec 32 := 512#32
  let v987 : BitVec 32 := Scalar.muli v935 c512_i32_674
  v987
def k0_off36 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v989 : Index := Scalar.indexCast v12
  let c256_675 : Index := 256#32
  let c0_676 : Index := 0#32
  ![v989.toNat, 256, 0]
def k0_off37 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1001 : Index := Scalar.indexCast v12
  let c0_681 : Index := 0#32
  let c256_682 : Index := 256#32
  ![v1001.toNat, 0, 256]
def k0_off38 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1018 : Index := Scalar.indexCast v12
  let c0_687 : Index := 0#32
  let c256_688 : Index := 256#32
  ![v1018.toNat, 0, 256]
def k0_off39 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1032 : Index := Scalar.indexCast v12
  let c0_693 : Index := 0#32
  let c512_694 : Index := 512#32
  ![v1032.toNat, 0, 512]
def k0_mult59 (v3 : BitVec 32) (v8 : BitVec 32) (k0_t3 : Fin (k0_t3_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_695 : BitVec 32 := 512#32
  let v1035 : BitVec 32 := Scalar.muli v935 c512_i32_695
  v1035
def k0_off40 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1037 : Index := Scalar.indexCast v12
  let c512_696 : Index := 512#32
  let c0_697 : Index := 0#32
  ![v1037.toNat, 512, 0]
def k0_off41 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1049 : Index := Scalar.indexCast v12
  let c0_702 : Index := 0#32
  let c512_703 : Index := 512#32
  ![v1049.toNat, 0, 512]
def k0_off42 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1066 : Index := Scalar.indexCast v12
  let c0_708 : Index := 0#32
  let c512_709 : Index := 512#32
  ![v1066.toNat, 0, 512]
def k0_off43 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1080 : Index := Scalar.indexCast v12
  let c0_714 : Index := 0#32
  let c768_715 : Index := 768#32
  ![v1080.toNat, 0, 768]
def k0_mult60 (v3 : BitVec 32) (v8 : BitVec 32) (k0_t3 : Fin (k0_t3_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_716 : BitVec 32 := 512#32
  let v1083 : BitVec 32 := Scalar.muli v935 c512_i32_716
  v1083
def k0_off44 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1085 : Index := Scalar.indexCast v12
  let c768_717 : Index := 768#32
  let c0_718 : Index := 0#32
  ![v1085.toNat, 768, 0]
def k0_off45 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1097 : Index := Scalar.indexCast v12
  let c0_723 : Index := 0#32
  let c768_724 : Index := 768#32
  ![v1097.toNat, 0, 768]
def k0_off46 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1114 : Index := Scalar.indexCast v12
  let c0_729 : Index := 0#32
  let c768_730 : Index := 768#32
  ![v1114.toNat, 0, 768]
def k0_mult61 (v3 : BitVec 32) (v8 : BitVec 32) (k0_t3 : Fin (k0_t3_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_740 : BitVec 32 := 512#32
  let v1134 : BitVec 32 := Scalar.muli v1130 c512_i32_740
  v1134
def k0_off47 (v3 : BitVec 32) (v8 : BitVec 32) (k0_t3 : Fin (k0_t3_loop v3 v8).trips) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1139 : Index := Scalar.indexCast v12
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_740 : BitVec 32 := 512#32
  let v1134 : BitVec 32 := Scalar.muli v1130 c512_i32_740
  let v1135 : BitVec 32 := v1134
  let v1140 : Index := Scalar.indexCast v1135
  let c0_743 : Index := 0#32
  ![v1139.toNat, v1140.toNat, 0]
def k0_off48 (v3 : BitVec 32) (v8 : BitVec 32) (k0_t3 : Fin (k0_t3_loop v3 v8).trips) : Fin 4 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1157 : Index := Scalar.indexCast v12
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c1_i32_735 : BitVec 32 := 1#32
  let v1128 : BitVec 32 := Scalar.subi v934 c1_i32_735
  let v1158 : Index := Scalar.indexCast v1128
  let c0_750 : Index := 0#32
  let c0_751 : Index := 0#32
  ![v1157.toNat, v1158.toNat, 0, 0]
def k0_mult62 (v3 : BitVec 32) (v8 : BitVec 32) (k0_t3 : Fin (k0_t3_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_761 : BitVec 32 := 512#32
  let v1182 : BitVec 32 := Scalar.muli v1130 c512_i32_761
  v1182
def k0_mult63 (v3 : BitVec 32) (v8 : BitVec 32) (k0_t3 : Fin (k0_t3_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_782 : BitVec 32 := 512#32
  let v1230 : BitVec 32 := Scalar.muli v1130 c512_i32_782
  v1230
def k0_mult64 (v3 : BitVec 32) (v8 : BitVec 32) (k0_t3 : Fin (k0_t3_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let c1_i32_638 : BitVec 32 := 1#32
  let arg11 : BitVec 32 := Scf.iv c0_i32_636 c1_i32_638 k0_t3
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_803 : BitVec 32 := 512#32
  let v1278 : BitVec 32 := Scalar.muli v1130 c512_i32_803
  v1278
@[reducible] def k0_t4_loop (v3 : BitVec 32) (v8 : BitVec 32) : Scf.Loop 32 :=
  let c0_i32_636 : BitVec 32 := 0#32
  let v9 : BitVec 32 := Scalar.maxsi v3 v8
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let v912 : BitVec 32 := Scalar.addi c0_i32_636 v911
  let c1_i32_639 : BitVec 32 := 1#32
  ⟨v915, v912, c1_i32_639⟩
def k0_off49 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v936 : Index := Scalar.indexCast v12
  let c0_651 : Index := 0#32
  let c0_652 : Index := 0#32
  ![v936.toNat, 0, 0]
def k0_mult65 (v3 : BitVec 32) (v8 : BitVec 32) (k0_t4 : Fin (k0_t4_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_653 : BitVec 32 := 512#32
  let v939 : BitVec 32 := Scalar.muli v935 c512_i32_653
  v939
def k0_off50 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v941 : Index := Scalar.indexCast v12
  let c0_654 : Index := 0#32
  let c0_655 : Index := 0#32
  ![v941.toNat, 0, 0]
def k0_off51 (v3 : BitVec 32) (v8 : BitVec 32) (k0_t4 : Fin (k0_t4_loop v3 v8).trips) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v944 : Index := Scalar.indexCast v12
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_653 : BitVec 32 := 512#32
  let v939 : BitVec 32 := Scalar.muli v935 c512_i32_653
  let v940 : BitVec 32 := v939
  let v945 : Index := Scalar.indexCast v940
  let c0_656 : Index := 0#32
  ![v944.toNat, v945.toNat, 0]
def k0_off52 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v953 : Index := Scalar.indexCast v12
  let c0_660 : Index := 0#32
  let c0_661 : Index := 0#32
  ![v953.toNat, 0, 0]
def k0_off53 (v3 : BitVec 32) (v8 : BitVec 32) (k0_t4 : Fin (k0_t4_loop v3 v8).trips) : Fin 4 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v962 : Index := Scalar.indexCast v12
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let v963 : Index := Scalar.indexCast v934
  let c0_663 : Index := 0#32
  let c0_664 : Index := 0#32
  ![v962.toNat, v963.toNat, 0, 0]
def k0_off54 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v970 : Index := Scalar.indexCast v12
  let c0_666 : Index := 0#32
  let c0_667 : Index := 0#32
  ![v970.toNat, 0, 0]
def k0_off55 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v984 : Index := Scalar.indexCast v12
  let c0_672 : Index := 0#32
  let c256_673 : Index := 256#32
  ![v984.toNat, 0, 256]
def k0_mult66 (v3 : BitVec 32) (v8 : BitVec 32) (k0_t4 : Fin (k0_t4_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_674 : BitVec 32 := 512#32
  let v987 : BitVec 32 := Scalar.muli v935 c512_i32_674
  v987
def k0_off56 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v989 : Index := Scalar.indexCast v12
  let c256_675 : Index := 256#32
  let c0_676 : Index := 0#32
  ![v989.toNat, 256, 0]
def k0_off57 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1001 : Index := Scalar.indexCast v12
  let c0_681 : Index := 0#32
  let c256_682 : Index := 256#32
  ![v1001.toNat, 0, 256]
def k0_off58 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1018 : Index := Scalar.indexCast v12
  let c0_687 : Index := 0#32
  let c256_688 : Index := 256#32
  ![v1018.toNat, 0, 256]
def k0_off59 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1032 : Index := Scalar.indexCast v12
  let c0_693 : Index := 0#32
  let c512_694 : Index := 512#32
  ![v1032.toNat, 0, 512]
def k0_mult67 (v3 : BitVec 32) (v8 : BitVec 32) (k0_t4 : Fin (k0_t4_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_695 : BitVec 32 := 512#32
  let v1035 : BitVec 32 := Scalar.muli v935 c512_i32_695
  v1035
def k0_off60 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1037 : Index := Scalar.indexCast v12
  let c512_696 : Index := 512#32
  let c0_697 : Index := 0#32
  ![v1037.toNat, 512, 0]
def k0_off61 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1049 : Index := Scalar.indexCast v12
  let c0_702 : Index := 0#32
  let c512_703 : Index := 512#32
  ![v1049.toNat, 0, 512]
def k0_off62 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1066 : Index := Scalar.indexCast v12
  let c0_708 : Index := 0#32
  let c512_709 : Index := 512#32
  ![v1066.toNat, 0, 512]
def k0_off63 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1080 : Index := Scalar.indexCast v12
  let c0_714 : Index := 0#32
  let c768_715 : Index := 768#32
  ![v1080.toNat, 0, 768]
def k0_mult68 (v3 : BitVec 32) (v8 : BitVec 32) (k0_t4 : Fin (k0_t4_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c1_i32_650 : BitVec 32 := 1#32
  let v935 : BitVec 32 := Scalar.subi v934 c1_i32_650
  let c512_i32_716 : BitVec 32 := 512#32
  let v1083 : BitVec 32 := Scalar.muli v935 c512_i32_716
  v1083
def k0_off64 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1085 : Index := Scalar.indexCast v12
  let c768_717 : Index := 768#32
  let c0_718 : Index := 0#32
  ![v1085.toNat, 768, 0]
def k0_off65 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1097 : Index := Scalar.indexCast v12
  let c0_723 : Index := 0#32
  let c768_724 : Index := 768#32
  ![v1097.toNat, 0, 768]
def k0_off66 (v3 : BitVec 32) (v8 : BitVec 32) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1114 : Index := Scalar.indexCast v12
  let c0_729 : Index := 0#32
  let c768_730 : Index := 768#32
  ![v1114.toNat, 0, 768]
def k0_mult69 (v3 : BitVec 32) (v8 : BitVec 32) (k0_t4 : Fin (k0_t4_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_740 : BitVec 32 := 512#32
  let v1134 : BitVec 32 := Scalar.muli v1130 c512_i32_740
  v1134
def k0_off67 (v3 : BitVec 32) (v8 : BitVec 32) (k0_t4 : Fin (k0_t4_loop v3 v8).trips) : Fin 3 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1139 : Index := Scalar.indexCast v12
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_740 : BitVec 32 := 512#32
  let v1134 : BitVec 32 := Scalar.muli v1130 c512_i32_740
  let v1135 : BitVec 32 := v1134
  let v1140 : Index := Scalar.indexCast v1135
  let c0_743 : Index := 0#32
  ![v1139.toNat, v1140.toNat, 0]
def k0_off68 (v3 : BitVec 32) (v8 : BitVec 32) (k0_t4 : Fin (k0_t4_loop v3 v8).trips) : Fin 4 → Nat :=
  let v11 : BitVec 1 := Scalar.cmpi .slt v3 v8
  let c0_i32 : BitVec 32 := 0#32
  let c1_i32_1 : BitVec 32 := 1#32
  let v12 : BitVec 32 := Scalar.select v11 c0_i32 c1_i32_1
  let v1157 : Index := Scalar.indexCast v12
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c1_i32_735 : BitVec 32 := 1#32
  let v1128 : BitVec 32 := Scalar.subi v934 c1_i32_735
  let v1158 : Index := Scalar.indexCast v1128
  let c0_750 : Index := 0#32
  let c0_751 : Index := 0#32
  ![v1157.toNat, v1158.toNat, 0, 0]
def k0_mult70 (v3 : BitVec 32) (v8 : BitVec 32) (k0_t4 : Fin (k0_t4_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_761 : BitVec 32 := 512#32
  let v1182 : BitVec 32 := Scalar.muli v1130 c512_i32_761
  v1182
def k0_mult71 (v3 : BitVec 32) (v8 : BitVec 32) (k0_t4 : Fin (k0_t4_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_782 : BitVec 32 := 512#32
  let v1230 : BitVec 32 := Scalar.muli v1130 c512_i32_782
  v1230
def k0_mult72 (v3 : BitVec 32) (v8 : BitVec 32) (k0_t4 : Fin (k0_t4_loop v3 v8).trips) : BitVec 32 :=
  let v9 : BitVec 32 := Scalar.maxsi v3 v8
  let c1_i32_648 : BitVec 32 := 1#32
  let v932 : BitVec 32 := Scalar.subi v9 c1_i32_648
  let c2_i32_649 : BitVec 32 := 2#32
  let c0_i32_636 : BitVec 32 := 0#32
  let v10 : BitVec 32 := Scalar.minsi v3 v8
  let v893 : BitVec 32 := Scalar.subi v9 v10
  let c0_i32_629 : BitVec 32 := 0#32
  let v895 : BitVec 1 := Scalar.cmpi .sgt v893 c0_i32_629
  let v896 : BitVec 32 := Scalar.extui v895
  let c0_i32_630 : BitVec 32 := 0#32
  let v897 : BitVec 1 := Scalar.cmpi .slt v893 c0_i32_630
  let v898 : BitVec 32 := Scalar.extui v897
  let v899 : BitVec 32 := Scalar.subi v896 v898
  let c2_i32_628 : BitVec 32 := 2#32
  let c0_i32_631 : BitVec 32 := 0#32
  let v900 : BitVec 1 := Scalar.cmpi .sgt c2_i32_628 c0_i32_631
  let v901 : BitVec 32 := Scalar.extui v900
  let c0_i32_632 : BitVec 32 := 0#32
  let v902 : BitVec 1 := Scalar.cmpi .slt c2_i32_628 c0_i32_632
  let v903 : BitVec 32 := Scalar.extui v902
  let v904 : BitVec 32 := Scalar.subi v901 v903
  let v905 : BitVec 1 := Scalar.cmpi .ne v899 v904
  let v906 : BitVec 32 := Scalar.remsi v893 c2_i32_628
  let c0_i32_633 : BitVec 32 := 0#32
  let v907 : BitVec 1 := Scalar.cmpi .ne v906 c0_i32_633
  let v908 : BitVec 1 := Scalar.andi v905 v907
  let v894 : BitVec 32 := Scalar.divsi v893 c2_i32_628
  let c1_i32_634 : BitVec 32 := 1#32
  let v909 : BitVec 32 := Scalar.subi v894 c1_i32_634
  let v910 : BitVec 32 := Scalar.select v908 v909 v894
  let v911 : BitVec 32 := Scalar.subi v910 c0_i32_636
  let c1_i32_637 : BitVec 32 := 1#32
  let v913 : BitVec 32 := Scalar.divsi v911 c1_i32_637
  let v914 : BitVec 32 := Scalar.muli v913 c1_i32_637
  let v915 : BitVec 32 := Scalar.addi c0_i32_636 v914
  let c1_i32_639 : BitVec 32 := 1#32
  let arg11 : BitVec 32 := Scf.iv v915 c1_i32_639 k0_t4
  let v933 : BitVec 32 := Scalar.muli c2_i32_649 arg11
  let v934 : BitVec 32 := Scalar.subi v932 v933
  let c2_i32_736 : BitVec 32 := 2#32
  let v1129 : BitVec 32 := Scalar.subi v934 c2_i32_736
  let c0_i32_737 : BitVec 32 := 0#32
  let v1130 : BitVec 32 := Scalar.maxsi v1129 c0_i32_737
  let c512_i32_803 : BitVec 32 := 512#32
  let v1278 : BitVec 32 := Scalar.muli v1130 c512_i32_803
  v1278

def k0_chk1_0 (i : grid0.Coords) (v3 : BitVec 32) (v8 : BitVec 32) : Prop :=
  ((k0_t1_loop i v3 v8).OK) ∧
  (∀ k0_t1 : Fin (k0_t1_loop i v3 v8).trips, 512 ∣ (k0_mult25 i v3 v8 k0_t1).toNat) ∧
  (∀ k0_t1 : Fin (k0_t1_loop i v3 v8).trips, ∀ a, (k0_off13 i v3 v8 k0_t1) a + S1x512x128.size a ≤ S2x16384x128.size a) ∧
  (∀ k0_t1 : Fin (k0_t1_loop i v3 v8).trips, ∀ a, (k0_off14 i v3 v8 k0_t1) a + S1x1x80x512.size a ≤ S2x32x80x512.size a) ∧
  (∀ k0_t1 : Fin (k0_t1_loop i v3 v8).trips, 512 ∣ (k0_mult26 i v3 v8 k0_t1).toNat) ∧
  (∀ k0_t1 : Fin (k0_t1_loop i v3 v8).trips, 512 ∣ (k0_mult27 i v3 v8 k0_t1).toNat) ∧
  (∀ k0_t1 : Fin (k0_t1_loop i v3 v8).trips, 512 ∣ (k0_mult28 i v3 v8 k0_t1).toNat) ∧
  (∀ k0_t1 : Fin (k0_t1_loop i v3 v8).trips, 512 ∣ (k0_mult29 i v3 v8 k0_t1).toNat) ∧
  (∀ k0_t1 : Fin (k0_t1_loop i v3 v8).trips, ∀ a, (k0_off15 i v3 v8 k0_t1) a + S1x512x128.size a ≤ S2x16384x128.size a) ∧
  (∀ k0_t1 : Fin (k0_t1_loop i v3 v8).trips, ∀ a, (k0_off16 i v3 v8 k0_t1) a + S1x1x80x512.size a ≤ S2x32x80x512.size a) ∧
  (∀ k0_t1 : Fin (k0_t1_loop i v3 v8).trips, 512 ∣ (k0_mult30 i v3 v8 k0_t1).toNat) ∧
  (∀ k0_t1 : Fin (k0_t1_loop i v3 v8).trips, 512 ∣ (k0_mult31 i v3 v8 k0_t1).toNat) ∧
  (∀ k0_t1 : Fin (k0_t1_loop i v3 v8).trips, 512 ∣ (k0_mult32 i v3 v8 k0_t1).toNat) ∧
  (∀ k0_t1 : Fin (k0_t1_loop i v3 v8).trips, 512 ∣ (k0_mult33 i v3 v8 k0_t1).toNat) ∧
  (∀ k0_t1 : Fin (k0_t1_loop i v3 v8).trips, ∀ a, (k0_off17 i v3 v8 k0_t1) a + S1x512x128.size a ≤ S2x16384x128.size a) ∧
  (∀ k0_t1 : Fin (k0_t1_loop i v3 v8).trips, ∀ a, (k0_off18 i v3 v8 k0_t1) a + S1x1x80x512.size a ≤ S2x32x80x512.size a) ∧
  (∀ k0_t1 : Fin (k0_t1_loop i v3 v8).trips, 512 ∣ (k0_mult34 i v3 v8 k0_t1).toNat) ∧
  (∀ k0_t1 : Fin (k0_t1_loop i v3 v8).trips, 512 ∣ (k0_mult35 i v3 v8 k0_t1).toNat) ∧
  (∀ k0_t1 : Fin (k0_t1_loop i v3 v8).trips, 512 ∣ (k0_mult36 i v3 v8 k0_t1).toNat) ∧
  (∀ k0_t1 : Fin (k0_t1_loop i v3 v8).trips, 512 ∣ (k0_mult37 i v3 v8 k0_t1).toNat) ∧
  (∀ k0_t1 : Fin (k0_t1_loop i v3 v8).trips, ∀ a, (k0_off19 i v3 v8 k0_t1) a + S1x512x128.size a ≤ S2x16384x128.size a) ∧
  (∀ k0_t1 : Fin (k0_t1_loop i v3 v8).trips, ∀ a, (k0_off20 i v3 v8 k0_t1) a + S1x1x80x512.size a ≤ S2x32x80x512.size a) ∧
  (∀ k0_t1 : Fin (k0_t1_loop i v3 v8).trips, 512 ∣ (k0_mult38 i v3 v8 k0_t1).toNat) ∧
  (∀ k0_t1 : Fin (k0_t1_loop i v3 v8).trips, 512 ∣ (k0_mult39 i v3 v8 k0_t1).toNat) ∧
  (∀ k0_t1 : Fin (k0_t1_loop i v3 v8).trips, 512 ∣ (k0_mult40 i v3 v8 k0_t1).toNat) ∧
  ((k0_t2_loop i v3 v8).OK) ∧
  (∀ k0_t2 : Fin (k0_t2_loop i v3 v8).trips, 512 ∣ (k0_mult41 i v3 v8 k0_t2).toNat) ∧
  (∀ k0_t2 : Fin (k0_t2_loop i v3 v8).trips, ∀ a, (k0_off21 i v3 v8 k0_t2) a + S1x512x128.size a ≤ S2x16384x128.size a) ∧
  (∀ k0_t2 : Fin (k0_t2_loop i v3 v8).trips, ∀ a, (k0_off22 i v3 v8 k0_t2) a + S1x1x80x512.size a ≤ S2x32x80x512.size a) ∧
  (∀ k0_t2 : Fin (k0_t2_loop i v3 v8).trips, 512 ∣ (k0_mult42 i v3 v8 k0_t2).toNat) ∧
  (∀ k0_t2 : Fin (k0_t2_loop i v3 v8).trips, 512 ∣ (k0_mult43 i v3 v8 k0_t2).toNat) ∧
  (∀ k0_t2 : Fin (k0_t2_loop i v3 v8).trips, 512 ∣ (k0_mult44 i v3 v8 k0_t2).toNat)
def k0_chk1_1 (i : grid0.Coords) (v3 : BitVec 32) (v8 : BitVec 32) : Prop :=
  (∀ k0_t2 : Fin (k0_t2_loop i v3 v8).trips, 512 ∣ (k0_mult45 i v3 v8 k0_t2).toNat) ∧
  (∀ k0_t2 : Fin (k0_t2_loop i v3 v8).trips, ∀ a, (k0_off23 i v3 v8 k0_t2) a + S1x512x128.size a ≤ S2x16384x128.size a) ∧
  (∀ k0_t2 : Fin (k0_t2_loop i v3 v8).trips, ∀ a, (k0_off24 i v3 v8 k0_t2) a + S1x1x80x512.size a ≤ S2x32x80x512.size a) ∧
  (∀ k0_t2 : Fin (k0_t2_loop i v3 v8).trips, 512 ∣ (k0_mult46 i v3 v8 k0_t2).toNat) ∧
  (∀ k0_t2 : Fin (k0_t2_loop i v3 v8).trips, 512 ∣ (k0_mult47 i v3 v8 k0_t2).toNat) ∧
  (∀ k0_t2 : Fin (k0_t2_loop i v3 v8).trips, 512 ∣ (k0_mult48 i v3 v8 k0_t2).toNat) ∧
  (∀ k0_t2 : Fin (k0_t2_loop i v3 v8).trips, 512 ∣ (k0_mult49 i v3 v8 k0_t2).toNat) ∧
  (∀ k0_t2 : Fin (k0_t2_loop i v3 v8).trips, ∀ a, (k0_off25 i v3 v8 k0_t2) a + S1x512x128.size a ≤ S2x16384x128.size a) ∧
  (∀ k0_t2 : Fin (k0_t2_loop i v3 v8).trips, ∀ a, (k0_off26 i v3 v8 k0_t2) a + S1x1x80x512.size a ≤ S2x32x80x512.size a) ∧
  (∀ k0_t2 : Fin (k0_t2_loop i v3 v8).trips, 512 ∣ (k0_mult50 i v3 v8 k0_t2).toNat) ∧
  (∀ k0_t2 : Fin (k0_t2_loop i v3 v8).trips, 512 ∣ (k0_mult51 i v3 v8 k0_t2).toNat) ∧
  (∀ k0_t2 : Fin (k0_t2_loop i v3 v8).trips, 512 ∣ (k0_mult52 i v3 v8 k0_t2).toNat) ∧
  (∀ k0_t2 : Fin (k0_t2_loop i v3 v8).trips, 512 ∣ (k0_mult53 i v3 v8 k0_t2).toNat) ∧
  (∀ k0_t2 : Fin (k0_t2_loop i v3 v8).trips, ∀ a, (k0_off27 i v3 v8 k0_t2) a + S1x512x128.size a ≤ S2x16384x128.size a) ∧
  (∀ k0_t2 : Fin (k0_t2_loop i v3 v8).trips, ∀ a, (k0_off28 i v3 v8 k0_t2) a + S1x1x80x512.size a ≤ S2x32x80x512.size a) ∧
  (∀ k0_t2 : Fin (k0_t2_loop i v3 v8).trips, 512 ∣ (k0_mult54 i v3 v8 k0_t2).toNat) ∧
  (∀ k0_t2 : Fin (k0_t2_loop i v3 v8).trips, 512 ∣ (k0_mult55 i v3 v8 k0_t2).toNat) ∧
  (∀ k0_t2 : Fin (k0_t2_loop i v3 v8).trips, 512 ∣ (k0_mult56 i v3 v8 k0_t2).toNat) ∧
  ((k0_t3_loop v3 v8).OK) ∧
  (∀ k0_t3 : Fin (k0_t3_loop v3 v8).trips, ∀ a, (k0_off29 v3 v8) a + S1x512x256.size a ≤ S2x512x1024.size a) ∧
  (∀ k0_t3 : Fin (k0_t3_loop v3 v8).trips, 512 ∣ (k0_mult57 v3 v8 k0_t3).toNat) ∧
  (∀ k0_t3 : Fin (k0_t3_loop v3 v8).trips, ∀ a, (k0_off30 v3 v8) a + S1x256x128.size a ≤ S2x1024x128.size a) ∧
  (∀ k0_t3 : Fin (k0_t3_loop v3 v8).trips, ∀ a, (k0_off31 v3 v8 k0_t3) a + S1x512x128.size a ≤ S2x16384x128.size a) ∧
  (∀ k0_t3 : Fin (k0_t3_loop v3 v8).trips, ∀ a, (k0_off32 v3 v8) a + S1x1x256.size a ≤ S2x1x1024.size a) ∧
  (∀ k0_t3 : Fin (k0_t3_loop v3 v8).trips, ∀ a, (k0_off33 v3 v8 k0_t3) a + S1x1x80x512.size a ≤ S2x32x80x512.size a) ∧
  (∀ k0_t3 : Fin (k0_t3_loop v3 v8).trips, ∀ a, (k0_off34 v3 v8) a + S1x80x256.size a ≤ S2x80x1024.size a) ∧
  (∀ k0_t3 : Fin (k0_t3_loop v3 v8).trips, ∀ a, (k0_off35 v3 v8) a + S1x512x256.size a ≤ S2x512x1024.size a) ∧
  (∀ k0_t3 : Fin (k0_t3_loop v3 v8).trips, 512 ∣ (k0_mult58 v3 v8 k0_t3).toNat) ∧
  (∀ k0_t3 : Fin (k0_t3_loop v3 v8).trips, ∀ a, (k0_off36 v3 v8) a + S1x256x128.size a ≤ S2x1024x128.size a) ∧
  (∀ k0_t3 : Fin (k0_t3_loop v3 v8).trips, ∀ a, (k0_off37 v3 v8) a + S1x1x256.size a ≤ S2x1x1024.size a) ∧
  (∀ k0_t3 : Fin (k0_t3_loop v3 v8).trips, ∀ a, (k0_off38 v3 v8) a + S1x80x256.size a ≤ S2x80x1024.size a) ∧
  (∀ k0_t3 : Fin (k0_t3_loop v3 v8).trips, ∀ a, (k0_off39 v3 v8) a + S1x512x256.size a ≤ S2x512x1024.size a)
def k0_chk1_2 (i : grid0.Coords) (v3 : BitVec 32) (v8 : BitVec 32) : Prop :=
  (∀ k0_t3 : Fin (k0_t3_loop v3 v8).trips, 512 ∣ (k0_mult59 v3 v8 k0_t3).toNat) ∧
  (∀ k0_t3 : Fin (k0_t3_loop v3 v8).trips, ∀ a, (k0_off40 v3 v8) a + S1x256x128.size a ≤ S2x1024x128.size a) ∧
  (∀ k0_t3 : Fin (k0_t3_loop v3 v8).trips, ∀ a, (k0_off41 v3 v8) a + S1x1x256.size a ≤ S2x1x1024.size a) ∧
  (∀ k0_t3 : Fin (k0_t3_loop v3 v8).trips, ∀ a, (k0_off42 v3 v8) a + S1x80x256.size a ≤ S2x80x1024.size a) ∧
  (∀ k0_t3 : Fin (k0_t3_loop v3 v8).trips, ∀ a, (k0_off43 v3 v8) a + S1x512x256.size a ≤ S2x512x1024.size a) ∧
  (∀ k0_t3 : Fin (k0_t3_loop v3 v8).trips, 512 ∣ (k0_mult60 v3 v8 k0_t3).toNat) ∧
  (∀ k0_t3 : Fin (k0_t3_loop v3 v8).trips, ∀ a, (k0_off44 v3 v8) a + S1x256x128.size a ≤ S2x1024x128.size a) ∧
  (∀ k0_t3 : Fin (k0_t3_loop v3 v8).trips, ∀ a, (k0_off45 v3 v8) a + S1x1x256.size a ≤ S2x1x1024.size a) ∧
  (∀ k0_t3 : Fin (k0_t3_loop v3 v8).trips, ∀ a, (k0_off46 v3 v8) a + S1x80x256.size a ≤ S2x80x1024.size a) ∧
  (∀ k0_t3 : Fin (k0_t3_loop v3 v8).trips, 512 ∣ (k0_mult61 v3 v8 k0_t3).toNat) ∧
  (∀ k0_t3 : Fin (k0_t3_loop v3 v8).trips, ∀ a, (k0_off47 v3 v8 k0_t3) a + S1x512x128.size a ≤ S2x16384x128.size a) ∧
  (∀ k0_t3 : Fin (k0_t3_loop v3 v8).trips, ∀ a, (k0_off48 v3 v8 k0_t3) a + S1x1x80x512.size a ≤ S2x32x80x512.size a) ∧
  (∀ k0_t3 : Fin (k0_t3_loop v3 v8).trips, 512 ∣ (k0_mult62 v3 v8 k0_t3).toNat) ∧
  (∀ k0_t3 : Fin (k0_t3_loop v3 v8).trips, 512 ∣ (k0_mult63 v3 v8 k0_t3).toNat) ∧
  (∀ k0_t3 : Fin (k0_t3_loop v3 v8).trips, 512 ∣ (k0_mult64 v3 v8 k0_t3).toNat) ∧
  ((k0_t4_loop v3 v8).OK) ∧
  (∀ k0_t4 : Fin (k0_t4_loop v3 v8).trips, ∀ a, (k0_off49 v3 v8) a + S1x512x256.size a ≤ S2x512x1024.size a) ∧
  (∀ k0_t4 : Fin (k0_t4_loop v3 v8).trips, 512 ∣ (k0_mult65 v3 v8 k0_t4).toNat) ∧
  (∀ k0_t4 : Fin (k0_t4_loop v3 v8).trips, ∀ a, (k0_off50 v3 v8) a + S1x256x128.size a ≤ S2x1024x128.size a) ∧
  (∀ k0_t4 : Fin (k0_t4_loop v3 v8).trips, ∀ a, (k0_off51 v3 v8 k0_t4) a + S1x512x128.size a ≤ S2x16384x128.size a) ∧
  (∀ k0_t4 : Fin (k0_t4_loop v3 v8).trips, ∀ a, (k0_off52 v3 v8) a + S1x1x256.size a ≤ S2x1x1024.size a) ∧
  (∀ k0_t4 : Fin (k0_t4_loop v3 v8).trips, ∀ a, (k0_off53 v3 v8 k0_t4) a + S1x1x80x512.size a ≤ S2x32x80x512.size a) ∧
  (∀ k0_t4 : Fin (k0_t4_loop v3 v8).trips, ∀ a, (k0_off54 v3 v8) a + S1x80x256.size a ≤ S2x80x1024.size a) ∧
  (∀ k0_t4 : Fin (k0_t4_loop v3 v8).trips, ∀ a, (k0_off55 v3 v8) a + S1x512x256.size a ≤ S2x512x1024.size a) ∧
  (∀ k0_t4 : Fin (k0_t4_loop v3 v8).trips, 512 ∣ (k0_mult66 v3 v8 k0_t4).toNat) ∧
  (∀ k0_t4 : Fin (k0_t4_loop v3 v8).trips, ∀ a, (k0_off56 v3 v8) a + S1x256x128.size a ≤ S2x1024x128.size a) ∧
  (∀ k0_t4 : Fin (k0_t4_loop v3 v8).trips, ∀ a, (k0_off57 v3 v8) a + S1x1x256.size a ≤ S2x1x1024.size a) ∧
  (∀ k0_t4 : Fin (k0_t4_loop v3 v8).trips, ∀ a, (k0_off58 v3 v8) a + S1x80x256.size a ≤ S2x80x1024.size a) ∧
  (∀ k0_t4 : Fin (k0_t4_loop v3 v8).trips, ∀ a, (k0_off59 v3 v8) a + S1x512x256.size a ≤ S2x512x1024.size a) ∧
  (∀ k0_t4 : Fin (k0_t4_loop v3 v8).trips, 512 ∣ (k0_mult67 v3 v8 k0_t4).toNat) ∧
  (∀ k0_t4 : Fin (k0_t4_loop v3 v8).trips, ∀ a, (k0_off60 v3 v8) a + S1x256x128.size a ≤ S2x1024x128.size a) ∧
  (∀ k0_t4 : Fin (k0_t4_loop v3 v8).trips, ∀ a, (k0_off61 v3 v8) a + S1x1x256.size a ≤ S2x1x1024.size a)
def k0_chk1_3 (i : grid0.Coords) (v3 : BitVec 32) (v8 : BitVec 32) : Prop :=
  (∀ k0_t4 : Fin (k0_t4_loop v3 v8).trips, ∀ a, (k0_off62 v3 v8) a + S1x80x256.size a ≤ S2x80x1024.size a) ∧
  (∀ k0_t4 : Fin (k0_t4_loop v3 v8).trips, ∀ a, (k0_off63 v3 v8) a + S1x512x256.size a ≤ S2x512x1024.size a) ∧
  (∀ k0_t4 : Fin (k0_t4_loop v3 v8).trips, 512 ∣ (k0_mult68 v3 v8 k0_t4).toNat) ∧
  (∀ k0_t4 : Fin (k0_t4_loop v3 v8).trips, ∀ a, (k0_off64 v3 v8) a + S1x256x128.size a ≤ S2x1024x128.size a) ∧
  (∀ k0_t4 : Fin (k0_t4_loop v3 v8).trips, ∀ a, (k0_off65 v3 v8) a + S1x1x256.size a ≤ S2x1x1024.size a) ∧
  (∀ k0_t4 : Fin (k0_t4_loop v3 v8).trips, ∀ a, (k0_off66 v3 v8) a + S1x80x256.size a ≤ S2x80x1024.size a) ∧
  (∀ k0_t4 : Fin (k0_t4_loop v3 v8).trips, 512 ∣ (k0_mult69 v3 v8 k0_t4).toNat) ∧
  (∀ k0_t4 : Fin (k0_t4_loop v3 v8).trips, ∀ a, (k0_off67 v3 v8 k0_t4) a + S1x512x128.size a ≤ S2x16384x128.size a) ∧
  (∀ k0_t4 : Fin (k0_t4_loop v3 v8).trips, ∀ a, (k0_off68 v3 v8 k0_t4) a + S1x1x80x512.size a ≤ S2x32x80x512.size a) ∧
  (∀ k0_t4 : Fin (k0_t4_loop v3 v8).trips, 512 ∣ (k0_mult70 v3 v8 k0_t4).toNat) ∧
  (∀ k0_t4 : Fin (k0_t4_loop v3 v8).trips, 512 ∣ (k0_mult71 v3 v8 k0_t4).toNat) ∧
  (∀ k0_t4 : Fin (k0_t4_loop v3 v8).trips, 512 ∣ (k0_mult72 v3 v8 k0_t4).toNat)
def k0_chk1 (i : grid0.Coords) (v3 : BitVec 32) (v8 : BitVec 32) : Prop :=
  k0_chk1_0 i v3 v8 ∧
  k0_chk1_1 i v3 v8 ∧
  k0_chk1_2 i v3 v8 ∧
  k0_chk1_3 i v3 v8
theorem k0_t1_ok : ∀ (i : grid0.Coords) (v3 : BitVec 32) (v8 : BitVec 32) (k0_hw1 : k0_chk1 i v3 v8), (k0_t1_loop i v3 v8).OK := fun i v3 v8 k0_hw1 => k0_hw1.1.1
theorem k0_mult25_dvd : ∀ (i : grid0.Coords) (v3 : BitVec 32) (v8 : BitVec 32) (k0_hw1 : k0_chk1 i v3 v8) (k0_t1 : Fin (k0_t1_loop i v3 v8).trips), 512 ∣ (k0_mult25 i v3 v8 k0_t1).toNat := fun i v3 v8 k0_hw1 k0_t1 => k0_hw1.1.2.1 k0_t1
theorem k0_off13_inb : ∀ (i : grid0.Coords) (v3 : BitVec 32) (v8 : BitVec 32) (k0_hw1 : k0_chk1 i v3 v8) (k0_t1 : Fin (k0_t1_loop i v3 v8).trips), ∀ a, (k0_off13 i v3 v8 k0_t1) a + S1x512x128.size a ≤ S2x16384x128.size a := fun i v3 v8 k0_hw1 k0_t1 => k0_hw1.1.2.2.1 k0_t1
theorem k0_off14_inb : ∀ (i : grid0.Coords) (v3 : BitVec 32) (v8 : BitVec 32) (k0_hw1 : k0_chk1 i v3 v8) (k0_t1 : Fin (k0_t1_loop i v3 v8).trips), ∀ a, (k0_off14 i v3 v8 k0_t1) a + S1x1x80x512.size a ≤ S2x32x80x512.size a := fun i v3 v8 k0_hw1 k0_t1 => k0_hw1.1.2.2.2.1 k0_t1
theorem k0_mult26_dvd : ∀ (i : grid0.Coords) (v3 : BitVec 32) (v8 : BitVec 32) (k0_hw1 : k0_chk1 i v3 v8) (k0_t1 : Fin (k0_t1_loop i v3 v8).trips), 512 ∣ (k0_mult26 i v3 v8 k0_t1).toNat := fun i v3 v8 k0_hw1 k0_t1 => k0_hw1.1.2.2.2.2.1 k0_t1
theorem k0_mult27_dvd : ∀ (i : grid0.Coords) (v3 : BitVec 32) (v8 : BitVec 32) (k0_hw1 : k0_chk1 i v3 v8) (k0_t1 : Fin (k0_t1_loop i v3 v8).trips), 512 ∣ (k0_mult27 i v3 v8 k0_t1).toNat := fun i v3 v8 k0_hw1 k0_t1 => k0_hw1.1.2.2.2.2.2.1 k0_t1
theorem k0_mult28_dvd : ∀ (i : grid0.Coords) (v3 : BitVec 32) (v8 : BitVec 32) (k0_hw1 : k0_chk1 i v3 v8) (k0_t1 : Fin (k0_t1_loop i v3 v8).trips), 512 ∣ (k0_mult28 i v3 v8 k0_t1).toNat := fun i v3 v8 k0_hw1 k0_t1 => k0_hw1.1.2.2.2.2.2.2.1 k0_t1
theorem k0_mult29_dvd : ∀ (i : grid0.Coords) (v3 : BitVec 32) (v8 : BitVec 32) (k0_hw1 : k0_chk1 i v3 v8) (k0_t1 : Fin (k0_t1_loop i v3 v8).trips), 512 ∣ (k0_mult29 i v3 v8 k0_t1).toNat := fun i v3 v8 k0_hw1 k0_t1 => k0_hw1.1.2.2.2.2.2.2.2.1 k0_t1
theorem k0_off15_inb : ∀ (i : grid0.Coords) (v3 : BitVec 32) (v8 : BitVec 32) (k0_hw1 : k0_chk1 i v3 v8) (k0_t1 : Fin (k0_t1_loop i v3 v8).trips), ∀ a, (k0_off15 i v3 v8 k0_t1) a + S1x512x128.size a ≤ S2x16384x128.size a := fun i v3 v8 k0_hw1 k0_t1 => k0_hw1.1.2.2.2.2.2.2.2.2.1 k0_t1
theorem k0_off16_inb : ∀ (i : grid0.Coords) (v3 : BitVec 32) (v8 : BitVec 32) (k0_hw1 : k0_chk1 i v3 v8) (k0_t1 : Fin (k0_t1_loop i v3 v8).trips), ∀ a, (k0_off16 i v3 v8 k0_t1) a + S1x1x80x512.size a ≤ S2x32x80x512.size a := fun i v3 v8 k0_hw1 k0_t1 => k0_hw1.1.2.2.2.2.2.2.2.2.2.1 k0_t1
theorem k0_mult30_dvd : ∀ (i : grid0.Coords) (v3 : BitVec 32) (v8 : BitVec 32) (k0_hw1 : k0_chk1 i v3 v8) (k0_t1 : Fin (k0_t1_loop i v3 v8).trips), 512 ∣ (k0_mult30 i v3 v8 k0_t1).toNat := fun i v3 v8 k0_hw1 k0_t1 => k0_hw1.1.2.2.2.2.2.2.2.2.2.2.1 k0_t1
theorem k0_mult31_dvd : ∀ (i : grid0.Coords) (v3 : BitVec 32) (v8 : BitVec 32) (k0_hw1 : k0_chk1 i v3 v8) (k0_t1 : Fin (k0_t1_loop i v3 v8).trips), 512 ∣ (k0_mult31 i v3 v8 k0_t1).toNat := fun i v3 v8 k0_hw1 k0_t1 => k0_hw1.1.2.2.2.2.2.2.2.2.2.2.2.1 k0_t1
theorem k0_mult32_dvd : ∀ (i : grid0.Coords) (v3 : BitVec 32) (v8 : BitVec 32) (k0_hw1 : k0_chk1 i v3 v8) (k0_t1 : Fin (k0_t1_loop i v3 v8).trips), 512 ∣ (k0_mult32 i v3 v8 k0_t1).toNat := fun i v3 v8 k0_hw1 k0_t1 => k0_hw1.1.2.2.2.2.2.2.2.2.2.2.2.2.1 k0_t1
theorem k0_mult33_dvd : ∀ (i : grid0.Coords) (v3 : BitVec 32) (v8 : BitVec 32) (k0_hw1 : k0_chk1 i v3 v8) (k0_t1 : Fin (k0_t1_loop i v3 v8).trips), 512 ∣ (k0_mult33 i v3 v8 k0_t1).toNat := fun i v3 v8 k0_hw1 k0_t1 => k0_hw1.1.2.2.2.2.2.2.2.2.2.2.2.2.2.1 k0_t1
theorem k0_off17_inb : ∀ (i : grid0.Coords) (v3 : BitVec 32) (v8 : BitVec 32) (k0_hw1 : k0_chk1 i v3 v8) (k0_t1 : Fin (k0_t1_loop i v3 v8).trips), ∀ a, (k0_off17 i v3 v8 k0_t1) a + S1x512x128.size a ≤ S2x16384x128.size a := fun i v3 v8 k0_hw1 k0_t1 => k0_hw1.1.2.2.2.2.2.2.2.2.2.2.2.2.2.2.1 k0_t1
theorem k0_off18_inb : ∀ (i : grid0.Coords) (v3 : BitVec 32) (v8 : BitVec 32) (k0_hw1 : k0_chk1 i v3 v8) (k0_t1 : Fin (k0_t1_loop i v3 v8).trips), ∀ a, (k0_off18 i v3 v8 k0_t1) a + S1x1x80x512.size a ≤ S2x32x80x512.size a := fun i v3 v8 k0_hw1 k0_t1 => k0_hw1.1.2.2.2.2.2.2.2.2.2.2.2.2.2.2.2.1 k0_t1
theorem k0_mult34_dvd : ∀ (i : grid0.Coords) (v3 : BitVec 32) (v8 : BitVec 32) (k0_hw1 : k0_chk1 i v3 v8) (k0_t1 : Fin (k0_t1_loop i v3 v8).trips), 512 ∣ (k0_mult34 i v3 v8 k0_t1).toNat := fun i v3 v8 k0_hw1 k0_t1 => k0_hw1.1.2.2.2.2.2.2.2.2.2.2.2.2.2.2.2.2.1 k0_t1
theorem k0_mult35_dvd : ∀ (i : grid0.Coords) (v3 : BitVec 32) (v8 : BitVec 32) (k0_hw1 : k0_chk1 i v3 v8) (k0_t1 : Fin (k0_t1_loop i v3 v8).trips), 512 ∣ (k0_mult35 i v3 v8 k0_t1).toNat := fun i v3 v8 k0_hw1 k0_t1 => k0_hw1.1.2.2.2.2.2.2.2.2.2.2.2.2.2.2.2.2.2.1 k0_t1
theorem k0_mult36_dvd : ∀ (i : grid0.Coords) (v3 : BitVec 32) (v8 : BitVec 32) (k0_hw1 : k0_chk1 i v3 v8) (k0_t1 : Fin (k0_t1_loop i v3 v8).trips), 512 ∣ (k0_mult36 i v3 v8 k0_t1).toNat := fun i v3 v8 k0_hw1 k0_t1 => k0_hw1.1.2.2.2.2.2.2.2.2.2.2.2.2.2.2.2.2.2.2.1 k0_t1
theorem k0_mult37_dvd : ∀ (i : grid0.Coords) (v3 : BitVec 32) (v8 : BitVec 32) (k0_hw1 : k0_chk1 i v3 v8) (k0_t1 : Fin (k0_t1_loop i v3 v8).trips), 512 ∣ (k0_mult37 i v3 v8 k0_t1).toNat := fun i v3 v8 k0_hw1 k0_t1 => k0_hw1.1.2.2.2.2.2.2.2.2.2.2.2.2.2.2.2.2.2.2.2.1 k0_t1
theorem k0_off19_inb : ∀ (i : grid0.Coords) (v3 : BitVec 32) (v8 : BitVec 32) (k0_hw1 : k0_chk1 i v3 v8) (k0_t1 : Fin (k0_t1_loop i v3 v8).trips), ∀ a, (k0_off19 i v3 v8 k0_t1) a + S1x512x128.size a ≤ S2x16384x128.size a := fun i v3 v8 k0_hw1 k0_t1 => k0_hw1.1.2.2.2.2.2.2.2.2.2.2.2.2.2.2.2.2.2.2.2.2.1 k0_t1
theorem k0_off20_inb : ∀ (i : grid0.Coords) (v3 : BitVec 32) (v8 : BitVec 32) (k0_hw1 : k0_chk1 i v3 v8) (k0_t1 : Fin (k0_t1_loop i v3 v8).trips), ∀ a, (k0_off20 i v3 v8 k0_t1) a + S1x1x80x512.size a ≤ S2x32x80x512.size a := fun i v3 v8 k0_hw1 k0_t1 => k0_hw1.1.2.2.2.2.2.2.2.2.2.2.2.2.2.2.2.2.2.2.2.2.2.1 k0_t1
theorem k0_mult38_dvd : ∀ (i : grid0.Coords) (v3 : BitVec 32) (v8 : BitVec 32) (k0_hw1 : k0_chk1 i v3 v8) (k0_t1 : Fin (k0_t1_loop i v3 v8).trips), 512 ∣ (k0_mult38 i v3 v8 k0_t1).toNat := fun i v3 v8 k0_hw1 k0_t1 => k0_hw1.1.2.2.2.2.2.2.2.2.2.2.2.2.2.2.2.2.2.2.2.2.2.2.1 k0_t1
theorem k0_mult39_dvd : ∀ (i : grid0.Coords) (v3 : BitVec 32) (v8 : BitVec 32) (k0_hw1 : k0_chk1 i v3 v8) (k0_t1 : Fin (k0_t1_loop i v3 v8).trips), 512 ∣ (k0_mult39 i v3 v8 k0_t1).toNat := fun i v3 v8 k0_hw1 k0_t1 => k0_hw1.1.2.2.2.2.2.2.2.2.2.2.2.2.2.2.2.2.2.2.2.2.2.2.2.1 k0_t1
theorem k0_mult40_dvd : ∀ (i : grid0.Coords) (v3 : BitVec 32) (v8 : BitVec 32) (k0_hw1 : k0_chk1 i v3 v8) (k0_t1 : Fin (k0_t1_loop i v3 v8).trips), 512 ∣ (k0_mult40 i v3 v8 k0_t1).toNat := fun i v3 v8 k0_hw1 k0_t1 => k0_hw1.1.2.2.2.2.2.2.2.2.2.2.2.2.2.2.2.2.2.2.2.2.2.2.2.2.1 k0_t1
theorem k0_t2_ok : ∀ (i : grid0.Coords) (v3 : BitVec 32) (v8 : BitVec 32) (k0_hw1 : k0_chk1 i v3 v8), (k0_t2_loop i v3 v8).OK := fun i v3 v8 k0_hw1 => k0_hw1.1.2.2.2.2.2.2.2.2.2.2.2.2.2.2.2.2.2.2.2.2.2.2.2.2.2.1
theorem k0_mult41_dvd : ∀ (i : grid0.Coords) (v3 : BitVec 32) (v8 : BitVec 32) (k0_hw1 : k0_chk1 i v3 v8) (k0_t2 : Fin (k0_t2_loop i v3 v8).trips), 512 ∣ (k0_mult41 i v3 v8 k0_t2).toNat := fun i v3 v8 k0_hw1 k0_t2 => k0_hw1.1.2.2.2.2.2.2.2.2.2.2.2.2.2.2.2.2.2.2.2.2.2.2.2.2.2.2.1 k0_t2
theorem k0_off21_inb : ∀ (i : grid0.Coords) (v3 : BitVec 32) (v8 : BitVec 32) (k0_hw1 : k0_chk1 i v3 v8) (k0_t2 : Fin (k0_t2_loop i v3 v8).trips), ∀ a, (k0_off21 i v3 v8 k0_t2) a + S1x512x128.size a ≤ S2x16384x128.size a := fun i v3 v8 k0_hw1 k0_t2 => k0_hw1.1.2.2.2.2.2.2.2.2.2.2.2.2.2.2.2.2.2.2.2.2.2.2.2.2.2.2.2.1 k0_t2
theorem k0_off22_inb : ∀ (i : grid0.Coords) (v3 : BitVec 32) (v8 : BitVec 32) (k0_hw1 : k0_chk1 i v3 v8) (k0_t2 : Fin (k0_t2_loop i v3 v8).trips), ∀ a, (k0_off22 i v3 v8 k0_t2) a + S1x1x80x512.size a ≤ S2x32x80x512.size a := fun i v3 v8 k0_hw1 k0_t2 => k0_hw1.1.2.2.2.2.2.2.2.2.2.2.2.2.2.2.2.2.2.2.2.2.2.2.2.2.2.2.2.2.1 k0_t2
theorem k0_mult42_dvd : ∀ (i : grid0.Coords) (v3 : BitVec 32) (v8 : BitVec 32) (k0_hw1 : k0_chk1 i v3 v8) (k0_t2 : Fin (k0_t2_loop i v3 v8).trips), 512 ∣ (k0_mult42 i v3 v8 k0_t2).toNat := fun i v3 v8 k0_hw1 k0_t2 => k0_hw1.1.2.2.2.2.2.2.2.2.2.2.2.2.2.2.2.2.2.2.2.2.2.2.2.2.2.2.2.2.2.1 k0_t2
theorem k0_mult43_dvd : ∀ (i : grid0.Coords) (v3 : BitVec 32) (v8 : BitVec 32) (k0_hw1 : k0_chk1 i v3 v8) (k0_t2 : Fin (k0_t2_loop i v3 v8).trips), 512 ∣ (k0_mult43 i v3 v8 k0_t2).toNat := fun i v3 v8 k0_hw1 k0_t2 => k0_hw1.1.2.2.2.2.2.2.2.2.2.2.2.2.2.2.2.2.2.2.2.2.2.2.2.2.2.2.2.2.2.2.1 k0_t2
theorem k0_mult44_dvd : ∀ (i : grid0.Coords) (v3 : BitVec 32) (v8 : BitVec 32) (k0_hw1 : k0_chk1 i v3 v8) (k0_t2 : Fin (k0_t2_loop i v3 v8).trips), 512 ∣ (k0_mult44 i v3 v8 k0_t2).toNat := fun i v3 v8 k0_hw1 k0_t2 => k0_hw1.1.2.2.2.2.2.2.2.2.2.2.2.2.2.2.2.2.2.2.2.2.2.2.2.2.2.2.2.2.2.2.2 k0_t2
theorem k0_mult45_dvd : ∀ (i : grid0.Coords) (v3 : BitVec 32) (v8 : BitVec 32) (k0_hw1 : k0_chk1 i v3 v8) (k0_t2 : Fin (k0_t2_loop i v3 v8).trips), 512 ∣ (k0_mult45 i v3 v8 k0_t2).toNat := fun i v3 v8 k0_hw1 k0_t2 => k0_hw1.2.1.1 k0_t2
theorem k0_off23_inb : ∀ (i : grid0.Coords) (v3 : BitVec 32) (v8 : BitVec 32) (k0_hw1 : k0_chk1 i v3 v8) (k0_t2 : Fin (k0_t2_loop i v3 v8).trips), ∀ a, (k0_off23 i v3 v8 k0_t2) a + S1x512x128.size a ≤ S2x16384x128.size a := fun i v3 v8 k0_hw1 k0_t2 => k0_hw1.2.1.2.1 k0_t2
theorem k0_off24_inb : ∀ (i : grid0.Coords) (v3 : BitVec 32) (v8 : BitVec 32) (k0_hw1 : k0_chk1 i v3 v8) (k0_t2 : Fin (k0_t2_loop i v3 v8).trips), ∀ a, (k0_off24 i v3 v8 k0_t2) a + S1x1x80x512.size a ≤ S2x32x80x512.size a := fun i v3 v8 k0_hw1 k0_t2 => k0_hw1.2.1.2.2.1 k0_t2
theorem k0_mult46_dvd : ∀ (i : grid0.Coords) (v3 : BitVec 32) (v8 : BitVec 32) (k0_hw1 : k0_chk1 i v3 v8) (k0_t2 : Fin (k0_t2_loop i v3 v8).trips), 512 ∣ (k0_mult46 i v3 v8 k0_t2).toNat := fun i v3 v8 k0_hw1 k0_t2 => k0_hw1.2.1.2.2.2.1 k0_t2
theorem k0_mult47_dvd : ∀ (i : grid0.Coords) (v3 : BitVec 32) (v8 : BitVec 32) (k0_hw1 : k0_chk1 i v3 v8) (k0_t2 : Fin (k0_t2_loop i v3 v8).trips), 512 ∣ (k0_mult47 i v3 v8 k0_t2).toNat := fun i v3 v8 k0_hw1 k0_t2 => k0_hw1.2.1.2.2.2.2.1 k0_t2
theorem k0_mult48_dvd : ∀ (i : grid0.Coords) (v3 : BitVec 32) (v8 : BitVec 32) (k0_hw1 : k0_chk1 i v3 v8) (k0_t2 : Fin (k0_t2_loop i v3 v8).trips), 512 ∣ (k0_mult48 i v3 v8 k0_t2).toNat := fun i v3 v8 k0_hw1 k0_t2 => k0_hw1.2.1.2.2.2.2.2.1 k0_t2
theorem k0_mult49_dvd : ∀ (i : grid0.Coords) (v3 : BitVec 32) (v8 : BitVec 32) (k0_hw1 : k0_chk1 i v3 v8) (k0_t2 : Fin (k0_t2_loop i v3 v8).trips), 512 ∣ (k0_mult49 i v3 v8 k0_t2).toNat := fun i v3 v8 k0_hw1 k0_t2 => k0_hw1.2.1.2.2.2.2.2.2.1 k0_t2
theorem k0_off25_inb : ∀ (i : grid0.Coords) (v3 : BitVec 32) (v8 : BitVec 32) (k0_hw1 : k0_chk1 i v3 v8) (k0_t2 : Fin (k0_t2_loop i v3 v8).trips), ∀ a, (k0_off25 i v3 v8 k0_t2) a + S1x512x128.size a ≤ S2x16384x128.size a := fun i v3 v8 k0_hw1 k0_t2 => k0_hw1.2.1.2.2.2.2.2.2.2.1 k0_t2
theorem k0_off26_inb : ∀ (i : grid0.Coords) (v3 : BitVec 32) (v8 : BitVec 32) (k0_hw1 : k0_chk1 i v3 v8) (k0_t2 : Fin (k0_t2_loop i v3 v8).trips), ∀ a, (k0_off26 i v3 v8 k0_t2) a + S1x1x80x512.size a ≤ S2x32x80x512.size a := fun i v3 v8 k0_hw1 k0_t2 => k0_hw1.2.1.2.2.2.2.2.2.2.2.1 k0_t2
theorem k0_mult50_dvd : ∀ (i : grid0.Coords) (v3 : BitVec 32) (v8 : BitVec 32) (k0_hw1 : k0_chk1 i v3 v8) (k0_t2 : Fin (k0_t2_loop i v3 v8).trips), 512 ∣ (k0_mult50 i v3 v8 k0_t2).toNat := fun i v3 v8 k0_hw1 k0_t2 => k0_hw1.2.1.2.2.2.2.2.2.2.2.2.1 k0_t2
theorem k0_mult51_dvd : ∀ (i : grid0.Coords) (v3 : BitVec 32) (v8 : BitVec 32) (k0_hw1 : k0_chk1 i v3 v8) (k0_t2 : Fin (k0_t2_loop i v3 v8).trips), 512 ∣ (k0_mult51 i v3 v8 k0_t2).toNat := fun i v3 v8 k0_hw1 k0_t2 => k0_hw1.2.1.2.2.2.2.2.2.2.2.2.2.1 k0_t2
theorem k0_mult52_dvd : ∀ (i : grid0.Coords) (v3 : BitVec 32) (v8 : BitVec 32) (k0_hw1 : k0_chk1 i v3 v8) (k0_t2 : Fin (k0_t2_loop i v3 v8).trips), 512 ∣ (k0_mult52 i v3 v8 k0_t2).toNat := fun i v3 v8 k0_hw1 k0_t2 => k0_hw1.2.1.2.2.2.2.2.2.2.2.2.2.2.1 k0_t2
theorem k0_mult53_dvd : ∀ (i : grid0.Coords) (v3 : BitVec 32) (v8 : BitVec 32) (k0_hw1 : k0_chk1 i v3 v8) (k0_t2 : Fin (k0_t2_loop i v3 v8).trips), 512 ∣ (k0_mult53 i v3 v8 k0_t2).toNat := fun i v3 v8 k0_hw1 k0_t2 => k0_hw1.2.1.2.2.2.2.2.2.2.2.2.2.2.2.1 k0_t2
theorem k0_off27_inb : ∀ (i : grid0.Coords) (v3 : BitVec 32) (v8 : BitVec 32) (k0_hw1 : k0_chk1 i v3 v8) (k0_t2 : Fin (k0_t2_loop i v3 v8).trips), ∀ a, (k0_off27 i v3 v8 k0_t2) a + S1x512x128.size a ≤ S2x16384x128.size a := fun i v3 v8 k0_hw1 k0_t2 => k0_hw1.2.1.2.2.2.2.2.2.2.2.2.2.2.2.2.1 k0_t2
theorem k0_off28_inb : ∀ (i : grid0.Coords) (v3 : BitVec 32) (v8 : BitVec 32) (k0_hw1 : k0_chk1 i v3 v8) (k0_t2 : Fin (k0_t2_loop i v3 v8).trips), ∀ a, (k0_off28 i v3 v8 k0_t2) a + S1x1x80x512.size a ≤ S2x32x80x512.size a := fun i v3 v8 k0_hw1 k0_t2 => k0_hw1.2.1.2.2.2.2.2.2.2.2.2.2.2.2.2.2.1 k0_t2
theorem k0_mult54_dvd : ∀ (i : grid0.Coords) (v3 : BitVec 32) (v8 : BitVec 32) (k0_hw1 : k0_chk1 i v3 v8) (k0_t2 : Fin (k0_t2_loop i v3 v8).trips), 512 ∣ (k0_mult54 i v3 v8 k0_t2).toNat := fun i v3 v8 k0_hw1 k0_t2 => k0_hw1.2.1.2.2.2.2.2.2.2.2.2.2.2.2.2.2.2.1 k0_t2
theorem k0_mult55_dvd : ∀ (i : grid0.Coords) (v3 : BitVec 32) (v8 : BitVec 32) (k0_hw1 : k0_chk1 i v3 v8) (k0_t2 : Fin (k0_t2_loop i v3 v8).trips), 512 ∣ (k0_mult55 i v3 v8 k0_t2).toNat := fun i v3 v8 k0_hw1 k0_t2 => k0_hw1.2.1.2.2.2.2.2.2.2.2.2.2.2.2.2.2.2.2.1 k0_t2
theorem k0_mult56_dvd : ∀ (i : grid0.Coords) (v3 : BitVec 32) (v8 : BitVec 32) (k0_hw1 : k0_chk1 i v3 v8) (k0_t2 : Fin (k0_t2_loop i v3 v8).trips), 512 ∣ (k0_mult56 i v3 v8 k0_t2).toNat := fun i v3 v8 k0_hw1 k0_t2 => k0_hw1.2.1.2.2.2.2.2.2.2.2.2.2.2.2.2.2.2.2.2.1 k0_t2
theorem k0_t3_ok : ∀ (i : grid0.Coords) (v3 : BitVec 32) (v8 : BitVec 32) (k0_hw1 : k0_chk1 i v3 v8), (k0_t3_loop v3 v8).OK := fun i v3 v8 k0_hw1 => k0_hw1.2.1.2.2.2.2.2.2.2.2.2.2.2.2.2.2.2.2.2.2.1
theorem k0_off29_inb : ∀ (i : grid0.Coords) (v3 : BitVec 32) (v8 : BitVec 32) (k0_hw1 : k0_chk1 i v3 v8) (k0_t3 : Fin (k0_t3_loop v3 v8).trips), ∀ a, (k0_off29 v3 v8) a + S1x512x256.size a ≤ S2x512x1024.size a := fun i v3 v8 k0_hw1 k0_t3 => k0_hw1.2.1.2.2.2.2.2.2.2.2.2.2.2.2.2.2.2.2.2.2.2.1 k0_t3
theorem k0_mult57_dvd : ∀ (i : grid0.Coords) (v3 : BitVec 32) (v8 : BitVec 32) (k0_hw1 : k0_chk1 i v3 v8) (k0_t3 : Fin (k0_t3_loop v3 v8).trips), 512 ∣ (k0_mult57 v3 v8 k0_t3).toNat := fun i v3 v8 k0_hw1 k0_t3 => k0_hw1.2.1.2.2.2.2.2.2.2.2.2.2.2.2.2.2.2.2.2.2.2.2.1 k0_t3
theorem k0_off30_inb : ∀ (i : grid0.Coords) (v3 : BitVec 32) (v8 : BitVec 32) (k0_hw1 : k0_chk1 i v3 v8) (k0_t3 : Fin (k0_t3_loop v3 v8).trips), ∀ a, (k0_off30 v3 v8) a + S1x256x128.size a ≤ S2x1024x128.size a := fun i v3 v8 k0_hw1 k0_t3 => k0_hw1.2.1.2.2.2.2.2.2.2.2.2.2.2.2.2.2.2.2.2.2.2.2.2.1 k0_t3
theorem k0_off31_inb : ∀ (i : grid0.Coords) (v3 : BitVec 32) (v8 : BitVec 32) (k0_hw1 : k0_chk1 i v3 v8) (k0_t3 : Fin (k0_t3_loop v3 v8).trips), ∀ a, (k0_off31 v3 v8 k0_t3) a + S1x512x128.size a ≤ S2x16384x128.size a := fun i v3 v8 k0_hw1 k0_t3 => k0_hw1.2.1.2.2.2.2.2.2.2.2.2.2.2.2.2.2.2.2.2.2.2.2.2.2.1 k0_t3
theorem k0_off32_inb : ∀ (i : grid0.Coords) (v3 : BitVec 32) (v8 : BitVec 32) (k0_hw1 : k0_chk1 i v3 v8) (k0_t3 : Fin (k0_t3_loop v3 v8).trips), ∀ a, (k0_off32 v3 v8) a + S1x1x256.size a ≤ S2x1x1024.size a := fun i v3 v8 k0_hw1 k0_t3 => k0_hw1.2.1.2.2.2.2.2.2.2.2.2.2.2.2.2.2.2.2.2.2.2.2.2.2.2.1 k0_t3
theorem k0_off33_inb : ∀ (i : grid0.Coords) (v3 : BitVec 32) (v8 : BitVec 32) (k0_hw1 : k0_chk1 i v3 v8) (k0_t3 : Fin (k0_t3_loop v3 v8).trips), ∀ a, (k0_off33 v3 v8 k0_t3) a + S1x1x80x512.size a ≤ S2x32x80x512.size a := fun i v3 v8 k0_hw1 k0_t3 => k0_hw1.2.1.2.2.2.2.2.2.2.2.2.2.2.2.2.2.2.2.2.2.2.2.2.2.2.2.1 k0_t3
theorem k0_off34_inb : ∀ (i : grid0.Coords) (v3 : BitVec 32) (v8 : BitVec 32) (k0_hw1 : k0_chk1 i v3 v8) (k0_t3 : Fin (k0_t3_loop v3 v8).trips), ∀ a, (k0_off34 v3 v8) a + S1x80x256.size a ≤ S2x80x1024.size a := fun i v3 v8 k0_hw1 k0_t3 => k0_hw1.2.1.2.2.2.2.2.2.2.2.2.2.2.2.2.2.2.2.2.2.2.2.2.2.2.2.2.1 k0_t3
theorem k0_off35_inb : ∀ (i : grid0.Coords) (v3 : BitVec 32) (v8 : BitVec 32) (k0_hw1 : k0_chk1 i v3 v8) (k0_t3 : Fin (k0_t3_loop v3 v8).trips), ∀ a, (k0_off35 v3 v8) a + S1x512x256.size a ≤ S2x512x1024.size a := fun i v3 v8 k0_hw1 k0_t3 => k0_hw1.2.1.2.2.2.2.2.2.2.2.2.2.2.2.2.2.2.2.2.2.2.2.2.2.2.2.2.2.1 k0_t3
theorem k0_mult58_dvd : ∀ (i : grid0.Coords) (v3 : BitVec 32) (v8 : BitVec 32) (k0_hw1 : k0_chk1 i v3 v8) (k0_t3 : Fin (k0_t3_loop v3 v8).trips), 512 ∣ (k0_mult58 v3 v8 k0_t3).toNat := fun i v3 v8 k0_hw1 k0_t3 => k0_hw1.2.1.2.2.2.2.2.2.2.2.2.2.2.2.2.2.2.2.2.2.2.2.2.2.2.2.2.2.2.1 k0_t3
theorem k0_off36_inb : ∀ (i : grid0.Coords) (v3 : BitVec 32) (v8 : BitVec 32) (k0_hw1 : k0_chk1 i v3 v8) (k0_t3 : Fin (k0_t3_loop v3 v8).trips), ∀ a, (k0_off36 v3 v8) a + S1x256x128.size a ≤ S2x1024x128.size a := fun i v3 v8 k0_hw1 k0_t3 => k0_hw1.2.1.2.2.2.2.2.2.2.2.2.2.2.2.2.2.2.2.2.2.2.2.2.2.2.2.2.2.2.2.1 k0_t3
theorem k0_off37_inb : ∀ (i : grid0.Coords) (v3 : BitVec 32) (v8 : BitVec 32) (k0_hw1 : k0_chk1 i v3 v8) (k0_t3 : Fin (k0_t3_loop v3 v8).trips), ∀ a, (k0_off37 v3 v8) a + S1x1x256.size a ≤ S2x1x1024.size a := fun i v3 v8 k0_hw1 k0_t3 => k0_hw1.2.1.2.2.2.2.2.2.2.2.2.2.2.2.2.2.2.2.2.2.2.2.2.2.2.2.2.2.2.2.2.1 k0_t3
theorem k0_off38_inb : ∀ (i : grid0.Coords) (v3 : BitVec 32) (v8 : BitVec 32) (k0_hw1 : k0_chk1 i v3 v8) (k0_t3 : Fin (k0_t3_loop v3 v8).trips), ∀ a, (k0_off38 v3 v8) a + S1x80x256.size a ≤ S2x80x1024.size a := fun i v3 v8 k0_hw1 k0_t3 => k0_hw1.2.1.2.2.2.2.2.2.2.2.2.2.2.2.2.2.2.2.2.2.2.2.2.2.2.2.2.2.2.2.2.2.1 k0_t3
theorem k0_off39_inb : ∀ (i : grid0.Coords) (v3 : BitVec 32) (v8 : BitVec 32) (k0_hw1 : k0_chk1 i v3 v8) (k0_t3 : Fin (k0_t3_loop v3 v8).trips), ∀ a, (k0_off39 v3 v8) a + S1x512x256.size a ≤ S2x512x1024.size a := fun i v3 v8 k0_hw1 k0_t3 => k0_hw1.2.1.2.2.2.2.2.2.2.2.2.2.2.2.2.2.2.2.2.2.2.2.2.2.2.2.2.2.2.2.2.2.2 k0_t3
theorem k0_mult59_dvd : ∀ (i : grid0.Coords) (v3 : BitVec 32) (v8 : BitVec 32) (k0_hw1 : k0_chk1 i v3 v8) (k0_t3 : Fin (k0_t3_loop v3 v8).trips), 512 ∣ (k0_mult59 v3 v8 k0_t3).toNat := fun i v3 v8 k0_hw1 k0_t3 => k0_hw1.2.2.1.1 k0_t3
theorem k0_off40_inb : ∀ (i : grid0.Coords) (v3 : BitVec 32) (v8 : BitVec 32) (k0_hw1 : k0_chk1 i v3 v8) (k0_t3 : Fin (k0_t3_loop v3 v8).trips), ∀ a, (k0_off40 v3 v8) a + S1x256x128.size a ≤ S2x1024x128.size a := fun i v3 v8 k0_hw1 k0_t3 => k0_hw1.2.2.1.2.1 k0_t3
theorem k0_off41_inb : ∀ (i : grid0.Coords) (v3 : BitVec 32) (v8 : BitVec 32) (k0_hw1 : k0_chk1 i v3 v8) (k0_t3 : Fin (k0_t3_loop v3 v8).trips), ∀ a, (k0_off41 v3 v8) a + S1x1x256.size a ≤ S2x1x1024.size a := fun i v3 v8 k0_hw1 k0_t3 => k0_hw1.2.2.1.2.2.1 k0_t3
theorem k0_off42_inb : ∀ (i : grid0.Coords) (v3 : BitVec 32) (v8 : BitVec 32) (k0_hw1 : k0_chk1 i v3 v8) (k0_t3 : Fin (k0_t3_loop v3 v8).trips), ∀ a, (k0_off42 v3 v8) a + S1x80x256.size a ≤ S2x80x1024.size a := fun i v3 v8 k0_hw1 k0_t3 => k0_hw1.2.2.1.2.2.2.1 k0_t3
theorem k0_off43_inb : ∀ (i : grid0.Coords) (v3 : BitVec 32) (v8 : BitVec 32) (k0_hw1 : k0_chk1 i v3 v8) (k0_t3 : Fin (k0_t3_loop v3 v8).trips), ∀ a, (k0_off43 v3 v8) a + S1x512x256.size a ≤ S2x512x1024.size a := fun i v3 v8 k0_hw1 k0_t3 => k0_hw1.2.2.1.2.2.2.2.1 k0_t3
theorem k0_mult60_dvd : ∀ (i : grid0.Coords) (v3 : BitVec 32) (v8 : BitVec 32) (k0_hw1 : k0_chk1 i v3 v8) (k0_t3 : Fin (k0_t3_loop v3 v8).trips), 512 ∣ (k0_mult60 v3 v8 k0_t3).toNat := fun i v3 v8 k0_hw1 k0_t3 => k0_hw1.2.2.1.2.2.2.2.2.1 k0_t3
theorem k0_off44_inb : ∀ (i : grid0.Coords) (v3 : BitVec 32) (v8 : BitVec 32) (k0_hw1 : k0_chk1 i v3 v8) (k0_t3 : Fin (k0_t3_loop v3 v8).trips), ∀ a, (k0_off44 v3 v8) a + S1x256x128.size a ≤ S2x1024x128.size a := fun i v3 v8 k0_hw1 k0_t3 => k0_hw1.2.2.1.2.2.2.2.2.2.1 k0_t3
theorem k0_off45_inb : ∀ (i : grid0.Coords) (v3 : BitVec 32) (v8 : BitVec 32) (k0_hw1 : k0_chk1 i v3 v8) (k0_t3 : Fin (k0_t3_loop v3 v8).trips), ∀ a, (k0_off45 v3 v8) a + S1x1x256.size a ≤ S2x1x1024.size a := fun i v3 v8 k0_hw1 k0_t3 => k0_hw1.2.2.1.2.2.2.2.2.2.2.1 k0_t3
theorem k0_off46_inb : ∀ (i : grid0.Coords) (v3 : BitVec 32) (v8 : BitVec 32) (k0_hw1 : k0_chk1 i v3 v8) (k0_t3 : Fin (k0_t3_loop v3 v8).trips), ∀ a, (k0_off46 v3 v8) a + S1x80x256.size a ≤ S2x80x1024.size a := fun i v3 v8 k0_hw1 k0_t3 => k0_hw1.2.2.1.2.2.2.2.2.2.2.2.1 k0_t3
theorem k0_mult61_dvd : ∀ (i : grid0.Coords) (v3 : BitVec 32) (v8 : BitVec 32) (k0_hw1 : k0_chk1 i v3 v8) (k0_t3 : Fin (k0_t3_loop v3 v8).trips), 512 ∣ (k0_mult61 v3 v8 k0_t3).toNat := fun i v3 v8 k0_hw1 k0_t3 => k0_hw1.2.2.1.2.2.2.2.2.2.2.2.2.1 k0_t3
theorem k0_off47_inb : ∀ (i : grid0.Coords) (v3 : BitVec 32) (v8 : BitVec 32) (k0_hw1 : k0_chk1 i v3 v8) (k0_t3 : Fin (k0_t3_loop v3 v8).trips), ∀ a, (k0_off47 v3 v8 k0_t3) a + S1x512x128.size a ≤ S2x16384x128.size a := fun i v3 v8 k0_hw1 k0_t3 => k0_hw1.2.2.1.2.2.2.2.2.2.2.2.2.2.1 k0_t3
theorem k0_off48_inb : ∀ (i : grid0.Coords) (v3 : BitVec 32) (v8 : BitVec 32) (k0_hw1 : k0_chk1 i v3 v8) (k0_t3 : Fin (k0_t3_loop v3 v8).trips), ∀ a, (k0_off48 v3 v8 k0_t3) a + S1x1x80x512.size a ≤ S2x32x80x512.size a := fun i v3 v8 k0_hw1 k0_t3 => k0_hw1.2.2.1.2.2.2.2.2.2.2.2.2.2.2.1 k0_t3
theorem k0_mult62_dvd : ∀ (i : grid0.Coords) (v3 : BitVec 32) (v8 : BitVec 32) (k0_hw1 : k0_chk1 i v3 v8) (k0_t3 : Fin (k0_t3_loop v3 v8).trips), 512 ∣ (k0_mult62 v3 v8 k0_t3).toNat := fun i v3 v8 k0_hw1 k0_t3 => k0_hw1.2.2.1.2.2.2.2.2.2.2.2.2.2.2.2.1 k0_t3
theorem k0_mult63_dvd : ∀ (i : grid0.Coords) (v3 : BitVec 32) (v8 : BitVec 32) (k0_hw1 : k0_chk1 i v3 v8) (k0_t3 : Fin (k0_t3_loop v3 v8).trips), 512 ∣ (k0_mult63 v3 v8 k0_t3).toNat := fun i v3 v8 k0_hw1 k0_t3 => k0_hw1.2.2.1.2.2.2.2.2.2.2.2.2.2.2.2.2.1 k0_t3
theorem k0_mult64_dvd : ∀ (i : grid0.Coords) (v3 : BitVec 32) (v8 : BitVec 32) (k0_hw1 : k0_chk1 i v3 v8) (k0_t3 : Fin (k0_t3_loop v3 v8).trips), 512 ∣ (k0_mult64 v3 v8 k0_t3).toNat := fun i v3 v8 k0_hw1 k0_t3 => k0_hw1.2.2.1.2.2.2.2.2.2.2.2.2.2.2.2.2.2.1 k0_t3
theorem k0_t4_ok : ∀ (i : grid0.Coords) (v3 : BitVec 32) (v8 : BitVec 32) (k0_hw1 : k0_chk1 i v3 v8), (k0_t4_loop v3 v8).OK := fun i v3 v8 k0_hw1 => k0_hw1.2.2.1.2.2.2.2.2.2.2.2.2.2.2.2.2.2.2.1
theorem k0_off49_inb : ∀ (i : grid0.Coords) (v3 : BitVec 32) (v8 : BitVec 32) (k0_hw1 : k0_chk1 i v3 v8) (k0_t4 : Fin (k0_t4_loop v3 v8).trips), ∀ a, (k0_off49 v3 v8) a + S1x512x256.size a ≤ S2x512x1024.size a := fun i v3 v8 k0_hw1 k0_t4 => k0_hw1.2.2.1.2.2.2.2.2.2.2.2.2.2.2.2.2.2.2.2.1 k0_t4
theorem k0_mult65_dvd : ∀ (i : grid0.Coords) (v3 : BitVec 32) (v8 : BitVec 32) (k0_hw1 : k0_chk1 i v3 v8) (k0_t4 : Fin (k0_t4_loop v3 v8).trips), 512 ∣ (k0_mult65 v3 v8 k0_t4).toNat := fun i v3 v8 k0_hw1 k0_t4 => k0_hw1.2.2.1.2.2.2.2.2.2.2.2.2.2.2.2.2.2.2.2.2.1 k0_t4
theorem k0_off50_inb : ∀ (i : grid0.Coords) (v3 : BitVec 32) (v8 : BitVec 32) (k0_hw1 : k0_chk1 i v3 v8) (k0_t4 : Fin (k0_t4_loop v3 v8).trips), ∀ a, (k0_off50 v3 v8) a + S1x256x128.size a ≤ S2x1024x128.size a := fun i v3 v8 k0_hw1 k0_t4 => k0_hw1.2.2.1.2.2.2.2.2.2.2.2.2.2.2.2.2.2.2.2.2.2.1 k0_t4
theorem k0_off51_inb : ∀ (i : grid0.Coords) (v3 : BitVec 32) (v8 : BitVec 32) (k0_hw1 : k0_chk1 i v3 v8) (k0_t4 : Fin (k0_t4_loop v3 v8).trips), ∀ a, (k0_off51 v3 v8 k0_t4) a + S1x512x128.size a ≤ S2x16384x128.size a := fun i v3 v8 k0_hw1 k0_t4 => k0_hw1.2.2.1.2.2.2.2.2.2.2.2.2.2.2.2.2.2.2.2.2.2.2.1 k0_t4
theorem k0_off52_inb : ∀ (i : grid0.Coords) (v3 : BitVec 32) (v8 : BitVec 32) (k0_hw1 : k0_chk1 i v3 v8) (k0_t4 : Fin (k0_t4_loop v3 v8).trips), ∀ a, (k0_off52 v3 v8) a + S1x1x256.size a ≤ S2x1x1024.size a := fun i v3 v8 k0_hw1 k0_t4 => k0_hw1.2.2.1.2.2.2.2.2.2.2.2.2.2.2.2.2.2.2.2.2.2.2.2.1 k0_t4
theorem k0_off53_inb : ∀ (i : grid0.Coords) (v3 : BitVec 32) (v8 : BitVec 32) (k0_hw1 : k0_chk1 i v3 v8) (k0_t4 : Fin (k0_t4_loop v3 v8).trips), ∀ a, (k0_off53 v3 v8 k0_t4) a + S1x1x80x512.size a ≤ S2x32x80x512.size a := fun i v3 v8 k0_hw1 k0_t4 => k0_hw1.2.2.1.2.2.2.2.2.2.2.2.2.2.2.2.2.2.2.2.2.2.2.2.2.1 k0_t4
theorem k0_off54_inb : ∀ (i : grid0.Coords) (v3 : BitVec 32) (v8 : BitVec 32) (k0_hw1 : k0_chk1 i v3 v8) (k0_t4 : Fin (k0_t4_loop v3 v8).trips), ∀ a, (k0_off54 v3 v8) a + S1x80x256.size a ≤ S2x80x1024.size a := fun i v3 v8 k0_hw1 k0_t4 => k0_hw1.2.2.1.2.2.2.2.2.2.2.2.2.2.2.2.2.2.2.2.2.2.2.2.2.2.1 k0_t4
theorem k0_off55_inb : ∀ (i : grid0.Coords) (v3 : BitVec 32) (v8 : BitVec 32) (k0_hw1 : k0_chk1 i v3 v8) (k0_t4 : Fin (k0_t4_loop v3 v8).trips), ∀ a, (k0_off55 v3 v8) a + S1x512x256.size a ≤ S2x512x1024.size a := fun i v3 v8 k0_hw1 k0_t4 => k0_hw1.2.2.1.2.2.2.2.2.2.2.2.2.2.2.2.2.2.2.2.2.2.2.2.2.2.2.1 k0_t4
theorem k0_mult66_dvd : ∀ (i : grid0.Coords) (v3 : BitVec 32) (v8 : BitVec 32) (k0_hw1 : k0_chk1 i v3 v8) (k0_t4 : Fin (k0_t4_loop v3 v8).trips), 512 ∣ (k0_mult66 v3 v8 k0_t4).toNat := fun i v3 v8 k0_hw1 k0_t4 => k0_hw1.2.2.1.2.2.2.2.2.2.2.2.2.2.2.2.2.2.2.2.2.2.2.2.2.2.2.2.1 k0_t4
theorem k0_off56_inb : ∀ (i : grid0.Coords) (v3 : BitVec 32) (v8 : BitVec 32) (k0_hw1 : k0_chk1 i v3 v8) (k0_t4 : Fin (k0_t4_loop v3 v8).trips), ∀ a, (k0_off56 v3 v8) a + S1x256x128.size a ≤ S2x1024x128.size a := fun i v3 v8 k0_hw1 k0_t4 => k0_hw1.2.2.1.2.2.2.2.2.2.2.2.2.2.2.2.2.2.2.2.2.2.2.2.2.2.2.2.2.1 k0_t4
theorem k0_off57_inb : ∀ (i : grid0.Coords) (v3 : BitVec 32) (v8 : BitVec 32) (k0_hw1 : k0_chk1 i v3 v8) (k0_t4 : Fin (k0_t4_loop v3 v8).trips), ∀ a, (k0_off57 v3 v8) a + S1x1x256.size a ≤ S2x1x1024.size a := fun i v3 v8 k0_hw1 k0_t4 => k0_hw1.2.2.1.2.2.2.2.2.2.2.2.2.2.2.2.2.2.2.2.2.2.2.2.2.2.2.2.2.2.1 k0_t4
theorem k0_off58_inb : ∀ (i : grid0.Coords) (v3 : BitVec 32) (v8 : BitVec 32) (k0_hw1 : k0_chk1 i v3 v8) (k0_t4 : Fin (k0_t4_loop v3 v8).trips), ∀ a, (k0_off58 v3 v8) a + S1x80x256.size a ≤ S2x80x1024.size a := fun i v3 v8 k0_hw1 k0_t4 => k0_hw1.2.2.1.2.2.2.2.2.2.2.2.2.2.2.2.2.2.2.2.2.2.2.2.2.2.2.2.2.2.2.1 k0_t4
theorem k0_off59_inb : ∀ (i : grid0.Coords) (v3 : BitVec 32) (v8 : BitVec 32) (k0_hw1 : k0_chk1 i v3 v8) (k0_t4 : Fin (k0_t4_loop v3 v8).trips), ∀ a, (k0_off59 v3 v8) a + S1x512x256.size a ≤ S2x512x1024.size a := fun i v3 v8 k0_hw1 k0_t4 => k0_hw1.2.2.1.2.2.2.2.2.2.2.2.2.2.2.2.2.2.2.2.2.2.2.2.2.2.2.2.2.2.2.2.1 k0_t4
theorem k0_mult67_dvd : ∀ (i : grid0.Coords) (v3 : BitVec 32) (v8 : BitVec 32) (k0_hw1 : k0_chk1 i v3 v8) (k0_t4 : Fin (k0_t4_loop v3 v8).trips), 512 ∣ (k0_mult67 v3 v8 k0_t4).toNat := fun i v3 v8 k0_hw1 k0_t4 => k0_hw1.2.2.1.2.2.2.2.2.2.2.2.2.2.2.2.2.2.2.2.2.2.2.2.2.2.2.2.2.2.2.2.2.1 k0_t4
theorem k0_off60_inb : ∀ (i : grid0.Coords) (v3 : BitVec 32) (v8 : BitVec 32) (k0_hw1 : k0_chk1 i v3 v8) (k0_t4 : Fin (k0_t4_loop v3 v8).trips), ∀ a, (k0_off60 v3 v8) a + S1x256x128.size a ≤ S2x1024x128.size a := fun i v3 v8 k0_hw1 k0_t4 => k0_hw1.2.2.1.2.2.2.2.2.2.2.2.2.2.2.2.2.2.2.2.2.2.2.2.2.2.2.2.2.2.2.2.2.2.1 k0_t4
theorem k0_off61_inb : ∀ (i : grid0.Coords) (v3 : BitVec 32) (v8 : BitVec 32) (k0_hw1 : k0_chk1 i v3 v8) (k0_t4 : Fin (k0_t4_loop v3 v8).trips), ∀ a, (k0_off61 v3 v8) a + S1x1x256.size a ≤ S2x1x1024.size a := fun i v3 v8 k0_hw1 k0_t4 => k0_hw1.2.2.1.2.2.2.2.2.2.2.2.2.2.2.2.2.2.2.2.2.2.2.2.2.2.2.2.2.2.2.2.2.2.2 k0_t4
theorem k0_off62_inb : ∀ (i : grid0.Coords) (v3 : BitVec 32) (v8 : BitVec 32) (k0_hw1 : k0_chk1 i v3 v8) (k0_t4 : Fin (k0_t4_loop v3 v8).trips), ∀ a, (k0_off62 v3 v8) a + S1x80x256.size a ≤ S2x80x1024.size a := fun i v3 v8 k0_hw1 k0_t4 => k0_hw1.2.2.2.1 k0_t4
theorem k0_off63_inb : ∀ (i : grid0.Coords) (v3 : BitVec 32) (v8 : BitVec 32) (k0_hw1 : k0_chk1 i v3 v8) (k0_t4 : Fin (k0_t4_loop v3 v8).trips), ∀ a, (k0_off63 v3 v8) a + S1x512x256.size a ≤ S2x512x1024.size a := fun i v3 v8 k0_hw1 k0_t4 => k0_hw1.2.2.2.2.1 k0_t4
theorem k0_mult68_dvd : ∀ (i : grid0.Coords) (v3 : BitVec 32) (v8 : BitVec 32) (k0_hw1 : k0_chk1 i v3 v8) (k0_t4 : Fin (k0_t4_loop v3 v8).trips), 512 ∣ (k0_mult68 v3 v8 k0_t4).toNat := fun i v3 v8 k0_hw1 k0_t4 => k0_hw1.2.2.2.2.2.1 k0_t4
theorem k0_off64_inb : ∀ (i : grid0.Coords) (v3 : BitVec 32) (v8 : BitVec 32) (k0_hw1 : k0_chk1 i v3 v8) (k0_t4 : Fin (k0_t4_loop v3 v8).trips), ∀ a, (k0_off64 v3 v8) a + S1x256x128.size a ≤ S2x1024x128.size a := fun i v3 v8 k0_hw1 k0_t4 => k0_hw1.2.2.2.2.2.2.1 k0_t4
theorem k0_off65_inb : ∀ (i : grid0.Coords) (v3 : BitVec 32) (v8 : BitVec 32) (k0_hw1 : k0_chk1 i v3 v8) (k0_t4 : Fin (k0_t4_loop v3 v8).trips), ∀ a, (k0_off65 v3 v8) a + S1x1x256.size a ≤ S2x1x1024.size a := fun i v3 v8 k0_hw1 k0_t4 => k0_hw1.2.2.2.2.2.2.2.1 k0_t4
theorem k0_off66_inb : ∀ (i : grid0.Coords) (v3 : BitVec 32) (v8 : BitVec 32) (k0_hw1 : k0_chk1 i v3 v8) (k0_t4 : Fin (k0_t4_loop v3 v8).trips), ∀ a, (k0_off66 v3 v8) a + S1x80x256.size a ≤ S2x80x1024.size a := fun i v3 v8 k0_hw1 k0_t4 => k0_hw1.2.2.2.2.2.2.2.2.1 k0_t4
theorem k0_mult69_dvd : ∀ (i : grid0.Coords) (v3 : BitVec 32) (v8 : BitVec 32) (k0_hw1 : k0_chk1 i v3 v8) (k0_t4 : Fin (k0_t4_loop v3 v8).trips), 512 ∣ (k0_mult69 v3 v8 k0_t4).toNat := fun i v3 v8 k0_hw1 k0_t4 => k0_hw1.2.2.2.2.2.2.2.2.2.1 k0_t4
theorem k0_off67_inb : ∀ (i : grid0.Coords) (v3 : BitVec 32) (v8 : BitVec 32) (k0_hw1 : k0_chk1 i v3 v8) (k0_t4 : Fin (k0_t4_loop v3 v8).trips), ∀ a, (k0_off67 v3 v8 k0_t4) a + S1x512x128.size a ≤ S2x16384x128.size a := fun i v3 v8 k0_hw1 k0_t4 => k0_hw1.2.2.2.2.2.2.2.2.2.2.1 k0_t4
theorem k0_off68_inb : ∀ (i : grid0.Coords) (v3 : BitVec 32) (v8 : BitVec 32) (k0_hw1 : k0_chk1 i v3 v8) (k0_t4 : Fin (k0_t4_loop v3 v8).trips), ∀ a, (k0_off68 v3 v8 k0_t4) a + S1x1x80x512.size a ≤ S2x32x80x512.size a := fun i v3 v8 k0_hw1 k0_t4 => k0_hw1.2.2.2.2.2.2.2.2.2.2.2.1 k0_t4
theorem k0_mult70_dvd : ∀ (i : grid0.Coords) (v3 : BitVec 32) (v8 : BitVec 32) (k0_hw1 : k0_chk1 i v3 v8) (k0_t4 : Fin (k0_t4_loop v3 v8).trips), 512 ∣ (k0_mult70 v3 v8 k0_t4).toNat := fun i v3 v8 k0_hw1 k0_t4 => k0_hw1.2.2.2.2.2.2.2.2.2.2.2.2.1 k0_t4
theorem k0_mult71_dvd : ∀ (i : grid0.Coords) (v3 : BitVec 32) (v8 : BitVec 32) (k0_hw1 : k0_chk1 i v3 v8) (k0_t4 : Fin (k0_t4_loop v3 v8).trips), 512 ∣ (k0_mult71 v3 v8 k0_t4).toNat := fun i v3 v8 k0_hw1 k0_t4 => k0_hw1.2.2.2.2.2.2.2.2.2.2.2.2.2.1 k0_t4
theorem k0_mult72_dvd : ∀ (i : grid0.Coords) (v3 : BitVec 32) (v8 : BitVec 32) (k0_hw1 : k0_chk1 i v3 v8) (k0_t4 : Fin (k0_t4_loop v3 v8).trips), 512 ∣ (k0_mult72 v3 v8 k0_t4).toNat := fun i v3 v8 k0_hw1 k0_t4 => k0_hw1.2.2.2.2.2.2.2.2.2.2.2.2.2.2 k0_t4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x32x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x16384x128 : Shape := ⟨3, ![16, 16384, 128]⟩
abbrev S16x32x80x512 : Shape := ⟨4, ![16, 32, 80, 512]⟩
abbrev S16x16 : Shape := ⟨2, ![16, 16]⟩
abbrev S16x32x64x512 : Shape := ⟨4, ![16, 32, 64, 512]⟩
abbrev S16x32x512x64 : Shape := ⟨4, ![16, 32, 512, 64]⟩
abbrev S16x16384x64 : Shape := ⟨3, ![16, 16384, 64]⟩
abbrev S16x16384x16384 : Shape := ⟨3, ![16, 16384, 16384]⟩
abbrev S_ : Shape := ⟨0, ![]⟩
abbrev S16384 : Shape := ⟨1, ![16384]⟩
abbrev S16x16x1024 : Shape := ⟨3, ![16, 16, 1024]⟩
abbrev S16x16384 : Shape := ⟨2, ![16, 16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S16x16384x1 : Shape := ⟨3, ![16, 16384, 1]⟩
abbrev S16x64x16384 : Shape := ⟨3, ![16, 64, 16384]⟩
abbrev S16384x16x64 : Shape := ⟨3, ![16384, 16, 64]⟩
abbrev S16384x1024 : Shape := ⟨2, ![16384, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x16384x128, .bf16⟩
  | .hbm, ⟨1, _⟩ => ⟨S16x16384x128, .bf16⟩
  | .hbm, ⟨2, _⟩ => ⟨S16x32x80x512, .bf16⟩
  | .hbm, ⟨3, _⟩ => ⟨S16x16, .i32⟩
  | .hbm, ⟨4, _⟩ => ⟨S16x16384x128, .f32⟩
  | .hbm, ⟨5, _⟩ => ⟨S16x16384x128, .f32⟩
  | .hbm, ⟨6, _⟩ => ⟨S16x32x80x512, .f32⟩
  | .hbm, ⟨7, _⟩ => ⟨S16x32x64x512, .f32⟩
  | .hbm, ⟨8, _⟩ => ⟨S16x32x512x64, .f32⟩
  | .hbm, ⟨9, _⟩ => ⟨S16x16384x64, .f32⟩
  | .hbm, ⟨10, _⟩ => ⟨S16x16384x16384, .f32⟩
  | .hbm, ⟨11, _⟩ => ⟨S_, .f32⟩
  | .hbm, ⟨12, _⟩ => ⟨S_, .f32⟩
  | .hbm, ⟨13, _⟩ => ⟨S16x16384x16384, .f32⟩
  | .hbm, ⟨14, _⟩ => ⟨S16x16384x16384, .f32⟩
  | .hbm, ⟨15, _⟩ => ⟨S16384, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S16x16x1024, .i32⟩
  | .hbm, ⟨20, _⟩ => ⟨S16x16384, .i32⟩
  | .hbm, ⟨21, _⟩ => ⟨S1x1x16384, .i32⟩
  | .hbm, ⟨22, _⟩ => ⟨S1x16384x1, .i32⟩
  | .hbm, ⟨23, _⟩ => ⟨S1x16384x16384, .i32⟩
  | .hbm, ⟨24, _⟩ => ⟨S1x16384x16384, .i32⟩
  | .hbm, ⟨25, _⟩ => ⟨S1x16384x16384, .i1⟩
  | .hbm, ⟨26, _⟩ => ⟨S16x16384x1, .i32⟩
  | .hbm, ⟨27, _⟩ => ⟨S1x1x16384, .i32⟩
  | .hbm, ⟨28, _⟩ => ⟨S16x16384x16384, .i32⟩
  | .hbm, ⟨29, _⟩ => ⟨S16x16384x16384, .i32⟩
  | .hbm, ⟨30, _⟩ => ⟨S16x16384x16384, .i1⟩
  | .hbm, ⟨31, _⟩ => ⟨S16x16384x16384, .i1⟩
  | .hbm, ⟨32, _⟩ => ⟨S16x16384x16384, .i1⟩
  | .hbm, ⟨33, _⟩ => ⟨S_, .f32⟩
  | .hbm, ⟨34, _⟩ => ⟨S_, .f32⟩
  | .hbm, ⟨35, _⟩ => ⟨S16x16384x16384, .f32⟩
  | .hbm, ⟨36, _⟩ => ⟨S16x16384x16384, .f32⟩
  | .hbm, ⟨37, _⟩ => ⟨S_, .f32⟩
  | .hbm, ⟨38, _⟩ => ⟨S16x16384, .f32⟩
  | .hbm, ⟨39, _⟩ => ⟨S_, .f32⟩
  | .hbm, ⟨40, _⟩ => ⟨S16x16384, .f32⟩
  | .hbm, ⟨41, _⟩ => ⟨S16x16384, .f32⟩
  | .hbm, ⟨42, _⟩ => ⟨S16x16384x1, .f32⟩
  | .hbm, ⟨43, _⟩ => ⟨S16x16384x16384, .f32⟩
  | .hbm, ⟨44, _⟩ => ⟨S16x16384x16384, .f32⟩
  | .hbm, ⟨45, _⟩ => ⟨S16x16384x16384, .f32⟩
  | .hbm, ⟨46, _⟩ => ⟨S_, .f32⟩
  | .hbm, ⟨47, _⟩ => ⟨S16x16384, .f32⟩
  | .hbm, ⟨48, _⟩ => ⟨S16x16384x1, .f32⟩
  | .hbm, ⟨49, _⟩ => ⟨S16x16384x16384, .f32⟩
  | .hbm, ⟨50, _⟩ => ⟨S16x16384x16384, .f32⟩
  | .hbm, ⟨51, _⟩ => ⟨S16x64x16384, .f32⟩
  | .hbm, ⟨52, _⟩ => ⟨S16384x16x64, .f32⟩
  | .hbm, ⟨53, _⟩ => ⟨S16384x1024, .f32⟩
  | .hbm, ⟨54, _⟩ => ⟨S16384x1024, .bf16⟩
  | _, _ => ⟨S16x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel2.lean ====
abbrev S16384x1024 : Shape := ⟨2, ![16384, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x1024x1024, .f32⟩
  | .hbm, ⟨3, _⟩ => ⟨S4x1024, .f32⟩
  | .hbm, ⟨4, _⟩ => ⟨S4x1024x4096, .f32⟩
  | .hbm, ⟨5, _⟩ => ⟨S4x4096x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4x1024x4096, .bf16⟩
  | .hbm, ⟨11, _⟩ => ⟨S4x4096x1024, .bf16⟩
  | .hbm, ⟨12, _⟩ => ⟨S2x1024x1024, .bf16⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S2x1024x1024 : Shape := ⟨3, ![2, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x1024x1024, .f32⟩
  | .hbm, ⟨3, _⟩ => ⟨S4x1024, .f32⟩
  | .hbm, ⟨4, _⟩ => ⟨S4x1024x4096, .f32⟩
  | .hbm, ⟨5, _⟩ => ⟨S4x4096x1024, .f32⟩
  | .hbm, ⟨6, _⟩ => ⟨S1024, .f32⟩
  | .hbm, ⟨7, _⟩ => ⟨S16384x1024, .f32⟩
  | .hbm, ⟨8, _⟩ => ⟨S1x1024x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024x4096, .f32⟩
  | .hbm, ⟨31, _⟩ => ⟨S1024x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S1x4096x1024, .f32⟩
  | .hbm, ⟨38, _⟩ => ⟨S4096x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel3.lean ====
abbrev S512x1024 : Shape := ⟨2, ![512, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S512x16 : Shape := ⟨2, ![512, 16]⟩
abbrev S512 : Shape := ⟨1, ![512]⟩
abbrev S512x1 : Shape := ⟨2, ![512, 1]⟩
abbrev S512x128 : Shape := ⟨2, ![512, 128]⟩

abbrev nBuf : Space → Nat
  | .hbm => 20
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x16, .f32⟩
  | .hbm, ⟨5, _⟩ => ⟨S16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S1x1024, .f32⟩
  | .hbm, ⟨15, _⟩ => ⟨S1024x1024, .bf16⟩
  | .hbm, ⟨16, _⟩ => ⟨S1024x1024, .bf16⟩
  | .hbm, ⟨17, _⟩ => ⟨S512x1024, .f32⟩
  | .hbm, ⟨18, _⟩ => ⟨S512x1024, .f32⟩
  | .hbm, ⟨19, _⟩ => ⟨S512x16, .f32⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x16, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference3Ideal.lean ====
abbrev S512x1024 : Shape := ⟨2, ![512, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x16 : Shape := ⟨2, ![512, 16]⟩
abbrev S1x16 : Shape := ⟨2, ![1, 16]⟩

abbrev nBuf : Space → Nat
  | .hbm => 44
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x16, .f32⟩
  | .hbm, ⟨5, _⟩ => ⟨S16, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S512x16, .f32⟩
  | .hbm, ⟨25, _⟩ => ⟨S1x16, .f32⟩
  | .hbm, ⟨26, _⟩ => ⟨S512x16, .f32⟩
  | .hbm, ⟨27, _⟩ => ⟨S512x16, .f32⟩
  | .hbm, ⟨28, _⟩ => ⟨S512x16, .f32⟩
  | .hbm, ⟨29, _⟩ => ⟨S_, .f32⟩
  | .hbm, ⟨30, _⟩ => ⟨S512x16, .f32⟩
  | .hbm, ⟨31, _⟩ => ⟨S512x16, .f32⟩
  | .hbm, ⟨32, _⟩ => ⟨S512x16, .f32⟩
  | .hbm, ⟨33, _⟩ => ⟨S512x16, .f32⟩
  | .hbm, ⟨34, _⟩ => ⟨S512x16, .i1⟩
  | .hbm, ⟨35, _⟩ => ⟨S512x16, .f32⟩
  | .hbm, ⟨36, _⟩ => ⟨S512x16, .f32⟩
  | .hbm, ⟨37, _⟩ => ⟨S512x16, .f32⟩
  | .hbm, ⟨38, _⟩ => ⟨S512x16, .f32⟩
  | .hbm, ⟨39, _⟩ => ⟨S512x16, .f32⟩
  | .hbm, ⟨40, _⟩ => ⟨S512x16, .f32⟩
  | .hbm, ⟨41, _⟩ => ⟨S512x16, .f32⟩
  | .hbm, ⟨42, _⟩ => ⟨S512x16, .f32⟩
  | .hbm, ⟨43, _⟩ => ⟨S512x16, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v19 : Ref sig .tc := ⟨.hbm, 43, rfl⟩

abbrev nD : Nat := 1
abbrev τ : Topo := Topo.v7x

variable {F : FTy → Type} [FloatOps F]
-- ==== Kernel4.lean ====
abbrev S16384x1024 : Shape := ⟨2, ![16384, 1024]⟩
abbrev S4x1024 : Shape := ⟨2, ![4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1024 : Shape := ⟨2, ![1, 1024]⟩
abbrev S1024 : Shape := ⟨1, ![1024]⟩
abbrev S8x1024 : Shape := ⟨2, ![8, 1024]⟩
abbrev S512x1024 : Shape := ⟨2, ![512, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S520x1024 : Shape := ⟨2, ![520, 1024]⟩
abbrev S512 : Shape := ⟨1, ![512]⟩
abbrev S512x1 : Shape := ⟨2, ![512, 1]⟩
abbrev S1024x3072 : Shape := ⟨2, ![1024, 3072]⟩
abbrev S512x3072 : Shape := ⟨2, ![512, 3072]⟩
abbrev S3x1024 : Shape := ⟨2, ![3, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2x1024x3072, .bf16⟩
  | .hbm, ⟨9, _⟩ => ⟨S2x1024x1024, .bf16⟩
  | .hbm, ⟨10, _⟩ => ⟨S16384x1024, .f32⟩
  | .hbm, ⟨11, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x3x1024, .f32⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S520x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S16384x1024 : Shape := ⟨2, ![16384, 1024]⟩
abbrev S4x1024 : Shape := ⟨2, ![4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S16384x3072 : Shape := ⟨2, ![16384, 3072]⟩
abbrev S2x1024 : Shape := ⟨2, ![2, 1024]⟩
abbrev S16386x1024 : Shape := ⟨2, ![16386, 1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x3072, .f32⟩
  | .hbm, ⟨24, _⟩ => ⟨S1024x3072, .f32⟩
  | .hbm, ⟨25, _⟩ => ⟨S16384x3072, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S2x1024, .f32⟩
  | .hbm, ⟨32, _⟩ => ⟨S16386x1024, .f32⟩
  | .hbm, ⟨33, _⟩ => ⟨S1x1x1024, .f32⟩
  | .hbm, ⟨34, _⟩ => ⟨S1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S1x1x1024, .f32⟩
  | .hbm, ⟨43, _⟩ => ⟨S1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S1x1x1024, .f32⟩
  | .hbm, ⟨50, _⟩ => ⟨S1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1x1024x1024, .f32⟩
  | .hbm, ⟨58, _⟩ => ⟨S1024x1024, .f32⟩
  | .hbm, ⟨59, _⟩ => ⟨S16384x1024, .f32⟩
  | .hbm, ⟨60, _⟩ => ⟨S16384x1024, .f32⟩
  | .hbm, ⟨61, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Proof.Tiles.lean ====
/- Which key tiles the attention kernel's two loops reach: the words the kernel computes its trip
   counts and offsets from, in closed form, and the side conditions on the two first-tile words that
   these closed forms give. -/
module

public import proofs.«01_k».proof.KernelIdeal
public import Idealize.ShloMosaic.Lib.LoopRemainder
public import Mathlib.Tactic.IntervalCases

@[expose] public section

namespace Cert.KernelIdeal.Flash

open Idealize.ShloMosaic Cert.KernelIdeal

/-! ## Words -/

/-- Half a word, rounded down, as the kernel spells it. -/
abbrev halfDown (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt (2#32 : BitVec 32) 0#32))
          (Scalar.extui (Scalar.cmpi .slt (2#32 : BitVec 32) 0#32))))
      (Scalar.cmpi .ne (Scalar.remsi x 2#32) 0#32))
    (Scalar.subi (Scalar.divsi x 2#32) 1#32) (Scalar.divsi x 2#32)

/-- The loop over the pairs of tiles among `x` tiles. -/
abbrev pairLoop (x : BitVec 32) : Scf.Loop 32 :=
  ⟨0#32, Scalar.addi 0#32 (Scalar.muli (Scalar.divsi (Scalar.subi (halfDown x) 0#32) 1#32) 1#32), 1#32⟩

theorem pairLoop_table : ∀ k : Fin 65,
    (pairLoop (BitVec.ofInt 32 ((k.val : ℤ) - 32))).trips = (((k.val : ℤ) - 32) / 2).toNat
      ∧ (pairLoop (BitVec.ofInt 32 ((k.val : ℤ) - 32))).OK := by
  decide

/-- Over `n - m` tiles the loop makes half as many trips. -/
theorem pairLoop_sub (x y : BitVec 32) (hx : x.toNat ≤ 32) (hy : y.toNat ≤ 32) :
    (pairLoop (Scalar.subi x y)).trips = (x.toNat - y.toNat) / 2 ∧ (pairLoop (Scalar.subi x y)).OK := by
  have e : Scalar.subi x y = BitVec.ofInt 32 ((((x.toNat + 32 - y.toNat : ℕ) : ℤ)) - 32) := by
    apply BitVec.eq_of_toNat_eq
    simp only [Scalar.subi, IntOp.subi, BitVec.toNat_sub, BitVec.toNat_ofInt]
    omega
  have h := pairLoop_table ⟨x.toNat + 32 - y.toNat, by omega⟩
  rw [e]
  refine ⟨h.1.trans ?_, h.2⟩
  dsimp only
  omega

theorem twice_toNat (i : ℕ) (hi : i ≤ 15) : (Scalar.muli 2#32 (BitVec.ofNat 32 i)).toNat = 2 * i := by
  simp only [Scalar.muli, IntOp.muli, BitVec.toNat_mul, BitVec.toNat_ofNat]; omega

theorem down_toNat {w : BitVec 32} {n k : ℕ} (hw : w.toNat = n) (hn : n ≤ 32) (hk : 2 * k + 1 ≤ n) :
    (Scalar.subi (Scalar.subi w 1#32) (Scalar.muli 2#32 (Scf.iv 0#32 1#32 k))).toNat = n - 1 - 2 * k := by
  simp only [Scalar.subi, IntOp.subi, Scalar.muli, IntOp.muli, Scf.iv, BitVec.toNat_sub, BitVec.toNat_mul,
    BitVec.toNat_add, BitVec.toNat_ofNat]
  omega

theorem pred_toNat {w : BitVec 32} {n : ℕ} (hw : w.toNat = n) (h1 : 1 ≤ n) (hn : n ≤ 32) :
    (Scalar.subi w 1#32).toNat = n - 1 := by
  simp only [Scalar.subi, IntOp.subi, BitVec.toNat_sub, BitVec.toNat_ofNat]; omega

theorem succ_toNat {w : BitVec 32} {n : ℕ} (hw : w.toNat = n) (hn : n ≤ 32) :
    (Scalar.addi w 1#32).toNat = n + 1 := by
  simp only [Scalar.addi, IntOp.addi, BitVec.toNat_add, BitVec.toNat_ofNat]; omega

theorem before_table : ∀ n : Fin 33, (Scalar.maxsi (Scalar.subi (BitVec.ofNat 32 n.val) 2#32) 0#32).toNat = n.val - 2
    ∧ (Scalar.maxsi (Scalar.subi (BitVec.ofNat 32 n.val) 1#32) 0#32).toNat = n.val - 1 := by
  decide

theorem word_eq {w : BitVec 32} {n : ℕ} (hw : w.toNat = n) (hn : n ≤ 32) : w = BitVec.ofNat 32 n :=
  BitVec.eq_of_toNat_eq (by rw [hw, BitVec.toNat_ofNat]; omega)

theorem before_toNat {w : BitVec 32} {n : ℕ} (hw : w.toNat = n) (hn : n ≤ 32) :
    (Scalar.maxsi (Scalar.subi w 2#32) 0#32).toNat = n - 2 := by
  rw [word_eq hw hn]; exact (before_table ⟨n, by omega⟩).1

theorem before1_toNat {w : BitVec 32} {n : ℕ} (hw : w.toNat = n) (hn : n ≤ 32) :
    (Scalar.maxsi (Scalar.subi w 1#32) 0#32).toNat = n - 1 := by
  rw [word_eq hw hn]; exact (before_table ⟨n, by omega⟩).2

theorem rows_toNat {w : BitVec 32} {n : ℕ} (hw : w.toNat = n) (hn : n ≤ 32) :
    (Scalar.indexCast (Scalar.muli w 512#32)).toNat = 512 * n := by
  simp only [Scalar.indexCast, Scalar.muli, IntOp.muli, BitVec.toNat_mul, BitVec.toNat_ofNat]; omega

theorem dvd_rows (w : BitVec 32) : 512 ∣ (Scalar.muli w 512#32).toNat := by
  simp only [Scalar.muli, IntOp.muli, BitVec.toNat_mul, BitVec.toNat_ofNat]; omega

theorem ext_table : ∀ n m : Fin 33,
    (Scalar.maxsi (BitVec.ofNat 32 n.val) (BitVec.ofNat 32 m.val)).toNat = max n.val m.val
    ∧ (Scalar.minsi (BitVec.ofNat 32 n.val) (BitVec.ofNat 32 m.val)).toNat = min n.val m.val
    ∧ (Scalar.indexCast (Scalar.select (Scalar.cmpi .slt (BitVec.ofNat 32 n.val) (BitVec.ofNat 32 m.val)) (0#32 : BitVec 32) 1#32)).toNat
        = if n.val < m.val then 0 else 1 := by
  decide

section
variable {a b : BitVec 32} (ha : a.toNat ≤ 32) (hb : b.toNat ≤ 32)
include ha hb

theorem max_toNat : (Scalar.maxsi a b).toNat = max a.toNat b.toNat := by
  have h := (ext_table ⟨a.toNat, by omega⟩ ⟨b.toNat, by omega⟩).1
  rwa [BitVec.ofNat_toNat, BitVec.ofNat_toNat, BitVec.setWidth_eq, BitVec.setWidth_eq] at h

theorem min_toNat : (Scalar.minsi a b).toNat = min a.toNat b.toNat := by
  have h := (ext_table ⟨a.toNat, by omega⟩ ⟨b.toNat, by omega⟩).2.1
  rwa [BitVec.ofNat_toNat, BitVec.ofNat_toNat, BitVec.setWidth_eq, BitVec.setWidth_eq] at h

theorem alone_toNat :
    (Scalar.indexCast (Scalar.select (Scalar.cmpi .slt a b) (0#32 : BitVec 32) 1#32)).toNat
      = if a.toNat < b.toNat then 0 else 1 := by
  have h := (ext_table ⟨a.toNat, by omega⟩ ⟨b.toNat, by omega⟩).2.2
  rwa [BitVec.ofNat_toNat, BitVec.ofNat_toNat, BitVec.setWidth_eq, BitVec.setWidth_eq] at h

end

/-- The head that goes on alone: the one whose first tile comes first. -/
abbrev alone (a b : BitVec 32) : ℕ := if a.toNat < b.toNat then 0 else 1

/-! ## The loops -/

theorem point_lt (i : grid0.Coords) : (i 1).val ≤ 15 := Nat.le_of_lt_succ (i 1).isLt

section
variable (i : grid0.Coords) {a b : BitVec 32} (ha : a.toNat ≤ 32) (hb : b.toNat ≤ 32)
include ha hb

theorem both_loop : (k0_t1_loop i a b).trips = (2 * (i 1).val - max a.toNat b.toNat) / 2 ∧ (k0_t1_loop i a b).OK := by
  have hi := point_lt i
  have h := pairLoop_sub (Scalar.muli 2#32 (BitVec.ofNat 32 (i 1).val)) (Scalar.maxsi a b)
    (by rw [twice_toNat _ hi]; omega) (by rw [max_toNat ha hb]; omega)
  rw [twice_toNat _ hi, max_toNat ha hb] at h
  exact h

theorem alone_loop : (k0_t3_loop a b).trips = (max a.toNat b.toNat - min a.toNat b.toNat) / 2 ∧ (k0_t3_loop a b).OK := by
  have h := pairLoop_sub (Scalar.maxsi a b) (Scalar.minsi a b)
    (by rw [max_toNat ha hb]; omega) (by rw [min_toNat ha hb]; omega)
  rw [min_toNat ha hb, max_toNat ha hb] at h
  exact h

theorem both_lt (k : Fin (k0_t1_loop i a b).trips) : max a.toNat b.toNat + 2 * k.val + 2 ≤ 2 * (i 1).val := by
  have h := lt_of_lt_of_eq k.isLt (both_loop i ha hb).1
  omega

theorem alone_lt (k : Fin (k0_t3_loop a b).trips) : min a.toNat b.toNat + 2 * k.val + 2 ≤ max a.toNat b.toNat := by
  have h := lt_of_lt_of_eq k.isLt (alone_loop ha hb).1
  omega

/-! ## Offsets -/

theorem off13_eq (k : Fin (k0_t1_loop i a b).trips) :
    k0_off13 i a b k = ![0, 512 * (2 * (i 1).val - 2 - 2 * k.val), 0] := by
  have hi := point_lt i
  have hk := both_lt i ha hb k
  have h0 := down_toNat (k := k.val) (twice_toNat _ hi) (by omega) (by omega)
  have h1 := rows_toNat (pred_toNat h0 (by omega) (by omega)) (by omega)
  exact (congrArg (fun n : ℕ => ![0, n, 0]) h1).trans (by congr 2 <;> omega)

theorem off14_eq (k : Fin (k0_t1_loop i a b).trips) :
    k0_off14 i a b k = ![0, 2 * (i 1).val - 1 - 2 * k.val, 0, 0] := by
  have hi := point_lt i
  have hk := both_lt i ha hb k
  have h0 := down_toNat (k := k.val) (twice_toNat _ hi) (by omega) (by omega)
  have h1 := h0
  exact (congrArg (fun n : ℕ => ![0, n, 0, 0]) h1).trans (by congr 2 <;> omega)

theorem off15_eq (k : Fin (k0_t1_loop i a b).trips) :
    k0_off15 i a b k = ![1, 512 * (2 * (i 1).val - 2 - 2 * k.val), 0] := by
  have hi := point_lt i
  have hk := both_lt i ha hb k
  have h0 := down_toNat (k := k.val) (twice_toNat _ hi) (by omega) (by omega)
  have h1 := rows_toNat (pred_toNat h0 (by omega) (by omega)) (by omega)
  exact (congrArg (fun n : ℕ => ![1, n, 0]) h1).trans (by congr 2 <;> omega)

theorem off16_eq (k : Fin (k0_t1_loop i a b).trips) :
    k0_off16 i a b k = ![1, 2 * (i 1).val - 1 - 2 * k.val, 0, 0] := by
  have hi := point_lt i
  have hk := both_lt i ha hb k
  have h0 := down_toNat (k := k.val) (twice_toNat _ hi) (by omega) (by omega)
  have h1 := h0
  exact (congrArg (fun n : ℕ => ![1, n, 0, 0]) h1).trans (by congr 2 <;> omega)

theorem off17_eq (k : Fin (k0_t1_loop i a b).trips) :
    k0_off17 i a b k = ![0, 512 * (2 * (i 1).val - 3 - 2 * k.val), 0] := by
  have hi := point_lt i
  have hk := both_lt i ha hb k
  have h0 := down_toNat (k := k.val) (twice_toNat _ hi) (by omega) (by omega)
  have h1 := rows_toNat (before_toNat h0 (by omega)) (by omega)
  exact (congrArg (fun n : ℕ => ![0, n, 0]) h1).trans (by congr 2 <;> omega)

theorem off18_eq (k : Fin (k0_t1_loop i a b).trips) :
    k0_off18 i a b k = ![0, 2 * (i 1).val - 2 - 2 * k.val, 0, 0] := by
  have hi := point_lt i
  have hk := both_lt i ha hb k
  have h0 := down_toNat (k := k.val) (twice_toNat _ hi) (by omega) (by omega)
  have h1 := pred_toNat h0 (by omega) (by omega)
  exact (congrArg (fun n : ℕ => ![0, n, 0, 0]) h1).trans (by congr 2 <;> omega)

theorem off19_eq (k : Fin (k0_t1_loop i a b).trips) :
    k0_off19 i a b k = ![1, 512 * (2 * (i 1).val - 3 - 2 * k.val), 0] := by
  have hi := point_lt i
  have hk := both_lt i ha hb k
  have h0 := down_toNat (k := k.val) (twice_toNat _ hi) (by omega) (by omega)
  have h1 := rows_toNat (before_toNat h0 (by omega)) (by omega)
  exact (congrArg (fun n : ℕ => ![1, n, 0]) h1).trans (by congr 2 <;> omega)

theorem off20_eq (k : Fin (k0_t1_loop i a b).trips) :
    k0_off20 i a b k = ![1, 2 * (i 1).val - 2 - 2 * k.val, 0, 0] := by
  have hi := point_lt i
  have hk := both_lt i ha hb k
  have h0 := down_toNat (k := k.val) (twice_toNat _ hi) (by omega) (by omega)
  have h1 := pred_toNat h0 (by omega) (by omega)
  exact (congrArg (fun n : ℕ => ![1, n, 0, 0]) h1).trans (by congr 2 <;> omega)

theorem off31_eq (k : Fin (k0_t3_loop a b).trips) :
    k0_off31 a b k = ![alone a b, 512 * (max a.toNat b.toNat - 2 - 2 * k.val), 0] := by
  have hk := alone_lt ha hb k
  have h0 := down_toNat (k := k.val) (max_toNat ha hb) (by omega) (by omega)
  have h1 := rows_toNat (pred_toNat h0 (by omega) (by omega)) (by omega)
  exact (congrArg₂ (fun h n : ℕ => ![h, n, 0]) (alone_toNat ha hb) h1).trans (by congr 2 <;> omega)

theorem off33_eq (k : Fin (k0_t3_loop a b).trips) :
    k0_off33 a b k = ![alone a b, max a.toNat b.toNat - 1 - 2 * k.val, 0, 0] := by
  have hk := alone_lt ha hb k
  have h0 := down_toNat (k := k.val) (max_toNat ha hb) (by omega) (by omega)
  have h1 := h0
  exact (congrArg₂ (fun h n : ℕ => ![h, n, 0, 0]) (alone_toNat ha hb) h1).trans (by congr 2 <;> omega)

theorem off47_eq (k : Fin (k0_t3_loop a b).trips) :
    k0_off47 a b k = ![alone a b, 512 * (max a.toNat b.toNat - 3 - 2 * k.val), 0] := by
  have hk := alone_lt ha hb k
  have h0 := down_toNat (k := k.val) (max_toNat ha hb) (by omega) (by omega)
  have h1 := rows_toNat (before_toNat h0 (by omega)) (by omega)
  exact (congrArg₂ (fun h n : ℕ => ![h, n, 0]) (alone_toNat ha hb) h1).trans (by congr 2 <;> omega)

theorem off48_eq (k : Fin (k0_t3_loop a b).trips) :
    k0_off48 a b k = ![alone a b, max a.toNat b.toNat - 2 - 2 * k.val, 0, 0] := by
  have hk := alone_lt ha hb k
  have h0 := down_toNat (k := k.val) (max_toNat ha hb) (by omega) (by omega)
  have h1 := pred_toNat h0 (by omega) (by omega)
  exact (congrArg₂ (fun h n : ℕ => ![h, n, 0, 0]) (alone_toNat ha hb) h1).trans (by congr 2 <;> omega)

theorem off29_eq : k0_off29 a b = ![alone a b, 0, 0] :=
  congrArg (fun h : ℕ => ![h, 0, 0]) (alone_toNat ha hb)

theorem off30_eq : k0_off30 a b = ![alone a b, 0, 0] :=
  congrArg (fun h : ℕ => ![h, 0, 0]) (alone_toNat ha hb)

theorem off32_eq : k0_off32 a b = ![alone a b, 0, 0] :=
  congrArg (fun h : ℕ => ![h, 0, 0]) (alone_toNat ha hb)

theorem off34_eq : k0_off34 a b = ![alone a b, 0, 0] :=
  congrArg (fun h : ℕ => ![h, 0, 0]) (alone_toNat ha hb)

theorem off35_eq : k0_off35 a b = ![alone a b, 0, 256] :=
  congrArg (fun h : ℕ => ![h, 0, 256]) (alone_toNat ha hb)

theorem off36_eq : k0_off36 a b = ![alone a b, 256, 0] :=
  congrArg (fun h : ℕ => ![h, 256, 0]) (alone_toNat ha hb)

theorem off37_eq : k0_off37 a b = ![alone a b, 0, 256] :=
  congrArg (fun h : ℕ => ![h, 0, 256]) (alone_toNat ha hb)

theorem off38_eq : k0_off38 a b = ![alone a b, 0, 256] :=
  congrArg (fun h : ℕ => ![h, 0, 256]) (alone_toNat ha hb)

theorem off39_eq : k0_off39 a b = ![alone a b, 0, 512] :=
  congrArg (fun h : ℕ => ![h, 0, 512]) (alone_toNat ha hb)

theorem off40_eq : k0_off40 a b = ![alone a b, 512, 0] :=
  congrArg (fun h : ℕ => ![h, 512, 0]) (alone_toNat ha hb)

theorem off41_eq : k0_off41 a b = ![alone a b, 0, 512] :=
  congrArg (fun h : ℕ => ![h, 0, 512]) (alone_toNat ha hb)

theorem off42_eq : k0_off42 a b = ![alone a b, 0, 512] :=
  congrArg (fun h : ℕ => ![h, 0, 512]) (alone_toNat ha hb)

theorem off43_eq : k0_off43 a b = ![alone a b, 0, 768] :=
  congrArg (fun h : ℕ => ![h, 0, 768]) (alone_toNat ha hb)

theorem off44_eq : k0_off44 a b = ![alone a b, 768, 0] :=
  congrArg (fun h : ℕ => ![h, 768, 0]) (alone_toNat ha hb)

theorem off45_eq : k0_off45 a b = ![alone a b, 0, 768] :=
  congrArg (fun h : ℕ => ![h, 0, 768]) (alone_toNat ha hb)

theorem off46_eq : k0_off46 a b = ![alone a b, 0, 768] :=
  congrArg (fun h : ℕ => ![h, 0, 768]) (alone_toNat ha hb)

end

/-! ## The side conditions -/

theorem alone_le (a b : BitVec 32) : alone a b ≤ 1 := by unfold alone; split <;> omega

theorem key_inb {h n : ℕ} (hh : h ≤ 1) (hn : n ≤ 15872) :
    ∀ x, (![h, n, 0] : Fin 3 → ℕ) x + S1x512x128.size x ≤ S2x16384x128.size x := by
  intro x; fin_cases x
  · show h + 1 ≤ 2; omega
  · show n + 512 ≤ 16384; omega
  · show 0 + 128 ≤ 128; omega

theorem value_inb {h n : ℕ} (hh : h ≤ 1) (hn : n ≤ 31) :
    ∀ x, (![h, n, 0, 0] : Fin 4 → ℕ) x + S1x1x80x512.size x ≤ S2x32x80x512.size x := by
  intro x; fin_cases x
  · show h + 1 ≤ 2; omega
  · show n + 1 ≤ 32; omega
  · show 0 + 80 ≤ 80; omega
  · show 0 + 512 ≤ 512; omega

theorem score_inb {h n : ℕ} (hh : h ≤ 1) (hn : n ≤ 768) :
    ∀ x, (![h, 0, n] : Fin 3 → ℕ) x + S1x512x256.size x ≤ S2x512x1024.size x := by
  intro x; fin_cases x
  · show h + 1 ≤ 2; omega
  · show 0 + 512 ≤ 512; omega
  · show n + 256 ≤ 1024; omega

theorem top_inb {h n : ℕ} (hh : h ≤ 1) (hn : n ≤ 768) :
    ∀ x, (![h, 0, n] : Fin 3 → ℕ) x + S1x1x256.size x ≤ S2x1x1024.size x := by
  intro x; fin_cases x
  · show h + 1 ≤ 2; omega
  · show 0 + 1 ≤ 1; omega
  · show n + 256 ≤ 1024; omega

theorem sum_inb {h n : ℕ} (hh : h ≤ 1) (hn : n ≤ 768) :
    ∀ x, (![h, 0, n] : Fin 3 → ℕ) x + S1x80x256.size x ≤ S2x80x1024.size x := by
  intro x; fin_cases x
  · show h + 1 ≤ 2; omega
  · show 0 + 80 ≤ 80; omega
  · show n + 256 ≤ 1024; omega

theorem query_inb {h n : ℕ} (hh : h ≤ 1) (hn : n ≤ 768) :
    ∀ x, (![h, n, 0] : Fin 3 → ℕ) x + S1x256x128.size x ≤ S2x1024x128.size x := by
  intro x; fin_cases x
  · show h + 1 ≤ 2; omega
  · show n + 256 ≤ 1024; omega
  · show 0 + 128 ≤ 128; omega

/-- The two first-tile words between 0 and 32: every load and store of the loops is in bounds. -/
theorem chk_of_le (i : grid0.Coords) {a b : BitVec 32} (ha : a.toNat ≤ 32) (hb : b.toNat ≤ 32) : k0_chk1 i a b := by
  have hi := point_lt i
  have hal := alone_le a b
  have b1 := both_lt i ha hb
  have b3 := alone_lt ha hb
  unfold k0_chk1 k0_chk1_0 k0_chk1_1 k0_chk1_2 k0_chk1_3
  exact ⟨⟨(both_loop i ha hb).2,
    fun _ => dvd_rows _,
    fun k => by rw [off13_eq i ha hb k]; have := b1 k; exact key_inb (by omega) (by omega),
    fun k => by rw [off14_eq i ha hb k]; have := b1 k; exact value_inb (by omega) (by omega),
    fun _ => dvd_rows _,
    fun _ => dvd_rows _,
    fun _ => dvd_rows _,
    fun _ => dvd_rows _,
    fun k => by rw [off15_eq i ha hb k]; have := b1 k; exact key_inb (by omega) (by omega),
    fun k => by rw [off16_eq i ha hb k]; have := b1 k; exact value_inb (by omega) (by omega),
    fun _ => dvd_rows _,
    fun _ => dvd_rows _,
    fun _ => dvd_rows _,
    fun _ => dvd_rows _,
    fun k => by rw [off17_eq i ha hb k]; have := b1 k; exact key_inb (by omega) (by omega),
    fun k => by rw [off18_eq i ha hb k]; have := b1 k; exact value_inb (by omega) (by omega),
    fun _ => dvd_rows _,
    fun _ => dvd_rows _,
    fun _ => dvd_rows _,
    fun _ => dvd_rows _,
    fun k => by rw [off19_eq i ha hb k]; have := b1 k; exact key_inb (by omega) (by omega),
    fun k => by rw [off20_eq i ha hb k]; have := b1 k; exact value_inb (by omega) (by omega),
    fun _ => dvd_rows _,
    fun _ => dvd_rows _,
    fun _ => dvd_rows _,
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim⟩,
   ⟨fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    (alone_loop ha hb).2,
    fun _ => by rw [off29_eq ha hb]; exact score_inb hal (by omega),
    fun _ => dvd_rows _,
    fun _ => by rw [off30_eq ha hb]; exact query_inb hal (by omega),
    fun k => by rw [off31_eq ha hb k]; have := b3 k; exact key_inb hal (by omega),
    fun _ => by rw [off32_eq ha hb]; exact top_inb hal (by omega),
    fun k => by rw [off33_eq ha hb k]; have := b3 k; exact value_inb hal (by omega),
    fun _ => by rw [off34_eq ha hb]; exact sum_inb hal (by omega),
    fun _ => by rw [off35_eq ha hb]; exact score_inb hal (by omega),
    fun _ => dvd_rows _,
    fun _ => by rw [off36_eq ha hb]; exact query_inb hal (by omega),
    fun _ => by rw [off37_eq ha hb]; exact top_inb hal (by omega),
    fun _ => by rw [off38_eq ha hb]; exact sum_inb hal (by omega),
    fun _ => by rw [off39_eq ha hb]; exact score_inb hal (by omega)⟩,
   ⟨fun _ => dvd_rows _,
    fun _ => by rw [off40_eq ha hb]; exact query_inb hal (by omega),
    fun _ => by rw [off41_eq ha hb]; exact top_inb hal (by omega),
    fun _ => by rw [off42_eq ha hb]; exact sum_inb hal (by omega),
    fun _ => by rw [off43_eq ha hb]; exact score_inb hal (by omega),
    fun _ => dvd_rows _,
    fun _ => by rw [off44_eq ha hb]; exact query_inb hal (by omega),
    fun _ => by rw [off45_eq ha hb]; exact top_inb hal (by omega),
    fun _ => by rw [off46_eq ha hb]; exact sum_inb hal (by omega),
    fun _ => dvd_rows _,
    fun k => by rw [off47_eq ha hb k]; have := b3 k; exact key_inb hal (by omega),
    fun k => by rw [off48_eq ha hb k]; have := b3 k; exact value_inb hal (by omega),
    fun _ => dvd_rows _,
    fun _ => dvd_rows _,
    fun _ => dvd_rows _,
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim⟩,
   ⟨fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim⟩⟩

end Cert.KernelIdeal.Flash
-- ==== Proof.Words.lean ====
/- What the preconditions say of the first-tile words, and the side conditions the kernel's body
   assumes of them, at the machine's bits and at the ideal instance. -/
module

public import proofs.«01_k».proof.Defs
public import proofs.«01_k».proof.Proof.Tiles
public import proofs.«01_k».proof.Proof.Gen.Kernel.Frame.Runs
public import proofs.«01_k».proof.Proof.Gen.KernelIdeal.Frame.Runs
public import Idealize.ShloMosaic.Lib.ReduceAll

@[expose] public section

noncomputable section

namespace Cert.Flash

open Idealize.ShloMosaic Idealize.SL.Sem

/-- The shape relations the frames' precondition states. -/
instance tilesFacts : Cert.Pre_tiles.Facts where
  bcast_S_S16x16 := by decide

/-- The shape relations the value claim's precondition states. -/
instance packedFacts : Cert.Pre_packed.Facts where
  bcast_S16_S1x16_1 := by decide
  bcast_S_S16x16 := by decide
  bcast_S_S1x16 := by decide
  bcast_S1x16_S16x16_0_1 := by decide
  bitsLt_bf16_f32 := by decide
  bcast_S_S16x16384x128 := by decide
  reducesTo_S16x16384x128_S_d0_1_2 := by decide
  h_S_ := by decide
  reducesTo_S16x16_S_d0_1 := by decide
  slices_S16x32x80x512_S16x32x1x512_0_0_64_0 := by decide
  shapeCasts_S16x32x1x512_S16x32x512 := by decide
  bcast_S_S16x32x512 := by decide
  reducesTo_S16x32x512_S_d0_1_2 := by decide

theorem andi_one (p q : BitVec 1) : IntOp.andi p q = 1#1 ↔ p = 1#1 ∧ q = 1#1 := by revert p q; decide

theorem ofBool_one (p : Bool) : (BitVec.ofBool p = 1#1) ↔ p = true := by cases p <;> decide

/-- Under `tiles` every first-tile word is at most 32. -/
theorem word_of_tiles {F : FTy → Type} [FloatOps F] (q k : FVec F Cert.Pre_tiles.S16x16384x128 .bf16)
    (v : FVec F Cert.Pre_tiles.S16x32x80x512 .bf16) (w : IVec Cert.Pre_tiles.S16x16 32)
    (h : Cert.Pre_tiles.fn q k v w = fun _ => 1#1) (x : Cert.Pre_tiles.S16x16.Idx) : (w x).toNat ≤ 32 := by
  have e := congrFun h x
  simp only [Cert.Pre_tiles.fn, andi, cmpi, broadcastInDim, constantI, IntOp.cmpi, andi_one, ofBool_one] at e
  obtain ⟨h0, h1⟩ := e
  simp only [BitVec.sle, decide_eq_true_eq, BitVec.toInt, BitVec.toNat_ofNat] at h0 h1
  omega

/-- The same side conditions, at the machine's bits. -/
theorem chk_bits (i : Cert.Kernel.grid0.Coords) {a b : BitVec 32} (ha : a.toNat ≤ 32) (hb : b.toNat ≤ 32) :
    Cert.Kernel.k0_chk1 i a b :=
  Cert.KernelIdeal.Flash.chk_of_le (show Cert.KernelIdeal.grid0.Coords from i) ha hb

section
attribute [local irreducible] Cert.KernelIdeal.k0_chk1 Cert.Kernel.k0_chk1

/-- Under `tiles` the idealized kernel's body meets its side conditions. -/
theorem hyps_ideal (m : (ℓ : Loc Cert.KernelIdeal.nD Cert.KernelIdeal.τ Cert.KernelIdeal.sig) → Buf (Elt Ideal) ℓ)
    (h : ∀ x, (Cert.KernelIdeal.Gen.tbl m 0 x).toNat ≤ 32) (hO : Cert.KernelIdeal.Gen.Ok m) :
    Cert.KernelIdeal.Gen.Hyps m hO := by
  refine Cert.KernelIdeal.Gen.Hyps.of fun c t => ?_
  unfold Cert.KernelIdeal.Gen.Hyps.p0
  exact Cert.KernelIdeal.Flash.chk_of_le _ (h _) (h _)

/-- Under `tiles` the kernel's body meets its side conditions. -/
theorem hyps_bits (m : (ℓ : Loc Cert.Kernel.nD Cert.Kernel.τ Cert.Kernel.sig) → Buf (Elt Bits) ℓ)
    (h : ∀ x, (Cert.Kernel.Gen.tbl m 0 x).toNat ≤ 32) (hO : Cert.Kernel.Gen.Ok m) :
    Cert.Kernel.Gen.Hyps m hO := by
  refine Cert.Kernel.Gen.Hyps.of fun c t => ?_
  unfold Cert.Kernel.Gen.Hyps.p0
  exact chk_bits _ (h _) (h _)

end

/-! ## The value claim's precondition, read back -/

section packed
variable (q k : FVec Ideal Cert.Pre_packed.S16x16384x128 .bf16) (v : FVec Ideal Cert.Pre_packed.S16x32x80x512 .bf16)
  (w : IVec Cert.Pre_packed.S16x16 32)

/-- What `packed` says. -/
structure Packed : Prop where
  first_le : ∀ x, (w x).toNat ≤ 2 * (x 1).val
  first_even : ∀ x, (w x).toNat % 2 = 0
  query_finite : ∀ x, ∃ r : ℝ, q x = (r : EReal)
  key_finite : ∀ x, ∃ r : ℝ, k x = (r : EReal)
  ones : ∀ x : Cert.Pre_packed.S16x32x80x512.Idx, (x 2).val = 64 → v x = (1 : EReal)

end packed

end Cert.Flash
-- ==== Proof.Packed.lean ====
/- The value claim's precondition, read back element by element. -/
module

public import proofs.«01_k».proof.Proof.Words
public import Idealize.ShloMosaic.Lib.Pointwise

@[expose] public section

noncomputable section

namespace Cert.Flash

open Idealize.ShloMosaic Cert.Pre_packed Cert.Pre_packed.Facts

instance : Subsingleton S_.Idx := ⟨fun a b => funext fun i => i.elim0⟩

theorem infinity : Ideal.ofBits .f32 0x7F800000#32 = (⊤ : EReal) := by
  simp [Ideal.ofBits, Ideal.ieee]

theorem unit : Ideal.ofBits .f32 0x3F800000#32 = (1 : EReal) := by
  simp [Ideal.ofBits, Ideal.ieee]
  rw [← EReal.coe_mul, ← EReal.coe_one]
  congr 1
  norm_num

theorem real_of_abs (x : EReal) (h : max x (-x) < ⊤) : ∃ r : ℝ, x = (r : EReal) := by
  induction x with
  | bot => simp at h
  | top => simp at h
  | coe r => exact ⟨r, rfl⟩

/-- A finiteness test passed. -/
theorem real_of_test (x : FVec Ideal S16x16384x128 .bf16) (i : S16x16384x128.Idx)
    (h : cmpf .olt (Host.absf (extf .f32 x bitsLt_bf16_f32)) (broadcastInDim S16x16384x128 ![] bcast_S_S16x16384x128 (constant (F := Ideal) S_ .f32 0x7F800000#32)) i = 1#1) :
    ∃ r : ℝ, x i = (r : EReal) := by
  have e : BitVec.ofBool (decide (max (x i : EReal) (-(x i : EReal)) < Ideal.ofBits .f32 0x7F800000#32)) = 1#1 := h
  rw [ofBool_one, decide_eq_true_eq, infinity] at e
  exact real_of_abs _ e

/-- The tests of one first-tile word passed. -/
theorem word_of_test (w : BitVec 32) (b : ℕ) (hb : b < 16)
    (h : IntOp.andi (IntOp.andi (IntOp.cmpi .sge w 0#32) (IntOp.cmpi .sle w (2#32 * BitVec.ofNat 32 b))) (IntOp.cmpi .eq (w &&& 1#32) 0#32) = 1#1) :
    w.toNat ≤ 2 * b ∧ w.toNat % 2 = 0 := by
  simp only [andi_one, IntOp.cmpi, ofBool_one] at h
  obtain ⟨⟨h0, h1⟩, h2⟩ := h
  simp only [BitVec.sle, decide_eq_true_eq, BitVec.toInt, BitVec.toNat_ofNat, BitVec.toNat_mul] at h0 h1
  have e := congrArg BitVec.toNat (beq_iff_eq.mp h2)
  rw [BitVec.toNat_and, BitVec.toNat_ofNat, BitVec.toNat_ofNat, show 1 % 2 ^ 32 = 1 from rfl, Nat.and_one_is_mod] at e
  have hm : w.toNat < 2 ^ 32 := w.isLt
  constructor
  · omega
  · omega

/-- The precondition says what `Packed` lists. -/
theorem packed_of (q k : FVec Ideal S16x16384x128 .bf16) (v : FVec Ideal S16x32x80x512 .bf16) (w : IVec S16x16 32)
    (h : Cert.Pre_packed.fn q k v w = fun _ => 1#1) : Packed q k v w := by
  have e := congrFun h (Shape.Idx.first h_S_)
  unfold Cert.Pre_packed.fn Cert.Pre_packed.fn_part1 at e
  obtain ⟨e, e3⟩ := (andi_one _ _).mp e
  obtain ⟨e0, e⟩ := (andi_one _ _).mp e
  obtain ⟨e1, e2⟩ := (andi_one _ _).mp e
  have t0 := fun i => Host.reduce_andi_all _ _ _ _ _ e0 i
  have t1 := fun i => Host.reduce_andi_all _ _ _ _ _ e1 i
  have t2 := fun i => Host.reduce_andi_all _ _ _ _ _ e2 i
  have t3 := fun i => Host.reduce_andi_all _ _ _ _ _ e3 i
  have hw : ∀ x, (w x).toNat ≤ 2 * (x 1).val ∧ (w x).toNat % 2 = 0 := fun x => word_of_test (w x) (x 1).val (x 1).isLt (t0 x)
  refine ⟨fun x => (hw x).1, fun x => (hw x).2, fun i => real_of_test q i (t1 i), fun i => real_of_test k i (t2 i), fun x hx => ?_⟩
  have u := t3 (ix3 (x 0) (x 1) (x 3))
  have e : cmpf (F := Ideal) .oeq (extf .f32 (shapeCast S16x32x512 (extractStridedSlice S16x32x1x512 ![0, 0, 64, 0] v slices_S16x32x80x512_S16x32x1x512_0_0_64_0) shapeCasts_S16x32x1x512_S16x32x512) bitsLt_bf16_f32)
        (broadcastInDim S16x32x512 ![] bcast_S_S16x32x512 (constant (F := Ideal) S_ .f32 0x3F800000#32)) (ix3 (x 0) (x 1) (x 3))
      = BitVec.ofBool (decide (v (ix4 (x 0) (x 1) ⟨64, by decide⟩ (x 3)) = Ideal.ofBits .f32 0x3F800000#32)) := by
    pointwise
  rw [e, ofBool_one, decide_eq_true_eq, unit] at u
  rw [← u]
  refine congrArg v ?_
  funext a
  match a with
  | ⟨0, _⟩ => rfl
  | ⟨1, _⟩ => rfl
  | ⟨2, _⟩ => exact Fin.ext hx
  | ⟨3, _⟩ => rfl

end Cert.Flash

end
-- ==== Proof.Pieces.lean ====
/- Reading a scratch buffer of two heads and 1024 columns after stores of 256 columns of one head:
   what the buffer holds, column block by column block. -/
module

public import Idealize.ShloMosaic.Lib.Writes
public import Idealize.ShloMosaic.Lib.WritesUnit
public import Idealize.ShloMosaic.PureOps.Ideal.Laws

@[expose] public section

noncomputable section

namespace Cert.Flash

open Idealize.ShloMosaic

/-- A buffer's contents by head, row and column. -/
abbrev Grid := ℕ → ℕ → ℕ → EReal

/-- `new` in the first `e` column blocks of head `h`, `old` elsewhere. -/
def mix (h e : ℕ) (new old : Grid) : Grid := fun a b c => if a = h ∧ c < 256 * e then new a b c else old a b c

theorem mix_zero (h : ℕ) (new old : Grid) : mix h 0 new old = old := by
  funext a b c; exact if_neg (by omega)

theorem mix_old {h e n : ℕ} (new old : Grid) (hn : n = 256 * e) (b d : ℕ) : mix h e new old h b (n + d) = old h b (n + d) :=
  if_neg (by omega)

theorem mix_other {h e a : ℕ} (new old : Grid) (ha : a ≠ h) (b c : ℕ) : mix h e new old a b c = old a b c :=
  if_neg (by omega)

theorem mix_new {h e n d : ℕ} (new old : Grid) (hn : n = 256 * e) (he : e < 4) (hd : d < 256) (b : ℕ) :
    mix h 4 new old h b (n + d) = new h b (n + d) :=
  if_pos ⟨rfl, by omega⟩

theorem mix_full {h : ℕ} (new old : Grid) (a b c : ℕ) (hc : c < 1024) :
    mix h 4 new old a b c = if a = h then new a b c else old a b c := by
  unfold mix; simp only [show c < 256 * 4 from hc, and_true]

/-- One head renewed twice. -/
theorem mix_twice (h : ℕ) (new old' old : Grid) (a b : ℕ) {c : ℕ} (hc : c < 1024) :
    mix h 4 new (mix h 4 old' old) a b c = mix h 4 new old a b c := by
  simp only [mix_full _ _ _ _ _ hc]
  split <;> rfl

/-- Both heads renewed. -/
theorem mix_both (new old : Grid) {a c : ℕ} (b : ℕ) (ha : a < 2) (hc : c < 1024) :
    mix 1 4 new (mix 0 4 new old) a b c = new a b c := by
  rw [mix_full _ _ _ _ _ hc, mix_full _ _ _ _ _ hc]
  split
  · rfl
  · rw [if_pos (by omega)]

section
variable {sig : RefSig} {κ : Kind} {sp : Space} {R : ℕ} (v : View sig κ sp (⟨3, ![2, R, 1024]⟩ : Shape) .f32)
  (f : v.ty.Contents (Elt Ideal))

/-- After the stores `L` over `f` the buffer holds `G`. -/
def Reads (L : List (View.Piece (Elt Ideal) (⟨3, ![2, R, 1024]⟩ : Shape) .f32)) (G : Grid) : Prop :=
  ∀ y : (⟨3, ![2, R, 1024]⟩ : Shape).Idx,
    v.read (Elt Ideal) (v.writes (Elt Ideal) f L) y = G (y (0 : Fin 3)).val (y (1 : Fin 3)).val (y (2 : Fin 3)).val

/-- What the buffer holds, by coordinates. -/
def held (L : List (View.Piece (Elt Ideal) (⟨3, ![2, R, 1024]⟩ : Shape) .f32)) : Grid := fun a b c =>
  if h : a < 2 ∧ b < R ∧ c < 1024 then
    v.read (Elt Ideal) (v.writes (Elt Ideal) f L)
      (fun x : Fin 3 => match x with | ⟨0, _⟩ => ⟨a, h.1⟩ | ⟨1, _⟩ => ⟨b, h.2.1⟩ | ⟨2, _⟩ => ⟨c, h.2.2⟩)
  else 0

theorem reads_held (L : List (View.Piece (Elt Ideal) (⟨3, ![2, R, 1024]⟩ : Shape) .f32)) : Reads v f L (held v f L) := by
  intro y
  unfold held
  rw [dif_pos ⟨(y (0 : Fin 3)).isLt, (y (1 : Fin 3)).isLt, (y (2 : Fin 3)).isLt⟩]
  refine congrArg _ (funext fun a => ?_)
  match a with
  | ⟨0, _⟩ => rfl
  | ⟨1, _⟩ => rfl
  | ⟨2, _⟩ => rfl

variable {v f}

theorem Reads.congr {L : List (View.Piece (Elt Ideal) (⟨3, ![2, R, 1024]⟩ : Shape) .f32)} {G G' : Grid} (h : Reads v f L G)
    (e : ∀ a b c, a < 2 → b < R → c < 1024 → G a b c = G' a b c) : Reads v f L G' := fun y =>
  (h y).trans (e _ _ _ (y (0 : Fin 3)).isLt (y (1 : Fin 3)).isLt (y (2 : Fin 3)).isLt)

theorem Reads.append {L L' : List (View.Piece (Elt Ideal) (⟨3, ![2, R, 1024]⟩ : Shape) .f32)} {G : Grid}
    (h : Reads v (v.writes (Elt Ideal) f L') L G) : Reads v f (L ++ L') G := fun y => by
  rw [View.writes_append]; exact h y

/-- One more store of one head's columns. -/
theorem Reads.store {L : List (View.Piece (Elt Ideal) (⟨3, ![2, R, 1024]⟩ : Shape) .f32)} {G G' : Grid} {h n W : ℕ}
    {off : Fin 3 → ℕ}
    {inb : ∀ a, off a + (![1, R, W] : Fin 3 → ℕ) a ≤ (⟨3, ![2, R, 1024]⟩ : Shape).size a}
    {w : (Rect.unit (s := (⟨3, ![2, R, 1024]⟩ : Shape)) off ![1, R, W] inb).shape.Idx → Elt Ideal .f32}
    (hL : Reads v f L G) (hoff : off = ![h, 0, n])
    (hw : ∀ z : (⟨3, ![1, R, W]⟩ : Shape).Idx, w z = G' h (z (1 : Fin 3)).val (n + (z (2 : Fin 3)).val))
    (hG : ∀ a b c, c < 1024 → ¬ (a = h ∧ n ≤ c ∧ c < n + W) → G' a b c = G a b c) :
    Reads v f (⟨Rect.unit off ![1, R, W] inb, w⟩ :: L) G' := by
  intro y
  by_cases hy : (y (0 : Fin 3)).val = h ∧ n ≤ (y (2 : Fin 3)).val ∧ (y (2 : Fin 3)).val < n + W
  · rw [View.read_writes_cons_unit_of_mem v f inb w L y
      (fun x : Fin 3 => match x with
        | ⟨0, _⟩ => ⟨0, Nat.one_pos⟩
        | ⟨1, _⟩ => ⟨(y (1 : Fin 3)).val, (y (1 : Fin 3)).isLt⟩
        | ⟨2, _⟩ => ⟨(y (2 : Fin 3)).val - n, by show _ < W; omega⟩) hoff
      (fun a => by
        match a with
        | ⟨0, _⟩ => exact hy.1
        | ⟨1, _⟩ => exact (Nat.zero_add _).symm
        | ⟨2, _⟩ => show (y (2 : Fin 3)).val = n + ((y (2 : Fin 3)).val - n); omega)]
    refine (hw _).trans ?_
    show G' h (y (1 : Fin 3)).val (n + ((y (2 : Fin 3)).val - n)) = _
    rw [hy.1, Nat.add_sub_cancel' hy.2.1]
  · have hne : (y (0 : Fin 3)).val ≠ h ∨ (y (2 : Fin 3)).val < n ∨ n + W ≤ (y (2 : Fin 3)).val := by omega
    have key : v.read (Elt Ideal) (v.writes (Elt Ideal) f (⟨Rect.unit off ![1, R, W] inb, w⟩ :: L)) y
        = v.read (Elt Ideal) (v.writes (Elt Ideal) f L) y := by
      rcases hne with h0 | h2
      · refine View.read_writes_cons_unit_of_not_mem v f inb w L y hoff (0 : Fin 3) ?_
        show (y (0 : Fin 3)).val < h ∨ h + 1 ≤ (y (0 : Fin 3)).val
        omega
      · exact View.read_writes_cons_unit_of_not_mem v f inb w L y hoff (2 : Fin 3) h2
    rw [key, hL y]
    exact (hG _ _ _ (y (2 : Fin 3)).isLt hy).symm

/-- One more column block of head `h`. -/
theorem Reads.block {L : List (View.Piece (Elt Ideal) (⟨3, ![2, R, 1024]⟩ : Shape) .f32)} {N B : Grid} {h e n : ℕ}
    {off : Fin 3 → ℕ}
    {inb : ∀ a, off a + (![1, R, 256] : Fin 3 → ℕ) a ≤ (⟨3, ![2, R, 1024]⟩ : Shape).size a}
    {w : (Rect.unit (s := (⟨3, ![2, R, 1024]⟩ : Shape)) off ![1, R, 256] inb).shape.Idx → Elt Ideal .f32}
    (hL : Reads v f L (mix h e N B)) (hoff : off = ![h, 0, n]) (hn : n = 256 * e)
    (hw : ∀ z : (⟨3, ![1, R, 256]⟩ : Shape).Idx, w z = N h (z (1 : Fin 3)).val (n + (z (2 : Fin 3)).val)) :
    Reads v f (⟨Rect.unit off ![1, R, 256] inb, w⟩ :: L) (mix h (e + 1) N B) := by
  refine hL.store hoff (fun z => ?_) fun a b c hc hout => ?_
  · refine (hw z).trans (if_pos ⟨rfl, ?_⟩).symm
    have : (z (2 : Fin 3)).val < 256 := (z (2 : Fin 3)).isLt
    omega
  · unfold mix
    by_cases ha : a = h
    · by_cases hcc : c < 256 * e
      · rw [if_pos ⟨ha, by omega⟩, if_pos ⟨ha, hcc⟩]
      · rw [if_neg (by omega), if_neg (by omega)]
    · rw [if_neg (by omega), if_neg (by omega)]

/-- Reading one head's columns. -/
theorem Reads.load {L : List (View.Piece (Elt Ideal) (⟨3, ![2, R, 1024]⟩ : Shape) .f32)} {G : Grid} {h n : ℕ} {off : Fin 3 → ℕ}
    {inb : ∀ a, off a + (![1, R, 256] : Fin 3 → ℕ) a ≤ (⟨3, ![2, R, 1024]⟩ : Shape).size a}
    (hL : Reads v f L G) (hoff : off = ![h, 0, n]) (z : (⟨3, ![1, R, 256]⟩ : Shape).Idx) :
    v.readAt (Elt Ideal) (Rect.unit (s := (⟨3, ![2, R, 1024]⟩ : Shape)) off ![1, R, 256] inb).toLoadRect
      (v.writes (Elt Ideal) f L) z = G h (z (1 : Fin 3)).val (n + (z (2 : Fin 3)).val) := by
  subst hoff
  refine (hL _).trans ?_
  have h0 : (z (0 : Fin 3)).val = 0 := Nat.lt_one_iff.mp (z (0 : Fin 3)).isLt
  show G (h + 1 * (z (0 : Fin 3)).val) (0 + 1 * (z (1 : Fin 3)).val) (n + 1 * (z (2 : Fin 3)).val) = _
  rw [h0, Nat.mul_zero, Nat.add_zero, Nat.one_mul, Nat.one_mul, Nat.zero_add]

/-- A buffer with its first head renewed, about to have its second renewed. -/
theorem Reads.next {L : List (View.Piece (Elt Ideal) (⟨3, ![2, R, 1024]⟩ : Shape) .f32)} {G : Grid}
    (h : ℕ) (N : Grid) (hG : Reads v f L G) : Reads v f L (mix h 0 N G) := by
  rw [mix_zero]; exact hG

/-- A buffer with both heads renewed. -/
theorem Reads.done {L : List (View.Piece (Elt Ideal) (⟨3, ![2, R, 1024]⟩ : Shape) .f32)} {N G : Grid}
    (hG : Reads v f L (mix 1 4 N (mix 0 4 N G))) : Reads v f L N :=
  Reads.congr hG fun _ b _ ha _ hc => mix_both _ _ b ha hc

end

end Cert.Flash

end
-- ==== Proof.Chunk.lean ====
/- One column block of the attention kernel's body: what its stores hold, element by element, and
   what the running maxima, the running sums and the scores hold after them. -/
module

public import proofs.«01_k».proof.Proof.Gen.KernelIdeal
public import proofs.«01_k».proof.Proof.Pieces
public import Idealize.ShloMosaic.Lib.Pointwise

@[expose] public section

set_option maxRecDepth 16384

noncomputable section

namespace Cert.KernelIdeal.Flash

open Idealize.ShloMosaic Cert.KernelIdeal.Gen Cert.Flash

/-- The running maxima of 256 rows after a tile of scores. -/
def newMax (mv : Vec Ideal S1x1x256 .f32) (s2 : FVec Ideal S512x256 .f32) : FVec Ideal S1x256 .f32 :=
  maximumf (shapeCast S1x256 mv shapeCasts_S1x1x256_S1x256)
    (shapeCast S1x256 (multiReduction .maximumf [0] S256 s2 0xFF800000#32 reduces_S512x256_S256 (.inl rfl) rfl) shapeCasts_S256_S1x256)

/-- The running maxima, as stored. -/
def payM (mv : Vec Ideal S1x1x256 .f32) (s2 : FVec Ideal S512x256 .f32) : FVec Ideal S1x1x256 .f32 :=
  shapeCast S1x1x256 (newMax mv s2) shapeCasts_S1x256_S1x1x256

/-- The running sums of 256 rows after a tile of scores, as stored. -/
def payA (mv : Vec Ideal S1x1x256 .f32) (s2 : FVec Ideal S512x256 .f32) (av : Vec Ideal S1x80x256 .f32)
    (vv : Vec Ideal S1x1x80x512 .bf16) : FVec Ideal S1x80x256 .f32 :=
  shapeCast S1x80x256
    (addf (mulf (broadcastTo S80x256 (exp2 (subf (shapeCast S1x256 mv shapeCasts_S1x1x256_S1x256) (newMax mv s2))) broadcasts_S1x256_S80x256)
        (shapeCast S80x256 av shapeCasts_S1x80x256_S80x256))
      (matmul (φ₁ := .bf16) (φ₂ := .bf16) dot_S80x512_S512x256_S80x256_1_0_0_1_n_n none (shapeCast S80x512 vv shapeCasts_S1x1x80x512_S80x512)
        (truncf .bf16 (exp2 (subf s2 (broadcastTo S512x256 (newMax mv s2) broadcasts_S1x256_S512x256))) bitsLt_bf16_f32)
        (constant S80x256 .f32 0x00000000#32))) shapeCasts_S80x256_S1x80x256

/-- A tile of scores of 256 rows, as stored. -/
def payS (kv : Vec Ideal S1x512x128 .bf16) (qv : Vec Ideal S1x256x128 .bf16) : FVec Ideal S1x512x256 .f32 :=
  shapeCast S1x512x256
    (matmul (φ₁ := .bf16) (φ₂ := .bf16) dot_S512x128_S256x128_S512x256_1_1_0_0_n_n none (shapeCast S512x128 kv shapeCasts_S1x512x128_S512x128)
      (shapeCast S256x128 qv shapeCasts_S1x256x128_S256x128) (constant S512x256 .f32 0x00000000#32)) shapeCasts_S512x256_S1x512x256

theorem ofBits_bot : Ideal.ofBits .f32 (4286578688#32) = ⊥ := by
  simp [Ideal.ofBits, Ideal.ieee]

/-- Two to the power of an extended real. -/
def pow2 (x : EReal) : EReal := FloatOps.exp2 (F := Ideal) (φ := .f32) x

/-- The running maxima after a tile of scores `S`. -/
def mStep (M S : Grid) : Grid := fun a _ c => M a 0 c ⊔ (Finset.univ : Finset (Fin 512)).sup fun k => S a k.val c

/-- The running sums after a tile of scores `S` with values `V`. -/
def aStep (M A S V : Grid) : Grid := fun a r c =>
  pow2 (M a 0 c - mStep M S a 0 c) * A a r c + ∑ k : Fin 512, V a r k.val * pow2 (S a k.val c - mStep M S a 0 c)

/-- The scores of a tile of keys `K` against the queries `Q`. -/
def scores (K Q : Grid) : Grid := fun a k c => ∑ d : Fin 128, K a k d.val * Q a c d.val

theorem payS_apply (kv qv) (z : S1x512x256.Idx) :
    payS kv qv z = ∑ d : Fin 128, kv (ix3 0 (z 1) d) * qv (ix3 0 (z 2) d) := by
  unfold payS
  pointwise

theorem newMax_apply (mv s2) (z : S1x256.Idx) :
    newMax mv s2 z = mv (ix3 0 0 (z 1)) ⊔ (Finset.univ : Finset (Fin 512)).sup fun k => s2 (ix2 k (z 1)) := by
  unfold newMax
  pointwise
  rw [ofBits_bot]
  rfl

theorem payM_apply (mv s2) (z : S1x1x256.Idx) :
    payM mv s2 z = mv (ix3 0 0 (z 2)) ⊔ (Finset.univ : Finset (Fin 512)).sup fun k => s2 (ix2 k (z 2)) := by
  unfold payM
  pointwise
  exact newMax_apply _ _ _

theorem payA_apply (mv s2 av vv) (z : S1x80x256.Idx) :
    payA mv s2 av vv z
      = pow2 (mv (ix3 0 0 (z 2)) - (mv (ix3 0 0 (z 2)) ⊔ (Finset.univ : Finset (Fin 512)).sup fun k => s2 (ix2 k (z 2)))) * av z
        + ∑ k : Fin 512, vv (ix4 0 0 (z 1) k)
          * pow2 (s2 (ix2 k (z 2)) - (mv (ix3 0 0 (z 2)) ⊔ (Finset.univ : Finset (Fin 512)).sup fun k => s2 (ix2 k (z 2)))) := by
  unfold payA
  pointwise
  simp only [newMax_apply]
  rfl

/-- A tile of scores read back. -/
theorem cast_scores {h n : ℕ} {S : Grid} {sv : Vec Ideal S1x512x256 .f32}
    (hs : ∀ z : S1x512x256.Idx, sv z = S h (z 1).val (n + (z 2).val)) (k : Fin 512) (l : Fin 256) :
    (shapeCast S512x256 sv shapeCasts_S1x512x256_S512x256 : FVec Ideal S512x256 .f32) (ix2 k l) = S h k.val (n + l.val) := by
  pointwise
  exact hs _

section
variable {sig : RefSig} {κ : Kind} {sp : Space} {h n e : ℕ} {M S A V : Grid} {mv : Vec Ideal S1x1x256 .f32}
  {s2 : FVec Ideal S512x256 .f32} {av : Vec Ideal S1x80x256 .f32} {vv : Vec Ideal S1x1x80x512 .bf16}

theorem payM_eq (hm : ∀ z : S1x1x256.Idx, mv z = M h (z 1).val (n + (z 2).val))
    (hs : ∀ (k : Fin 512) (l : Fin 256), s2 (ix2 k l) = S h k.val (n + l.val)) (z : S1x1x256.Idx) :
    payM mv s2 z = mStep M S h (z 1).val (n + (z 2).val) := by
  rw [payM_apply, hm]
  exact congrArg _ (Finset.sup_congr rfl fun k _ => hs k (z 2))

theorem payA_eq (hm : ∀ z : S1x1x256.Idx, mv z = M h (z 1).val (n + (z 2).val))
    (hs : ∀ (k : Fin 512) (l : Fin 256), s2 (ix2 k l) = S h k.val (n + l.val))
    (ha : ∀ z : S1x80x256.Idx, av z = A h (z 1).val (n + (z 2).val))
    (hv : ∀ z : S1x1x80x512.Idx, vv z = V h (z 2).val (z 3).val) (z : S1x80x256.Idx) :
    payA mv s2 av vv z = aStep M A S V h (z 1).val (n + (z 2).val) := by
  have e : (mv (ix3 0 0 (z 2)) ⊔ (Finset.univ : Finset (Fin 512)).sup fun k => s2 (ix2 k (z 2)))
      = mStep M S h 0 (n + (z 2).val) := by
    rw [hm]; exact congrArg _ (Finset.sup_congr rfl fun k _ => hs k (z 2))
  rw [payA_apply, e, hm, ha]
  refine congrArg _ (Finset.sum_congr rfl fun k _ => ?_)
  rw [hv]
  exact congrArg (fun t => V h (z 1).val k.val * pow2 (t - mStep M S h 0 (n + (z 2).val))) (hs k (z 2))

/-- One column block of the running maxima. -/
theorem block_max {v : View sig κ sp S2x1x1024 .f32} {f : v.ty.Contents (Elt Ideal)}
    {L : List (View.Piece (Elt Ideal) S2x1x1024 .f32)} {B : Grid} {off : Fin 3 → ℕ}
    {inb : ∀ a, off a + S1x1x256.size a ≤ S2x1x1024.size a}
    (hL : Reads v f L (mix h e (mStep M S) B)) (hoff : off = ![h, 0, n]) (hn : n = 256 * e)
    (hm : ∀ z : S1x1x256.Idx, mv z = M h (z 1).val (n + (z 2).val))
    (hs : ∀ (k : Fin 512) (l : Fin 256), s2 (ix2 k l) = S h k.val (n + l.val)) :
    Reads v f (⟨Rect.unit (s := S2x1x1024) off S1x1x256.size inb, payM mv s2⟩ :: L) (mix h (e + 1) (mStep M S) B) :=
  Reads.block hL hoff hn (payM_eq hm hs)

/-- One column block of the running sums. -/
theorem block_sum {v : View sig κ sp S2x80x1024 .f32} {f : v.ty.Contents (Elt Ideal)}
    {L : List (View.Piece (Elt Ideal) S2x80x1024 .f32)} {B : Grid} {off : Fin 3 → ℕ}
    {inb : ∀ a, off a + S1x80x256.size a ≤ S2x80x1024.size a}
    (hL : Reads v f L (mix h e (aStep M A S V) B)) (hoff : off = ![h, 0, n]) (hn : n = 256 * e)
    (hm : ∀ z : S1x1x256.Idx, mv z = M h (z 1).val (n + (z 2).val))
    (hs : ∀ (k : Fin 512) (l : Fin 256), s2 (ix2 k l) = S h k.val (n + l.val))
    (ha : ∀ z : S1x80x256.Idx, av z = A h (z 1).val (n + (z 2).val))
    (hv : ∀ z : S1x1x80x512.Idx, vv z = V h (z 2).val (z 3).val) :
    Reads v f (⟨Rect.unit (s := S2x80x1024) off S1x80x256.size inb, payA mv s2 av vv⟩ :: L) (mix h (e + 1) (aStep M A S V) B) :=
  Reads.block hL hoff hn (payA_eq hm hs ha hv)

/-- One column block of a tile of scores. -/
theorem block_score {v : View sig κ sp S2x512x1024 .f32} {f : v.ty.Contents (Elt Ideal)}
    {L : List (View.Piece (Elt Ideal) S2x512x1024 .f32)} {B K Q : Grid} {off : Fin 3 → ℕ}
    {inb : ∀ a, off a + S1x512x256.size a ≤ S2x512x1024.size a} {kv : Vec Ideal S1x512x128 .bf16} {qv : Vec Ideal S1x256x128 .bf16}
    (hL : Reads v f L (mix h e (scores K Q) B)) (hoff : off = ![h, 0, n]) (hn : n = 256 * e)
    (hk : ∀ z : S1x512x128.Idx, kv z = K h (z 1).val (z 2).val)
    (hq : ∀ z : S1x256x128.Idx, qv z = Q h (n + (z 1).val) (z 2).val) :
    Reads v f (⟨Rect.unit (s := S2x512x1024) off S1x512x256.size inb, payS kv qv⟩ :: L) (mix h (e + 1) (scores K Q) B) :=
  Reads.block hL hoff hn fun z => by
    rw [show payS kv qv z = _ from payS_apply kv qv z]
    exact Finset.sum_congr rfl fun d _ => by rw [hk, hq]; rfl

end

end Cert.KernelIdeal.Flash

end
-- ==== Proof.Loads.lean ====
/- Reading tiles of the attention kernel's operands: the queries, the keys and the values. -/
module

public import proofs.«01_k».proof.Proof.Chunk

@[expose] public section

noncomputable section

namespace Cert.KernelIdeal.Flash

open Idealize.ShloMosaic Cert.KernelIdeal.Gen Cert.Flash

/-- The keys of tile `t`. -/
def keysOf (K : Grid) (t : ℕ) : Grid := fun a k d => K a (512 * t + k) d

/-- The values of tile `t`. -/
def valuesOf (V : ℕ → Grid) (t : ℕ) : Grid := fun a r k => V a t r k

/-- The scores of tile `t`. -/
def scoresOf (K Q : Grid) (t : ℕ) : Grid := scores (keysOf K t) Q

section
variable {sig : RefSig} {κ : Kind} {sp : Space}

theorem load_keys {v : View sig κ sp S2x16384x128 .bf16} {X : v.ty.Contents (Elt Ideal)} {K : Grid}
    (hK : ∀ y : S2x16384x128.Idx, v.read (Elt Ideal) X y = K (y 0).val (y 1).val (y 2).val) {off : Fin 3 → ℕ} {h t : ℕ}
    {inb : ∀ a, off a + S1x512x128.size a ≤ S2x16384x128.size a} (hoff : off = ![h, 512 * t, 0]) (z : S1x512x128.Idx) :
    v.readAt (Elt Ideal) (Rect.unit (s := S2x16384x128) off S1x512x128.size inb).toLoadRect X z
      = keysOf K t h (z 1).val (z 2).val := by
  subst hoff
  refine (hK _).trans ?_
  have h0 : (z 0).val = 0 := Nat.lt_one_iff.mp (z 0).isLt
  show K (h + 1 * (z 0).val) (512 * t + 1 * (z 1).val) (0 + 1 * (z 2).val) = _
  rw [h0, Nat.mul_zero, Nat.add_zero, Nat.one_mul, Nat.one_mul, Nat.zero_add]
  rfl

theorem load_queries {v : View sig κ sp S2x1024x128 .bf16} {X : v.ty.Contents (Elt Ideal)} {Q : Grid}
    (hQ : ∀ y : S2x1024x128.Idx, v.read (Elt Ideal) X y = Q (y 0).val (y 1).val (y 2).val) {off : Fin 3 → ℕ} {h n : ℕ}
    {inb : ∀ a, off a + S1x256x128.size a ≤ S2x1024x128.size a} (hoff : off = ![h, n, 0]) (z : S1x256x128.Idx) :
    v.readAt (Elt Ideal) (Rect.unit (s := S2x1024x128) off S1x256x128.size inb).toLoadRect X z
      = Q h (n + (z 1).val) (z 2).val := by
  subst hoff
  refine (hQ _).trans ?_
  have h0 : (z 0).val = 0 := Nat.lt_one_iff.mp (z 0).isLt
  show Q (h + 1 * (z 0).val) (n + 1 * (z 1).val) (0 + 1 * (z 2).val) = _
  rw [h0, Nat.mul_zero, Nat.add_zero, Nat.one_mul, Nat.one_mul, Nat.zero_add]

theorem load_values {v : View sig κ sp S2x32x80x512 .bf16} {X : v.ty.Contents (Elt Ideal)} {V : ℕ → Grid}
    (hV : ∀ y : S2x32x80x512.Idx, v.read (Elt Ideal) X y = V (y 0).val (y 1).val (y 2).val (y 3).val) {off : Fin 4 → ℕ} {h t : ℕ}
    {inb : ∀ a, off a + S1x1x80x512.size a ≤ S2x32x80x512.size a} (hoff : off = ![h, t, 0, 0]) (z : S1x1x80x512.Idx) :
    v.readAt (Elt Ideal) (Rect.unit (s := S2x32x80x512) off S1x1x80x512.size inb).toLoadRect X z
      = valuesOf V t h (z 2).val (z 3).val := by
  subst hoff
  refine (hV _).trans ?_
  have h0 : (z 0).val = 0 := Nat.lt_one_iff.mp (z 0).isLt
  have h1 : (z 1).val = 0 := Nat.lt_one_iff.mp (z 1).isLt
  show V (h + 1 * (z 0).val) (t + 1 * (z 1).val) (0 + 1 * (z 2).val) (0 + 1 * (z 3).val) = _
  rw [h0, h1, Nat.mul_zero, Nat.add_zero, Nat.add_zero, Nat.one_mul, Nat.one_mul, Nat.zero_add, Nat.zero_add]
  rfl

end

end Cert.KernelIdeal.Flash

end
-- ==== Proof.Online.lean ====
/- The running softmax: the largest score and the scaled sum over a set of key tiles, and what one
   more tile makes of them. -/
module

public import proofs.«01_k».proof.Proof.Loads

@[expose] public section

noncomputable section

namespace Cert.Flash

open Idealize.ShloMosaic Cert.KernelIdeal.Flash

theorem pow2_real (r : ℝ) : pow2 (r : EReal) = ((Real.rpow 2 r : ℝ) : EReal) := rfl

theorem pow2_bot : pow2 ⊥ = 0 := rfl

theorem pow2_coe_nonneg (r : ℝ) : (0 : EReal) ≤ pow2 (r : EReal) := by
  rw [pow2_real]; exact_mod_cast (Real.rpow_pos_of_pos two_pos r).le

theorem pow2_coe_ne_top (r : ℝ) : pow2 (r : EReal) ≠ ⊤ := by
  rw [pow2_real]; exact EReal.coe_ne_top _

/-- Rescaling from one largest score to another. -/
theorem pow2_rescale {x : EReal} (hx : x ≠ ⊤) (m n : ℝ) :
    pow2 ((m : EReal) - n) * pow2 (x - m) = pow2 (x - n) := by
  induction x with
  | bot => rw [EReal.bot_sub, EReal.bot_sub, pow2_bot, mul_zero]
  | top => exact absurd rfl hx
  | coe x =>
    rw [← EReal.coe_sub, ← EReal.coe_sub, ← EReal.coe_sub, pow2_real, pow2_real, pow2_real, ← EReal.coe_mul]
    congr 1
    exact (Real.rpow_add two_pos _ _).symm.trans (congrArg (Real.rpow 2) (by ring))

/-- A finite sum times a real number that is not negative. -/
theorem coe_mul_sum {ι : Type} (T : Finset ι) (x : EReal) (h0 : 0 ≤ x) (h1 : x ≠ ⊤) (f : ι → EReal) :
    x * ∑ t ∈ T, f t = ∑ t ∈ T, x * f t := by
  classical
  induction T using Finset.induction_on with
  | empty => simp
  | insert t T ht ih =>
    rw [Finset.sum_insert ht, Finset.sum_insert ht, EReal.left_distrib_of_nonneg_of_ne_top h0 h1, ih]

section
variable (s v : ℕ → Fin 512 → EReal) (T : Finset ℕ)

/-- The largest score of the tiles `T`. -/
def top : EReal := T.sup fun t => (Finset.univ : Finset (Fin 512)).sup fun k => s t k

/-- The sum of the values of the tiles `T`, each times two to the power of its score less the largest. -/
def acc : EReal := ∑ t ∈ T, ∑ k : Fin 512, v t k * pow2 (s t k - top s T)

variable {s v T}

theorem top_insert (t : ℕ) : top s (insert t T) = top s T ⊔ (Finset.univ : Finset (Fin 512)).sup fun k => s t k := by
  unfold top; rw [Finset.sup_insert, sup_comm]

theorem top_ne_top (hs : ∀ t k, s t k ≠ ⊤) : top s T ≠ ⊤ := by
  refine ne_of_lt ((Finset.sup_lt_iff bot_lt_top).mpr fun t _ => (Finset.sup_lt_iff bot_lt_top).mpr fun k _ => ?_)
  exact lt_top_iff_ne_top.mpr (hs t k)

theorem le_top {t : ℕ} (ht : t ∈ T) (k : Fin 512) : s t k ≤ top s T :=
  (Finset.le_sup (f := fun k => s t k) (Finset.mem_univ k)).trans
    (Finset.le_sup (f := fun t => (Finset.univ : Finset (Fin 512)).sup fun k => s t k) ht)

/-- The largest score is a real number as soon as one score is. -/
theorem top_real (hs : ∀ t k, s t k ≠ ⊤) {t : ℕ} (ht : t ∈ T) {k : Fin 512} (h : s t k ≠ ⊥) : ∃ r : ℝ, top s T = r := by
  have h1 := top_ne_top (T := T) hs
  have h2 : top s T ≠ ⊥ := fun e => h (le_bot_iff.mp ((le_top ht k).trans_eq e))
  exact ⟨(top s T).toReal, (EReal.coe_toReal h1 h2).symm⟩

/-- One more tile. -/
theorem acc_insert {t : ℕ} (ht : t ∉ T) (hs : ∀ t k, s t k ≠ ⊤) (h : T = ∅ ∨ ∃ r : ℝ, top s T = r) :
    acc s v (insert t T)
      = pow2 (top s T - top s (insert t T)) * acc s v T + ∑ k : Fin 512, v t k * pow2 (s t k - top s (insert t T)) := by
  have e : ∑ u ∈ T, ∑ k : Fin 512, v u k * pow2 (s u k - top s (insert t T))
      = pow2 (top s T - top s (insert t T)) * acc s v T := by
    rcases h with h | ⟨m, hm⟩
    · subst h; simp [acc]
    · have h1 := top_ne_top (T := insert t T) hs
      have h2 : top s (insert t T) ≠ ⊥ := fun e => by
        rw [top_insert, hm] at e
        exact EReal.coe_ne_bot m (le_bot_iff.mp (le_sup_left.trans_eq e))
      obtain ⟨n, hn⟩ : ∃ n : ℝ, top s (insert t T) = n := ⟨_, (EReal.coe_toReal h1 h2).symm⟩
      unfold acc
      rw [hn, hm, ← EReal.coe_sub, coe_mul_sum _ _ (pow2_coe_nonneg _) (pow2_coe_ne_top _)]
      refine Finset.sum_congr rfl fun u _ => ?_
      rw [coe_mul_sum _ _ (pow2_coe_nonneg _) (pow2_coe_ne_top _)]
      refine Finset.sum_congr rfl fun k _ => ?_
      rw [EReal.coe_sub, mul_left_comm, pow2_rescale (hs u k)]
  unfold acc at e ⊢
  rw [Finset.sum_insert ht, e, add_comm]

end

/-- The largest scores by head and row, over each head's tiles. -/
def tops (s : ℕ → Grid) (L : ℕ → Finset ℕ) : Grid := fun a _ c => top (fun t k => s t a k.val c) (L a)

/-- The scaled sums by head, row of the values and row, over each head's tiles. -/
def accs (s : ℕ → Grid) (V : ℕ → Grid) (L : ℕ → Finset ℕ) : Grid := fun a r c =>
  acc (fun t k => s t a k.val c) (fun t k => valuesOf V t a r k.val) (L a)

section
variable {s V : ℕ → Grid} {L L' : ℕ → Finset ℕ} {M A S : Grid} {a c t : ℕ}

theorem mStep_tops (hL : L' a = insert t (L a)) (hM : ∀ b, M a b c = tops s L a b c) (hS : ∀ k < 512, S a k c = s t a k c)
    (b : ℕ) : mStep M S a b c = tops s L' a b c := by
  unfold tops mStep
  rw [hL, top_insert, hM]
  exact congrArg _ (Finset.sup_congr rfl fun k _ => hS k.val k.isLt)

theorem aStep_accs (hL : L' a = insert t (L a)) (ht : t ∉ L a) (hs : ∀ t k, s t a k c ≠ ⊤)
    (h : L a = ∅ ∨ ∃ r : ℝ, tops s L a 0 c = r)
    (hM : ∀ b, M a b c = tops s L a b c) (hS : ∀ k < 512, S a k c = s t a k c) {b : ℕ} (hA : A a b c = accs s V L a b c) :
    aStep M A S (valuesOf V t) a b c = accs s V L' a b c := by
  unfold aStep
  rw [mStep_tops hL hM hS, hM, hA]
  unfold accs
  rw [hL, acc_insert ht (fun t k => hs t k.val) h]
  unfold tops
  rw [hL]
  exact congrArg _ (Finset.sum_congr rfl fun k _ => by rw [hS k.val k.isLt])

end

end Cert.Flash

end
-- ==== Proof.Regroup.lean ====
/- The sums over tiles in base two, and the softmax over all keys in base e: one value. -/
module

public import proofs.«01_k».proof.Proof.Online

@[expose] public section

noncomputable section

namespace Cert.Flash

open Idealize.ShloMosaic Cert.KernelIdeal.Flash

/-! ## Tiles against one axis -/

theorem sum_tiles (A B : ℕ) (g : ℕ → EReal) :
    ∑ t ∈ Finset.range A, ∑ k : Fin B, g (B * t + k.val) = ∑ n : Fin (A * B), g n.val := by
  rw [Finset.sum_range (fun t => ∑ k : Fin B, g (B * t + k.val)), ← Fintype.sum_prod_type',
    ← Equiv.sum_comp (finProdFinEquiv (m := A) (n := B)) (fun n => g n.val)]
  refine Finset.sum_congr rfl fun x _ => ?_
  rw [finProdFinEquiv_apply_val, add_comm]

theorem sup_tiles (A B : ℕ) (hB : 0 < B) (g : ℕ → EReal) :
    (Finset.range A).sup (fun t => (Finset.univ : Finset (Fin B)).sup fun k => g (B * t + k.val))
      = (Finset.univ : Finset (Fin (A * B))).sup fun n => g n.val := by
  refine le_antisymm (Finset.sup_le fun t ht => Finset.sup_le fun k _ => ?_) (Finset.sup_le fun n _ => ?_)
  · have h : B * t + k.val < A * B := by
      have h1 := Finset.mem_range.mp ht
      have h2 := k.isLt
      calc B * t + k.val < B * t + B := by omega
        _ = B * (t + 1) := by ring
        _ ≤ B * A := Nat.mul_le_mul_left _ h1
        _ = A * B := Nat.mul_comm _ _
    exact Finset.le_sup (f := fun n : Fin (A * B) => g n.val) (Finset.mem_univ ⟨_, h⟩)
  · have h1 : n.val / B < A := Nat.div_lt_of_lt_mul (n.isLt.trans_eq (Nat.mul_comm A B))
    have e : g n.val = g (B * (n.val / B) + n.val % B) := by rw [Nat.div_add_mod]
    rw [e]
    exact (Finset.le_sup (f := fun k : Fin B => g (B * (n.val / B) + k.val)) (Finset.mem_univ ⟨n.val % B, Nat.mod_lt _ hB⟩)).trans
      (Finset.le_sup (f := fun t => (Finset.univ : Finset (Fin B)).sup fun k : Fin B => g (B * t + k.val)) (Finset.mem_range.mpr h1))

/-! ## The largest score, and the powers -/

theorem sup_scale {ι : Type} (T : Finset ι) (c : ℝ) (hc : 0 < c) (f : ι → EReal) :
    T.sup (fun i => f i * (c : EReal)) = T.sup f * (c : EReal) := by
  refine (Finset.comp_sup_eq_sup_comp_of_is_total (fun x : EReal => x * (c : EReal)) (fun x y h => ?_) ?_).symm
  · exact mul_le_mul_of_nonneg_right h (by exact_mod_cast hc.le)
  · exact EReal.bot_mul_coe_of_pos hc

theorem exp_scaled (x m : ℝ) : Ideal.exp ((x : EReal) * ((Real.log 2 : ℝ) : EReal) - (m : EReal) * ((Real.log 2 : ℝ) : EReal))
    = pow2 ((x : EReal) - m) := by
  rw [← EReal.coe_mul, ← EReal.coe_mul, ← EReal.coe_sub, ← EReal.coe_sub, pow2_real]
  show ((Real.exp _ : ℝ) : EReal) = _
  congr 1
  show _ = (2 : ℝ) ^ (x - m)
  rw [Real.rpow_def_of_pos two_pos]
  congr 1
  ring

/-- A masked score: the score from `512 f` to `R`, nothing outside. -/
def kept (a : ℕ → ℝ) (R f n : ℕ) : EReal := if n ≤ R ∧ 512 * f ≤ n then (a n : EReal) else ⊥

section
variable (a : ℕ → ℝ) {R f B : ℕ} (hB : 1024 * B ≤ R) (hR : R < 1024 * B + 1024) (h16 : B < 16) (hf : f ≤ 2 * B)

theorem kept_ne_top (n : ℕ) : kept a R f n ≠ ⊤ := by
  unfold kept
  split
  · exact EReal.coe_ne_top _
  · exact bot_ne_top

/-- The causal scores, as the tiles hold them. -/
def causal (a : ℕ → ℝ) (R : ℕ) (t : ℕ) (k : Fin 512) : EReal := if 512 * t + k.val ≤ R then (a (512 * t + k.val) : EReal) else ⊥

theorem causal_eq {t : ℕ} (ht : t ∈ Finset.Ico f (2 * B + 2)) (k : Fin 512) : causal a R t k = kept a R f (512 * t + k.val) := by
  have h := Finset.mem_Ico.mp ht
  unfold causal kept
  exact if_congr ⟨fun x => ⟨x, by omega⟩, fun x => x.1⟩ rfl rfl

include hR in
theorem kept_outside {t : ℕ} (ht : t ∉ Finset.Ico f (2 * B + 2)) (k : Fin 512) : kept a R f (512 * t + k.val) = ⊥ := by
  unfold kept
  refine if_neg fun x => ht (Finset.mem_Ico.mpr ?_)
  have := k.isLt
  omega

include h16 in
theorem tiles_sub : Finset.Ico f (2 * B + 2) ⊆ Finset.range 32 := fun t ht => by
  have h := Finset.mem_Ico.mp ht
  exact Finset.mem_range.mpr (by omega)

include hR h16 in
/-- The largest score over the tiles is the largest over all keys. -/
theorem top_all : top (causal a R) (Finset.Ico f (2 * B + 2)) = (Finset.univ : Finset (Fin (32 * 512))).sup fun n => kept a R f n.val := by
  rw [← sup_tiles 32 512 (by decide)]
  refine le_antisymm (Finset.sup_le fun t ht => ?_) (Finset.sup_le fun t _ => Finset.sup_le fun k _ => ?_)
  · rw [show (fun k => causal a R t k) = fun k : Fin 512 => kept a R f (512 * t + k.val) from funext (causal_eq a ht)]
    exact Finset.le_sup (f := fun t => (Finset.univ : Finset (Fin 512)).sup fun k => kept a R f (512 * t + k.val)) (tiles_sub h16 ht)
  · by_cases ht : t ∈ Finset.Ico f (2 * B + 2)
    · rw [← causal_eq a ht]
      exact le_top ht k
    · rw [kept_outside a hR ht]
      exact bot_le

include hB hR h16 hf in
theorem top_all_real : ∃ m : ℝ, top (causal a R) (Finset.Ico f (2 * B + 2)) = m := by
  refine top_real (t := 2 * B) (k := (⟨0, by decide⟩ : Fin 512)) (fun t k => ?_) (Finset.mem_Ico.mpr ⟨hf, by omega⟩) ?_
  · unfold causal
    split
    · exact EReal.coe_ne_top _
    · exact bot_ne_top
  · unfold causal
    rw [if_pos (show 512 * (2 * B) + 0 ≤ R by omega)]
    exact EReal.coe_ne_bot _

include hR h16 in
/-- The scaled sum over the tiles is the sum over all keys. -/
theorem acc_all (u : ℕ → EReal) {m : ℝ} (hm : top (causal a R) (Finset.Ico f (2 * B + 2)) = m) :
    acc (causal a R) (fun t k => u (512 * t + k.val)) (Finset.Ico f (2 * B + 2))
      = ∑ n : Fin (32 * 512), u n.val * pow2 (kept a R f n.val - m) := by
  rw [← sum_tiles 32 512 (fun n => u n * pow2 (kept a R f n - m))]
  unfold acc
  rw [hm]
  refine (Finset.sum_congr rfl fun t ht => Finset.sum_congr rfl fun k _ => ?_).trans
    (Finset.sum_subset (tiles_sub h16) fun t _ ht => Finset.sum_eq_zero fun k _ => ?_)
  · rw [causal_eq a ht]
  · rw [kept_outside a hR ht, EReal.bot_sub, pow2_bot, mul_zero]

theorem power_eq (m : ℝ) (n : ℕ) : ∃ p : ℝ, 0 ≤ p ∧ pow2 (kept a R f n - m) = (p : EReal)
    ∧ Ideal.exp (kept a R f n * ((Real.log 2 : ℝ) : EReal) - (m : EReal) * ((Real.log 2 : ℝ) : EReal)) = (p : EReal) := by
  unfold kept
  split
  · refine ⟨Real.rpow 2 (a n - m), (Real.rpow_pos_of_pos two_pos _).le, ?_, ?_⟩
    · rw [← EReal.coe_sub, pow2_real]
    · rw [exp_scaled, ← EReal.coe_sub, pow2_real]
  · refine ⟨0, le_rfl, ?_, ?_⟩
    · rw [EReal.bot_sub, pow2_bot]; rfl
    · rw [EReal.bot_mul_coe_of_pos (Real.log_pos one_lt_two), EReal.bot_sub]; rfl

theorem sum_coe {ι : Type} (T : Finset ι) (p : ι → ℝ) : ∑ n ∈ T, (p n : EReal) = ((∑ n ∈ T, p n : ℝ) : EReal) := by
  classical
  induction T using Finset.induction_on with
  | empty => simp
  | insert i T hi h => rw [Finset.sum_insert hi, Finset.sum_insert hi, EReal.coe_add, h]

include hB hR h16 hf in
/-- The tiles' quotient is the softmax's weights on the values. -/
theorem quotient_eq (u o : ℕ → EReal) (ho : ∀ n < 32 * 512, o n = 1) (X : Fin (32 * 512) → EReal)
    (hX : ∀ n, X n = kept a R f n.val * ((Real.log 2 : ℝ) : EReal)) :
    Ideal.div (acc (causal a R) (fun t k => u (512 * t + k.val)) (Finset.Ico f (2 * B + 2)))
        (acc (causal a R) (fun t k => o (512 * t + k.val)) (Finset.Ico f (2 * B + 2)))
      = ∑ n, u n.val * Ideal.div (Ideal.exp (X n - Finset.univ.sup X)) (∑ n, Ideal.exp (X n - Finset.univ.sup X)) := by
  obtain ⟨m, hm⟩ := top_all_real a hB hR h16 hf
  have hs : Finset.univ.sup X = (m : EReal) * ((Real.log 2 : ℝ) : EReal) := by
    rw [show X = fun n => kept a R f n.val * ((Real.log 2 : ℝ) : EReal) from funext hX, sup_scale _ _ (Real.log_pos one_lt_two), ← top_all a hR h16, hm]
  choose p hp0 hp1 hp2 using fun n : Fin (32 * 512) => power_eq (R := R) (f := f) a m n.val
  have hE : ∀ n, Ideal.exp (X n - Finset.univ.sup X) = (p n : EReal) := fun n => by rw [hs, hX]; exact hp2 n
  have hL : 0 < ∑ n, p n := by
    refine lt_of_lt_of_le ?_ (Finset.single_le_sum (fun n _ => hp0 n) (Finset.mem_univ (⟨1024 * B, by omega⟩ : Fin (32 * 512))))
    have e := hp1 ⟨1024 * B, by omega⟩
    have k : kept a R f (1024 * B) = (a (1024 * B) : EReal) := if_pos ⟨hB, by omega⟩
    rw [show kept a R f (⟨1024 * B, by omega⟩ : Fin (32 * 512)).val = _ from k, ← EReal.coe_sub, pow2_real] at e
    rw [← EReal.coe_injective e]
    exact Real.rpow_pos_of_pos two_pos _
  have hL' : ((∑ n, p n : ℝ) : EReal) ≠ 0 := by exact_mod_cast hL.ne'
  rw [acc_all a hR h16 u hm, acc_all a hR h16 o hm,
    show ∑ n : Fin (32 * 512), o n.val * pow2 (kept a R f n.val - m) = ((∑ n, p n : ℝ) : EReal) from by
      rw [← sum_coe]
      exact Finset.sum_congr rfl fun n _ => by rw [ho _ n.isLt, one_mul, hp1 n],
    show ∑ n, Ideal.exp (X n - Finset.univ.sup X) = ((∑ n, p n : ℝ) : EReal) from by
      rw [← sum_coe]
      exact Finset.sum_congr rfl fun n _ => hE n]
  unfold Ideal.div
  rw [if_neg hL', mul_comm, coe_mul_sum]
  · refine Finset.sum_congr rfl fun n _ => ?_
    rw [if_neg hL', hE n, hp1 n, mul_comm, mul_assoc]
  · rw [← EReal.coe_inv]
    exact_mod_cast (inv_pos.mpr hL).le
  · rw [← EReal.coe_inv]
    exact EReal.coe_ne_top _

end

end Cert.Flash

end
-- ==== Proof.Masked.lean ====
/- The masked tiles of scores on the diagonal, element by element. -/
module

public import proofs.«01_k».proof.Proof.Loads

@[expose] public section

set_option maxRecDepth 16384

noncomputable section

namespace Cert.KernelIdeal.Flash

open Idealize.ShloMosaic Cert.KernelIdeal.Gen Cert.Flash

/-- The scores of the keys at or before their row, `-∞` elsewhere: key `k` stands `d` after the first
    row. -/
def maskOf (d : ℕ) (S : Grid) : Grid := fun a k c => if k + d ≤ c then S a k c else ⊥

/-- A tile of scores with the keys after their row masked, as the kernel spells it. -/
def masked (o : BitVec 32) (sv : Vec Ideal S1x512x256 .f32) : FVec Ideal S512x256 .f32 :=
  select
    (cmpi .sle (addi (iota .tc S512x256 32 [0] iota_S512x256_d0_w32) (broadcast S512x256 o))
      (iota .tc S512x256 32 [1] iota_S512x256_d1_w32))
    (shapeCast S512x256 sv shapeCasts_S1x512x256_S512x256)
    (broadcast S512x256 (Named.named (F := Ideal) (φ := .f32) κ "mask" 0xF149F2CA#32))

theorem masked_apply (o : BitVec 32) (sv : Vec Ideal S1x512x256 .f32) (k : Fin 512) (l : Fin 256) :
    masked o sv (ix2 k l)
      = if (BitVec.ofNat 32 k.val + o).sle (BitVec.ofNat 32 l.val) then sv (ix3 0 k l) else ⊥ := by
  unfold masked
  pointwise
  show Scalar.select (BitVec.ofBool ((BitVec.ofNat 32 k.val + o).sle (BitVec.ofNat 32 l.val))) _ _ = _
  cases h : (BitVec.ofNat 32 k.val + o).sle (BitVec.ofNat 32 l.val) <;> rfl

theorem sle_iff {n d k l : ℕ} (hn : n ≤ 768) (hd : d ≤ 512) (hk : k < 512) (hl : l < 256) :
    (BitVec.ofNat 32 k + (BitVec.ofNat 32 d - BitVec.ofNat 32 n)).sle (BitVec.ofNat 32 l) = true ↔ k + d ≤ n + l := by
  have e : BitVec.ofNat 32 k + (BitVec.ofNat 32 d - BitVec.ofNat 32 n) = BitVec.ofInt 32 ((k : ℤ) + d - n) := by
    apply BitVec.eq_of_toNat_eq
    simp only [BitVec.toNat_add, BitVec.toNat_sub, BitVec.toNat_ofNat, BitVec.toNat_ofInt]
    omega
  have hl' : (BitVec.ofNat 32 l).toInt = l := by
    rw [BitVec.toInt_eq_toNat_of_lt] <;> simp only [BitVec.toNat_ofNat] <;> omega
  rw [e, BitVec.sle_iff_toInt_le, BitVec.toInt_ofInt, hl', Int.bmod_eq_of_le (by omega) (by omega)]
  omega

/-- A masked tile of scores read back. -/
theorem masked_scores {h n d : ℕ} {S : Grid} {o : BitVec 32} {sv : Vec Ideal S1x512x256 .f32}
    (ho : o = BitVec.ofNat 32 d - BitVec.ofNat 32 n) (hn : n ≤ 768) (hd : d ≤ 512)
    (hs : ∀ z : S1x512x256.Idx, sv z = S h (z 1).val (n + (z 2).val)) (k : Fin 512) (l : Fin 256) :
    masked o sv (ix2 k l) = maskOf d S h k.val (n + l.val) := by
  rw [masked_apply, ho]
  simp only [sle_iff hn hd k.isLt l.isLt, maskOf]
  rw [hs]
  rfl

end Cert.KernelIdeal.Flash

end
-- ==== Proof.Seen.lean ====
/- The scores the attention kernel takes in: a tile's scores where the key is at or before the row. -/
module

public import proofs.«01_k».proof.Proof.Online
public import proofs.«01_k».proof.Proof.Masked

@[expose] public section

noncomputable section

namespace Cert.KernelIdeal.Flash

open Idealize.ShloMosaic Cert.Flash

/-- All entries are real numbers. -/
def Real3 (G : Grid) : Prop := ∀ a b c, ∃ r : ℝ, G a b c = r

theorem sum_real {ι : Type} (T : Finset ι) (f : ι → EReal) (h : ∀ t ∈ T, ∃ r : ℝ, f t = r) : ∃ r : ℝ, ∑ t ∈ T, f t = r := by
  refine Finset.sum_induction f (fun x => ∃ r : ℝ, x = r) ?_ ⟨0, rfl⟩ h
  rintro _ _ ⟨x, rfl⟩ ⟨y, rfl⟩
  exact ⟨x + y, (EReal.coe_add x y).symm⟩

theorem scoresOf_real {K Q : Grid} (hk : Real3 K) (hq : Real3 Q) (t : ℕ) : Real3 (scoresOf K Q t) := fun a k c => by
  show ∃ r : ℝ, ∑ d : Fin 128, keysOf K t a k d.val * Q a c d.val = r
  refine sum_real _ _ fun d _ => ?_
  obtain ⟨x, hx⟩ := hk a (512 * t + k) d.val
  obtain ⟨y, hy⟩ := hq a c d.val
  exact ⟨x * y, by rw [EReal.coe_mul, ← hx, ← hy]; rfl⟩

/-- The scores of tile `t` for the rows of block `B`, `-∞` where the key comes after the row. -/
def seen (K Q : Grid) (B t : ℕ) : Grid := fun a k c => if 512 * t + k ≤ 1024 * B + c then scoresOf K Q t a k c else ⊥

section
variable {K Q : Grid} {B : ℕ}

theorem seen_before {t k : ℕ} (ht : t < 2 * B) (hk : k < 512) (a c : ℕ) : seen K Q B t a k c = scoresOf K Q t a k c :=
  if_pos (by omega)

theorem seen_first (a k c : ℕ) : maskOf 0 (scoresOf K Q (2 * B)) a k c = seen K Q B (2 * B) a k c := by
  unfold maskOf seen
  by_cases h : k ≤ c
  · rw [if_pos (by omega), if_pos (by omega)]
  · rw [if_neg (by omega), if_neg (by omega)]

theorem seen_second (a k c : ℕ) : maskOf 512 (scoresOf K Q (2 * B + 1)) a k c = seen K Q B (2 * B + 1) a k c := by
  unfold maskOf seen
  by_cases h : k + 512 ≤ c
  · rw [if_pos (by omega), if_pos (by omega)]
  · rw [if_neg (by omega), if_neg (by omega)]

variable (hk : Real3 K) (hq : Real3 Q)
include hk hq

theorem seen_ne_top (t a k c : ℕ) : seen K Q B t a k c ≠ ⊤ := by
  unfold seen
  split
  · obtain ⟨r, hr⟩ := scoresOf_real hk hq t a k c
    rw [hr]; exact EReal.coe_ne_top r
  · exact bot_ne_top

/-- With the first tile of the diagonal among the tiles, the largest score is a real number. -/
theorem tops_real {L : ℕ → Finset ℕ} {a : ℕ} (h : 2 * B ∈ L a) (b c : ℕ) : ∃ r : ℝ, tops (seen K Q B) L a b c = r := by
  refine top_real (t := 2 * B) (k := (⟨0, by decide⟩ : Fin 512)) (fun t k => seen_ne_top hk hq t a k.val c) h ?_
  show seen K Q B (2 * B) a 0 c ≠ ⊥
  obtain ⟨r, hr⟩ := scoresOf_real hk hq (2 * B) a 0 c
  unfold seen
  rw [if_pos (by omega), hr]
  exact EReal.coe_ne_bot r

/-- One more tile, in both running values. -/
theorem one_more {V : ℕ → Grid} {L L' : ℕ → Finset ℕ} {M S : Grid} {a c t : ℕ} (hL : L' a = insert t (L a)) (ht : t ∉ L a)
    (h : L a = ∅ ∨ 2 * B ∈ L a) (hM : ∀ b, M a b c = tops (seen K Q B) L a b c)
    (hS : ∀ k < 512, S a k c = seen K Q B t a k c) :
    (∀ b, mStep M S a b c = tops (seen K Q B) L' a b c)
    ∧ ∀ {A : Grid} {b : ℕ}, A a b c = accs (seen K Q B) V L a b c →
        aStep M A S (valuesOf V t) a b c = accs (seen K Q B) V L' a b c :=
  ⟨mStep_tops hL hM hS, fun hA => aStep_accs hL ht (fun t k => seen_ne_top hk hq t a k c)
    (h.imp id fun h => tops_real hk hq h 0 c) hM hS hA⟩

end

end Cert.KernelIdeal.Flash

end
-- ==== Proof.Attended.lean ====
/- The attention's value as the kernel builds it: per head and query row, the scaled sum over the
   tiles from the head's first one to the row's own block, divided by the sum of the powers. -/
module

public import proofs.«01_k».proof.Proof.Seen
public import Idealize.ShloMosaic.Lib.Pointwise

@[expose] public section

noncomputable section

namespace Cert.Flash

open Idealize.ShloMosaic Cert.KernelIdeal

/-- A query or key array at any natural indices, zero outside. -/
def at3 (q : Vec Ideal S16x16384x128 .bf16) (a b d : ℕ) : EReal :=
  if h : a < 16 ∧ b < 16384 ∧ d < 128 then q (ix3 ⟨a, h.1⟩ ⟨b, h.2.1⟩ ⟨d, h.2.2⟩) else 0

/-- A value array at any natural indices, zero outside. -/
def at4 (v : Vec Ideal S16x32x80x512 .bf16) (a t r k : ℕ) : EReal :=
  if h : a < 16 ∧ t < 32 ∧ r < 80 ∧ k < 512 then v (ix4 ⟨a, h.1⟩ ⟨t, h.2.1⟩ ⟨r, h.2.2.1⟩ ⟨k, h.2.2.2⟩) else 0

/-- A head's first-tile word at a block of rows, zero outside. -/
def wordAt (w : Vec Ideal S16x16 .i32) (a b : ℕ) : ℕ :=
  if h : a < 16 ∧ b < 16 then BitVec.toNat (w (ix2 ⟨a, h.1⟩ ⟨b, h.2⟩)) else 0

/-- The score of key `n` for query row `R` of head `h`, masked after the row. -/
def score (q k : Vec Ideal S16x16384x128 .bf16) (h R n : ℕ) : EReal :=
  if n ≤ R then ∑ d : Fin 128, at3 k h n d.val * at3 q h R d.val else ⊥

/-- The scaled sum of row `j` of the values for query row `R` of head `h`. -/
def headSum (q k : Vec Ideal S16x16384x128 .bf16) (v : Vec Ideal S16x32x80x512 .bf16) (w : Vec Ideal S16x16 .i32) (h R j : ℕ) : EReal :=
  acc (fun t c => score q k h R (512 * t + c.val)) (fun t c => at4 v h t j c.val) (Finset.Ico (wordAt w h (R / 1024)) (2 * (R / 1024) + 2))

/-- The whole output. -/
def attended (q k : Vec Ideal S16x16384x128 .bf16) (v : Vec Ideal S16x32x80x512 .bf16) (w : Vec Ideal S16x16 .i32) : FVec Ideal S16384x1024 .bf16 :=
  fun y => Ideal.div (headSum q k v w ((y 1).val / 64) (y 0).val ((y 1).val % 64)) (headSum q k v w ((y 1).val / 64) (y 0).val 64)

theorem at3_eq (q : Vec Ideal S16x16384x128 .bf16) (y : S16x16384x128.Idx) : at3 q (y 0).val (y 1).val (y 2).val = q y := by
  unfold at3
  rw [dif_pos ⟨(y 0).isLt, (y 1).isLt, (y 2).isLt⟩]
  congr 1
  funext a
  match a with
  | ⟨0, _⟩ => rfl
  | ⟨1, _⟩ => rfl
  | ⟨2, _⟩ => rfl

theorem at4_eq (v : Vec Ideal S16x32x80x512 .bf16) (y : S16x32x80x512.Idx) : at4 v (y 0).val (y 1).val (y 2).val (y 3).val = v y := by
  unfold at4
  rw [dif_pos ⟨(y 0).isLt, (y 1).isLt, (y 2).isLt, (y 3).isLt⟩]
  congr 1
  funext a
  match a with
  | ⟨0, _⟩ => rfl
  | ⟨1, _⟩ => rfl
  | ⟨2, _⟩ => rfl
  | ⟨3, _⟩ => rfl

theorem wordAt_eq (w : Vec Ideal S16x16 .i32) (y : S16x16.Idx) : wordAt w (y 0).val (y 1).val = BitVec.toNat (w y) := by
  unfold wordAt
  rw [dif_pos ⟨(y 0).isLt, (y 1).isLt⟩]
  congr 2
  funext a
  match a with
  | ⟨0, _⟩ => rfl
  | ⟨1, _⟩ => rfl

theorem at3_real {q : Vec Ideal S16x16384x128 .bf16} (hq : ∀ x, ∃ r : ℝ, q x = (r : EReal)) (a b d : ℕ) : ∃ r : ℝ, at3 q a b d = (r : EReal) := by
  unfold at3
  split
  · exact hq _
  · exact ⟨0, rfl⟩

end Cert.Flash

end
-- ==== Proof.Soft.lean ====
/- The reference's output, read at an index: the softmax of the masked scores in base two, its weights
   on the values. -/
module

public import proofs.«01_k».proof.Proof.Gen.ReferenceIdeal.Run
public import proofs.«01_k».proof.Proof.Attended
public import proofs.«01_k».proof.Proof.Words
public import Idealize.ShloMosaic.Lib.Pointwise

@[expose] public section

set_option maxRecDepth 16384

noncomputable section

namespace Cert.ReferenceIdeal.Soft

open Cert.ReferenceIdeal Cert.ReferenceIdeal.Gen Idealize.ShloMosaic Idealize.ShloMosaic.TcCoe Idealize.SL.Sem Cert.Flash

variable (q k : Vec Ideal S16x16384x128 .bf16) (v : Vec Ideal S16x32x80x512 .bf16) (w : Vec Ideal S16x16 .i32)

/-- The masked scores, in base e. -/
def logits : FVec Ideal S16x16384x16384 .f32 :=
  select (andi (broadcastInDim S16x16384x16384 ![0, 1, 2] bcast_S1x16384x16384_S16x16384x16384_0_1_2 (cmpi .sle (broadcastInDim S1x16384x16384 ![0, 1, 2] bcast_S1x1x16384_S1x16384x16384_0_1_2 (broadcastInDim S1x1x16384 ![2] bcast_S16384_S1x1x16384_2 (iotaInDim S16384 32 0))) (broadcastInDim S1x16384x16384 ![0, 1, 2] bcast_S1x16384x1_S1x16384x16384_0_1_2 (broadcastInDim S1x16384x1 ![1] bcast_S16384_S1x16384x1_1 (iotaInDim S16384 32 0))))) (cmpi .sle (broadcastInDim S16x16384x16384 ![0, 1, 2] bcast_S16x16384x1_S16x16384x16384_0_1_2 (broadcastInDim S16x16384x1 ![0, 1] bcast_S16x16384_S16x16384x1_0_1 (shapeCast _ (broadcastInDim S16x16x1024 ![0, 1] bcast_S16x16_S16x16x1024_0_1 (muli w (broadcastInDim S16x16 ![] bcast_S_S16x16 (constantI S_ 32 512#32)))) shapeCasts_S16x16x1024_S16x16384))) (broadcastInDim S16x16384x16384 ![0, 1, 2] bcast_S1x1x16384_S16x16384x16384_0_1_2 (broadcastInDim S1x1x16384 ![2] bcast_S16384_S1x1x16384_2 (iotaInDim S16384 32 0))))) (mulf (Host.dotGeneral dot_S16x16384x128_S16x16384x128_S16x16384x16384_2_2_1_1_0_0 none (extf .f32 q bitsLt_bf16_f32) (extf .f32 k bitsLt_bf16_f32)) (broadcastInDim S16x16384x16384 ![] bcast_S_S16x16384x16384 (Host.log (constant S_ .f32 0x40000000#32)))) (broadcastInDim S16x16384x16384 ![] bcast_S_S16x16384x16384 (id (constant S_ .f32 0xFF800000#32)))

/-- Each row's largest score. -/
def largest (X : FVec Ideal S16x16384x16384 .f32) : FVec Ideal S16x16384 .f32 :=
  maximumf (broadcastInDim S16x16384 ![] bcast_S_S16x16384 (constant S_ .f32 0xFF800000#32)) (Host.reduce FloatOps.maximumf X (constant S_ .f32 0xFF800000#32) reducesTo_S16x16384x16384_S16x16384_d2 h_S_)

/-- The exponentials. -/
def powers (X : FVec Ideal S16x16384x16384 .f32) (M : FVec Ideal S16x16384 .f32) : FVec Ideal S16x16384x16384 .f32 :=
  Host.exp (subf X (broadcastInDim S16x16384x16384 ![0, 1, 2] bcast_S16x16384x1_S16x16384x16384_0_1_2 (broadcastInDim S16x16384x1 ![0, 1] bcast_S16x16384_S16x16384x1_0_1 M)))

/-- The weights. -/
def weights (E : FVec Ideal S16x16384x16384 .f32) : FVec Ideal S16x16384x16384 .f32 :=
  Host.divf E (broadcastInDim S16x16384x16384 ![0, 1, 2] bcast_S16x16384x1_S16x16384x16384_0_1_2 (broadcastInDim S16x16384x1 ![0, 1] bcast_S16x16384_S16x16384x1_0_1 (Host.reduceAdd E (constant S_ .f32 0x00000000#32) reducesTo_S16x16384x16384_S16x16384_d2 h_S_)))

/-- The weighted values, laid out head by head. -/
def weighted (v : Vec Ideal S16x32x80x512 .bf16) (P : FVec Ideal S16x16384x16384 .f32) : FVec Ideal S16384x1024 .bf16 :=
  truncf .bf16 (shapeCast _ (transpose S16384x16x64 [2, 0, 1] (Host.dotGeneral dot_S16x16384x64_S16x16384x16384_S16x64x16384_1_2_2_1_0_0 none (shapeCast _ (transpose S16x32x512x64 [0, 1, 3, 2] (extractStridedSlice S16x32x64x512 ![0, 0, 0, 0] (extf .f32 v bitsLt_bf16_f32) slices_S16x32x80x512_S16x32x64x512_0_0_0_0) transposes_S16x32x64x512_S16x32x512x64_0_1_3_2) shapeCasts_S16x32x512x64_S16x16384x64) P) transposes_S16x64x16384_S16384x16x64_2_0_1) shapeCasts_S16384x16x64_S16384x1024) bitsLt_bf16_f32

theorem res_eq (m : (ℓ : Loc nD τ sig) → Buf (Elt Ideal) ℓ) (c : Dev nD) :
    Cert.ReferenceIdeal.Value.res_out0 m c
      = weighted (m ((c.tc : Thread nD τ).loc main_arg2)) (weights (powers (logits (m ((c.tc : Thread nD τ).loc main_arg0)) (m ((c.tc : Thread nD τ).loc main_arg1)) (m ((c.tc : Thread nD τ).loc main_arg3)))
          (largest (logits (m ((c.tc : Thread nD τ).loc main_arg0)) (m ((c.tc : Thread nD τ).loc main_arg1)) (m ((c.tc : Thread nD τ).loc main_arg3)))))) := rfl

theorem weighted_at (P : FVec Ideal S16x16384x16384 .f32) (R : Fin 16384) (h : Fin 16) (j : Fin 64) :
    weighted v P (ix2 R ⟨64 * h.val + j.val, by omega⟩)
      = ∑ n : Fin 16384, v (ix4 h ⟨n.val / 512, by omega⟩ ⟨j.val, by omega⟩ ⟨n.val % 512, by omega⟩) * P (ix3 h R n) := by
  unfold weighted
  pointwise

theorem weights_at (E : FVec Ideal S16x16384x16384 .f32) (R : Fin 16384) (h : Fin 16) (n : Fin 16384) :
    weights E (ix3 h R n) = Ideal.div (E (ix3 h R n)) (∑ n : Fin 16384, E (ix3 h R n)) := by
  unfold weights
  pointwise

theorem powers_at (X : FVec Ideal S16x16384x16384 .f32) (M : FVec Ideal S16x16384 .f32) (R : Fin 16384) (h : Fin 16) (n : Fin 16384) :
    powers X M (ix3 h R n) = Ideal.exp (X (ix3 h R n) - M (ix2 h R)) := by
  unfold powers
  pointwise

theorem bottom : Ideal.ofBits .f32 0xFF800000#32 = (⊥ : EReal) := by
  simp [Ideal.ofBits, Ideal.ieee]

theorem two : Ideal.ofBits .f32 0x40000000#32 = ((2 : ℝ) : EReal) := by
  simp [Ideal.ofBits, Ideal.ieee]
  rw [← EReal.coe_mul]
  congr 1
  norm_num

theorem log_two : Ideal.log (Ideal.ofBits .f32 0x40000000#32) = ((Real.log 2 : ℝ) : EReal) := by
  rw [two]
  exact if_neg (by norm_num)

theorem reduce_last {a b n : ℕ} (X : FVec Ideal (⟨3, ![a, b, n]⟩ : Shape) .f32) (z : FVec Ideal S_ .f32) (hz : ∀ x, z x = (⊥ : EReal))
    (h : (⟨3, ![a, b, n]⟩ : Shape).ReducesTo [2] (⟨2, ![a, b]⟩ : Shape)) (hu : 0 < S_.numel) (i : Fin a) (j : Fin b) :
    Host.reduce FloatOps.maximumf X z h hu (ix2 i j) = Finset.univ.sup fun x : Fin n => X (ix3 i j x) := by
  rw [Host.reduce_eq_fold, Shape.ReducesTo.fold_fiber_r3_a2 h, hz]
  rfl

theorem maximumf_at (A B : FVec Ideal S16x16384 .f32) (i : S16x16384.Idx) : maximumf A B i = max (A i) (B i) := rfl

theorem splat_at (z : FVec Ideal S_ .f32) (e : EReal) (hz : ∀ x, z x = e) (i : S16x16384.Idx) :
    broadcastInDim S16x16384 ![] bcast_S_S16x16384 z i = e := hz _

theorem largest_at (X : FVec Ideal S16x16384x16384 .f32) (R : Fin 16384) (h : Fin 16) :
    largest X (ix2 h R) = Finset.univ.sup fun n : Fin 16384 => X (ix3 h R n) := by
  unfold largest
  rw [maximumf_at, splat_at (constant S_ .f32 0xFF800000#32) ⊥ (fun _ => bottom),
    reduce_last X (constant S_ .f32 0xFF800000#32) (fun _ => bottom)]
  exact max_eq_right bot_le

theorem row_word (n : Fin 16384) : (BitVec.ofNat 32 n.val).toNat = n.val := by
  rw [BitVec.toNat_ofNat]; omega

theorem select_le (a b : BitVec 32) (ha : a.toNat < 2 ^ 31) (hb : b.toNat < 2 ^ 31) :
    IntOp.cmpi .sle a b = 1#1 ↔ a.toNat ≤ b.toNat := by
  simp only [IntOp.cmpi, ofBool_one, BitVec.sle, decide_eq_true_eq, BitVec.toInt]
  omega

theorem logits_at (hw : ∀ x, BitVec.toNat (w x) ≤ 32) (R : Fin 16384) (h : Fin 16) (n : Fin 16384) :
    logits q k w (ix3 h R n)
      = if n.val ≤ R.val ∧ 512 * (BitVec.toNat (w (ix2 h ⟨R.val / 1024, by omega⟩))) ≤ n.val then
          (∑ d : Fin 128, q (ix3 h R d) * k (ix3 h n d)) * ((Real.log 2 : ℝ) : EReal) else ⊥ := by
  unfold logits
  pointwise
  have hw' : (IntOp.muli (w (ix2 h ⟨R.val / 1024, by omega⟩)) 512#32).toNat = 512 * (w (ix2 h ⟨R.val / 1024, by omega⟩)).toNat := by
    have e := hw (ix2 h ⟨R.val / 1024, by omega⟩)
    simp only [IntOp.muli, BitVec.toNat_mul, BitVec.toNat_ofNat]; omega
  have hR := row_word R
  have hn := row_word n
  have c : IntOp.andi (IntOp.cmpi CmpIPredicate.sle (BitVec.ofNat 32 n.val) (BitVec.ofNat 32 R.val))
        (IntOp.cmpi CmpIPredicate.sle (IntOp.muli (w (ix2 h ⟨R.val / 1024, by omega⟩)) 512#32) (BitVec.ofNat 32 n.val)) = 1#1
      ↔ (n.val ≤ R.val ∧ 512 * BitVec.toNat (w (ix2 h ⟨R.val / 1024, by omega⟩)) ≤ n.val) := by
    rw [andi_one, select_le _ _ (by omega) (by omega), select_le _ _ (by have := hw (ix2 h ⟨R.val / 1024, by omega⟩); omega) (by omega), hn, hR, hw']
  rw [log_two]
  unfold Scalar.select
  rw [show id (constant (F := Ideal) S_ .f32 0xFF800000#32) ix0 = (⊥ : EReal) from bottom]
  exact if_congr c rfl rfl

end Cert.ReferenceIdeal.Soft

end
-- ==== Proof.Equate.lean ====
/- The kernel's attention and the reference's are one array. -/
module

public import proofs.«01_k».proof.Proof.Packed
public import proofs.«01_k».proof.Proof.Regroup
public import proofs.«01_k».proof.Proof.Soft

@[expose] public section

noncomputable section

namespace Cert.Flash

open Idealize.ShloMosaic Cert.KernelIdeal Cert.ReferenceIdeal.Soft

variable (q k : Vec Ideal S16x16384x128 .bf16) (v : Vec Ideal S16x32x80x512 .bf16) (w : Vec Ideal S16x16 .i32)

/-- An index of the output as a row, a head and a column of the head. -/
theorem out_idx (y : S16384x1024.Idx) : ∃ (R : Fin 16384) (h : Fin 16) (j : Fin 64), y = ix2 R ⟨64 * h.val + j.val, by omega⟩ := by
  have h1 : (y 1).val < 1024 := (y 1).isLt
  refine ⟨y 0, ⟨(y 1).val / 64, by omega⟩, ⟨(y 1).val % 64, Nat.mod_lt _ (by decide)⟩, ?_⟩
  funext a
  match a with
  | ⟨0, _⟩ => rfl
  | ⟨1, _⟩ => exact Fin.ext (Nat.div_add_mod _ _).symm

/-- A score is a real when the queries and keys are. -/
theorem score_real {q k : Vec Ideal S16x16384x128 .bf16} (hq : ∀ x, ∃ r : ℝ, q x = (r : EReal)) (hk : ∀ x, ∃ r : ℝ, k x = (r : EReal)) (h R n : ℕ) :
    ∃ r : ℝ, ∑ d : Fin 128, at3 k h n d.val * at3 q h R d.val = (r : EReal) := by
  choose a ha using at3_real hq
  choose b hb using at3_real hk
  refine ⟨∑ d : Fin 128, b h n d.val * a h R d.val, ?_⟩
  rw [← sum_coe]
  exact Finset.sum_congr rfl fun d _ => by rw [ha, hb, EReal.coe_mul]

/-- A head's sum, its tiles read along one axis of keys. -/
theorem headSum_eq (a : ℕ → ℝ) (h R j : ℕ) (ha : ∀ n, ∑ d : Fin 128, at3 k h n d.val * at3 q h R d.val = (a n : EReal)) :
    headSum q k v w h R j
      = acc (causal a R) (fun t c => (fun n => at4 v h (n / 512) j (n % 512)) (512 * t + c.val)) (Finset.Ico (wordAt w h (R / 1024)) (2 * (R / 1024) + 2)) := by
  unfold headSum
  congr 1
  · funext t c
    unfold score causal
    rw [ha]
  · funext t c
    have hc := c.isLt
    have e0 : (512 * t + c.val) / 512 = t := by omega
    have e1 : (512 * t + c.val) % 512 = c.val := by omega
    show _ = at4 v h ((512 * t + c.val) / 512) j ((512 * t + c.val) % 512)
    rw [e0, e1]

/-- The quotient over an axis of the keys' length. -/
theorem quotient_over {N : ℕ} (hN : N = 32 * 512) (a : ℕ → ℝ) {R f B : ℕ} (hB : 1024 * B ≤ R) (hR : R < 1024 * B + 1024) (h16 : B < 16) (hf : f ≤ 2 * B)
    (u o : ℕ → EReal) (ho : ∀ n < N, o n = 1) (X : Fin N → EReal) (hX : ∀ n, X n = kept a R f n.val * ((Real.log 2 : ℝ) : EReal)) :
    Ideal.div (acc (causal a R) (fun t k => u (512 * t + k.val)) (Finset.Ico f (2 * B + 2)))
        (acc (causal a R) (fun t k => o (512 * t + k.val)) (Finset.Ico f (2 * B + 2)))
      = ∑ n, u n.val * Ideal.div (Ideal.exp (X n - Finset.univ.sup X)) (∑ n, Ideal.exp (X n - Finset.univ.sup X)) := by
  subst hN
  exact quotient_eq a hB hR h16 hf u o ho X hX

/-- The reference's value at a row, a head and a column. -/
theorem soft_at (X : FVec Ideal Cert.ReferenceIdeal.S16x16384x16384 .f32) (R : Fin 16384) (h : Fin 16) (j : Fin 64) :
    weighted v (weights (powers X (largest X))) (ix2 R ⟨64 * h.val + j.val, by omega⟩)
      = ∑ n : Fin 16384, v (ix4 h ⟨n.val / 512, by omega⟩ ⟨j.val, by omega⟩ ⟨n.val % 512, by omega⟩)
          * Ideal.div (Ideal.exp (X (ix3 h R n) - Finset.univ.sup fun n : Fin 16384 => X (ix3 h R n)))
              (∑ n : Fin 16384, Ideal.exp (X (ix3 h R n) - Finset.univ.sup fun n : Fin 16384 => X (ix3 h R n))) := by
  rw [weighted_at]
  refine Finset.sum_congr rfl fun n _ => ?_
  rw [weights_at]
  have e : ∀ n : Fin 16384, powers X (largest X) (ix3 h R n) = Ideal.exp (X (ix3 h R n) - Finset.univ.sup fun n : Fin 16384 => X (ix3 h R n)) := fun n => by
    rw [powers_at, largest_at]
  rw [e, Finset.sum_congr rfl fun n _ => e n]

/-- The kernel's value at a row, a head and a column. -/
theorem attended_at (R : Fin 16384) (h : Fin 16) (j : Fin 64) :
    attended q k v w (ix2 R ⟨64 * h.val + j.val, by omega⟩) = Ideal.div (headSum q k v w h.val R.val j.val) (headSum q k v w h.val R.val 64) := by
  have hj := j.isLt
  have e0 : (64 * h.val + j.val) / 64 = h.val := by omega
  have e1 : (64 * h.val + j.val) % 64 = j.val := by omega
  show Ideal.div (headSum q k v w ((64 * h.val + j.val) / 64) R.val ((64 * h.val + j.val) % 64)) (headSum q k v w ((64 * h.val + j.val) / 64) R.val 64) = _
  rw [e0, e1]

variable {q k v w}

/-- A masked logit is the kept score in base e. -/
theorem logit_eq (P : Packed q k v w) (a : ℕ → ℝ) (R : Fin 16384) (h : Fin 16)
    (ha : ∀ n, ∑ d : Fin 128, at3 k h.val n d.val * at3 q h.val R.val d.val = (a n : EReal)) (n : Fin 16384) :
    logits q k w (ix3 h R n) = kept a R.val (wordAt w h.val (R.val / 1024)) n.val * ((Real.log 2 : ℝ) : EReal) := by
  have hw : ∀ x : S16x16.Idx, BitVec.toNat (w x) ≤ 32 := fun x => (P.first_le x).trans (by have h := (x 1).isLt; change (x 1).val < 16 at h; omega)
  rw [logits_at q k w hw R h n]
  have e : wordAt w h.val (R.val / 1024) = BitVec.toNat (w (ix2 h ⟨R.val / 1024, by omega⟩)) := wordAt_eq w (ix2 h ⟨R.val / 1024, by omega⟩)
  unfold kept
  rw [← e]
  split
  · rw [← ha]
    refine congrArg (· * ((Real.log 2 : ℝ) : EReal)) (Finset.sum_congr rfl fun d _ => ?_)
    have e1 : at3 k h.val n.val d.val = k (ix3 h n d) := at3_eq k (ix3 h n d)
    have e2 : at3 q h.val R.val d.val = q (ix3 h R d) := at3_eq q (ix3 h R d)
    rw [e1, e2, mul_comm]
  · exact (EReal.bot_mul_coe_of_pos (Real.log_pos one_lt_two)).symm

/-- Tile by tile in base two, or over all keys in base e: one array. -/
theorem attended_eq (P : Packed q k v w) : attended q k v w = weighted v (weights (powers (logits q k w) (largest (logits q k w)))) := by
  funext y
  obtain ⟨R, h, j, rfl⟩ := out_idx y
  choose a ha using score_real P.query_finite P.key_finite h.val R.val
  have hR := R.isLt
  have hf : wordAt w h.val (R.val / 1024) ≤ 2 * (R.val / 1024) := by
    rw [show wordAt w h.val (R.val / 1024) = _ from wordAt_eq w (ix2 h ⟨R.val / 1024, by omega⟩)]
    exact P.first_le (ix2 h ⟨R.val / 1024, by omega⟩)
  rw [attended_at, soft_at, headSum_eq q k v w a _ _ _ ha, headSum_eq q k v w a _ _ _ ha,
    quotient_over (N := 16384) rfl a (by omega) (by omega) (by omega) hf (fun n => at4 v h.val (n / 512) j.val (n % 512)) (fun n => at4 v h.val (n / 512) 64 (n % 512))
      (fun n hn => ?_) (fun n => logits q k w (ix3 h R n)) (logit_eq P a R h ha)]
  · refine Finset.sum_congr rfl fun n _ => ?_
    have e : at4 v h.val (n.val / 512) j.val (n.val % 512) = v (ix4 h ⟨n.val / 512, by omega⟩ ⟨j.val, by omega⟩ ⟨n.val % 512, by omega⟩) :=
      at4_eq v (ix4 h ⟨n.val / 512, by omega⟩ ⟨j.val, by omega⟩ ⟨n.val % 512, by omega⟩)
    beta_reduce
    rw [e]
  · have e : at4 v h.val (n / 512) 64 (n % 512) = v (ix4 h ⟨n / 512, by omega⟩ ⟨64, by omega⟩ ⟨n % 512, by omega⟩) :=
      at4_eq v (ix4 h ⟨n / 512, by omega⟩ ⟨64, by omega⟩ ⟨n % 512, by omega⟩)
    exact e.trans (P.ones (ix4 h ⟨n / 512, by omega⟩ ⟨64, by omega⟩ ⟨n % 512, by omega⟩) rfl)

end Cert.Flash

end
-- ==== Proof.FeedRow.lean ====
/- One row of the trunk's feed-forward part, over the extended reals: the attention's output joined,
   the norm, the squared rectifier between its two products, the final norm. -/
module

public import Idealize.ShloMosaic.PureOps.Ideal

@[expose] public section

noncomputable section

namespace Cert.Feed

open Idealize.ShloMosaic

/-- A row divided by its root mean square and scaled by `g`. -/
def normed (x g : Fin 1024 → EReal) (j : Fin 1024) : EReal :=
  x j * Ideal.rsqrt (Ideal.div (∑ i, x i * x i) (Ideal.ofBits .f32 0x44800000#32) + Ideal.ofBits .f32 0x358637BD#32) * g j

/-- The stream's row with the attention's projected row added. -/
def joined (x a : Fin 1024 → EReal) (wo : Fin 1024 → Fin 1024 → EReal) (j : Fin 1024) : EReal := x j + ∑ i, a i * wo i j

/-- The hidden layer: the product, the rectifier, the square. -/
def squares (h : Fin 1024 → EReal) (up : Fin 1024 → Fin 4096 → EReal) (f : Fin 4096) : EReal :=
  max (∑ i, h i * up i f) (Ideal.ofBits .f32 0x00000000#32) * max (∑ i, h i * up i f) (Ideal.ofBits .f32 0x00000000#32)

/-- The stream's row with the feed-forward part added. -/
def fed (x : Fin 1024 → EReal) (u : Fin 4096 → EReal) (down : Fin 4096 → Fin 1024 → EReal) (j : Fin 1024) : EReal :=
  x j + ∑ f, u f * down f j

/-- The last layer's row. -/
def last (x a : Fin 1024 → EReal) (wo : Fin 1024 → Fin 1024 → EReal) (g : Fin 1024 → EReal) (up : Fin 1024 → Fin 4096 → EReal)
    (down : Fin 4096 → Fin 1024 → EReal) (gf : Fin 1024 → EReal) (j : Fin 1024) : EReal :=
  normed (fed (joined x a wo) (squares (normed (joined x a wo) g) up) down) gf j

end Cert.Feed

end
-- ==== Proof.FeedBlock.lean ====
/- What the feed-forward kernel's body leaves in a block of 512 rows, row by row. -/
module

public import proofs.«01_k».proof.Proof.Gen.Kernel2Ideal.Frame
public import proofs.«01_k».proof.Proof.FeedRow
public import Idealize.ShloMosaic.Lib.Pointwise

@[expose] public section

set_option maxRecDepth 16384

noncomputable section

namespace Cert.Kernel2Ideal.Feed

open Cert.Kernel2Ideal Cert.Kernel2Ideal.Gen Idealize.ShloMosaic Cert.Feed

/-- The block with the attention's projection added. -/
def join (x : Vec Ideal S512x1024 .f32) (a : Vec Ideal S512x1024 .bf16) (wo : Vec Ideal S1x1024x1024 .bf16) : FVec Ideal S512x1024 .f32 :=
  addf x (matmul dot_S512x1024_S1024x1024_S512x1024_1_0_0_1_n_n none (φ₁ := .bf16) (φ₂ := .bf16) a (shapeCast S1024x1024 wo shapeCasts_S1x1024x1024_S1024x1024) (constant S512x1024 .f32 0x00000000#32))

/-- The block's rows normed. -/
def norm (x : FVec Ideal S512x1024 .f32) (g : Vec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- The block's hidden layer. -/
def hide (h : FVec Ideal S512x1024 .f32) (up : Vec Ideal S1x1024x4096 .bf16) : FVec Ideal S512x4096 .f32 :=
  maximumf (matmul dot_S512x1024_S1024x4096_S512x4096_1_0_0_1_n_n none (φ₁ := .bf16) (φ₂ := .bf16) (truncf .bf16 h bitsLt_bf16_f32) (shapeCast S1024x4096 up shapeCasts_S1x1024x4096_S1024x4096) (constant S512x4096 .f32 0x00000000#32))
    (broadcast S512x4096 (Scalar.ofBits .f32 0x00000000#32))

/-- The block with the feed-forward part added. -/
def feed (x : FVec Ideal S512x1024 .f32) (u : FVec Ideal S512x4096 .f32) (down : Vec Ideal S1x4096x1024 .bf16) : FVec Ideal S512x1024 .f32 :=
  addf x (matmul dot_S512x4096_S4096x1024_S512x1024_1_0_0_1_n_n none (φ₁ := .bf16) (φ₂ := .bf16) (truncf .bf16 (mulf u u) bitsLt_bf16_f32) (shapeCast S4096x1024 down shapeCasts_S1x4096x1024_S4096x1024) (constant S512x1024 .f32 0x00000000#32))

variable (x : Vec Ideal S512x1024 .f32) (a : Vec Ideal S512x1024 .bf16) (wo : Vec Ideal S1x1024x1024 .bf16) (g : Vec Ideal S1x1024 .f32)
  (up : Vec Ideal S1x1024x4096 .bf16) (down : Vec Ideal S1x4096x1024 .bf16) (gf : Vec Ideal S1x1024 .f32)

theorem pay_eq : k0_pay1 (k0_pay2 x a wo g up down) (k0_pay3 gf) (k0_pay4 x a wo g up down)
    = norm (feed (join x a wo) (hide (norm (join x a wo) g) up) down) gf := rfl

theorem join_at (l : Fin 512) (j : Fin 1024) : join x a wo (ix2 l j) = joined (fun i => x (ix2 l i)) (fun i => a (ix2 l i)) (fun i j => wo (ix3 0 i j)) j := by
  unfold join joined
  pointwise

theorem norm_at (l : Fin 512) (j : Fin 1024) : norm x g (ix2 l j) = normed (fun i => x (ix2 l i)) (fun i => g (ix2 0 i)) j := by
  unfold norm normed
  pointwise

theorem hide_at (l : Fin 512) (f : Fin 4096) : hide x up (ix2 l f) * hide x up (ix2 l f) = squares (fun i => x (ix2 l i)) (fun i f => up (ix3 0 i f)) f := by
  unfold hide squares
  pointwise

theorem feed_at (u : FVec Ideal S512x4096 .f32) (l : Fin 512) (j : Fin 1024) :
    feed x u down (ix2 l j) = fed (fun i => x (ix2 l i)) (fun f => u (ix2 l f) * u (ix2 l f)) (fun f j => down (ix3 0 f j)) j := by
  unfold feed fed
  pointwise

/-- The body's block, row by row. -/
theorem block_at (l : Fin 512) (j : Fin 1024) :
    k0_pay1 (k0_pay2 x a wo g up down) (k0_pay3 gf) (k0_pay4 x a wo g up down) (ix2 l j)
      = last (fun i => x (ix2 l i)) (fun i => a (ix2 l i)) (fun i j => wo (ix3 0 i j)) (fun i => g (ix2 0 i)) (fun i f => up (ix3 0 i f))
          (fun f j => down (ix3 0 f j)) (fun i => gf (ix2 0 i)) j := by
  rw [pay_eq, norm_at]
  unfold last
  refine congrArg (fun r => normed r _ j) (funext fun i => ?_)
  rw [feed_at]
  rw [show (fun i => join x a wo (ix2 l i)) = _ from funext fun i => join_at x a wo l i]
  refine congrArg (fun u => fed _ u _ i) (funext fun f => ?_)
  rw [hide_at]
  refine congrArg (fun r => squares r _ f) (funext fun i => ?_)
  rw [norm_at]
  exact congrArg (fun r => normed r _ i) (funext fun i => join_at x a wo l i)

end Cert.Kernel2Ideal.Feed

end
-- ==== Proof.FeedOut.lean ====
/- The feed-forward kernel's output array: each grid point's block of it, and the whole. -/
module

public import proofs.«01_k».proof.Proof.FeedBlock
public import Idealize.ShloMosaic.Lib.Claim
public import Idealize.ShloMosaic.Lib.Pipeline.Covers
public import Idealize.ShloMosaic.Lib.Pipeline.ValueKit

@[expose] public section

set_option maxRecDepth 16384

noncomputable section

namespace Cert.Kernel2Ideal.Feed

open Cert.Kernel2Ideal Cert.Kernel2Ideal.Gen Idealize.ShloMosaic Idealize.ShloMosaic.TcCoe Cert.Feed

variable (m : (ℓ : Loc nD τ sig) → Buf (Elt Ideal) ℓ)

/-- The grid coordinate, the block of rows. -/
theorem row_word (i : grid0.Coords) : (BitVec.ofNat 32 (i 0).val).toNat = (i 0).val := by
  have h : (i 0).val < 32 := (i 0).isLt
  rw [BitVec.toNat_ofNat, Nat.mod_eq_of_lt (lt_of_lt_of_le h (by decide))]

/-- A grid point's row of the array. -/
def rowOf (t : Fin cfg0.N) (l : Fin 512) : Fin 16384 :=
  ⟨512 * ((grid0.coords t) 0).val + l.val, by have h : ((grid0.coords t) 0).val < 32 := ((grid0.coords t) 0).isLt; omega⟩

theorem stream_block (c : Dev nD) (t : Fin cfg0.N) (l : Fin 512) (j : Fin 1024) :
    iblk m c 0 t (ix2 l j) = m ((c : Thread nD τ).loc main_arg0) (ix2 (rowOf t l) j) := by
  unfold iblk
  show (V m c main_arg0) ((((cfg0.win 0).blk t).view.emb (ix2 l j))) = _
  rw [V_main_arg0]
  refine congrArg (m ((c : Thread nD τ).loc main_arg0)) (funext fun a => Fin.ext ?_)
  match a with
  | ⟨0, _⟩ =>
    blk_simp
    show (BitVec.ofNat 32 ((grid0.coords t) 0).val).toNat * 512 + l.val = _
    rw [row_word, Nat.mul_comm]
    rfl
  | ⟨1, _⟩ =>
    blk_simp
    show (0#32).toNat * 1024 + j.val = _
    simp

theorem attention_block (c : Dev nD) (t : Fin cfg0.N) (l : Fin 512) (j : Fin 1024) :
    iblk m c 1 t (ix2 l j) = m ((c : Thread nD τ).loc main_arg1) (ix2 (rowOf t l) j) := by
  unfold iblk
  show (V m c main_arg1) ((((cfg0.win 1).blk t).view.emb (ix2 l j))) = _
  rw [V_main_arg1]
  refine congrArg (m ((c : Thread nD τ).loc main_arg1)) (funext fun a => Fin.ext ?_)
  match a with
  | ⟨0, _⟩ =>
    blk_simp
    show (BitVec.ofNat 32 ((grid0.coords t) 0).val).toNat * 512 + l.val = _
    rw [row_word, Nat.mul_comm]
    rfl
  | ⟨1, _⟩ =>
    blk_simp
    show (0#32).toNat * 1024 + j.val = _
    simp

theorem projection_block (c : Dev nD) (t : Fin cfg0.N) (i j : Fin 1024) :
    iblk m c 2 t (ix3 0 i j) = m ((c : Thread nD τ).loc main_arg2) (ix3 1 i j) := by
  unfold iblk
  show (V m c main_v5) ((((cfg0.win 2).blk t).view.emb (ix3 0 i j))) = _
  rw [show (((cfg0.win 2).blk t).view.emb (ix3 0 i j)) = ix3 1 i j from funext fun a => Fin.ext (by
    match a with
    | ⟨0, _⟩ => rfl
    | ⟨1, _⟩ =>
      blk_simp
      show (0#32).toNat * 1024 + i.val = _
      simp
    | ⟨2, _⟩ =>
      blk_simp
      show (0#32).toNat * 1024 + j.val = _
      simp)]
  entry_read
  pointwise

theorem scales_block (c : Dev nD) (t : Fin cfg0.N) (j : Fin 1024) :
    iblk m c 3 t (ix2 0 j) = m ((c : Thread nD τ).loc main_arg3) (ix2 3 j) := by
  unfold iblk
  show (V m c main_v2) ((((cfg0.win 3).blk t).view.emb (ix2 0 j))) = _
  rw [show (((cfg0.win 3).blk t).view.emb (ix2 0 j)) = ix2 0 j from funext fun a => Fin.ext (by
    match a with
    | ⟨0, _⟩ => rfl
    | ⟨1, _⟩ =>
      blk_simp
      show (0#32).toNat * 1024 + j.val = _
      simp)]
  entry_read
  pointwise

theorem up_block (c : Dev nD) (t : Fin cfg0.N) (i : Fin 1024) (f : Fin 4096) :
    iblk m c 4 t (ix3 0 i f) = m ((c : Thread nD τ).loc main_arg4) (ix3 3 i f) := by
  unfold iblk
  show (V m c main_v3) ((((cfg0.win 4).blk t).view.emb (ix3 0 i f))) = _
  rw [show (((cfg0.win 4).blk t).view.emb (ix3 0 i f)) = ix3 3 i f from funext fun a => Fin.ext (by
    match a with
    | ⟨0, _⟩ => rfl
    | ⟨1, _⟩ =>
      blk_simp
      show (0#32).toNat * 1024 + i.val = _
      simp
    | ⟨2, _⟩ =>
      blk_simp
      show (0#32).toNat * 4096 + f.val = _
      simp)]
  entry_read
  pointwise

theorem down_block (c : Dev nD) (t : Fin cfg0.N) (f : Fin 4096) (j : Fin 1024) :
    iblk m c 5 t (ix3 0 f j) = m ((c : Thread nD τ).loc main_arg5) (ix3 3 f j) := by
  unfold iblk
  show (V m c main_v4) ((((cfg0.win 5).blk t).view.emb (ix3 0 f j))) = _
  rw [show (((cfg0.win 5).blk t).view.emb (ix3 0 f j)) = ix3 3 f j from funext fun a => Fin.ext (by
    match a with
    | ⟨0, _⟩ => rfl
    | ⟨1, _⟩ =>
      blk_simp
      show (0#32).toNat * 4096 + f.val = _
      simp
    | ⟨2, _⟩ =>
      blk_simp
      show (0#32).toNat * 1024 + j.val = _
      simp)]
  entry_read
  pointwise

theorem final_block (c : Dev nD) (t : Fin cfg0.N) (j : Fin 1024) :
    iblk m c 6 t (ix2 0 j) = m ((c : Thread nD τ).loc main_arg6) (ix1 j) := by
  unfold iblk
  show (V m c main_v6) ((((cfg0.win 6).blk t).view.emb (ix2 0 j))) = _
  rw [show (((cfg0.win 6).blk t).view.emb (ix2 0 j)) = ix2 0 j from funext fun a => Fin.ext (by
    match a with
    | ⟨0, _⟩ => rfl
    | ⟨1, _⟩ =>
      blk_simp
      show (0#32).toNat * 1024 + j.val = _
      simp)]
  entry_read
  pointwise

/-- The last layer's output, from the arguments as launched. -/
def lastOut (c : Dev nD) (R : Fin 16384) (j : Fin 1024) : EReal :=
  last (fun i => m ((c : Thread nD τ).loc main_arg0) (ix2 R i)) (fun i => m ((c : Thread nD τ).loc main_arg1) (ix2 R i))
    (fun i j => m ((c : Thread nD τ).loc main_arg2) (ix3 1 i j)) (fun i => m ((c : Thread nD τ).loc main_arg3) (ix2 3 i))
    (fun i f => m ((c : Thread nD τ).loc main_arg4) (ix3 3 i f)) (fun f j => m ((c : Thread nD τ).loc main_arg5) (ix3 3 f j))
    (fun i => m ((c : Thread nD τ).loc main_arg6) (ix1 i)) j

/-- The one store covers the block, so the block is its value. -/
theorem out_at (x : Vec Ideal S512x1024 .f32) (a : Vec Ideal S512x1024 .bf16) (wo : Vec Ideal S1x1024x1024 .bf16) (g : Vec Ideal S1x1024 .f32)
    (up : Vec Ideal S1x1024x4096 .bf16) (down : Vec Ideal S1x4096x1024 .bf16) (gf : Vec Ideal S1x1024 .f32) (l : Fin 512) (j : Fin 1024) :
    out0_7 x a wo g up down gf (ix2 l j)
      = last (fun i => x (ix2 l i)) (fun i => a (ix2 l i)) (fun i j => wo (ix3 0 i j)) (fun i => g (ix2 0 i)) (fun i f => up (ix3 0 i f))
          (fun f j => down (ix3 0 f j)) (fun i => gf (ix2 0 i)) j := by
  refine Eq.trans ?_ (block_at x a wo g up down gf l j)
  unfold out0_7
  have z2 : ∀ b : Fin 2, (![0, 0] : Fin 2 → ℕ) b = 0 := by decide
  have z3 : ∀ b : Fin 3, (![0, 0, 0] : Fin 3 → ℕ) b = 0 := by decide
  rw [show View.ld x r0_0 = x from View.ld_unit_lit _ x z2, show View.ld a r0_0 = a from View.ld_unit_lit _ a z2,
    show View.ld wo r0_1 = wo from View.ld_unit_lit _ wo z3, show View.ld g r0_2 = g from View.ld_unit_lit _ g z2,
    show View.ld up r0_3 = up from View.ld_unit_lit _ up z3, show View.ld down r0_4 = down from View.ld_unit_lit _ down z3,
    show View.ld gf r0_2 = gf from View.ld_unit_lit _ gf z2]
  exact congrFun (View.canon_cons_unit_lit _ _ [] z2) _

/-- The output array after the run. -/
theorem array_eq (c : Dev nD) : (dats m 0 c).arrAt 7 cfg0.N = fun y : S16384x1024.Idx => lastOut m c (y 0) (y 1) := by
  refine (dats m 0 c).arrAt_eq_of_covers 7 _ ?_ fun t hf y => ?_
  · refine (cfg0.win 7).covers_of_indexMap_surj rfl ?_ fun β => ?_
    · exact (by decide : ∀ a : Fin 2, 0 < (![512, 1024] : Fin 2 → ℕ) a)
    · have b0 : (β (0 : Fin 2)).val < 32 := (β (0 : Fin 2)).isLt.trans_eq (by show (16384 + 512 - 1) / 512 = 32; rfl)
      have b1 : (β (1 : Fin 2)).val < 1 := (β (1 : Fin 2)).isLt.trans_eq (by show (1024 + 1024 - 1) / 1024 = 1; rfl)
      refine ⟨(Fin.cons ⟨(β (0 : Fin 2)).val, b0⟩ finZeroElim : (a : Fin 1) → Fin (grid0.bound a)), fun a => ?_⟩
      match (a : Fin 2) with
      | ⟨0, _⟩ => exact row_word _
      | ⟨1, _⟩ => exact (Nat.lt_one_iff.mp b1).symm
  · obtain ⟨l, j, e⟩ : ∃ (l : Fin 512) (j : Fin 1024), y = ix2 l j := ⟨y 0, y 1, by funext a; match a with | ⟨0, _⟩ => rfl | ⟨1, _⟩ => rfl⟩
    subst e
    refine Eq.trans ?_ ((out_at (iblk m c 0 t) (iblk m c 1 t) (iblk m c 2 t) (iblk m c 3 t) (iblk m c 4 t) (iblk m c 5 t) (iblk m c 6 t) l j).trans ?_)
    · blk_simp
      rw [after0_7]
    · have e : (((cfg0.win 7).blk t).view.emb (ix2 l j)) = (ix2 (rowOf t l) j : S16384x1024.Idx) := funext fun a => Fin.ext (by
        match a with
        | ⟨0, _⟩ =>
          blk_simp
          show (BitVec.ofNat 32 ((grid0.coords t) 0).val).toNat * 512 + l.val = _
          rw [row_word, Nat.mul_comm]
          rfl
        | ⟨1, _⟩ =>
          blk_simp
          show (0#32).toNat * 1024 + j.val = _
          simp)
      simp only [stream_block, attention_block, projection_block, scales_block, up_block, down_block, final_block]
      exact (congrArg (fun y : S16384x1024.Idx => lastOut m c (y 0) (y 1)) e).symm

end Cert.Kernel2Ideal.Feed

end
-- ==== Proof.FeedSoft.lean ====
/- The last layer's reference, read at an index: the row's value. -/
module

public import proofs.«01_k».proof.Proof.Gen.Reference2Ideal.Run
public import proofs.«01_k».proof.Proof.FeedRow
public import Idealize.ShloMosaic.Lib.Pointwise

@[expose] public section

set_option maxRecDepth 16384

noncomputable section

namespace Cert.Reference2Ideal.Feed

open Cert.Reference2Ideal Cert.Reference2Ideal.Gen Idealize.ShloMosaic Idealize.ShloMosaic.TcCoe Idealize.SL.Sem Cert.Feed

/-- The stream with the attention's projection added. -/
def join (x : Vec Ideal S16384x1024 .f32) (a : Vec Ideal S16384x1024 .bf16) (wo : Vec Ideal S2x1024x1024 .f32) : FVec Ideal S16384x1024 .f32 :=
  addf x (Host.dotGeneral dot_S16384x1024_S1024x1024_S16384x1024_1_0_0_1_n_n none (φ₁ := .f32) (φ₂ := .f32) (extf .f32 a bitsLt_bf16_f32)
    (shapeCast S1024x1024 (extractStridedSlice S1x1024x1024 ![1, 0, 0] wo slices_S2x1024x1024_S1x1024x1024_1_0_0) shapeCasts_S1x1024x1024_S1024x1024))

/-- Its rows normed. -/
def norm (x : FVec Ideal S16384x1024 .f32) (g : Vec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The norm's weights for the last layer. -/
def scales (g : Vec Ideal S4x1024 .f32) : Vec Ideal S1024 .f32 :=
  shapeCast S1024 (extractStridedSlice S1x1024 ![3, 0] g slices_S4x1024_S1x1024_3_0) shapeCasts_S1x1024_S1024

/-- The hidden layer. -/
def hide (h : FVec Ideal S16384x1024 .f32) (up : Vec Ideal S4x1024x4096 .f32) : FVec Ideal S16384x4096 .f32 :=
  maximumf (Host.dotGeneral dot_S16384x1024_S1024x4096_S16384x4096_1_0_0_1_n_n none (φ₁ := .f32) (φ₂ := .f32) h
    (shapeCast S1024x4096 (extractStridedSlice S1x1024x4096 ![3, 0, 0] up slices_S4x1024x4096_S1x1024x4096_3_0_0) shapeCasts_S1x1024x4096_S1024x4096))
    (broadcastInDim S16384x4096 ![] bcast_S_S16384x4096 (constant S_ .f32 0x00000000#32))

/-- The stream with the feed-forward part added. -/
def feed (x : FVec Ideal S16384x1024 .f32) (u : FVec Ideal S16384x4096 .f32) (down : Vec Ideal S4x4096x1024 .f32) : FVec Ideal S16384x1024 .f32 :=
  addf x (Host.dotGeneral dot_S16384x4096_S4096x1024_S16384x1024_1_0_0_1_n_n none (φ₁ := .f32) (φ₂ := .f32) (mulf u u)
    (shapeCast S4096x1024 (extractStridedSlice S1x4096x1024 ![3, 0, 0] down slices_S4x4096x1024_S1x4096x1024_3_0_0) shapeCasts_S1x4096x1024_S4096x1024))

/-- The reference's value, from its parts. -/
def out (x : Vec Ideal S16384x1024 .f32) (a : Vec Ideal S16384x1024 .bf16) (wo : Vec Ideal S2x1024x1024 .f32) (g : Vec Ideal S4x1024 .f32)
    (up : Vec Ideal S4x1024x4096 .f32) (down : Vec Ideal S4x4096x1024 .f32) (gf : Vec Ideal S1024 .f32) : FVec Ideal S16384x1024 .f32 :=
  norm (feed (join x a wo) (hide (norm (join x a wo) (scales g)) up) down) gf

theorem res_eq (m : (ℓ : Loc nD τ sig) → Buf (Elt Ideal) ℓ) (c : Dev nD) :
    Cert.Reference2Ideal.Value.res_out0 m c
      = out (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := rfl

variable (x : Vec Ideal S16384x1024 .f32) (a : Vec Ideal S16384x1024 .bf16) (wo : Vec Ideal S2x1024x1024 .f32) (g : Vec Ideal S4x1024 .f32)
  (up : Vec Ideal S4x1024x4096 .f32) (down : Vec Ideal S4x4096x1024 .f32) (gf : Vec Ideal S1024 .f32)

theorem join_at (l : Fin 16384) (j : Fin 1024) : join x a wo (ix2 l j) = joined (fun i => x (ix2 l i)) (fun i => a (ix2 l i)) (fun i j => wo (ix3 1 i j)) j := by
  unfold join joined
  pointwise

theorem scales_at (j : Fin 1024) : scales g (ix1 j) = g (ix2 3 j) := by
  unfold scales
  pointwise

theorem norm_at (l : Fin 16384) (j : Fin 1024) : norm x gf (ix2 l j) = normed (fun i => x (ix2 l i)) (fun i => gf (ix1 i)) j := by
  unfold norm normed
  pointwise

theorem hide_at (l : Fin 16384) (f : Fin 4096) : hide x up (ix2 l f) * hide x up (ix2 l f) = squares (fun i => x (ix2 l i)) (fun i f => up (ix3 3 i f)) f := by
  unfold hide squares
  pointwise

theorem feed_at (u : FVec Ideal S16384x4096 .f32) (l : Fin 16384) (j : Fin 1024) :
    feed x u down (ix2 l j) = fed (fun i => x (ix2 l i)) (fun f => u (ix2 l f) * u (ix2 l f)) (fun f j => down (ix3 3 f j)) j := by
  unfold feed fed
  pointwise

/-- The reference's value, row by row. -/
theorem out_at (l : Fin 16384) (j : Fin 1024) :
    out x a wo g up down gf (ix2 l j)
      = last (fun i => x (ix2 l i)) (fun i => a (ix2 l i)) (fun i j => wo (ix3 1 i j)) (fun i => g (ix2 3 i)) (fun i f => up (ix3 3 i f))
          (fun f j => down (ix3 3 f j)) (fun i => gf (ix1 i)) j := by
  unfold out
  rw [norm_at]
  unfold last
  refine congrArg (fun r => normed r _ j) (funext fun i => ?_)
  rw [feed_at]
  rw [show (fun i => join x a wo (ix2 l i)) = _ from funext fun i => join_at x a wo l i]
  refine congrArg (fun u => fed _ u _ i) (funext fun f => ?_)
  rw [hide_at]
  refine congrArg (fun r => squares r _ f) (funext fun i => ?_)
  rw [norm_at]
  rw [show (fun i => join x a wo (ix2 l i)) = _ from funext fun i => join_at x a wo l i]
  exact congrArg (fun r => normed _ r i) (funext fun i => scales_at g i)

end Cert.Reference2Ideal.Feed

end
-- ==== Proof.KeyRow.lean ====
/- One row of the keys', values' and forget gates' kernel, over the extended reals. -/
module

public import proofs.«01_k».proof.Proof.FeedRow

@[expose] public section

noncomputable section

namespace Cert.Keys

open Idealize.ShloMosaic Cert.Feed

/-- The row normed and multiplied by a matrix's column. -/
def projected (x g w : Fin 1024 → EReal) : EReal := ∑ i, normed x g i * w i

/-- The logarithm of the logistic function, from the exponential of minus the absolute value. -/
def logGate (z : EReal) : EReal := min z 0 - Ideal.log1p (Ideal.exp (0 - FloatOps.absf (F := Ideal) (φ := .f32) z))

theorem min_neg (z : EReal) : min z 0 = -max (-z) 0 := by
  rcases le_total z 0 with h | h
  · rw [min_eq_left h, max_eq_left (EReal.neg_nonneg.mpr h), neg_neg]
  · rw [min_eq_right h, max_eq_right (by rw [EReal.neg_le, neg_zero]; exact h), neg_zero]

theorem abs_neg (z : EReal) : FloatOps.absf (F := Ideal) (φ := .f32) (-z) = FloatOps.absf (F := Ideal) (φ := .f32) z := by
  show max (-z) (- -z) = max z (-z)
  rw [neg_neg, max_comm]

/-- Minus the softplus of minus `z` is the same. -/
theorem softplus_eq (z : EReal) :
    -(max (-z) 0 + Ideal.log1p (Ideal.exp (-FloatOps.absf (F := Ideal) (φ := .f32) (-z)))) = logGate z := by
  unfold logGate
  rw [abs_neg, min_neg, zero_sub]
  refine EReal.neg_add (Or.inl ?_) ?_
  · exact ne_of_gt (lt_of_lt_of_le (EReal.bot_lt_coe 0) (le_max_right _ _))
  · by_cases h : z = ⊥
    · subst h
      refine Or.inr ?_
      have a : FloatOps.absf (F := Ideal) (φ := .f32) (⊥ : EReal) = (⊤ : EReal) := by
        show max (⊥ : EReal) (-⊥) = ⊤
        simp
      have b : Ideal.log1p (Ideal.exp (-(⊤ : EReal))) = ((Real.log 1 : ℝ) : EReal) := by
        rw [EReal.neg_top]
        show Ideal.log (1 + 0) = _
        rw [add_zero]
        show (if (1 : ℝ) ≤ 0 then (⊥ : EReal) else ((Real.log 1 : ℝ) : EReal)) = _
        rw [if_neg (by norm_num)]
      rw [a, b]
      exact EReal.coe_ne_bot _
    · refine Or.inl ?_
      rcases le_total (-z) 0 with e | e
      · rw [max_eq_right e]
        exact EReal.zero_ne_top
      · rw [max_eq_left e]
        exact fun e => h (EReal.neg_eq_top_iff.mp e)

end Cert.Keys

end
-- ==== Proof.KeyBlock.lean ====
/- What the keys' and values' kernel leaves in its three blocks, row by row. -/
module

public import proofs.«01_k».proof.Proof.Gen.Kernel3Ideal.Frame
public import proofs.«01_k».proof.Proof.KeyRow
public import Idealize.ShloMosaic.Lib.Pointwise

@[expose] public section

set_option maxRecDepth 16384

noncomputable section

namespace Cert.Kernel3Ideal.Keys

open Cert.Kernel3Ideal Cert.Kernel3Ideal.Gen Idealize.ShloMosaic Cert.Feed Cert.Keys

variable (x : Vec Ideal S512x1024 .f32) (g : Vec Ideal S1x1024 .f32) (w : Vec Ideal S1024x1024 .bf16) (wf : Vec Ideal S1024x128 .bf16)
  (bf : Vec Ideal S1x128 .f32)

theorem norm_at (l : Fin 512) (j : Fin 1024) : k0_pay2 x g (ix2 l j) = normed (fun i => x (ix2 l i)) (fun i => g (ix2 0 i)) j := by
  unfold k0_pay2 normed
  pointwise

theorem key_at (l : Fin 512) (j : Fin 1024) :
    k0_pay3 x g w (ix2 l j) = projected (fun i => x (ix2 l i)) (fun i => g (ix2 0 i)) (fun i => w (ix2 i j)) := by
  unfold projected
  simp only [← norm_at]
  unfold k0_pay3
  pointwise

theorem value_at (l : Fin 512) (j : Fin 1024) :
    k0_pay4 x g w (ix2 l j) = projected (fun i => x (ix2 l i)) (fun i => g (ix2 0 i)) (fun i => w (ix2 i j)) := by
  unfold projected
  simp only [← norm_at]
  unfold k0_pay4
  pointwise

theorem gate_at (l : Fin 512) (j : Fin 128) :
    k0_pay5 x g wf bf (ix2 l j) = projected (fun i => x (ix2 l i)) (fun i => g (ix2 0 i)) (fun i => wf (ix2 i j)) + bf (ix2 0 j) := by
  unfold projected
  simp only [← norm_at]
  unfold k0_pay5
  pointwise

/-- The first sixteen columns are the gates. -/
theorem lane_lt (j : Fin 16) : IntOp.cmpi .slt (BitVec.ofNat 32 j.val) 16#32 = 1#1 := by
  revert j
  decide

theorem forget_at (l : Fin 512) (j : Fin 16) :
    k0_pay1 k0_pay6 (k0_pay7 x g wf bf) (k0_pay8 x g wf bf) (ix2 l j)
      = logGate (projected (fun i => x (ix2 l i)) (fun i => g (ix2 0 i)) (fun i => wf (ix2 i ⟨j.val, by omega⟩)) + bf (ix2 0 ⟨j.val, by omega⟩)) := by
  rw [← gate_at]
  unfold k0_pay1 k0_pay6 k0_pay7 k0_pay8 logGate
  pointwise
  rw [lane_lt]
  rfl

end Cert.Kernel3Ideal.Keys

end
-- ==== Proof.KeyOut.lean ====
/- The keys', values' and forget gates' arrays after the kernel's run. -/
module

public import proofs.«01_k».proof.Proof.KeyBlock
public import Idealize.ShloMosaic.Lib.Claim
public import Idealize.ShloMosaic.Lib.Pipeline.Covers
public import Idealize.ShloMosaic.Lib.Pipeline.ValueKit

@[expose] public section

set_option maxRecDepth 16384

noncomputable section

namespace Cert.Kernel3Ideal.Keys

open Cert.Kernel3Ideal Cert.Kernel3Ideal.Gen Idealize.ShloMosaic Idealize.ShloMosaic.TcCoe Cert.Feed Cert.Keys

variable (m : (ℓ : Loc nD τ sig) → Buf (Elt Ideal) ℓ)

/-- The one grid point's coordinate. -/
theorem row_word (i : grid0.Coords) : (BitVec.ofNat 32 (i 0).val).toNat = 0 := by
  have h : (i 0).val < 1 := (i 0).isLt
  rw [Nat.lt_one_iff.mp h]
  rfl

theorem stream_block (c : Dev nD) (t : Fin cfg0.N) (l : Fin 512) (j : Fin 1024) :
    iblk m c 0 t (ix2 l j) = m ((c : Thread nD τ).loc main_arg0) (ix2 l j) := by
  unfold iblk
  show (V m c main_arg0) ((((cfg0.win 0).blk t).view.emb (ix2 l j))) = _
  rw [V_main_arg0]
  refine congrArg (m ((c : Thread nD τ).loc main_arg0)) (funext fun a => Fin.ext ?_)
  match a with
  | ⟨0, _⟩ => blk_simp; show (BitVec.ofNat 32 ((grid0.coords t) 0).val).toNat * 512 + l.val = _; rw [row_word]; simp
  | ⟨1, _⟩ => blk_simp; show (0#32).toNat * 1024 + j.val = _; simp

theorem scales_block (c : Dev nD) (t : Fin cfg0.N) (i : Fin 1024) :
    iblk m c 1 t (ix2 0 i) = m ((c : Thread nD τ).loc main_arg1) (ix1 i) := by
  unfold iblk
  show (V m c main_v4) ((((cfg0.win 1).blk t).view.emb (ix2 0 i))) = _
  rw [show (((cfg0.win 1).blk t).view.emb (ix2 0 i)) = ix2 0 i from funext fun a => Fin.ext (by
    match a with
    | ⟨0, _⟩ => rfl
    | ⟨1, _⟩ => blk_simp; show (0#32).toNat * 1024 + (i.val : ℕ) = _; simp)]
  show StableHlo.after [hostOps0, hostOps0_1, hostOps0_2, hostOps0_3, hostOps0_4].flatten (fun b => m (c, b)) _ _ = _
  simp only [hostOps0, hostOps0_1, hostOps0_2, hostOps0_3, hostOps0_4, List.flatten_cons, List.flatten_nil, List.append_nil, List.cons_append, List.nil_append]
  entry_read
  pointwise

theorem key_block (c : Dev nD) (t : Fin cfg0.N) (i j : Fin 1024) :
    iblk m c 2 t (ix2 i j) = m ((c : Thread nD τ).loc main_arg2) (ix2 i j) := by
  unfold iblk
  show (V m c main_v5) ((((cfg0.win 2).blk t).view.emb (ix2 i j))) = _
  rw [show (((cfg0.win 2).blk t).view.emb (ix2 i j)) = ix2 i j from funext fun a => Fin.ext (by
    match a with
    | ⟨0, _⟩ => blk_simp; show (0#32).toNat * 1024 + i.val = _; simp
    | ⟨1, _⟩ => blk_simp; show (0#32).toNat * 1024 + (j.val : ℕ) = _; simp)]
  show StableHlo.after [hostOps0, hostOps0_1, hostOps0_2, hostOps0_3, hostOps0_4].flatten (fun b => m (c, b)) _ _ = _
  simp only [hostOps0, hostOps0_1, hostOps0_2, hostOps0_3, hostOps0_4, List.flatten_cons, List.flatten_nil, List.append_nil, List.cons_append, List.nil_append]
  entry_read
  pointwise

theorem value_block (c : Dev nD) (t : Fin cfg0.N) (i j : Fin 1024) :
    iblk m c 3 t (ix2 i j) = m ((c : Thread nD τ).loc main_arg3) (ix2 i j) := by
  unfold iblk
  show (V m c main_v6) ((((cfg0.win 3).blk t).view.emb (ix2 i j))) = _
  rw [show (((cfg0.win 3).blk t).view.emb (ix2 i j)) = ix2 i j from funext fun a => Fin.ext (by
    match a with
    | ⟨0, _⟩ => blk_simp; show (0#32).toNat * 1024 + i.val = _; simp
    | ⟨1, _⟩ => blk_simp; show (0#32).toNat * 1024 + (j.val : ℕ) = _; simp)]
  show StableHlo.after [hostOps0, hostOps0_1, hostOps0_2, hostOps0_3, hostOps0_4].flatten (fun b => m (c, b)) _ _ = _
  simp only [hostOps0, hostOps0_1, hostOps0_2, hostOps0_3, hostOps0_4, List.flatten_cons, List.flatten_nil, List.append_nil, List.cons_append, List.nil_append]
  entry_read
  pointwise

theorem gate_block (c : Dev nD) (t : Fin cfg0.N) (i : Fin 1024) (j : Fin 16) :
    iblk m c 4 t (ix2 i (⟨j.val, by omega⟩ : Fin 128)) = m ((c : Thread nD τ).loc main_arg4) (ix2 i j) := by
  unfold iblk
  show (V m c main_v1) ((((cfg0.win 4).blk t).view.emb (ix2 i (⟨j.val, by omega⟩ : Fin 128)))) = _
  rw [show (((cfg0.win 4).blk t).view.emb (ix2 i (⟨j.val, by omega⟩ : Fin 128))) = ix2 i (⟨j.val, by omega⟩ : Fin 128) from funext fun a => Fin.ext (by
    match a with
    | ⟨0, _⟩ => blk_simp; show (0#32).toNat * 1024 + i.val = _; simp
    | ⟨1, _⟩ => blk_simp; show (0#32).toNat * 128 + (j.val : ℕ) = _; simp)]
  show StableHlo.after [hostOps0, hostOps0_1, hostOps0_2, hostOps0_3, hostOps0_4].flatten (fun b => m (c, b)) _ _ = _
  simp only [hostOps0, hostOps0_1, hostOps0_2, hostOps0_3, hostOps0_4, List.flatten_cons, List.flatten_nil, List.append_nil, List.cons_append, List.nil_append]
  entry_read
  pointwise
  simp only [StableHlo.TRef.toBuf, StableHlo.TRef.ofBuf, cast_eq]
  pointwise

theorem bias_block (c : Dev nD) (t : Fin cfg0.N) (j : Fin 16) :
    iblk m c 5 t (ix2 0 (⟨j.val, by omega⟩ : Fin 128)) = m ((c : Thread nD τ).loc main_arg5) (ix1 j) := by
  unfold iblk
  show (V m c main_v3) ((((cfg0.win 5).blk t).view.emb (ix2 0 (⟨j.val, by omega⟩ : Fin 128)))) = _
  rw [show (((cfg0.win 5).blk t).view.emb (ix2 0 (⟨j.val, by omega⟩ : Fin 128))) = ix2 0 (⟨j.val, by omega⟩ : Fin 128) from funext fun a => Fin.ext (by
    match a with
    | ⟨0, _⟩ => rfl
    | ⟨1, _⟩ => blk_simp; show (0#32).toNat * 128 + (j.val : ℕ) = _; simp)]
  show StableHlo.after [hostOps0, hostOps0_1, hostOps0_2, hostOps0_3, hostOps0_4].flatten (fun b => m (c, b)) _ _ = _
  simp only [hostOps0, hostOps0_1, hostOps0_2, hostOps0_3, hostOps0_4, List.flatten_cons, List.flatten_nil, List.append_nil, List.cons_append, List.nil_append]
  entry_read
  pointwise
  simp only [StableHlo.TRef.toBuf, StableHlo.TRef.ofBuf, cast_eq]
  pointwise

/-- The keys and the values, from the arguments as launched. -/
def keysOut (c : Dev nD) (l : Fin 512) (j : Fin 1024) : EReal :=
  projected (fun i => m ((c : Thread nD τ).loc main_arg0) (ix2 l i)) (fun i => m ((c : Thread nD τ).loc main_arg1) (ix1 i))
    (fun i => m ((c : Thread nD τ).loc main_arg2) (ix2 i j))

def valuesOut (c : Dev nD) (l : Fin 512) (j : Fin 1024) : EReal :=
  projected (fun i => m ((c : Thread nD τ).loc main_arg0) (ix2 l i)) (fun i => m ((c : Thread nD τ).loc main_arg1) (ix1 i))
    (fun i => m ((c : Thread nD τ).loc main_arg3) (ix2 i j))

/-- The forget gates. -/
def gatesOut (c : Dev nD) (l : Fin 512) (j : Fin 16) : EReal :=
  logGate (projected (fun i => m ((c : Thread nD τ).loc main_arg0) (ix2 l i)) (fun i => m ((c : Thread nD τ).loc main_arg1) (ix1 i))
    (fun i => m ((c : Thread nD τ).loc main_arg4) (ix2 i j)) + m ((c : Thread nD τ).loc main_arg5) (ix1 j))

variable (x : Vec Ideal S512x1024 .f32) (g : Vec Ideal S1x1024 .f32) (wk wv : Vec Ideal S1024x1024 .bf16) (wf : Vec Ideal S1024x128 .bf16)
  (bf : Vec Ideal S1x128 .f32)

/-- Each store covers its block, so the block is its value. -/
theorem keys_at (l : Fin 512) (j : Fin 1024) :
    out0_6 x g wk wv wf bf (ix2 l j) = projected (fun i => x (ix2 l i)) (fun i => g (ix2 0 i)) (fun i => wk (ix2 i j)) := by
  refine Eq.trans ?_ (key_at x g wk l j)
  unfold out0_6
  have z2 : ∀ b : Fin 2, (![0, 0] : Fin 2 → ℕ) b = 0 := by decide
  rw [show View.ld x r0_0 = x from View.ld_unit_lit _ x z2, show View.ld g r0_1 = g from View.ld_unit_lit _ g z2,
    show View.ld wk r0_2 = wk from View.ld_unit_lit _ wk z2]
  exact congrFun (View.canon_cons_unit_lit _ _ [] z2) _

theorem values_at (l : Fin 512) (j : Fin 1024) :
    out0_7 x g wk wv wf bf (ix2 l j) = projected (fun i => x (ix2 l i)) (fun i => g (ix2 0 i)) (fun i => wv (ix2 i j)) := by
  refine Eq.trans ?_ (value_at x g wv l j)
  unfold out0_7
  have z2 : ∀ b : Fin 2, (![0, 0] : Fin 2 → ℕ) b = 0 := by decide
  rw [show View.ld x r0_0 = x from View.ld_unit_lit _ x z2, show View.ld g r0_1 = g from View.ld_unit_lit _ g z2,
    show View.ld wv r0_2 = wv from View.ld_unit_lit _ wv z2]
  exact congrFun (View.canon_cons_unit_lit _ _ [] z2) _

theorem gates_at (l : Fin 512) (j : Fin 16) :
    out0_8 x g wk wv wf bf (ix2 l j)
      = logGate (projected (fun i => x (ix2 l i)) (fun i => g (ix2 0 i)) (fun i => wf (ix2 i ⟨j.val, by omega⟩)) + bf (ix2 0 ⟨j.val, by omega⟩)) := by
  refine Eq.trans ?_ (forget_at x g wf bf l j)
  unfold out0_8
  have z2 : ∀ b : Fin 2, (![0, 0] : Fin 2 → ℕ) b = 0 := by decide
  rw [show View.ld x r0_0 = x from View.ld_unit_lit _ x z2, show View.ld g r0_1 = g from View.ld_unit_lit _ g z2,
    show View.ld wf r0_3 = wf from View.ld_unit_lit _ wf z2, show View.ld bf r0_4 = bf from View.ld_unit_lit _ bf z2]
  exact congrFun (View.canon_cons_unit_lit _ _ [] z2) _

theorem keys_eq (c : Dev nD) : (dats m 0 c).arrAt 6 cfg0.N = fun y : S512x1024.Idx => keysOut m c (y 0) (y 1) := by
  refine (dats m 0 c).arrAt_eq_of_covers 6 _ ?_ fun t hf y => ?_
  · refine (cfg0.win 6).covers_of_indexMap_surj rfl ?_ fun β => ?_
    · exact (by decide : ∀ a : Fin 2, 0 < (![512, 1024] : Fin 2 → ℕ) a)
    · have b0 : (β (0 : Fin 2)).val < 1 := (β (0 : Fin 2)).isLt.trans_eq (by show (512 + 512 - 1) / 512 = 1; rfl)
      have b1 : (β (1 : Fin 2)).val < 1 := (β (1 : Fin 2)).isLt.trans_eq (by show (1024 + 1024 - 1) / 1024 = 1; rfl)
      refine ⟨(Fin.cons ⟨0, by decide⟩ finZeroElim : (a : Fin 1) → Fin (grid0.bound a)), fun a => ?_⟩
      match (a : Fin 2) with
      | ⟨0, _⟩ => exact (row_word _).trans (Nat.lt_one_iff.mp b0).symm
      | ⟨1, _⟩ => exact (Nat.lt_one_iff.mp b1).symm
  · obtain ⟨l, j, e⟩ : ∃ (l : Fin 512) (j : Fin 1024), y = ix2 l j := ⟨y 0, y 1, by funext a; match a with | ⟨0, _⟩ => rfl | ⟨1, _⟩ => rfl⟩
    subst e
    refine Eq.trans ?_ ((keys_at (iblk m c 0 t) (iblk m c 1 t) (iblk m c 2 t) (iblk m c 3 t) (iblk m c 4 t) (iblk m c 5 t) l j).trans ?_)
    · blk_simp
      rw [after0_6]
    · have e : (((cfg0.win 6).blk t).view.emb (ix2 l j)) = (ix2 l j : S512x1024.Idx) := funext fun a => Fin.ext (by
        match a with
        | ⟨0, _⟩ => blk_simp; show (BitVec.ofNat 32 ((grid0.coords t) 0).val).toNat * 512 + l.val = _; rw [row_word]; simp
        | ⟨1, _⟩ => blk_simp; show (0#32).toNat * 1024 + j.val = _; simp)
      simp only [stream_block, scales_block, key_block]
      exact (congrArg (fun y : S512x1024.Idx => keysOut m c (y 0) (y 1)) e).symm

theorem values_eq (c : Dev nD) : (dats m 0 c).arrAt 7 cfg0.N = fun y : S512x1024.Idx => valuesOut m c (y 0) (y 1) := by
  refine (dats m 0 c).arrAt_eq_of_covers 7 _ ?_ fun t hf y => ?_
  · refine (cfg0.win 7).covers_of_indexMap_surj rfl ?_ fun β => ?_
    · exact (by decide : ∀ a : Fin 2, 0 < (![512, 1024] : Fin 2 → ℕ) a)
    · have b0 : (β (0 : Fin 2)).val < 1 := (β (0 : Fin 2)).isLt.trans_eq (by show (512 + 512 - 1) / 512 = 1; rfl)
      have b1 : (β (1 : Fin 2)).val < 1 := (β (1 : Fin 2)).isLt.trans_eq (by show (1024 + 1024 - 1) / 1024 = 1; rfl)
      refine ⟨(Fin.cons ⟨0, by decide⟩ finZeroElim : (a : Fin 1) → Fin (grid0.bound a)), fun a => ?_⟩
      match (a : Fin 2) with
      | ⟨0, _⟩ => exact (row_word _).trans (Nat.lt_one_iff.mp b0).symm
      | ⟨1, _⟩ => exact (Nat.lt_one_iff.mp b1).symm
  · obtain ⟨l, j, e⟩ : ∃ (l : Fin 512) (j : Fin 1024), y = ix2 l j := ⟨y 0, y 1, by funext a; match a with | ⟨0, _⟩ => rfl | ⟨1, _⟩ => rfl⟩
    subst e
    refine Eq.trans ?_ ((values_at (iblk m c 0 t) (iblk m c 1 t) (iblk m c 2 t) (iblk m c 3 t) (iblk m c 4 t) (iblk m c 5 t) l j).trans ?_)
    · blk_simp
      rw [after0_7]
    · have e : (((cfg0.win 7).blk t).view.emb (ix2 l j)) = (ix2 l j : S512x1024.Idx) := funext fun a => Fin.ext (by
        match a with
        | ⟨0, _⟩ => blk_simp; show (BitVec.ofNat 32 ((grid0.coords t) 0).val).toNat * 512 + l.val = _; rw [row_word]; simp
        | ⟨1, _⟩ => blk_simp; show (0#32).toNat * 1024 + j.val = _; simp)
      simp only [stream_block, scales_block, value_block]
      exact (congrArg (fun y : S512x1024.Idx => valuesOut m c (y 0) (y 1)) e).symm

theorem gates_eq (c : Dev nD) : (dats m 0 c).arrAt 8 cfg0.N = fun y : S512x16.Idx => gatesOut m c (y 0) (y 1) := by
  refine (dats m 0 c).arrAt_eq_of_covers 8 _ ?_ fun t hf y => ?_
  · refine (cfg0.win 8).covers_of_indexMap_surj rfl ?_ fun β => ?_
    · exact (by decide : ∀ a : Fin 2, 0 < (![512, 16] : Fin 2 → ℕ) a)
    · have b0 : (β (0 : Fin 2)).val < 1 := (β (0 : Fin 2)).isLt.trans_eq (by show (512 + 512 - 1) / 512 = 1; rfl)
      have b1 : (β (1 : Fin 2)).val < 1 := (β (1 : Fin 2)).isLt.trans_eq (by show (16 + 16 - 1) / 16 = 1; rfl)
      refine ⟨(Fin.cons ⟨0, by decide⟩ finZeroElim : (a : Fin 1) → Fin (grid0.bound a)), fun a => ?_⟩
      match (a : Fin 2) with
      | ⟨0, _⟩ => exact (row_word _).trans (Nat.lt_one_iff.mp b0).symm
      | ⟨1, _⟩ => exact (Nat.lt_one_iff.mp b1).symm
  · obtain ⟨l, j, e⟩ : ∃ (l : Fin 512) (j : Fin 16), y = ix2 l j := ⟨y 0, y 1, by funext a; match a with | ⟨0, _⟩ => rfl | ⟨1, _⟩ => rfl⟩
    subst e
    refine Eq.trans ?_ ((gates_at (iblk m c 0 t) (iblk m c 1 t) (iblk m c 2 t) (iblk m c 3 t) (iblk m c 4 t) (iblk m c 5 t) l j).trans ?_)
    · blk_simp
      rw [after0_8]
    · have e : (((cfg0.win 8).blk t).view.emb (ix2 l j)) = (ix2 l j : S512x16.Idx) := funext fun a => Fin.ext (by
        match a with
        | ⟨0, _⟩ => blk_simp; show (BitVec.ofNat 32 ((grid0.coords t) 0).val).toNat * 512 + l.val = _; rw [row_word]; simp
        | ⟨1, _⟩ => blk_simp; show (0#32).toNat * 16 + j.val = _; simp)
      simp only [stream_block, scales_block, gate_block, bias_block]
      exact (congrArg (fun y : S512x16.Idx => gatesOut m c (y 0) (y 1)) e).symm

end Cert.Kernel3Ideal.Keys

end
-- ==== Proof.KeySoft.lean ====
/- The keys', values' and forget gates' reference, read at an index: the row's values. -/
module

public import proofs.«01_k».proof.Proof.Gen.Reference3Ideal.Run
public import proofs.«01_k».proof.Proof.KeyRow
public import Idealize.ShloMosaic.Lib.Pointwise

@[expose] public section

set_option maxRecDepth 16384

noncomputable section

namespace Cert.Reference3Ideal.Keys

open Cert.Reference3Ideal Cert.Reference3Ideal.Gen Idealize.ShloMosaic Idealize.ShloMosaic.TcCoe Idealize.SL.Sem Cert.Feed Cert.Keys

/-- The rows normed. -/
def norm (x : Vec Ideal S512x1024 .f32) (g : Vec Ideal S1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0
    (Host.reduceAdd (mulf x x) (constant S_ .f32 0x00000000#32) reducesTo_S512x1024_S512_d1 h_S_)) (broadcastInDim S512x1 ![] bcast_S_S512x1 (constant S_ .f32 0x44800000#32)))
    (broadcastInDim S512x1 ![] bcast_S_S512x1 (constant S_ .f32 0x358637BD#32))))))
    (broadcastInDim S512x1024 ![0, 1] bcast_S1x1024_S512x1024_0_1 (broadcastInDim S1x1024 ![1] bcast_S1024_S1x1024_1 g))

/-- Their keys, and their values. -/
def project (x : Vec Ideal S512x1024 .f32) (g : Vec Ideal S1024 .f32) (w : Vec Ideal S1024x1024 .f32) : FVec Ideal S512x1024 .f32 :=
  Host.dotGeneral dot_S512x1024_S1024x1024_S512x1024_1_0_0_1_n_n none (φ₁ := .f32) (φ₂ := .f32) (norm x g) w

/-- The forget gates before the logistic function. -/
def gate (x : Vec Ideal S512x1024 .f32) (g : Vec Ideal S1024 .f32) (wf : Vec Ideal S1024x16 .f32) (bf : Vec Ideal S16 .f32) : FVec Ideal S512x16 .f32 :=
  addf (Host.dotGeneral dot_S512x1024_S1024x16_S512x16_1_0_0_1_n_n none (φ₁ := .f32) (φ₂ := .f32) (norm x g) wf)
    (broadcastInDim S512x16 ![0, 1] bcast_S1x16_S512x16_0_1 (broadcastInDim S1x16 ![1] bcast_S16_S1x16_1 bf))

/-- The zero array. -/
def zeros : FVec Ideal S512x16 .f32 := broadcastInDim S512x16 ![] bcast_S_S512x16 (constant S_ .f32 0x00000000#32)

/-- The logarithm of the logistic function. -/
def forget (z : FVec Ideal S512x16 .f32) : FVec Ideal S512x16 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

theorem res_eq (m : (ℓ : Loc nD τ sig) → Buf (Elt Ideal) ℓ) (c : Dev nD) :
    Cert.Reference3Ideal.Value.res_out2 m c
      = forget (gate (m ((c.tc : Thread nD τ).loc main_arg0)) (m ((c.tc : Thread nD τ).loc main_arg1)) (m ((c.tc : Thread nD τ).loc main_arg4))
          (m ((c.tc : Thread nD τ).loc main_arg5))) := rfl

variable (x : Vec Ideal S512x1024 .f32) (g : Vec Ideal S1024 .f32) (w : Vec Ideal S1024x1024 .f32) (wf : Vec Ideal S1024x16 .f32) (bf : Vec Ideal S16 .f32)

theorem norm_at (l : Fin 512) (j : Fin 1024) : norm x g (ix2 l j) = normed (fun i => x (ix2 l i)) (fun i => g (ix1 i)) j := by
  unfold norm normed
  pointwise

theorem project_at (l : Fin 512) (j : Fin 1024) :
    project x g w (ix2 l j) = projected (fun i => x (ix2 l i)) (fun i => g (ix1 i)) (fun i => w (ix2 i j)) := by
  unfold projected
  simp only [← norm_at]
  unfold project
  pointwise

theorem gate_at (l : Fin 512) (j : Fin 16) :
    gate x g wf bf (ix2 l j) = projected (fun i => x (ix2 l i)) (fun i => g (ix1 i)) (fun i => wf (ix2 i j)) + bf (ix1 j) := by
  unfold projected
  simp only [← norm_at]
  unfold gate
  pointwise

theorem forget_at (z : FVec Ideal S512x16 .f32) (l : Fin 512) (j : Fin 16) : forget z (ix2 l j) = logGate (z (ix2 l j)) := by
  rw [← softplus_eq]
  unfold forget zeros
  pointwise
  rw [if_neg (not_not.mpr rfl)]

end Cert.Reference3Ideal.Keys

end
-- ==== Proof.MixRow.lean ====
/- One row of the short convolution's kernel, over the extended reals. -/
module

public import proofs.«01_k».proof.Proof.KeyRow

@[expose] public section

noncomputable section

namespace Cert.Mix

open Idealize.ShloMosaic Cert.Feed Cert.Keys

/-- The gate of the convolution's result. -/
def gate (x g : Fin 1024 → EReal) (w : Fin 1024 → Fin 3072 → EReal) (j : Fin 1024) : EReal := projected x g (fun i => w i ⟨j.val, by omega⟩)

/-- The convolution's input: a gate times a value. -/
def input (x g : Fin 1024 → EReal) (w : Fin 1024 → Fin 3072 → EReal) (j : Fin 1024) : EReal :=
  projected x g (fun i => w i ⟨1024 + j.val, by omega⟩) * projected x g (fun i => w i ⟨2048 + j.val, by omega⟩)

/-- The stream's row with the gated convolution's projection added. -/
def mixed (x b u2 u1 u : Fin 1024 → EReal) (cw : Fin 3 → Fin 1024 → EReal) (wo : Fin 1024 → Fin 1024 → EReal) (j : Fin 1024) : EReal :=
  x j + ∑ i, b i * (cw 0 i * u2 i + cw 1 i * u1 i + cw 2 i * u i) * wo i j

/-- The row `k` rows before row `R`, zero before the first. -/
def past (u : Fin 16384 → Fin 1024 → EReal) (k : ℕ) (R : Fin 16384) (j : Fin 1024) : EReal :=
  if h : k ≤ R.val then u ⟨R.val - k, by omega⟩ j else 0

end Cert.Mix

end
-- ==== Proof.MixBlock.lean ====
/- The short convolution's kernel at one grid point, row by row. -/
module

public import proofs.«01_k».proof.Proof.Gen.Kernel4Ideal.Frame
public import proofs.«01_k».proof.Proof.MixRow
public import Idealize.ShloMosaic.Lib.Pointwise

@[expose] public section

set_option maxRecDepth 16384

noncomputable section

namespace Cert.Kernel4Ideal.Mix

open Cert.Kernel4Ideal Cert.Kernel4Ideal.Gen Idealize.ShloMosaic Idealize.ShloMosaic.TcCoe Cert.Feed Cert.Keys Cert.Mix

variable (x : Vec Ideal S512x1024 .f32) (g : Vec Ideal S1x1024 .f32) (w : Vec Ideal S1x1024x3072 .bf16) (cw : Vec Ideal S1x3x1024 .f32)
  (wo : Vec Ideal S1x1024x1024 .bf16)

/-- The rows normed. -/
def norm : FVec Ideal S512x1024 .bf16 :=
  truncf .bf16 (mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

/-- Their product with the three weight matrices. -/
def thrice : FVec Ideal S512x3072 .f32 :=
  matmul dot_S512x1024_S1024x3072_S512x3072_1_0_0_1_n_n none (φ₁ := .bf16) (φ₂ := .bf16) (norm x g)
    (shapeCast S1024x3072 w shapeCasts_S1x1024x3072_S1024x3072) (constant S512x3072 .f32 0x00000000#32)

theorem pay_eq : k0_pay4 x g w = thrice x g w := rfl

theorem norm_at (l : Fin 512) (j : Fin 1024) : norm x g (ix2 l j) = normed (fun i => x (ix2 l i)) (fun i => g (ix2 0 i)) j := by
  unfold norm normed
  pointwise

theorem thrice_at (l : Fin 512) (j : Fin 3072) :
    thrice x g w (ix2 l j) = projected (fun i => x (ix2 l i)) (fun i => g (ix2 0 i)) (fun i => w (ix3 0 i j)) := by
  unfold projected
  simp only [← norm_at]
  unfold thrice
  pointwise

theorem gate_at (l : Fin 512) (j : Fin 1024) :
    k0_pay5 x g w (ix2 l j) = gate (fun i => x (ix2 l i)) (fun i => g (ix2 0 i)) (fun i j => w (ix3 0 i j)) j := by
  unfold gate
  rw [← thrice_at, ← pay_eq]
  unfold k0_pay5
  pointwise

theorem input_at (l : Fin 512) (j : Fin 1024) :
    k0_pay6 x g w (ix2 l j) = input (fun i => x (ix2 l i)) (fun i => g (ix2 0 i)) (fun i j => w (ix3 0 i j)) j := by
  unfold input
  rw [← thrice_at, ← thrice_at, ← pay_eq]
  unfold k0_pay6
  pointwise

theorem stored_eq : k0_pay7 x g w = k0_pay6 x g w := by
  unfold k0_pay7
  exact shapeCast_self _ _

theorem tail_eq (t : Vec Ideal S8x1024 .f32) : k0_pay1 t = t := by
  unfold k0_pay1
  exact shapeCast_self _ _

theorem zeros_at (l : Fin 8) (j : Fin 1024) : k0_pay3 (F := Ideal) (ix2 l j) = 0 := by
  unfold k0_pay3
  pointwise

theorem mixed_at (b u u1 u2 : Vec Ideal S512x1024 .f32) (l : Fin 512) (j : Fin 1024) :
    k0_pay2 x b u u1 u2 cw wo (ix2 l j)
      = mixed (fun i => x (ix2 l i)) (fun i => b (ix2 l i)) (fun i => u2 (ix2 l i)) (fun i => u1 (ix2 l i)) (fun i => u (ix2 l i))
          (fun k i => cw (ix3 0 k i)) (fun i j => wo (ix3 0 i j)) j := by
  unfold k0_pay2 mixed
  pointwise

end Cert.Kernel4Ideal.Mix

end
-- ==== Proof.MixPoint.lean ====
/- What one grid point of the short convolution's kernel leaves in its two blocks and in its scratch rows:
   the first point starts from zero rows, a later one from the rows that the point before left. -/
module

public import proofs.«01_k».proof.Proof.MixBlock
public import Idealize.ShloMosaic.Lib.WritesUnit
public import Idealize.ShloMosaic.Lib.Pipeline.ValueKit

@[expose] public section

set_option maxRecDepth 16384

noncomputable section

namespace Cert.Kernel4Ideal.Mix

open Cert.Kernel4Ideal Cert.Kernel4Ideal.Gen Idealize.ShloMosaic Idealize.ShloMosaic.TcCoe Cert.Feed Cert.Keys Cert.Mix

/-- A load of a whole buffer. -/
theorem load_whole {S : Shape} {e : EltTy} (a : Memref sig .tc .vmem S e) (h : a.IsWhole) (y : Vec Ideal S e) {off : Fin S.rank → ℕ}
    (inb : ∀ d, off d + S.size d ≤ S.size d) (h0 : ∀ d, off d = 0) :
    a.view.readAt (Elt Ideal) (Rect.unit off S.size inb).toLoadRect (h.unread y) = y :=
  funext fun z => (congrFun (h.read_unread y) _).trans (congrFun (View.ld_unit_lit inb y h0) z)

section
variable (v : View sig .tc .vmem S520x1024 .f32) (f : v.ty.Contents (Elt Ideal)) (L : List (View.Piece (Elt Ideal) S520x1024 .f32))
  (u : Vec Ideal S512x1024 .f32)

/-- Rows read `k` rows above the stored ones: the stored rows, and before them what the scratch held. -/
theorem shifted (o k : ℕ) (hk : o + k = 8) {inb : ∀ a : Fin 2, (![o, 0] : Fin 2 → ℕ) a + (![512, 1024] : Fin 2 → ℕ) a ≤ S520x1024.size a}
    {inb8 : ∀ a : Fin 2, (![8, 0] : Fin 2 → ℕ) a + (![512, 1024] : Fin 2 → ℕ) a ≤ S520x1024.size a} (l : Fin 512) (j : Fin 1024) :
    v.readAt (Elt Ideal) (Rect.unit (s := S520x1024) ![o, 0] ![512, 1024] inb).toLoadRect
        (v.writes (Elt Ideal) f (⟨Rect.unit (s := S520x1024) ![8, 0] ![512, 1024] inb8, u⟩ :: L)) (ix2 l j)
      = if h : k ≤ l.val then u (ix2 ⟨l.val - k, by omega⟩ j)
        else v.read (Elt Ideal) (v.writes (Elt Ideal) f L) (ix2 ⟨o + l.val, by omega⟩ j) := by
  have e : (Rect.unit (s := S520x1024) ![o, 0] ![512, 1024] inb).toLoadRect.idx (ix2 l j) = ix2 ⟨o + l.val, by omega⟩ j :=
    funext fun a => Fin.ext (by
      match a with
      | ⟨0, _⟩ => show o + 1 * l.val = o + l.val; omega
      | ⟨1, _⟩ => show 0 + 1 * j.val = j.val; omega)
  rw [View.readAt_apply, e]
  by_cases h : k ≤ l.val
  · rw [dif_pos h]
    refine View.read_writes_cons_rows_of_mem v f inb8 u L _ (ix2 ⟨l.val - k, by omega⟩ j) rfl ?_ ?_
    · show o + l.val = 8 + (l.val - k); omega
    · rfl
  · rw [dif_neg h]
    refine View.read_writes_cons_rows_of_not_mem v f inb8 u L _ rfl rfl (Or.inl ?_)
    show o + l.val < 8; omega

/-- The last eight stored rows. -/
theorem last_rows {inb : ∀ a : Fin 2, (![512, 0] : Fin 2 → ℕ) a + (![8, 1024] : Fin 2 → ℕ) a ≤ S520x1024.size a}
    {inb8 : ∀ a : Fin 2, (![8, 0] : Fin 2 → ℕ) a + (![512, 1024] : Fin 2 → ℕ) a ≤ S520x1024.size a} (l : Fin 8) (j : Fin 1024) :
    v.readAt (Elt Ideal) (Rect.unit (s := S520x1024) ![512, 0] ![8, 1024] inb).toLoadRect
        (v.writes (Elt Ideal) f (⟨Rect.unit (s := S520x1024) ![8, 0] ![512, 1024] inb8, u⟩ :: L)) (ix2 l j)
      = u (ix2 ⟨504 + l.val, by omega⟩ j) := by
  have e : (Rect.unit (s := S520x1024) ![512, 0] ![8, 1024] inb).toLoadRect.idx (ix2 l j) = ix2 ⟨512 + l.val, by omega⟩ j :=
    funext fun a => Fin.ext (by
      match a with
      | ⟨0, _⟩ => show 512 + 1 * l.val = 512 + l.val; omega
      | ⟨1, _⟩ => show 0 + 1 * j.val = j.val; omega)
  rw [View.readAt_apply, e]
  refine View.read_writes_cons_rows_of_mem v f inb8 u L _ (ix2 ⟨504 + l.val, by omega⟩ j) rfl ?_ ?_
  · show 512 + l.val = 8 + (504 + l.val); omega
  · rfl

/-- The first eight rows, stored last. -/
theorem first_rows (p : Vec Ideal S8x1024 .f32) {inb : ∀ a : Fin 2, (![0, 0] : Fin 2 → ℕ) a + (![8, 1024] : Fin 2 → ℕ) a ≤ S520x1024.size a}
    (l : Fin 8) (j : Fin 1024) :
    v.read (Elt Ideal) (v.writes (Elt Ideal) f (⟨Rect.unit (s := S520x1024) ![0, 0] ![8, 1024] inb, p⟩ :: L)) (ix2 ⟨l.val, by omega⟩ j)
      = p (ix2 l j) :=
  View.read_writes_cons_rows_of_mem v f inb p L _ (ix2 l j) rfl (by show l.val = 0 + l.val; omega) rfl

end

/-- The convolution's input in a block. -/
def inputs (x : Vec Ideal S512x1024 .f32) (g : Vec Ideal S1x1024 .f32) (w : Vec Ideal S1x1024x3072 .bf16) (l : Fin 512) (j : Fin 1024) : EReal :=
  input (fun i => x (ix2 l i)) (fun i => g (ix2 0 i)) (fun i j => w (ix3 0 i j)) j

/-- The rows `k` above, from `p` before the first. -/
def above (u : Fin 512 → Fin 1024 → EReal) (p : ℕ → Fin 1024 → EReal) (k : ℕ) (l : Fin 512) (j : Fin 1024) : EReal :=
  if h : k ≤ l.val then u ⟨l.val - k, by omega⟩ j else p (8 + l.val - k) j

/-- The block's rows, with `p` before them. -/
def pointOut (x : Vec Ideal S512x1024 .f32) (g : Vec Ideal S1x1024 .f32) (w : Vec Ideal S1x1024x3072 .bf16) (cw : Vec Ideal S1x3x1024 .f32)
    (wo : Vec Ideal S1x1024x1024 .bf16) (p : ℕ → Fin 1024 → EReal) (l : Fin 512) (j : Fin 1024) : EReal :=
  mixed (fun i => x (ix2 l i)) (gate (fun i => x (ix2 l i)) (fun i => g (ix2 0 i)) (fun i j => w (ix3 0 i j)))
    (above (inputs x g w) p 2 l) (above (inputs x g w) p 1 l) (inputs x g w l) (fun k i => cw (ix3 0 k i)) (fun i j => wo (ix3 0 i j)) j

theorem z2 : ∀ b : Fin 2, (![0, 0] : Fin 2 → ℕ) b = 0 := by decide
theorem z3 : ∀ b : Fin 3, (![0, 0, 0] : Fin 3 → ℕ) b = 0 := by decide

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1x1024x3072 .bf16) (harg3 : arg3.IsWhole)
  (arg4 : Memref sig .tc .vmem S1x3x1024 .f32) (harg4 : arg4.IsWhole)
  (arg5 : Memref sig .tc .vmem S1x1024x1024 .bf16) (harg5 : arg5.IsWhole)
  (arg6 : Memref sig .tc .vmem S512x1024 .f32) (harg6 : arg6.IsWhole)
  (arg7 : Memref sig .tc .vmem S8x1024 .f32) (harg7 : arg7.IsWhole)
  (arg8 : Memref sig .tc .vmem S520x1024 .f32) (harg8 : arg8.IsWhole)
  (x : Vec Ideal S512x1024 .f32) (g : Vec Ideal S1x1024 .f32) (w : Vec Ideal S1x1024x3072 .bf16) (cw : Vec Ideal S1x3x1024 .f32)
  (wo : Vec Ideal S1x1024x1024 .bf16)

theorem point_at (p : ℕ → Fin 1024 → EReal) (u1 u2 : Vec Ideal S512x1024 .f32) (h1 : ∀ l j, u1 (ix2 l j) = above (inputs x g w) p 1 l j)
    (h2 : ∀ l j, u2 (ix2 l j) = above (inputs x g w) p 2 l j) (l : Fin 512) (j : Fin 1024) :
    k0_pay2 x (k0_pay5 x g w) (k0_pay6 x g w) u1 u2 cw wo (ix2 l j) = pointOut x g w cw wo p l j := by
  rw [mixed_at]
  simp only [h1, h2, gate_at, input_at]
  rfl

theorem stream_A : kernelRun0_A.sl.r (F := Ideal) c arg1 harg1 x = x := (load_whole arg1 harg1 x inb_S512x1024_S512x1024_0_0 z2)

theorem gate_A : kernelRun0_A.sl.r_1 (F := Ideal) c arg1 harg1 arg2 harg2 arg3 harg3 x g w = k0_pay5 x g w := by
  unfold kernelRun0_A.sl.r_1
  rw [load_whole arg1 harg1 x inb_S512x1024_S512x1024_0_0 z2, load_whole arg2 harg2 g inb_S1x1024_S1x1024_0_0 z2, load_whole arg3 harg3 w inb_S1x1024x3072_S1x1024x3072_0_0_0 z3]

theorem input_A : kernelRun0_A.sl.r_2 (F := Ideal) c arg1 harg1 arg2 harg2 arg3 harg3 x g w = k0_pay6 x g w := by
  unfold kernelRun0_A.sl.r_2
  rw [load_whole arg1 harg1 x inb_S512x1024_S512x1024_0_0 z2, load_whole arg2 harg2 g inb_S1x1024_S1x1024_0_0 z2, load_whole arg3 harg3 w inb_S1x1024x3072_S1x1024x3072_0_0_0 z3]

theorem stored_A : k0_pay7 (F := Ideal) (kernelRun0_A.sl.r c arg1 harg1 x)
      (arg2.view.readAt (Elt Ideal) (Rect.unit ![0, 0] S1x1024.size inb_S1x1024_S1x1024_0_0).toLoadRect (harg2.unread g))
      (arg3.view.readAt (Elt Ideal) (Rect.unit ![0, 0, 0] S1x1024x3072.size inb_S1x1024x3072_S1x1024x3072_0_0_0).toLoadRect (harg3.unread w)) = k0_pay6 x g w :=
  (congr (congrArg₂ (fun a b => k0_pay7 (F := Ideal) a b) (load_whole arg1 harg1 x inb_S512x1024_S512x1024_0_0 z2) (load_whole arg2 harg2 g inb_S1x1024_S1x1024_0_0 z2)) (load_whole arg3 harg3 w inb_S1x1024x3072_S1x1024x3072_0_0_0 z3)).trans (stored_eq x g w)

theorem one_A (l : Fin 512) (j : Fin 1024) :
    (kernelRun0_A.sl.v29 c arg1 harg1 arg2 harg2 arg3 harg3 arg8 x g w) (ix2 l j) = above (inputs x g w) (fun _ _ => 0) 1 l j := by
  refine (shifted arg8.view arg8.view.junk _ _ 7 1 rfl l j).trans ?_
  unfold above
  by_cases h : 1 ≤ l.val
  · rw [dif_pos h, dif_pos h]
    exact (congrFun (stored_A c arg1 harg1 arg2 harg2 arg3 harg3 x g w) _).trans (input_at x g w _ j)
  · rw [dif_neg h, dif_neg h]
    exact (first_rows arg8.view _ _ _ (inb := inb_S520x1024_S8x1024_0_0) ⟨7 + l.val, by omega⟩ j).trans (zeros_at _ j)

theorem two_A (l : Fin 512) (j : Fin 1024) :
    (kernelRun0_A.sl.v30 c arg1 harg1 arg2 harg2 arg3 harg3 arg8 x g w) (ix2 l j) = above (inputs x g w) (fun _ _ => 0) 2 l j := by
  refine (shifted arg8.view arg8.view.junk _ _ 6 2 rfl l j).trans ?_
  unfold above
  by_cases h : 2 ≤ l.val
  · rw [dif_pos h, dif_pos h]
    exact (congrFun (stored_A c arg1 harg1 arg2 harg2 arg3 harg3 x g w) _).trans (input_at x g w _ j)
  · rw [dif_neg h, dif_neg h]
    exact (first_rows arg8.view _ _ _ (inb := inb_S520x1024_S8x1024_0_0) ⟨6 + l.val, by omega⟩ j).trans (zeros_at _ j)

theorem out_A (hc0 : cond0_0 i) (l : Fin 512) (j : Fin 1024) :
    out0_A_5 (F := Ideal) c i arg1 harg1 arg2 harg2 arg3 harg3 arg4 harg4 arg5 harg5 arg6 harg6 arg7 harg7 arg8 harg8 hc0 x g w cw wo (ix2 l j) = pointOut x g w cw wo (fun _ _ => 0) l j := by
  refine Eq.trans ?_ (point_at x g w cw wo (fun _ _ => 0) (kernelRun0_A.sl.v29 c arg1 harg1 arg2 harg2 arg3 harg3 arg8 x g w) (kernelRun0_A.sl.v30 c arg1 harg1 arg2 harg2 arg3 harg3 arg8 x g w)
    (one_A c arg1 harg1 arg2 harg2 arg3 harg3 arg8 x g w) (two_A c arg1 harg1 arg2 harg2 arg3 harg3 arg8 x g w) l j)
  unfold out0_A_5 kernelRun0_A
  dsimp only
  refine (View.read_writes_cons_rows_of_mem VO0_5 _ _ _ [] _ (ix2 l j) rfl (by show l.val = 0 + l.val; omega) rfl).trans ?_
  rw [stream_A, gate_A, input_A]
  exact congrFun (congrArg₂ (fun a b => k0_pay2 (F := Ideal) x (k0_pay5 x g w) (k0_pay6 x g w) (kernelRun0_A.sl.v29 c arg1 harg1 arg2 harg2 arg3 harg3 arg8 x g w) (kernelRun0_A.sl.v30 c arg1 harg1 arg2 harg2 arg3 harg3 arg8 x g w) a b)
    (load_whole arg4 harg4 cw inb_S1x3x1024_S1x3x1024_0_0_0 z3) (load_whole arg5 harg5 wo inb_S1x1024x1024_S1x1024x1024_0_0_0 z3)) _

theorem last_A (l : Fin 8) (j : Fin 1024) :
    (kernelRun0_A.sl.v31 (F := Ideal) c arg1 harg1 arg2 harg2 arg3 harg3 arg8 x g w) (ix2 l j) = inputs x g w ⟨504 + l.val, by omega⟩ j :=
  (last_rows arg8.view _ _ _ l j).trans ((congrFun (stored_A c arg1 harg1 arg2 harg2 arg3 harg3 x g w) _).trans (input_at x g w _ j))

theorem tail_A (hc0 : cond0_0 i) (l : Fin 8) (j : Fin 1024) :
    out0_A_6 (F := Ideal) c i arg1 harg1 arg2 harg2 arg3 harg3 arg4 harg4 arg5 harg5 arg6 harg6 arg7 harg7 arg8 harg8 hc0 x g w cw wo (ix2 l j) = inputs x g w ⟨504 + l.val, by omega⟩ j := by
  refine Eq.trans ?_ (last_A c arg1 harg1 arg2 harg2 arg3 harg3 arg8 x g w l j)
  unfold out0_A_6 kernelRun0_A
  dsimp only
  exact View.read_writes_cons_rows_of_mem VO0_6 _ _ _ [] _ (ix2 l j) rfl (by show l.val = 0 + l.val; omega) rfl

theorem carried_A (hc0 : cond0_0 i) (l : Fin 8) (j : Fin 1024) :
    sout0_A_0 (F := Ideal) c i arg1 harg1 arg2 harg2 arg3 harg3 arg4 harg4 arg5 harg5 arg6 harg6 arg7 harg7 arg8 harg8 hc0 x g w cw wo (ix2 ⟨l.val, by omega⟩ j) = inputs x g w ⟨504 + l.val, by omega⟩ j := by
  refine Eq.trans ?_ (last_A c arg1 harg1 arg2 harg2 arg3 harg3 arg8 x g w l j)
  unfold sout0_A_0 kernelRun0_A
  dsimp only
  refine (first_rows VS0_0 _ _ _ l j).trans ?_
  rw [tail_eq]

theorem stream_B : kernelRun0_B.sl.r (F := Ideal) c arg1 harg1 x = x := (load_whole arg1 harg1 x inb_S512x1024_S512x1024_0_0 z2)

theorem gate_B : kernelRun0_B.sl.r_1 (F := Ideal) c arg1 harg1 arg2 harg2 arg3 harg3 x g w = k0_pay5 x g w := by
  unfold kernelRun0_B.sl.r_1
  rw [load_whole arg1 harg1 x inb_S512x1024_S512x1024_0_0 z2, load_whole arg2 harg2 g inb_S1x1024_S1x1024_0_0 z2, load_whole arg3 harg3 w inb_S1x1024x3072_S1x1024x3072_0_0_0 z3]

theorem input_B : kernelRun0_B.sl.r_2 (F := Ideal) c arg1 harg1 arg2 harg2 arg3 harg3 x g w = k0_pay6 x g w := by
  unfold kernelRun0_B.sl.r_2
  rw [load_whole arg1 harg1 x inb_S512x1024_S512x1024_0_0 z2, load_whole arg2 harg2 g inb_S1x1024_S1x1024_0_0 z2, load_whole arg3 harg3 w inb_S1x1024x3072_S1x1024x3072_0_0_0 z3]

theorem stored_B : k0_pay7 (F := Ideal) (kernelRun0_B.sl.r c arg1 harg1 x)
      (arg2.view.readAt (Elt Ideal) (Rect.unit ![0, 0] S1x1024.size inb_S1x1024_S1x1024_0_0).toLoadRect (harg2.unread g))
      (arg3.view.readAt (Elt Ideal) (Rect.unit ![0, 0, 0] S1x1024x3072.size inb_S1x1024x3072_S1x1024x3072_0_0_0).toLoadRect (harg3.unread w)) = k0_pay6 x g w :=
  (congr (congrArg₂ (fun a b => k0_pay7 (F := Ideal) a b) (load_whole arg1 harg1 x inb_S512x1024_S512x1024_0_0 z2) (load_whole arg2 harg2 g inb_S1x1024_S1x1024_0_0 z2)) (load_whole arg3 harg3 w inb_S1x1024x3072_S1x1024x3072_0_0_0 z3)).trans (stored_eq x g w)

theorem one_B (xs : Vec Ideal S520x1024 .f32) (l : Fin 512) (j : Fin 1024) :
    (kernelRun0_B.sl.r_3 c arg1 harg1 arg2 harg2 arg3 harg3 arg8 harg8 x g w xs) (ix2 l j) = above (inputs x g w) (fun n j => if h : n < 8 then xs (ix2 ⟨n, by omega⟩ j) else 0) 1 l j := by
  refine (shifted arg8.view (harg8.unread xs) _ _ 7 1 rfl l j).trans ?_
  unfold above
  by_cases h : 1 ≤ l.val
  · rw [dif_pos h, dif_pos h]
    exact (congrFun (stored_B c arg1 harg1 arg2 harg2 arg3 harg3 x g w) _).trans (input_at x g w _ j)
  · rw [dif_neg h, dif_neg h]
    refine Eq.trans ?_ (dif_pos (show 8 + l.val - 1 < 8 by omega)).symm
    refine (congrFun (harg8.read_unread xs) _).trans (congrArg xs ?_)
    refine congrArg (fun r => ix2 r j) (Fin.ext ?_)
    show 7 + l.val = 8 + l.val - 1
    omega

theorem two_B (xs : Vec Ideal S520x1024 .f32) (l : Fin 512) (j : Fin 1024) :
    (kernelRun0_B.sl.r_4 c arg1 harg1 arg2 harg2 arg3 harg3 arg8 harg8 x g w xs) (ix2 l j) = above (inputs x g w) (fun n j => if h : n < 8 then xs (ix2 ⟨n, by omega⟩ j) else 0) 2 l j := by
  refine (shifted arg8.view (harg8.unread xs) _ _ 6 2 rfl l j).trans ?_
  unfold above
  by_cases h : 2 ≤ l.val
  · rw [dif_pos h, dif_pos h]
    exact (congrFun (stored_B c arg1 harg1 arg2 harg2 arg3 harg3 x g w) _).trans (input_at x g w _ j)
  · rw [dif_neg h, dif_neg h]
    refine Eq.trans ?_ (dif_pos (show 8 + l.val - 2 < 8 by omega)).symm
    refine (congrFun (harg8.read_unread xs) _).trans (congrArg xs ?_)
    refine congrArg (fun r => ix2 r j) (Fin.ext ?_)
    show 6 + l.val = 8 + l.val - 2
    omega

theorem out_B (hc0 : ¬cond0_0 i) (xs : Vec Ideal S520x1024 .f32) (l : Fin 512) (j : Fin 1024) :
    out0_B_5 (F := Ideal) c i arg1 harg1 arg2 harg2 arg3 harg3 arg4 harg4 arg5 harg5 arg6 harg6 arg7 harg7 arg8 harg8 hc0 x g w cw wo xs (ix2 l j) = pointOut x g w cw wo (fun n j => if h : n < 8 then xs (ix2 ⟨n, by omega⟩ j) else 0) l j := by
  refine Eq.trans ?_ (point_at x g w cw wo (fun n j => if h : n < 8 then xs (ix2 ⟨n, by omega⟩ j) else 0) (kernelRun0_B.sl.r_3 c arg1 harg1 arg2 harg2 arg3 harg3 arg8 harg8 x g w xs) (kernelRun0_B.sl.r_4 c arg1 harg1 arg2 harg2 arg3 harg3 arg8 harg8 x g w xs)
    (one_B c arg1 harg1 arg2 harg2 arg3 harg3 arg8 harg8 x g w xs) (two_B c arg1 harg1 arg2 harg2 arg3 harg3 arg8 harg8 x g w xs) l j)
  unfold out0_B_5 kernelRun0_B
  dsimp only
  refine (View.read_writes_cons_rows_of_mem VO0_5 _ _ _ [] _ (ix2 l j) rfl (by show l.val = 0 + l.val; omega) rfl).trans ?_
  rw [stream_B, gate_B, input_B]
  exact congrFun (congrArg₂ (fun a b => k0_pay2 (F := Ideal) x (k0_pay5 x g w) (k0_pay6 x g w) (kernelRun0_B.sl.r_3 c arg1 harg1 arg2 harg2 arg3 harg3 arg8 harg8 x g w xs) (kernelRun0_B.sl.r_4 c arg1 harg1 arg2 harg2 arg3 harg3 arg8 harg8 x g w xs) a b)
    (load_whole arg4 harg4 cw inb_S1x3x1024_S1x3x1024_0_0_0 z3) (load_whole arg5 harg5 wo inb_S1x1024x1024_S1x1024x1024_0_0_0 z3)) _

theorem last_B (l : Fin 8) (j : Fin 1024) :
    (kernelRun0_B.sl.v31 (F := Ideal) c arg1 harg1 arg2 harg2 arg3 harg3 arg8 x g w) (ix2 l j) = inputs x g w ⟨504 + l.val, by omega⟩ j :=
  (last_rows arg8.view _ _ _ l j).trans ((congrFun (stored_B c arg1 harg1 arg2 harg2 arg3 harg3 x g w) _).trans (input_at x g w _ j))

theorem tail_B (hc0 : ¬cond0_0 i) (xs : Vec Ideal S520x1024 .f32) (l : Fin 8) (j : Fin 1024) :
    out0_B_6 (F := Ideal) c i arg1 harg1 arg2 harg2 arg3 harg3 arg4 harg4 arg5 harg5 arg6 harg6 arg7 harg7 arg8 harg8 hc0 x g w cw wo xs (ix2 l j) = inputs x g w ⟨504 + l.val, by omega⟩ j := by
  refine Eq.trans ?_ (last_B c arg1 harg1 arg2 harg2 arg3 harg3 arg8 x g w l j)
  unfold out0_B_6 kernelRun0_B
  dsimp only
  exact View.read_writes_cons_rows_of_mem VO0_6 _ _ _ [] _ (ix2 l j) rfl (by show l.val = 0 + l.val; omega) rfl

theorem carried_B (hc0 : ¬cond0_0 i) (xs : Vec Ideal S520x1024 .f32) (l : Fin 8) (j : Fin 1024) :
    sout0_B_0 (F := Ideal) c i arg1 harg1 arg2 harg2 arg3 harg3 arg4 harg4 arg5 harg5 arg6 harg6 arg7 harg7 arg8 harg8 hc0 x g w cw wo xs (ix2 ⟨l.val, by omega⟩ j) = inputs x g w ⟨504 + l.val, by omega⟩ j := by
  refine Eq.trans ?_ (last_B c arg1 harg1 arg2 harg2 arg3 harg3 arg8 x g w l j)
  unfold sout0_B_0 kernelRun0_B
  dsimp only
  refine (first_rows VS0_0 _ _ _ l j).trans ?_
  rw [tail_eq]

end Cert.Kernel4Ideal.Mix

end
-- ==== Proof.MixOut.lean ====
/- The short convolution's two arrays after the kernel's run: the rows carried from one grid point to the next, each
   grid point's blocks, and the wholes. -/
module

public import proofs.«01_k».proof.Proof.MixPoint
public import Idealize.ShloMosaic.Lib.Claim
public import Idealize.ShloMosaic.Lib.Pipeline.Covers

@[expose] public section

set_option maxRecDepth 16384

noncomputable section

namespace Cert.Kernel4Ideal.Mix

open Cert.Kernel4Ideal Cert.Kernel4Ideal.Gen Idealize.ShloMosaic Idealize.ShloMosaic.TcCoe Cert.Feed Cert.Keys Cert.Mix

variable (m : (ℓ : Loc nD τ sig) → Buf (Elt Ideal) ℓ)

/-- The grid coordinate, the block of rows. -/
theorem row_word (i : grid0.Coords) : (BitVec.ofNat 32 (i 0).val).toNat = (i 0).val := by
  have h : (i 0).val < 32 := (i 0).isLt
  rw [BitVec.toNat_ofNat, Nat.mod_eq_of_lt (lt_of_lt_of_le h (by decide))]

theorem point_lt (t : Fin cfg0.N) : t.val < 32 := Nat.lt_of_lt_of_eq t.isLt N_0

theorem point_coord (t : Fin cfg0.N) : (grid0.coords t 0).val = t.val := by
  have h : (grid0.coords t 0).val = t.val / 1 % 32 := Pipeline.Grid.coords_val t 0 (by decide) rfl
  have := point_lt t
  omega

/-- A grid point's row of the array. -/
def rowOf (t : Fin cfg0.N) (l : Fin 512) : Fin 16384 := ⟨512 * t.val + l.val, by have h := point_lt t; omega⟩

theorem stream_block (c : Dev nD) (t : Fin cfg0.N) (l : Fin 512) (j : Fin 1024) :
    iblk m c 0 t (ix2 l j) = m ((c : Thread nD τ).loc main_arg0) (ix2 (rowOf t l) j) := by
  unfold iblk
  show (V m c main_arg0) ((((cfg0.win 0).blk t).view.emb (ix2 l j))) = _
  rw [V_main_arg0]
  refine congrArg (m ((c : Thread nD τ).loc main_arg0)) (funext fun a => Fin.ext ?_)
  match a with
  | ⟨0, _⟩ =>
    blk_simp
    show (BitVec.ofNat 32 ((grid0.coords t) 0).val).toNat * 512 + l.val = _
    rw [row_word, point_coord, Nat.mul_comm]
    rfl
  | ⟨1, _⟩ =>
    blk_simp
    show (0#32).toNat * 1024 + j.val = _
    simp

theorem scales_block (c : Dev nD) (t : Fin cfg0.N) (j : Fin 1024) :
    iblk m c 1 t (ix2 0 j) = m ((c : Thread nD τ).loc main_arg1) (ix2 0 j) := by
  unfold iblk
  show (V m c main_v2) ((((cfg0.win 1).blk t).view.emb (ix2 0 j))) = _
  rw [show (((cfg0.win 1).blk t).view.emb (ix2 0 j)) = ix2 0 j from funext fun a => Fin.ext (by
    match a with
    | ⟨0, _⟩ => rfl
    | ⟨1, _⟩ =>
      blk_simp
      show (0#32).toNat * 1024 + j.val = _
      simp)]
  entry_read
  pointwise

theorem three_block (c : Dev nD) (t : Fin cfg0.N) (i : Fin 1024) (j : Fin 3072) :
    iblk m c 2 t (ix3 0 i j) = m ((c : Thread nD τ).loc main_arg2) (ix3 0 i j) := by
  unfold iblk
  show (V m c main_v3) ((((cfg0.win 2).blk t).view.emb (ix3 0 i j))) = _
  rw [show (((cfg0.win 2).blk t).view.emb (ix3 0 i j)) = ix3 0 i j from funext fun a => Fin.ext (by
    match a with
    | ⟨0, _⟩ => rfl
    | ⟨1, _⟩ =>
      blk_simp
      show (0#32).toNat * 1024 + i.val = _
      simp
    | ⟨2, _⟩ =>
      blk_simp
      show (0#32).toNat * 3072 + j.val = _
      simp)]
  entry_read
  pointwise

theorem taps_block (c : Dev nD) (t : Fin cfg0.N) (k : Fin 3) (j : Fin 1024) :
    iblk m c 3 t (ix3 0 k j) = m ((c : Thread nD τ).loc main_arg3) (ix3 0 k j) := by
  unfold iblk
  show (V m c main_arg3) ((((cfg0.win 3).blk t).view.emb (ix3 0 k j))) = _
  rw [V_main_arg3]
  refine congrArg (m ((c : Thread nD τ).loc main_arg3)) (funext fun a => Fin.ext ?_)
  match a with
  | ⟨0, _⟩ => rfl
  | ⟨1, _⟩ =>
    blk_simp
    show (0#32).toNat * 3 + k.val = _
    simp
  | ⟨2, _⟩ =>
    blk_simp
    show (0#32).toNat * 1024 + j.val = _
    simp

theorem projection_block (c : Dev nD) (t : Fin cfg0.N) (i j : Fin 1024) :
    iblk m c 4 t (ix3 0 i j) = m ((c : Thread nD τ).loc main_arg4) (ix3 0 i j) := by
  unfold iblk
  show (V m c main_v4) ((((cfg0.win 4).blk t).view.emb (ix3 0 i j))) = _
  rw [show (((cfg0.win 4).blk t).view.emb (ix3 0 i j)) = ix3 0 i j from funext fun a => Fin.ext (by
    match a with
    | ⟨0, _⟩ => rfl
    | ⟨1, _⟩ =>
      blk_simp
      show (0#32).toNat * 1024 + i.val = _
      simp
    | ⟨2, _⟩ =>
      blk_simp
      show (0#32).toNat * 1024 + j.val = _
      simp)]
  entry_read
  pointwise

/-- The convolution's input, from the arguments as launched. -/
def inputRow (c : Dev nD) (R : Fin 16384) (j : Fin 1024) : EReal :=
  input (fun i => m ((c : Thread nD τ).loc main_arg0) (ix2 R i)) (fun i => m ((c : Thread nD τ).loc main_arg1) (ix2 0 i))
    (fun i j => m ((c : Thread nD τ).loc main_arg2) (ix3 0 i j)) j

/-- The stream after the convolution's layer. -/
def mixOut (c : Dev nD) (R : Fin 16384) (j : Fin 1024) : EReal :=
  mixed (fun i => m ((c : Thread nD τ).loc main_arg0) (ix2 R i))
    (gate (fun i => m ((c : Thread nD τ).loc main_arg0) (ix2 R i)) (fun i => m ((c : Thread nD τ).loc main_arg1) (ix2 0 i))
      (fun i j => m ((c : Thread nD τ).loc main_arg2) (ix3 0 i j)))
    (past (inputRow m c) 2 R) (past (inputRow m c) 1 R) (inputRow m c R)
    (fun k i => m ((c : Thread nD τ).loc main_arg3) (ix3 0 k i)) (fun i j => m ((c : Thread nD τ).loc main_arg4) (ix3 0 i j)) j

/-- The last eight rows of the convolution's input. -/
def tailOut (c : Dev nD) (l : Fin 8) (j : Fin 1024) : EReal := inputRow m c ⟨16376 + l.val, by omega⟩ j

theorem inputs_block (c : Dev nD) (t : Fin cfg0.N) (l : Fin 512) (j : Fin 1024) :
    inputs (iblk m c 0 t) (iblk m c 1 t) (iblk m c 2 t) l j = inputRow m c (rowOf t l) j := by
  unfold inputs inputRow
  simp only [stream_block, scales_block, three_block]

/-- What a grid point leaves in the first rows of the scratch: its own last eight rows. -/
theorem state_at (c : Dev nD) (t : Fin cfg0.N) (l : Fin 8) (j : Fin 1024) :
    (outsAt0 m c t.val t.isLt).2.2 (ix2 ⟨l.val, by omega⟩ j) = inputRow m c (rowOf t ⟨504 + l.val, by omega⟩) j := by
  refine Eq.trans ?_ (inputs_block m c t _ j)
  by_cases h0 : t.val % 32 = 0
  · rw [outsAt0_A m c t h0]
    dsimp only
    exact carried_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) ((hcond0_0 t).mpr h0) l j
  · rw [outsAt0_B m c t h0]
    dsimp only
    exact carried_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (fun h => h0 ((hcond0_0 t).mp h))
      (outsAt0 m c (t.val - 1) (Nat.lt_of_le_of_lt (Nat.sub_le _ _) t.isLt)).2.2 l j

theorem tail_block (c : Dev nD) (t : Fin cfg0.N) (l : Fin 8) (j : Fin 1024) :
    (outsAt0 m c t.val t.isLt).2.1 (ix2 l j) = inputRow m c (rowOf t ⟨504 + l.val, by omega⟩) j := by
  refine Eq.trans ?_ (inputs_block m c t _ j)
  by_cases h0 : t.val % 32 = 0
  · rw [outsAt0_A m c t h0]
    dsimp only
    exact tail_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) ((hcond0_0 t).mpr h0) l j
  · rw [outsAt0_B m c t h0]
    dsimp only
    exact tail_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (fun h => h0 ((hcond0_0 t).mp h))
      (outsAt0 m c (t.val - 1) (Nat.lt_of_le_of_lt (Nat.sub_le _ _) t.isLt)).2.2 l j

theorem past_row (u : Fin 16384 → Fin 1024 → EReal) {k r : ℕ} {R : Fin 16384} (j : Fin 1024) (h : r + k = R.val) : past u k R j = u ⟨r, by omega⟩ j := by
  unfold past
  rw [dif_pos (by omega)]
  exact congrArg (fun R => u R j) (Fin.ext (by show R.val - k = r; omega))

theorem past_none (u : Fin 16384 → Fin 1024 → EReal) {k : ℕ} {R : Fin 16384} (j : Fin 1024) (h : R.val < k) : past u k R j = 0 := by
  unfold past
  rw [dif_neg (by omega)]

/-- The rows above a block's rows are the array's rows above. -/
theorem above_eq (c : Dev nD) (t : Fin cfg0.N) (p : ℕ → Fin 1024 → EReal) (k : ℕ) (hk : k ≤ 2)
    (hp : ∀ n : Fin 8, 6 ≤ n.val → ∀ j, p n.val j = past (inputRow m c) (8 - n.val) (rowOf t ⟨0, by omega⟩) j) (l : Fin 512) :
    above (inputs (iblk m c 0 t) (iblk m c 1 t) (iblk m c 2 t)) p k l = past (inputRow m c) k (rowOf t l) := by
  funext j
  unfold above
  by_cases h : k ≤ l.val
  · rw [dif_pos h, inputs_block]
    exact (past_row (inputRow m c) j (by show 512 * t.val + (l.val - k) + k = 512 * t.val + l.val; omega)).symm
  · rw [dif_neg h]
    refine (hp ⟨8 + l.val - k, by omega⟩ (by show 6 ≤ 8 + l.val - k; omega) j).trans ?_
    by_cases hR : k ≤ 512 * t.val + l.val
    · have hN := point_lt t
      exact (past_row (inputRow m c) (r := 512 * t.val + l.val - k) j
        (by show 512 * t.val + l.val - k + (8 - (8 + l.val - k)) = 512 * t.val + 0; omega)).trans
        (past_row (inputRow m c) (r := 512 * t.val + l.val - k) j (by show 512 * t.val + l.val - k + k = 512 * t.val + l.val; omega)).symm
    · exact (past_none (inputRow m c) j (by show 512 * t.val + 0 < 8 - (8 + l.val - k); omega)).trans
        (past_none (inputRow m c) j (by show 512 * t.val + l.val < k; omega)).symm

theorem pointOut_eq (c : Dev nD) (t : Fin cfg0.N) (p : ℕ → Fin 1024 → EReal)
    (hp : ∀ n : Fin 8, 6 ≤ n.val → ∀ j, p n.val j = past (inputRow m c) (8 - n.val) (rowOf t ⟨0, by omega⟩) j) (l : Fin 512) (j : Fin 1024) :
    pointOut (iblk m c 0 t) (iblk m c 1 t) (iblk m c 2 t) (iblk m c 3 t) (iblk m c 4 t) p l j = mixOut m c (rowOf t l) j := by
  have hu : inputs (iblk m c 0 t) (iblk m c 1 t) (iblk m c 2 t) l = inputRow m c (rowOf t l) := funext fun j => inputs_block m c t l j
  unfold pointOut mixOut
  rw [above_eq m c t p 2 (by omega) hp l, above_eq m c t p 1 (by omega) hp l, hu]
  simp only [stream_block, scales_block, three_block, taps_block, projection_block]

theorem out_block (c : Dev nD) (t : Fin cfg0.N) (l : Fin 512) (j : Fin 1024) :
    (outsAt0 m c t.val t.isLt).1 (ix2 l j) = mixOut m c (rowOf t l) j := by
  have ht := point_lt t
  by_cases h0 : t.val % 32 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) ((hcond0_0 t).mpr h0) l j).trans (pointOut_eq m c t (fun _ _ => 0) (fun n hn j => ?_) l j)
    exact (past_none (inputRow m c) j (by show 512 * t.val + 0 < 8 - n.val; have := n.isLt; omega)).symm
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (fun h => h0 ((hcond0_0 t).mp h))
      (outsAt0 m c (t.val - 1) (Nat.lt_of_le_of_lt (Nat.sub_le _ _) t.isLt)).2.2 l j).trans (pointOut_eq m c t _ (fun n hn j => ?_) l j)
    refine (dif_pos n.isLt).trans ((state_at m c ⟨t.val - 1, Nat.lt_of_le_of_lt (Nat.sub_le _ _) t.isLt⟩ n j).trans ?_)
    exact (past_row (inputRow m c) j (by
      show 512 * (t.val - 1) + (504 + n.val) + (8 - n.val) = 512 * t.val + 0
      have := n.isLt
      omega)).symm

/-- The stream's array after the run. -/
theorem array_eq (c : Dev nD) : (dats m 0 c).arrAt 5 cfg0.N = fun y : S16384x1024.Idx => mixOut m c (y 0) (y 1) := by
  refine (dats m 0 c).arrAt_eq_of_covers 5 _ ?_ fun t hf y => ?_
  · refine (cfg0.win 5).covers_of_indexMap_surj rfl ?_ fun β => ?_
    · exact (by decide : ∀ a : Fin 2, 0 < (![512, 1024] : Fin 2 → ℕ) a)
    · have b0 : (β (0 : Fin 2)).val < 32 := (β (0 : Fin 2)).isLt.trans_eq (by show (16384 + 512 - 1) / 512 = 32; rfl)
      have b1 : (β (1 : Fin 2)).val < 1 := (β (1 : Fin 2)).isLt.trans_eq (by show (1024 + 1024 - 1) / 1024 = 1; rfl)
      refine ⟨(Fin.cons ⟨(β (0 : Fin 2)).val, b0⟩ finZeroElim : (a : Fin 1) → Fin (grid0.bound a)), fun a => ?_⟩
      match (a : Fin 2) with
      | ⟨0, _⟩ => exact row_word _
      | ⟨1, _⟩ => exact (Nat.lt_one_iff.mp b1).symm
  · obtain ⟨l, j, e⟩ : ∃ (l : Fin 512) (j : Fin 1024), y = ix2 l j := ⟨y 0, y 1, by funext a; match a with | ⟨0, _⟩ => rfl | ⟨1, _⟩ => rfl⟩
    subst e
    refine Eq.trans ?_ ((out_block m c t l j).trans ?_)
    · blk_simp
      rw [after0_5]
    · have e : (((cfg0.win 5).blk t).view.emb (ix2 l j)) = (ix2 (rowOf t l) j : S16384x1024.Idx) := funext fun a => Fin.ext (by
        match a with
        | ⟨0, _⟩ =>
          blk_simp
          show (BitVec.ofNat 32 ((grid0.coords t) 0).val).toNat * 512 + l.val = _
          rw [row_word, point_coord, Nat.mul_comm]
          rfl
        | ⟨1, _⟩ =>
          blk_simp
          show (0#32).toNat * 1024 + j.val = _
          simp)
      exact (congrArg (fun y : S16384x1024.Idx => mixOut m c (y 0) (y 1)) e).symm

/-- The array of the input's last rows, written back at the last point only. -/
theorem tail_eq_array (c : Dev nD) : (dats m 0 c).arrAt 6 cfg0.N = fun y : S8x1024.Idx => tailOut m c (y 0) (y 1) := by
  refine (dats m 0 c).arrAt_eq_of_covers 6 _ ?_ fun t hf y => ?_
  · refine (cfg0.win 6).covers_of_indexMap_surj rfl ?_ fun β => ?_
    · exact (by decide : ∀ a : Fin 2, 0 < (![8, 1024] : Fin 2 → ℕ) a)
    · have b0 : (β (0 : Fin 2)).val < 1 := (β (0 : Fin 2)).isLt.trans_eq (by show (8 + 8 - 1) / 8 = 1; rfl)
      have b1 : (β (1 : Fin 2)).val < 1 := (β (1 : Fin 2)).isLt.trans_eq (by show (1024 + 1024 - 1) / 1024 = 1; rfl)
      refine ⟨(Fin.cons ⟨0, by decide⟩ finZeroElim : (a : Fin 1) → Fin (grid0.bound a)), fun a => ?_⟩
      match (a : Fin 2) with
      | ⟨0, _⟩ => exact (Nat.lt_one_iff.mp b0).symm
      | ⟨1, _⟩ => exact (Nat.lt_one_iff.mp b1).symm
  · obtain ⟨l, j, e⟩ : ∃ (l : Fin 8) (j : Fin 1024), y = ix2 l j := ⟨y 0, y 1, by funext a; match a with | ⟨0, _⟩ => rfl | ⟨1, _⟩ => rfl⟩
    subst e
    have ht : t.val % 32 = 31 := (flush0_6 t).mp hf
    have hN := point_lt t
    refine Eq.trans ?_ ((tail_block m c t l j).trans ?_)
    · blk_simp
      rw [after0_6]
    · have e : (((cfg0.win 6).blk t).view.emb (ix2 l j)) = (ix2 l j : S8x1024.Idx) := funext fun a => Fin.ext (by
        match a with
        | ⟨0, _⟩ =>
          blk_simp
          show (0#32).toNat * 8 + l.val = _
          simp
        | ⟨1, _⟩ =>
          blk_simp
          show (0#32).toNat * 1024 + j.val = _
          simp)
      refine Eq.trans ?_ (congrArg (fun y : S8x1024.Idx => tailOut m c (y 0) (y 1)) e).symm
      exact congrArg (fun R => inputRow m c R j) (Fin.ext (by show 512 * t.val + (504 + l.val) = 16376 + l.val; omega))

end Cert.Kernel4Ideal.Mix

end
-- ==== Proof.MixSoft.lean ====
/- The short convolution's reference, read at an index: the row's values. -/
module

public import proofs.«01_k».proof.Proof.Gen.Reference4Ideal.Run
public import proofs.«01_k».proof.Proof.MixRow
public import Idealize.ShloMosaic.Lib.Pointwise

@[expose] public section

set_option maxRecDepth 16384

noncomputable section

namespace Cert.Reference4Ideal.Mix

open Cert.Reference4Ideal Cert.Reference4Ideal.Gen Idealize.ShloMosaic Idealize.ShloMosaic.TcCoe Idealize.SL.Sem Cert.Feed Cert.Keys Cert.Mix

/-- The rows normed. -/
def norm (x : Vec Ideal S16384x1024 .f32) (g : Vec Ideal S4x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1
      (shapeCast S1024 (extractStridedSlice S1x1024 ![0, 0] g slices_S4x1024_S1x1024_0_0) shapeCasts_S1x1024_S1024)))

/-- Their product with the three weight matrices. -/
def thrice (x : Vec Ideal S16384x1024 .f32) (g : Vec Ideal S4x1024 .f32) (w : Vec Ideal S2x1024x3072 .f32) : FVec Ideal S16384x3072 .f32 :=
  Host.dotGeneral dot_S16384x1024_S1024x3072_S16384x3072_1_0_0_1_n_n none (φ₁ := .f32) (φ₂ := .f32) (norm x g)
    (shapeCast S1024x3072 (extractStridedSlice S1x1024x3072 ![0, 0, 0] w slices_S2x1024x3072_S1x1024x3072_0_0_0) shapeCasts_S1x1024x3072_S1024x3072)

/-- The convolution's input. -/
def inputs (z : FVec Ideal S16384x3072 .f32) : FVec Ideal S16384x1024 .f32 :=
  mulf (extractStridedSlice S16384x1024 ![0, 1024] z slices_S16384x3072_S16384x1024_0_1024)
    (extractStridedSlice S16384x1024 ![0, 2048] z slices_S16384x3072_S16384x1024_0_2048)

/-- With two rows of zeros before it. -/
def padded (u : FVec Ideal S16384x1024 .f32) : FVec Ideal S16386x1024 .f32 :=
  concatenate S16386x1024 0 [⟨S2x1024, (broadcastInDim S2x1024 ![] bcast_S_S2x1024 (constant S_ .f32 0x00000000#32))⟩, ⟨S16384x1024, u⟩]
    concatenates_S2x1024_S16384x1024_S16386x1024_d0

variable (x : Vec Ideal S16384x1024 .f32) (g : Vec Ideal S4x1024 .f32) (w : Vec Ideal S2x1024x3072 .f32) (cw : Vec Ideal S2x3x1024 .f32)
  (wo : Vec Ideal S2x1024x1024 .f32) (u : FVec Ideal S16384x1024 .f32)

theorem norm_at (l : Fin 16384) (j : Fin 1024) : norm x g (ix2 l j) = normed (fun i => x (ix2 l i)) (fun i => g (ix2 0 i)) j := by
  unfold norm normed
  pointwise

theorem thrice_at (l : Fin 16384) (j : Fin 3072) :
    thrice x g w (ix2 l j) = projected (fun i => x (ix2 l i)) (fun i => g (ix2 0 i)) (fun i => w (ix3 0 i j)) := by
  unfold projected
  simp only [← norm_at]
  unfold thrice
  pointwise

theorem padded_at (l : Fin 16386) (j : Fin 1024) : padded u (ix2 l j) = if h : l.val < 2 then 0 else u (ix2 ⟨l.val - 2, by omega⟩ j) := by
  unfold padded
  pointwise

theorem inputs_at (l : Fin 16384) (j : Fin 1024) :
    inputs (thrice x g w) (ix2 l j) = input (fun i => x (ix2 l i)) (fun i => g (ix2 0 i)) (fun i j => w (ix3 0 i j)) j := by
  unfold input
  rw [← thrice_at, ← thrice_at]
  unfold inputs
  pointwise

/-- The three taps' weighted sum. -/
def taps (p : FVec Ideal S16386x1024 .f32) (cw : Vec Ideal S2x3x1024 .f32) : FVec Ideal S16384x1024 .f32 :=
  addf (addf (addf (broadcastInDim S16384x1024 ![] bcast_S_S16384x1024 (constant S_ .f32 0x00000000#32))
    (mulf (broadcastInDim S16384x1024 ![0, 1] bcast_S1x1024_S16384x1024_0_1 (broadcastInDim S1x1024 ![1] bcast_S1024_S1x1024_1 (shapeCast S1024 (extractStridedSlice S1x1x1024 ![0, 0, 0] cw slices_S2x3x1024_S1x1x1024_0_0_0) shapeCasts_S1x1x1024_S1024))) (extractStridedSlice S16384x1024 ![0, 0] p slices_S16386x1024_S16384x1024_0_0)))
    (mulf (broadcastInDim S16384x1024 ![0, 1] bcast_S1x1024_S16384x1024_0_1 (broadcastInDim S1x1024 ![1] bcast_S1024_S1x1024_1 (shapeCast S1024 (extractStridedSlice S1x1x1024 ![0, 1, 0] cw slices_S2x3x1024_S1x1x1024_0_1_0) shapeCasts_S1x1x1024_S1024))) (extractStridedSlice S16384x1024 ![1, 0] p slices_S16386x1024_S16384x1024_1_0)))
    (mulf (broadcastInDim S16384x1024 ![0, 1] bcast_S1x1024_S16384x1024_0_1 (broadcastInDim S1x1024 ![1] bcast_S1024_S1x1024_1 (shapeCast S1024 (extractStridedSlice S1x1x1024 ![0, 2, 0] cw slices_S2x3x1024_S1x1x1024_0_2_0) shapeCasts_S1x1x1024_S1024))) (extractStridedSlice S16384x1024 ![2, 0] p slices_S16386x1024_S16384x1024_2_0))

/-- The taps' sum, gated. -/
def gated (z : FVec Ideal S16384x3072 .f32) (cw : Vec Ideal S2x3x1024 .f32) : FVec Ideal S16384x1024 .f32 :=
  mulf (extractStridedSlice S16384x1024 ![0, 0] z slices_S16384x3072_S16384x1024_0_0) (taps (padded (inputs z)) cw)

/-- The stream with the gated convolution's projection added. -/
def out (x : Vec Ideal S16384x1024 .f32) (z : FVec Ideal S16384x3072 .f32) (cw : Vec Ideal S2x3x1024 .f32) (wo : Vec Ideal S2x1024x1024 .f32) :
    FVec Ideal S16384x1024 .f32 :=
  addf x (Host.dotGeneral dot_S16384x1024_S1024x1024_S16384x1024_1_0_0_1_n_n none (φ₁ := .f32) (φ₂ := .f32) (gated z cw)
    (shapeCast S1024x1024 (extractStridedSlice S1x1024x1024 ![0, 0, 0] wo slices_S2x1024x1024_S1x1024x1024_0_0_0) shapeCasts_S1x1024x1024_S1024x1024))

/-- The last eight rows of the convolution's input. -/
def lastRows (p : FVec Ideal S16386x1024 .f32) : FVec Ideal S8x1024 .f32 := extractStridedSlice S8x1024 ![16378, 0] p slices_S16386x1024_S8x1024_16378_0

theorem past_at (k : ℕ) (hk : k ≤ 2) (l : Fin 16384) (j : Fin 1024) (r : Fin 16386) (hr : r.val + k = l.val + 2) :
    padded u (ix2 r j) = past (fun R j => u (ix2 R j)) k l j := by
  rw [padded_at]
  unfold past
  by_cases h : k ≤ l.val
  · rw [dif_pos h, dif_neg (by omega)]
    exact congrArg (fun R => u (ix2 R j)) (Fin.ext (by show r.val - 2 = l.val - k; omega))
  · rw [dif_neg h, dif_pos (by omega)]

theorem taps_at (p : FVec Ideal S16386x1024 .f32) (l : Fin 16384) (j : Fin 1024) :
    taps p cw (ix2 l j) = cw (ix3 0 0 j) * p (ix2 ⟨l.val, by omega⟩ j) + cw (ix3 0 1 j) * p (ix2 ⟨1 + l.val, by omega⟩ j)
      + cw (ix3 0 2 j) * p (ix2 ⟨2 + l.val, by omega⟩ j) := by
  unfold taps
  pointwise

theorem gated_at (z : FVec Ideal S16384x3072 .f32) (l : Fin 16384) (j : Fin 1024) :
    gated z cw (ix2 l j) = z (ix2 l ⟨j.val, by omega⟩) * taps (padded (inputs z)) cw (ix2 l j) := by
  unfold gated
  pointwise

theorem out_at (l : Fin 16384) (j : Fin 1024) :
    out x (thrice x g w) cw wo (ix2 l j)
      = mixed (fun i => x (ix2 l i)) (gate (fun i => x (ix2 l i)) (fun i => g (ix2 0 i)) (fun i j => w (ix3 0 i j)))
          (past (fun R => input (fun i => x (ix2 R i)) (fun i => g (ix2 0 i)) (fun i j => w (ix3 0 i j))) 2 l)
          (past (fun R => input (fun i => x (ix2 R i)) (fun i => g (ix2 0 i)) (fun i j => w (ix3 0 i j))) 1 l)
          (input (fun i => x (ix2 l i)) (fun i => g (ix2 0 i)) (fun i j => w (ix3 0 i j)))
          (fun k i => cw (ix3 0 k i)) (fun i j => wo (ix3 0 i j)) j := by
  have e : ∀ i : Fin 1024, gated (thrice x g w) cw (ix2 l i)
      = gate (fun i => x (ix2 l i)) (fun i => g (ix2 0 i)) (fun i j => w (ix3 0 i j)) i
        * (cw (ix3 0 0 i) * past (fun R => input (fun i => x (ix2 R i)) (fun i => g (ix2 0 i)) (fun i j => w (ix3 0 i j))) 2 l i
          + cw (ix3 0 1 i) * past (fun R => input (fun i => x (ix2 R i)) (fun i => g (ix2 0 i)) (fun i j => w (ix3 0 i j))) 1 l i
          + cw (ix3 0 2 i) * input (fun i => x (ix2 l i)) (fun i => g (ix2 0 i)) (fun i j => w (ix3 0 i j)) i) := fun i => by
    have hU : (fun R j => inputs (thrice x g w) (ix2 R j))
        = fun R => input (fun i => x (ix2 R i)) (fun i => g (ix2 0 i)) (fun i j => w (ix3 0 i j)) :=
      funext fun R => funext fun j => inputs_at x g w R j
    have h0 := past_at (inputs (thrice x g w)) 0 (by omega) l i ⟨2 + l.val, by omega⟩ (by show 2 + l.val + 0 = _; omega)
    rw [gated_at, taps_at, thrice_at, h0,
      past_at (inputs (thrice x g w)) 2 (by omega) l i ⟨l.val, by omega⟩ rfl,
      past_at (inputs (thrice x g w)) 1 (by omega) l i ⟨1 + l.val, by omega⟩ (by show 1 + l.val + 1 = _; omega), hU]
    rfl
  unfold mixed
  simp only [← e]
  unfold out
  pointwise

theorem lastRows_at (l : Fin 8) (j : Fin 1024) :
    lastRows (padded (inputs (thrice x g w))) (ix2 l j)
      = input (fun i => x (ix2 ⟨16376 + l.val, by omega⟩ i)) (fun i => g (ix2 0 i)) (fun i j => w (ix3 0 i j)) j := by
  rw [← inputs_at]
  have h : lastRows (padded (inputs (thrice x g w))) (ix2 l j) = padded (inputs (thrice x g w)) (ix2 ⟨16378 + l.val, by omega⟩ j) := by
    unfold lastRows
    pointwise
  rw [h, padded_at, dif_neg (by show ¬16378 + l.val < 2; omega)]
  exact congrArg (fun R => inputs (thrice x g w) (ix2 R j)) (Fin.ext (by show 16378 + l.val - 2 = 16376 + l.val; omega))

theorem res_eq (m : (ℓ : Loc nD τ sig) → Buf (Elt Ideal) ℓ) (c : Dev nD) :
    Value.res_main_v50 m c = out (m ((c : Thread nD τ).loc main_arg0)) (thrice (m ((c : Thread nD τ).loc main_arg0)) (m ((c : Thread nD τ).loc main_arg1)) (m ((c : Thread nD τ).loc main_arg2)))
      (m ((c : Thread nD τ).loc main_arg3)) (m ((c : Thread nD τ).loc main_arg4)) := rfl

end Cert.Reference4Ideal.Mix

end
-- ==== Proof.Run.lean ====
/- The run of the attention kernel's body at one grid point: the pieces its stores leave in the
   output's block, with the proof that the body, run on whole blocks, ends there. -/
module

public import proofs.«01_k».proof.Proof.Gen.KernelIdeal.Frame.Runs
public import Idealize.ShloMosaic.Lib.LoopRemainder

@[expose] public section

set_option maxRecDepth 16384

noncomputable section

namespace Cert.KernelIdeal.Flash

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option warn.classDefReducibility false in
/-- The loop over the pairs of key tiles both heads read, by its generated invariant: what stands in
    registers before the loop and is not read inside it is left at zero. -/
@[sl_loop] def ownInv_t1 (𝒱 : Variants) (c : Dev nD) (bd : Option 𝒱.V) (E : Set ℕ) (i : grid0.Coords) (arg2 : Memref sig .tc .smem S16x16 .i32) (harg2 : arg2.IsWhole) (arg3 : Memref sig .tc .vmem S2x1024x128 .bf16) (harg3 : arg3.IsWhole) (arg4 : Memref sig .tc .vmem S2x16384x128 .bf16) (harg4 : arg4.IsWhole) (arg5 : Memref sig .tc .vmem S2x32x80x512 .bf16) (harg5 : arg5.IsWhole) (arg6 : Memref sig .tc .vmem S1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x512x1024 .f32) (harg9 : arg9.IsWhole) (arg10 : Memref sig .tc .vmem S2x512x1024 .f32) (harg10 : arg10.IsWhole) (arg1 : BitVec 32) (v3 : Elt F .i32) (v8 : Elt F .i32) (k0_hw1 : k0_chk1 i v3 v8) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) :
    Idealize.ShloMosaic.LoopInv (M := MT nD τ sig Unit (Elt F) ℕ (UR sig nD τ) ℕ) Idealize.ShloMosaic.frame (wpE defs₀ 𝒱 (c : Thread nD τ) bd) E
      (k0_t1_loop i v3 v8).lb (k0_t1_loop i v3 v8).ub (k0_t1_loop i v3 v8).st (k0_t1_ok i v3 v8 k0_hw1) ()
      (k0_t1_body (F := F) i arg2 harg2 arg3 harg3 arg4 harg4 arg5 harg5 arg6 harg6 arg7 harg7 arg8 harg8 arg9 harg9 arg10 harg10 arg1 v3 v8 k0_hw1 0#32 0#32 (fun _ => Scalar.ofBits .f32 0#32)) :=
  loopInv_k0_t1 (F := F) 𝒱 c bd E i arg2 harg2 arg3 harg3 arg4 harg4 arg5 harg5 arg6 harg6 arg7 harg7 arg8 harg8 arg9 harg9 arg10 harg10 arg1 v3 v8 k0_hw1 0#32 0#32 (fun _ => Scalar.ofBits .f32 0#32) X_arg3 X_arg4 X_arg5 G_arg7 G_arg8 G_arg9 G_arg10

set_option maxHeartbeats 2688000 in
/-- What the body stores into the output's block, as pieces (last first), with the proof that on
    whole blocks (the inputs' at their contents, the output's and the scratch at anything) the body
    runs to the continuation holding the inputs as they were and the output with its pieces
    written. -/
noncomputable def kernelRun (c : Dev nD) (i : grid0.Coords) (arg3 : Memref sig .tc .vmem S2x1024x128 .bf16) (harg3 : arg3.IsWhole) (arg4 : Memref sig .tc .vmem S2x16384x128 .bf16) (harg4 : arg4.IsWhole) (arg5 : Memref sig .tc .vmem S2x32x80x512 .bf16) (harg5 : arg5.IsWhole) (arg6 : Memref sig .tc .vmem S1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x512x1024 .f32) (harg9 : arg9.IsWhole) (arg10 : Memref sig .tc .vmem S2x512x1024 .f32) (harg10 : arg10.IsWhole)
    (x0 : Vec F S2x1024x128 .bf16) (x1 : Vec F S2x16384x128 .bf16) (x2 : Vec F S2x32x80x512 .bf16) (xt0 : TbBuf0 (F := F) c tbM0_0) (k0_hw1 : k0_chk1 i (tbM0_0.view.readAt (Elt F) (Rect.unit (s := S16x16) (k0_off1 i) S1x1.size (k0_off1_inb i)).toLoadRect xt0 (Shape.Idx.first (numel1_S1x1.symm ▸ Nat.one_pos))) (tbM0_0.view.readAt (Elt F) (Rect.unit (s := S16x16) (k0_off2 i) S1x1.size (k0_off2_inb i)).toLoadRect xt0 (Shape.Idx.first (numel1_S1x1.symm ▸ Nat.one_pos)))) :
    { L3 : List (View.Piece (Elt F) S1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0) -∗ K ⟨⟩))
          ⊢ wp frame (wpE (defs₀ (F := F)) Variants.none c none) E (cc0_flash i tbM0_0 htbM0_0 arg3 harg3 arg4 harg4 arg5 harg5 arg6 harg6 arg7 harg7 arg8 harg8 arg9 harg9 arg10 harg10) K } := by
  refine ⟨?_, fun E K => ?run⟩
  case run =>
    simp only [cc0_flash_eq_skeleton]; unfold cc0_flash_skel
    simp only [k0_part84_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Flash

end
-- ==== Proof.Launch.lean ====
/- The launch of the attention kernel: what each grid point leaves in its output block, the
   pipeline's proof data, the body's obligation at every point, the run and the frame. -/
module

public import proofs.«01_k».proof.Proof.Run
public import Idealize.ShloMosaic.Lib.Claim

@[expose] public section

set_option maxRecDepth 16384

noncomputable section

namespace Cert.KernelIdeal.Flash

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The body's one store covers the output's block. -/
theorem cover_out (c : Dev nD) (i : grid0.Coords) (arg3 : Memref sig .tc .vmem S2x1024x128 .bf16) (harg3 : arg3.IsWhole) (arg4 : Memref sig .tc .vmem S2x16384x128 .bf16) (harg4 : arg4.IsWhole) (arg5 : Memref sig .tc .vmem S2x32x80x512 .bf16) (harg5 : arg5.IsWhole) (arg6 : Memref sig .tc .vmem S1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x512x1024 .f32) (harg9 : arg9.IsWhole) (arg10 : Memref sig .tc .vmem S2x512x1024 .f32) (harg10 : arg10.IsWhole)
    (x0 : Vec F S2x1024x128 .bf16) (x1 : Vec F S2x16384x128 .bf16) (x2 : Vec F S2x32x80x512 .bf16) (xt0 : TbBuf0 (F := F) c tbM0_0) (k0_hw1 : k0_chk1 i (tbM0_0.view.readAt (Elt F) (Rect.unit (s := S16x16) (k0_off1 i) S1x1.size (k0_off1_inb i)).toLoadRect xt0 (Shape.Idx.first (numel1_S1x1.symm ▸ Nat.one_pos))) (tbM0_0.view.readAt (Elt F) (Rect.unit (s := S16x16) (k0_off2 i) S1x1.size (k0_off2_inb i)).toLoadRect xt0 (Shape.Idx.first (numel1_S1x1.symm ▸ Nat.one_pos)))) (y : S1024x128.Idx) :
    ∃ pc ∈ (kernelRun c i arg3 harg3 arg4 harg4 arg5 harg5 arg6 harg6 arg7 harg7 arg8 harg8 arg9 harg9 arg10 harg10 x0 x1 x2 xt0 k0_hw1).1, y ∈ pc.1.set :=
  View.cover_of_tiledL (kernelRun c i arg3 harg3 arg4 harg4 arg5 harg5 arg6 harg6 arg7 harg7 arg8 harg8 arg9 harg9 arg10 harg10 x0 x1 x2 xt0 k0_hw1).1 S1024x128.size (by sl_kernel_rfl) y

/-- What the body leaves in the output's block. -/
def outBlk (c : Dev nD) (i : grid0.Coords) (arg3 : Memref sig .tc .vmem S2x1024x128 .bf16) (harg3 : arg3.IsWhole) (arg4 : Memref sig .tc .vmem S2x16384x128 .bf16) (harg4 : arg4.IsWhole) (arg5 : Memref sig .tc .vmem S2x32x80x512 .bf16) (harg5 : arg5.IsWhole) (arg6 : Memref sig .tc .vmem S1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x512x1024 .f32) (harg9 : arg9.IsWhole) (arg10 : Memref sig .tc .vmem S2x512x1024 .f32) (harg10 : arg10.IsWhole)
    (x0 : Vec F S2x1024x128 .bf16) (x1 : Vec F S2x16384x128 .bf16) (x2 : Vec F S2x32x80x512 .bf16) (xt0 : TbBuf0 (F := F) c tbM0_0) (k0_hw1 : k0_chk1 i (tbM0_0.view.readAt (Elt F) (Rect.unit (s := S16x16) (k0_off1 i) S1x1.size (k0_off1_inb i)).toLoadRect xt0 (Shape.Idx.first (numel1_S1x1.symm ▸ Nat.one_pos))) (tbM0_0.view.readAt (Elt F) (Rect.unit (s := S16x16) (k0_off2 i) S1x1.size (k0_off2_inb i)).toLoadRect xt0 (Shape.Idx.first (numel1_S1x1.symm ▸ Nat.one_pos)))) : Vec F S1024x128 .bf16 :=
  VO0_3.read (Elt F) (VO0_3.writes (Elt F) VO0_3.junk (kernelRun c i arg3 harg3 arg4 harg4 arg5 harg5 arg6 harg6 arg7 harg7 arg8 harg8 arg9 harg9 arg10 harg10 x0 x1 x2 xt0 k0_hw1).1)

/-! ## What the outputs hold after each point -/

/-- What the body leaves in the output's block at point `t`, from the point's blocks and the table. -/
def outsAt (hO : Ok m) (hH : Hyps m hO) (c : Dev nD) (t : Fin (cfgM m hO).N) : Vec F S1024x128 .bf16 :=
  outBlk c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (tbl m 0) (Hyps.c0 hH c t)

/-! ## The pipeline's proof data -/

/-- The proof data of the pipeline on core `c`: the arrays as launched, each input's block
    unchanged by the body, the output's at `outsAt`. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt m hO hH c t)
  Φ _ := iprop(Pipeline.ΦA spec0 c ∗ Pipeline.ΦT pre0 (tbl m) c)
  q _ := fullShare
  owed _ := 0

/-- The proof data's arrays are those of the launch. -/
theorem A_eq (hO : Ok m) (hH : Hyps m hO) (c : Dev nD) (w : Fin (cfgM m hO).W) : (dats m hO hH 0 c).A w = V m c (Pipeline.arrRef spec0 w) := by
  dsimp only [dats]

/-- What the body leaves, window by window. -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = (outsAt m hO hH c t) := by dsimp only [dats]; try rfl

/-- Before the body each input's buffer holds its block. -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t`. -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d)))

/-- What the body returns at point `t`. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t))

set_option maxHeartbeats 800000 in
/-- The body's triple at any point. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3]
  rw [show (dats m hO hH 0 c).Φ t.castSucc = iprop(Pipeline.ΦA spec0 c ∗ Pipeline.ΦT pre0 (tbl m) c) from rfl, PhiT0_eq, PhiA0_eq]
  unfold outsAt
  unfold outBlk
  iintro ⟨⟨⟨⟨HS0, HS1, HS2, HS3⟩, Hg⟩, HT0⟩, Ho, ⟨%d0, H0⟩, ⟨%d1, H1⟩, ⟨%d2, H2⟩, ⟨%d3, H3⟩⟩
  iapply ((kernelRun c (grid0.coords t) _ _ _ _ _ _ _ _ _ _ _ _ _ _ _ _ (iblk m hO c 0 t) (iblk m hO c 1 t) (iblk m hO c 2 t) (tbl m 0) (Hyps.c0 hH c t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HT0]; · iexact HT0
  iintro ⟨H0, H1, H2, ⟨%e3, H3⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover_out c _ _ _ _ _ _ _ _ _ _ _ _ _ _ _ _ _ _ _ _ _ _)

/-- The body called at point `t`'s slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's obligation on the body, at every point. -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

set_option backward.isDefEq.respectTransparency.types false in
/-- Every execution ends with the arrays the proof data names and every counter at zero. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- Every execution ends with the arrays the proof data names. -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- The argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO hH) (A_eq m hO hH) (run_main m ρ hO hH)

/-- The frame: every execution ends, the arguments unchanged and every counter at zero. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.KernelIdeal.Flash

end
-- ==== Proof.Spots.lean ====
/- Where the attention kernel finds the tiles on the diagonal and the one before them, in closed form. -/
module

public import proofs.«01_k».proof.Proof.Tiles
public import proofs.«01_k».proof.Proof.Loads

@[expose] public section

set_option maxRecDepth 16384

noncomputable section

namespace Cert.KernelIdeal.Flash

open Idealize.ShloMosaic Idealize.ShloMosaic.TcCoe Cert.KernelIdeal.Gen Cert.Flash

section
variable (i : grid0.Coords)

theorem off3_eq : k0_off3 i = ![0, 512 * (2 * (i 1).val), 0] := by
  have hi := point_lt i
  exact congrArg (fun n : ℕ => ![0, n, 0]) (rows_toNat (twice_toNat _ hi) (by omega))

theorem off4_eq : k0_off4 i = ![1, 512 * (2 * (i 1).val), 0] := by
  have hi := point_lt i
  exact congrArg (fun n : ℕ => ![1, n, 0]) (rows_toNat (twice_toNat _ hi) (by omega))

theorem off5_eq : k0_off5 i = ![0, 512 * (2 * (i 1).val + 1), 0] := by
  have hi := point_lt i
  exact congrArg (fun n : ℕ => ![0, n, 0]) (rows_toNat (succ_toNat (twice_toNat _ hi) (by omega)) (by omega))

theorem off7_eq : k0_off7 i = ![1, 512 * (2 * (i 1).val + 1), 0] := by
  have hi := point_lt i
  exact congrArg (fun n : ℕ => ![1, n, 0]) (rows_toNat (succ_toNat (twice_toNat _ hi) (by omega)) (by omega))

theorem off9_eq : k0_off9 i = ![0, 512 * (2 * (i 1).val - 1), 0] := by
  have hi := point_lt i
  exact congrArg (fun n : ℕ => ![0, n, 0]) (rows_toNat (before1_toNat (twice_toNat _ hi) (by omega)) (by omega))

theorem off11_eq : k0_off11 i = ![1, 512 * (2 * (i 1).val - 1), 0] := by
  have hi := point_lt i
  exact congrArg (fun n : ℕ => ![1, n, 0]) (rows_toNat (before1_toNat (twice_toNat _ hi) (by omega)) (by omega))

theorem off6_eq : k0_off6 i = ![0, 2 * (i 1).val, 0, 0] := by
  have hi := point_lt i
  exact congrArg (fun n : ℕ => ![0, n, 0, 0]) (twice_toNat _ hi)

theorem off8_eq : k0_off8 i = ![1, 2 * (i 1).val, 0, 0] := by
  have hi := point_lt i
  exact congrArg (fun n : ℕ => ![1, n, 0, 0]) (twice_toNat _ hi)

theorem off10_eq : k0_off10 i = ![0, 2 * (i 1).val + 1, 0, 0] := by
  have hi := point_lt i
  exact congrArg (fun n : ℕ => ![0, n, 0, 0]) (succ_toNat (twice_toNat _ hi) (by omega))

theorem off12_eq : k0_off12 i = ![1, 2 * (i 1).val + 1, 0, 0] := by
  have hi := point_lt i
  exact congrArg (fun n : ℕ => ![1, n, 0, 0]) (succ_toNat (twice_toNat _ hi) (by omega))

end

end Cert.KernelIdeal.Flash

end
-- ==== Proof.Scores.lean ====
/- The three tiles of scores the attention kernel computes before its loops: what each buffer holds. -/
module

public import proofs.«01_k».proof.Proof.Run
public import proofs.«01_k».proof.Proof.Spots

@[expose] public section

set_option maxRecDepth 16384

noncomputable section

namespace Cert.KernelIdeal.Flash

open Idealize.ShloMosaic Idealize.ShloMosaic.TcCoe Cert.KernelIdeal.Gen Cert.Flash

section
variable (c : Dev nD) (i : grid0.Coords) (arg3 : Memref sig .tc .vmem S2x1024x128 .bf16) (harg3 : arg3.IsWhole)
  (arg4 : Memref sig .tc .vmem S2x16384x128 .bf16) (harg4 : arg4.IsWhole)
  (arg5 : Memref sig .tc .vmem S2x32x80x512 .bf16) (harg5 : arg5.IsWhole)
  (arg7 : Memref sig .tc .vmem S2x1x1024 .f32) (arg8 : Memref sig .tc .vmem S2x80x1024 .f32)
  (arg9 : Memref sig .tc .vmem S2x512x1024 .f32) (arg10 : Memref sig .tc .vmem S2x512x1024 .f32)
  (x0 : Vec Ideal S2x1024x128 .bf16) (x1 : Vec Ideal S2x16384x128 .bf16) (x2 : Vec Ideal S2x32x80x512 .bf16)
  {Q K : Grid} {V : ℕ → Grid}
  (hQ : ∀ y : S2x1024x128.Idx, x0 y = Q (y 0).val (y 1).val (y 2).val)
  (hK : ∀ y : S2x16384x128.Idx, x1 y = K (y 0).val (y 1).val (y 2).val)
  (hV : ∀ y : S2x32x80x512.Idx, x2 y = V (y 0).val (y 1).val (y 2).val (y 3).val)

include hQ in
theorem queries_read (y : S2x1024x128.Idx) : arg3.view.read (Elt Ideal) (harg3.unread x0) y = Q (y 0).val (y 1).val (y 2).val :=
  (congrFun (harg3.read_unread x0) y).trans (hQ y)

include hK in
theorem keys_read (y : S2x16384x128.Idx) : arg4.view.read (Elt Ideal) (harg4.unread x1) y = K (y 0).val (y 1).val (y 2).val :=
  (congrFun (harg4.read_unread x1) y).trans (hK y)

include hV in
theorem values_read (y : S2x32x80x512.Idx) :
    arg5.view.read (Elt Ideal) (harg5.unread x2) y = V (y 0).val (y 1).val (y 2).val (y 3).val :=
  (congrFun (harg5.read_unread x2) y).trans (hV y)

set_option maxHeartbeats 4000000 in
include hQ hK in
/-- The scores of the first tile on the diagonal. -/
theorem scores_at : Reads arg9.view arg9.view.junk (kernelRun.sl.HS2_8 (F := Ideal) c i arg3 harg3 arg4 harg4 x0 x1) (scoresOf K Q (2 * (i 1).val)) := by
  have q := queries_read arg3 harg3 x0 hQ
  have r := keys_read arg4 harg4 x1 hK
  have b := reads_held arg9.view arg9.view.junk []
  exact Reads.done
    (block_score (h := 1) (e := 3) (n := 768)
    (block_score (h := 1) (e := 2) (n := 512)
    (block_score (h := 1) (e := 1) (n := 256)
    (block_score (h := 1) (e := 0) (n := 0)
    (Reads.next 1 (scoresOf K Q (2 * (i 1).val)) (block_score (h := 0) (e := 3) (n := 768)
    (block_score (h := 0) (e := 2) (n := 512)
    (block_score (h := 0) (e := 1) (n := 256)
    (block_score (h := 0) (e := 0) (n := 0)
    (b.next 0 (scoresOf K Q (2 * (i 1).val))) rfl rfl (fun z => load_keys r (off3_eq i) z) (fun z => load_queries q (h := 0) (n := 0) rfl z)) rfl rfl (fun z => load_keys r (off3_eq i) z) (fun z => load_queries q (h := 0) (n := 256) rfl z)) rfl rfl (fun z => load_keys r (off3_eq i) z) (fun z => load_queries q (h := 0) (n := 512) rfl z)) rfl rfl (fun z => load_keys r (off3_eq i) z) (fun z => load_queries q (h := 0) (n := 768) rfl z))) rfl rfl (fun z => load_keys r (off4_eq i) z) (fun z => load_queries q (h := 1) (n := 0) rfl z)) rfl rfl (fun z => load_keys r (off4_eq i) z) (fun z => load_queries q (h := 1) (n := 256) rfl z)) rfl rfl (fun z => load_keys r (off4_eq i) z) (fun z => load_queries q (h := 1) (n := 512) rfl z)) rfl rfl (fun z => load_keys r (off4_eq i) z) (fun z => load_queries q (h := 1) (n := 768) rfl z))

set_option maxHeartbeats 4000000 in
include hQ hK in
/-- The scores of the second tile on the diagonal. -/
theorem scores_after : Reads arg10.view arg10.view.junk (kernelRun.sl.HS3_8 (F := Ideal) c i arg3 harg3 arg4 harg4 x0 x1) (scoresOf K Q (2 * (i 1).val + 1)) := by
  have q := queries_read arg3 harg3 x0 hQ
  have r := keys_read arg4 harg4 x1 hK
  have b := reads_held arg10.view arg10.view.junk []
  exact Reads.done
    (block_score (h := 1) (e := 3) (n := 768)
    (block_score (h := 1) (e := 2) (n := 512)
    (block_score (h := 1) (e := 1) (n := 256)
    (block_score (h := 1) (e := 0) (n := 0)
    (Reads.next 1 (scoresOf K Q (2 * (i 1).val + 1)) (block_score (h := 0) (e := 3) (n := 768)
    (block_score (h := 0) (e := 2) (n := 512)
    (block_score (h := 0) (e := 1) (n := 256)
    (block_score (h := 0) (e := 0) (n := 0)
    (b.next 0 (scoresOf K Q (2 * (i 1).val + 1))) rfl rfl (fun z => load_keys r (off5_eq i) z) (fun z => load_queries q (h := 0) (n := 0) rfl z)) rfl rfl (fun z => load_keys r (off5_eq i) z) (fun z => load_queries q (h := 0) (n := 256) rfl z)) rfl rfl (fun z => load_keys r (off5_eq i) z) (fun z => load_queries q (h := 0) (n := 512) rfl z)) rfl rfl (fun z => load_keys r (off5_eq i) z) (fun z => load_queries q (h := 0) (n := 768) rfl z))) rfl rfl (fun z => load_keys r (off7_eq i) z) (fun z => load_queries q (h := 1) (n := 0) rfl z)) rfl rfl (fun z => load_keys r (off7_eq i) z) (fun z => load_queries q (h := 1) (n := 256) rfl z)) rfl rfl (fun z => load_keys r (off7_eq i) z) (fun z => load_queries q (h := 1) (n := 512) rfl z)) rfl rfl (fun z => load_keys r (off7_eq i) z) (fun z => load_queries q (h := 1) (n := 768) rfl z))

set_option maxHeartbeats 4000000 in
include hQ hK in
/-- The scores of the tile before the diagonal. -/
theorem scores_before : Reads arg9.view arg9.view.junk (kernelRun.sl.HS2_16 (F := Ideal) c i arg3 harg3 arg4 harg4 x0 x1) (scoresOf K Q (2 * (i 1).val - 1)) := by
  have q := queries_read arg3 harg3 x0 hQ
  have r := keys_read arg4 harg4 x1 hK
  have b := scores_at c i arg3 harg3 arg4 harg4 arg9 x0 x1 hQ hK
  exact Reads.done
    (block_score (h := 1) (e := 3) (n := 768)
    (block_score (h := 1) (e := 2) (n := 512)
    (block_score (h := 1) (e := 1) (n := 256)
    (block_score (h := 1) (e := 0) (n := 0)
    (Reads.next 1 (scoresOf K Q (2 * (i 1).val - 1)) (block_score (h := 0) (e := 3) (n := 768)
    (block_score (h := 0) (e := 2) (n := 512)
    (block_score (h := 0) (e := 1) (n := 256)
    (block_score (h := 0) (e := 0) (n := 0)
    (b.next 0 (scoresOf K Q (2 * (i 1).val - 1))) rfl rfl (fun z => load_keys r (off9_eq i) z) (fun z => load_queries q (h := 0) (n := 0) rfl z)) rfl rfl (fun z => load_keys r (off9_eq i) z) (fun z => load_queries q (h := 0) (n := 256) rfl z)) rfl rfl (fun z => load_keys r (off9_eq i) z) (fun z => load_queries q (h := 0) (n := 512) rfl z)) rfl rfl (fun z => load_keys r (off9_eq i) z) (fun z => load_queries q (h := 0) (n := 768) rfl z))) rfl rfl (fun z => load_keys r (off11_eq i) z) (fun z => load_queries q (h := 1) (n := 0) rfl z)) rfl rfl (fun z => load_keys r (off11_eq i) z) (fun z => load_queries q (h := 1) (n := 256) rfl z)) rfl rfl (fun z => load_keys r (off11_eq i) z) (fun z => load_queries q (h := 1) (n := 512) rfl z)) rfl rfl (fun z => load_keys r (off11_eq i) z) (fun z => load_queries q (h := 1) (n := 768) rfl z))

end

end Cert.KernelIdeal.Flash

end
-- ==== Proof.First.lean ====
/- The attention kernel takes in the first tile on the diagonal: what the running maxima and the running
   sums hold after it. -/
module

public import proofs.«01_k».proof.Proof.Masked
public import proofs.«01_k».proof.Proof.Scores

@[expose] public section

set_option maxRecDepth 16384

noncomputable section

namespace Cert.KernelIdeal.Flash

open Idealize.ShloMosaic Idealize.ShloMosaic.TcCoe Cert.KernelIdeal.Gen Cert.Flash

section
variable (c : Dev nD) (i : grid0.Coords) (arg3 : Memref sig .tc .vmem S2x1024x128 .bf16) (harg3 : arg3.IsWhole)
  (arg4 : Memref sig .tc .vmem S2x16384x128 .bf16) (harg4 : arg4.IsWhole)
  (arg5 : Memref sig .tc .vmem S2x32x80x512 .bf16) (harg5 : arg5.IsWhole)
  (arg7 : Memref sig .tc .vmem S2x1x1024 .f32) (arg8 : Memref sig .tc .vmem S2x80x1024 .f32)
  (arg9 : Memref sig .tc .vmem S2x512x1024 .f32) (arg10 : Memref sig .tc .vmem S2x512x1024 .f32)
  (x0 : Vec Ideal S2x1024x128 .bf16) (x1 : Vec Ideal S2x16384x128 .bf16) (x2 : Vec Ideal S2x32x80x512 .bf16)
  {Q K : Grid} {V : ℕ → Grid}
  (hQ : ∀ y : S2x1024x128.Idx, x0 y = Q (y 0).val (y 1).val (y 2).val)
  (hK : ∀ y : S2x16384x128.Idx, x1 y = K (y 0).val (y 1).val (y 2).val)
  (hV : ∀ y : S2x32x80x512.Idx, x2 y = V (y 0).val (y 1).val (y 2).val (y 3).val)

/-- The running maxima at the start. -/
theorem maxima_start : Reads arg7.view arg7.view.junk (kernelRun.sl.HS0_2 (F := Ideal)) (fun _ _ _ => ⊥) := by
  have b : Reads arg7.view arg7.view.junk [⟨Rect.unit (s := S2x1x1024) ![0, 0, 0] S1x1x1024.size inb_S2x1x1024_S1x1x1024_0_0_0, k0_pay328 (F := Ideal)⟩]
      (mix 0 4 (fun _ _ _ => ⊥) (held arg7.view arg7.view.junk [])) :=
    Reads.store (reads_held arg7.view arg7.view.junk []) (h := 0) (n := 0) (W := 1024) rfl
      (fun z => by rw [mix_full _ _ _ _ _ (lt_of_eq_of_lt (Nat.zero_add _) (z (2 : Fin 3)).isLt), if_pos rfl]; rfl)
      (fun a b c hc h => by rw [mix_full _ _ _ _ _ hc, if_neg (by omega)])
  have b' : Reads arg7.view arg7.view.junk (kernelRun.sl.HS0_2 (F := Ideal))
      (mix 1 4 (fun _ _ _ => ⊥) (mix 0 4 (fun _ _ _ => ⊥) (held arg7.view arg7.view.junk []))) :=
    Reads.store b (h := 1) (n := 0) (W := 1024) rfl
      (fun z => by rw [mix_full _ _ _ _ _ (lt_of_eq_of_lt (Nat.zero_add _) (z (2 : Fin 3)).isLt), if_pos rfl]; rfl)
      (fun a b c hc h => by rw [mix_full _ _ _ _ _ hc, if_neg (by omega)])
  exact Reads.done b'

theorem ofBits_zero : Ideal.ofBits .f32 (0#32) = 0 := by
  simp [Ideal.ofBits, Ideal.ieee]

/-- The running sums at the start. -/
theorem sums_start : Reads arg8.view arg8.view.junk (kernelRun.sl.HS1_2 (F := Ideal)) (fun _ _ _ => 0) := by
  have b : Reads arg8.view arg8.view.junk [⟨Rect.unit (s := S2x80x1024) ![0, 0, 0] S1x80x1024.size inb_S2x80x1024_S1x80x1024_0_0_0, k0_pay329 (F := Ideal)⟩]
      (mix 0 4 (fun _ _ _ => 0) (held arg8.view arg8.view.junk [])) :=
    Reads.store (reads_held arg8.view arg8.view.junk []) (h := 0) (n := 0) (W := 1024) rfl
      (fun z => by rw [mix_full _ _ _ _ _ (lt_of_eq_of_lt (Nat.zero_add _) (z (2 : Fin 3)).isLt), if_pos rfl]; exact ofBits_zero)
      (fun a b c hc h => by rw [mix_full _ _ _ _ _ hc, if_neg (by omega)])
  have b' : Reads arg8.view arg8.view.junk (kernelRun.sl.HS1_2 (F := Ideal))
      (mix 1 4 (fun _ _ _ => 0) (mix 0 4 (fun _ _ _ => 0) (held arg8.view arg8.view.junk []))) :=
    Reads.store b (h := 1) (n := 0) (W := 1024) rfl
      (fun z => by rw [mix_full _ _ _ _ _ (lt_of_eq_of_lt (Nat.zero_add _) (z (2 : Fin 3)).isLt), if_pos rfl]; exact ofBits_zero)
      (fun a b c hc h => by rw [mix_full _ _ _ _ _ hc, if_neg (by omega)])
  exact Reads.done b'

set_option maxHeartbeats 800000 in
include hQ hK hV in
/-- The running maxima and sums after the first tile on the diagonal. -/
theorem diagonal_first :
    Reads arg7.view arg7.view.junk (kernelRun.sl.HS0_10 (F := Ideal) c i arg3 harg3 arg4 harg4 arg7 arg9 x0 x1) (mStep (fun _ _ _ => (⊥ : EReal)) (maskOf 0 (scoresOf K Q (2 * (i 1).val))))
    ∧ Reads arg8.view arg8.view.junk (kernelRun.sl.HS1_10 (F := Ideal) c i arg3 harg3 arg4 harg4 arg5 harg5 arg7 arg8 arg9 x0 x1 x2)
      (aStep (fun _ _ _ => (⊥ : EReal)) (fun _ _ _ => (0 : EReal)) (maskOf 0 (scoresOf K Q (2 * (i 1).val))) (valuesOf V (2 * (i 1).val))) := by
  have u := values_read arg5 harg5 x2 hV
  have s := scores_at c i arg3 harg3 arg4 harg4 arg9 x0 x1 hQ hK
  have bm := maxima_start arg7
  have ba := sums_start arg8
  have m0 := bm.next 0 (mStep (fun _ _ _ => (⊥ : EReal)) (maskOf 0 (scoresOf K Q (2 * (i 1).val))))
  have a0 := ba.next 0 (aStep (fun _ _ _ => (⊥ : EReal)) (fun _ _ _ => (0 : EReal)) (maskOf 0 (scoresOf K Q (2 * (i 1).val))) (valuesOf V (2 * (i 1).val)))
  have p0 : Reads arg7.view arg7.view.junk (kernelRun.sl.HS0_3 (F := Ideal) c i arg3 harg3 arg4 harg4 arg7 arg9 x0 x1) (mix 0 1 (mStep (fun _ _ _ => (⊥ : EReal)) (maskOf 0 (scoresOf K Q (2 * (i 1).val)))) (fun _ _ _ => (⊥ : EReal))) :=
    block_max (h := 0) (e := 0) (n := 0) (M := (fun _ _ _ => (⊥ : EReal))) (S := (maskOf 0 (scoresOf K Q (2 * (i 1).val))))
      (mv := (arg7.view.readAt (Elt Ideal) (Rect.unit (s := S2x1x1024) ![0, 0, 0] S1x1x256.size (inb_S2x1x1024_S1x1x256_0_0_0)).toLoadRect (arg7.view.writes (Elt Ideal) arg7.view.junk (kernelRun.sl.HS0_2 (F := Ideal)))))
      (s2 := masked 0#32 (arg9.view.readAt (Elt Ideal) (Rect.unit (s := S2x512x1024) ![0, 0, 0] S1x512x256.size (inb_S2x512x1024_S1x512x256_0_0_0)).toLoadRect (arg9.view.writes (Elt Ideal) arg9.view.junk (kernelRun.sl.HS2_8 (F := Ideal) c i arg3 harg3 arg4 harg4 x0 x1)))) m0 rfl rfl (fun z => (m0.load (h := 0) (n := 0) rfl z).trans (mix_old _ _ rfl _ _)) (masked_scores (d := 0) rfl (by decide) (by decide) fun z => s.load (h := 0) (n := 0) rfl z)
  have q0 : Reads arg8.view arg8.view.junk (kernelRun.sl.HS1_3 (F := Ideal) c i arg3 harg3 arg4 harg4 arg5 harg5 arg7 arg8 arg9 x0 x1 x2) (mix 0 1 (aStep (fun _ _ _ => (⊥ : EReal)) (fun _ _ _ => (0 : EReal)) (maskOf 0 (scoresOf K Q (2 * (i 1).val))) (valuesOf V (2 * (i 1).val))) (fun _ _ _ => (0 : EReal))) :=
    block_sum (h := 0) (e := 0) (n := 0) (M := (fun _ _ _ => (⊥ : EReal))) (S := (maskOf 0 (scoresOf K Q (2 * (i 1).val))))
      (mv := (arg7.view.readAt (Elt Ideal) (Rect.unit (s := S2x1x1024) ![0, 0, 0] S1x1x256.size (inb_S2x1x1024_S1x1x256_0_0_0)).toLoadRect (arg7.view.writes (Elt Ideal) arg7.view.junk (kernelRun.sl.HS0_2 (F := Ideal)))))
      (s2 := masked 0#32 (arg9.view.readAt (Elt Ideal) (Rect.unit (s := S2x512x1024) ![0, 0, 0] S1x512x256.size (inb_S2x512x1024_S1x512x256_0_0_0)).toLoadRect (arg9.view.writes (Elt Ideal) arg9.view.junk (kernelRun.sl.HS2_8 (F := Ideal) c i arg3 harg3 arg4 harg4 x0 x1))))
      (A := (fun _ _ _ => (0 : EReal))) (V := (valuesOf V (2 * (i 1).val))) (av := (arg8.view.readAt (Elt Ideal) (Rect.unit (s := S2x80x1024) ![0, 0, 0] S1x80x256.size (inb_S2x80x1024_S1x80x256_0_0_0)).toLoadRect (arg8.view.writes (Elt Ideal) arg8.view.junk (kernelRun.sl.HS1_2 (F := Ideal))))) (vv := (arg5.view.readAt (Elt Ideal) (Rect.unit (s := S2x32x80x512) (k0_off6 i) S1x1x80x512.size (k0_off6_inb i)).toLoadRect (harg5.unread x2)))
      a0 rfl rfl (fun z => (m0.load (h := 0) (n := 0) rfl z).trans (mix_old _ _ rfl _ _)) (masked_scores (d := 0) rfl (by decide) (by decide) fun z => s.load (h := 0) (n := 0) rfl z) (fun z => (a0.load (h := 0) (n := 0) rfl z).trans (mix_old _ _ rfl _ _)) (fun z => load_values u (off6_eq i) z)
  have m1 := p0
  have a1 := q0
  have p1 : Reads arg7.view arg7.view.junk (kernelRun.sl.HS0_4 (F := Ideal) c i arg3 harg3 arg4 harg4 arg7 arg9 x0 x1) (mix 0 2 (mStep (fun _ _ _ => (⊥ : EReal)) (maskOf 0 (scoresOf K Q (2 * (i 1).val)))) (fun _ _ _ => (⊥ : EReal))) :=
    block_max (h := 0) (e := 1) (n := 256) (M := (fun _ _ _ => (⊥ : EReal))) (S := (maskOf 0 (scoresOf K Q (2 * (i 1).val))))
      (mv := (arg7.view.readAt (Elt Ideal) (Rect.unit (s := S2x1x1024) ![0, 0, 256] S1x1x256.size (inb_S2x1x1024_S1x1x256_0_0_256)).toLoadRect (arg7.view.writes (Elt Ideal) arg7.view.junk (kernelRun.sl.HS0_3 (F := Ideal) c i arg3 harg3 arg4 harg4 arg7 arg9 x0 x1))))
      (s2 := masked 4294967040#32 (arg9.view.readAt (Elt Ideal) (Rect.unit (s := S2x512x1024) ![0, 0, 256] S1x512x256.size (inb_S2x512x1024_S1x512x256_0_0_256)).toLoadRect (arg9.view.writes (Elt Ideal) arg9.view.junk (kernelRun.sl.HS2_8 (F := Ideal) c i arg3 harg3 arg4 harg4 x0 x1)))) m1 rfl rfl (fun z => (m1.load (h := 0) (n := 256) rfl z).trans (mix_old _ _ rfl _ _)) (masked_scores (d := 0) rfl (by decide) (by decide) fun z => s.load (h := 0) (n := 256) rfl z)
  have q1 : Reads arg8.view arg8.view.junk (kernelRun.sl.HS1_4 (F := Ideal) c i arg3 harg3 arg4 harg4 arg5 harg5 arg7 arg8 arg9 x0 x1 x2) (mix 0 2 (aStep (fun _ _ _ => (⊥ : EReal)) (fun _ _ _ => (0 : EReal)) (maskOf 0 (scoresOf K Q (2 * (i 1).val))) (valuesOf V (2 * (i 1).val))) (fun _ _ _ => (0 : EReal))) :=
    block_sum (h := 0) (e := 1) (n := 256) (M := (fun _ _ _ => (⊥ : EReal))) (S := (maskOf 0 (scoresOf K Q (2 * (i 1).val))))
      (mv := (arg7.view.readAt (Elt Ideal) (Rect.unit (s := S2x1x1024) ![0, 0, 256] S1x1x256.size (inb_S2x1x1024_S1x1x256_0_0_256)).toLoadRect (arg7.view.writes (Elt Ideal) arg7.view.junk (kernelRun.sl.HS0_3 (F := Ideal) c i arg3 harg3 arg4 harg4 arg7 arg9 x0 x1))))
      (s2 := masked 4294967040#32 (arg9.view.readAt (Elt Ideal) (Rect.unit (s := S2x512x1024) ![0, 0, 256] S1x512x256.size (inb_S2x512x1024_S1x512x256_0_0_256)).toLoadRect (arg9.view.writes (Elt Ideal) arg9.view.junk (kernelRun.sl.HS2_8 (F := Ideal) c i arg3 harg3 arg4 harg4 x0 x1))))
      (A := (fun _ _ _ => (0 : EReal))) (V := (valuesOf V (2 * (i 1).val))) (av := (arg8.view.readAt (Elt Ideal) (Rect.unit (s := S2x80x1024) ![0, 0, 256] S1x80x256.size (inb_S2x80x1024_S1x80x256_0_0_256)).toLoadRect (arg8.view.writes (Elt Ideal) arg8.view.junk (kernelRun.sl.HS1_3 (F := Ideal) c i arg3 harg3 arg4 harg4 arg5 harg5 arg7 arg8 arg9 x0 x1 x2)))) (vv := (arg5.view.readAt (Elt Ideal) (Rect.unit (s := S2x32x80x512) (k0_off6 i) S1x1x80x512.size (k0_off6_inb i)).toLoadRect (harg5.unread x2)))
      a1 rfl rfl (fun z => (m1.load (h := 0) (n := 256) rfl z).trans (mix_old _ _ rfl _ _)) (masked_scores (d := 0) rfl (by decide) (by decide) fun z => s.load (h := 0) (n := 256) rfl z) (fun z => (a1.load (h := 0) (n := 256) rfl z).trans (mix_old _ _ rfl _ _)) (fun z => load_values u (off6_eq i) z)
  have m2 := p1
  have a2 := q1
  have p2 : Reads arg7.view arg7.view.junk (kernelRun.sl.HS0_5 (F := Ideal) c i arg3 harg3 arg4 harg4 arg7 arg9 x0 x1) (mix 0 3 (mStep (fun _ _ _ => (⊥ : EReal)) (maskOf 0 (scoresOf K Q (2 * (i 1).val)))) (fun _ _ _ => (⊥ : EReal))) :=
    block_max (h := 0) (e := 2) (n := 512) (M := (fun _ _ _ => (⊥ : EReal))) (S := (maskOf 0 (scoresOf K Q (2 * (i 1).val))))
      (mv := (arg7.view.readAt (Elt Ideal) (Rect.unit (s := S2x1x1024) ![0, 0, 512] S1x1x256.size (inb_S2x1x1024_S1x1x256_0_0_512)).toLoadRect (arg7.view.writes (Elt Ideal) arg7.view.junk (kernelRun.sl.HS0_4 (F := Ideal) c i arg3 harg3 arg4 harg4 arg7 arg9 x0 x1))))
      (s2 := masked 4294966784#32 (arg9.view.readAt (Elt Ideal) (Rect.unit (s := S2x512x1024) ![0, 0, 512] S1x512x256.size (inb_S2x512x1024_S1x512x256_0_0_512)).toLoadRect (arg9.view.writes (Elt Ideal) arg9.view.junk (kernelRun.sl.HS2_8 (F := Ideal) c i arg3 harg3 arg4 harg4 x0 x1)))) m2 rfl rfl (fun z => (m2.load (h := 0) (n := 512) rfl z).trans (mix_old _ _ rfl _ _)) (masked_scores (d := 0) rfl (by decide) (by decide) fun z => s.load (h := 0) (n := 512) rfl z)
  have q2 : Reads arg8.view arg8.view.junk (kernelRun.sl.HS1_5 (F := Ideal) c i arg3 harg3 arg4 harg4 arg5 harg5 arg7 arg8 arg9 x0 x1 x2) (mix 0 3 (aStep (fun _ _ _ => (⊥ : EReal)) (fun _ _ _ => (0 : EReal)) (maskOf 0 (scoresOf K Q (2 * (i 1).val))) (valuesOf V (2 * (i 1).val))) (fun _ _ _ => (0 : EReal))) :=
    block_sum (h := 0) (e := 2) (n := 512) (M := (fun _ _ _ => (⊥ : EReal))) (S := (maskOf 0 (scoresOf K Q (2 * (i 1).val))))
      (mv := (arg7.view.readAt (Elt Ideal) (Rect.unit (s := S2x1x1024) ![0, 0, 512] S1x1x256.size (inb_S2x1x1024_S1x1x256_0_0_512)).toLoadRect (arg7.view.writes (Elt Ideal) arg7.view.junk (kernelRun.sl.HS0_4 (F := Ideal) c i arg3 harg3 arg4 harg4 arg7 arg9 x0 x1))))
      (s2 := masked 4294966784#32 (arg9.view.readAt (Elt Ideal) (Rect.unit (s := S2x512x1024) ![0, 0, 512] S1x512x256.size (inb_S2x512x1024_S1x512x256_0_0_512)).toLoadRect (arg9.view.writes (Elt Ideal) arg9.view.junk (kernelRun.sl.HS2_8 (F := Ideal) c i arg3 harg3 arg4 harg4 x0 x1))))
      (A := (fun _ _ _ => (0 : EReal))) (V := (valuesOf V (2 * (i 1).val))) (av := (arg8.view.readAt (Elt Ideal) (Rect.unit (s := S2x80x1024) ![0, 0, 512] S1x80x256.size (inb_S2x80x1024_S1x80x256_0_0_512)).toLoadRect (arg8.view.writes (Elt Ideal) arg8.view.junk (kernelRun.sl.HS1_4 (F := Ideal) c i arg3 harg3 arg4 harg4 arg5 harg5 arg7 arg8 arg9 x0 x1 x2)))) (vv := (arg5.view.readAt (Elt Ideal) (Rect.unit (s := S2x32x80x512) (k0_off6 i) S1x1x80x512.size (k0_off6_inb i)).toLoadRect (harg5.unread x2)))
      a2 rfl rfl (fun z => (m2.load (h := 0) (n := 512) rfl z).trans (mix_old _ _ rfl _ _)) (masked_scores (d := 0) rfl (by decide) (by decide) fun z => s.load (h := 0) (n := 512) rfl z) (fun z => (a2.load (h := 0) (n := 512) rfl z).trans (mix_old _ _ rfl _ _)) (fun z => load_values u (off6_eq i) z)
  have m3 := p2
  have a3 := q2
  have p3 : Reads arg7.view arg7.view.junk (kernelRun.sl.HS0_6 (F := Ideal) c i arg3 harg3 arg4 harg4 arg7 arg9 x0 x1) (mix 0 4 (mStep (fun _ _ _ => (⊥ : EReal)) (maskOf 0 (scoresOf K Q (2 * (i 1).val)))) (fun _ _ _ => (⊥ : EReal))) :=
    block_max (h := 0) (e := 3) (n := 768) (M := (fun _ _ _ => (⊥ : EReal))) (S := (maskOf 0 (scoresOf K Q (2 * (i 1).val))))
      (mv := (arg7.view.readAt (Elt Ideal) (Rect.unit (s := S2x1x1024) ![0, 0, 768] S1x1x256.size (inb_S2x1x1024_S1x1x256_0_0_768)).toLoadRect (arg7.view.writes (Elt Ideal) arg7.view.junk (kernelRun.sl.HS0_5 (F := Ideal) c i arg3 harg3 arg4 harg4 arg7 arg9 x0 x1))))
      (s2 := masked 4294966528#32 (arg9.view.readAt (Elt Ideal) (Rect.unit (s := S2x512x1024) ![0, 0, 768] S1x512x256.size (inb_S2x512x1024_S1x512x256_0_0_768)).toLoadRect (arg9.view.writes (Elt Ideal) arg9.view.junk (kernelRun.sl.HS2_8 (F := Ideal) c i arg3 harg3 arg4 harg4 x0 x1)))) m3 rfl rfl (fun z => (m3.load (h := 0) (n := 768) rfl z).trans (mix_old _ _ rfl _ _)) (masked_scores (d := 0) rfl (by decide) (by decide) fun z => s.load (h := 0) (n := 768) rfl z)
  have q3 : Reads arg8.view arg8.view.junk (kernelRun.sl.HS1_6 (F := Ideal) c i arg3 harg3 arg4 harg4 arg5 harg5 arg7 arg8 arg9 x0 x1 x2) (mix 0 4 (aStep (fun _ _ _ => (⊥ : EReal)) (fun _ _ _ => (0 : EReal)) (maskOf 0 (scoresOf K Q (2 * (i 1).val))) (valuesOf V (2 * (i 1).val))) (fun _ _ _ => (0 : EReal))) :=
    block_sum (h := 0) (e := 3) (n := 768) (M := (fun _ _ _ => (⊥ : EReal))) (S := (maskOf 0 (scoresOf K Q (2 * (i 1).val))))
      (mv := (arg7.view.readAt (Elt Ideal) (Rect.unit (s := S2x1x1024) ![0, 0, 768] S1x1x256.size (inb_S2x1x1024_S1x1x256_0_0_768)).toLoadRect (arg7.view.writes (Elt Ideal) arg7.view.junk (kernelRun.sl.HS0_5 (F := Ideal) c i arg3 harg3 arg4 harg4 arg7 arg9 x0 x1))))
      (s2 := masked 4294966528#32 (arg9.view.readAt (Elt Ideal) (Rect.unit (s := S2x512x1024) ![0, 0, 768] S1x512x256.size (inb_S2x512x1024_S1x512x256_0_0_768)).toLoadRect (arg9.view.writes (Elt Ideal) arg9.view.junk (kernelRun.sl.HS2_8 (F := Ideal) c i arg3 harg3 arg4 harg4 x0 x1))))
      (A := (fun _ _ _ => (0 : EReal))) (V := (valuesOf V (2 * (i 1).val))) (av := (arg8.view.readAt (Elt Ideal) (Rect.unit (s := S2x80x1024) ![0, 0, 768] S1x80x256.size (inb_S2x80x1024_S1x80x256_0_0_768)).toLoadRect (arg8.view.writes (Elt Ideal) arg8.view.junk (kernelRun.sl.HS1_5 (F := Ideal) c i arg3 harg3 arg4 harg4 arg5 harg5 arg7 arg8 arg9 x0 x1 x2)))) (vv := (arg5.view.readAt (Elt Ideal) (Rect.unit (s := S2x32x80x512) (k0_off6 i) S1x1x80x512.size (k0_off6_inb i)).toLoadRect (harg5.unread x2)))
      a3 rfl rfl (fun z => (m3.load (h := 0) (n := 768) rfl z).trans (mix_old _ _ rfl _ _)) (masked_scores (d := 0) rfl (by decide) (by decide) fun z => s.load (h := 0) (n := 768) rfl z) (fun z => (a3.load (h := 0) (n := 768) rfl z).trans (mix_old _ _ rfl _ _)) (fun z => load_values u (off6_eq i) z)
  have m4 := p3.next 1 (mStep (fun _ _ _ => (⊥ : EReal)) (maskOf 0 (scoresOf K Q (2 * (i 1).val))))
  have a4 := q3.next 1 (aStep (fun _ _ _ => (⊥ : EReal)) (fun _ _ _ => (0 : EReal)) (maskOf 0 (scoresOf K Q (2 * (i 1).val))) (valuesOf V (2 * (i 1).val)))
  have p4 : Reads arg7.view arg7.view.junk (kernelRun.sl.HS0_7 (F := Ideal) c i arg3 harg3 arg4 harg4 arg7 arg9 x0 x1) (mix 1 1 (mStep (fun _ _ _ => (⊥ : EReal)) (maskOf 0 (scoresOf K Q (2 * (i 1).val)))) (mix 0 4 (mStep (fun _ _ _ => (⊥ : EReal)) (maskOf 0 (scoresOf K Q (2 * (i 1).val)))) (fun _ _ _ => (⊥ : EReal)))) :=
    block_max (h := 1) (e := 0) (n := 0) (M := (fun _ _ _ => (⊥ : EReal))) (S := (maskOf 0 (scoresOf K Q (2 * (i 1).val))))
      (mv := (arg7.view.readAt (Elt Ideal) (Rect.unit (s := S2x1x1024) ![1, 0, 0] S1x1x256.size (inb_S2x1x1024_S1x1x256_1_0_0)).toLoadRect (arg7.view.writes (Elt Ideal) arg7.view.junk (kernelRun.sl.HS0_6 (F := Ideal) c i arg3 harg3 arg4 harg4 arg7 arg9 x0 x1))))
      (s2 := masked 0#32 (arg9.view.readAt (Elt Ideal) (Rect.unit (s := S2x512x1024) ![1, 0, 0] S1x512x256.size (inb_S2x512x1024_S1x512x256_1_0_0)).toLoadRect (arg9.view.writes (Elt Ideal) arg9.view.junk (kernelRun.sl.HS2_8 (F := Ideal) c i arg3 harg3 arg4 harg4 x0 x1)))) m4 rfl rfl (fun z => (m4.load (h := 1) (n := 0) rfl z).trans ((mix_old _ _ rfl _ _).trans (mix_other _ _ (by decide) _ _))) (masked_scores (d := 0) rfl (by decide) (by decide) fun z => s.load (h := 1) (n := 0) rfl z)
  have q4 : Reads arg8.view arg8.view.junk (kernelRun.sl.HS1_7 (F := Ideal) c i arg3 harg3 arg4 harg4 arg5 harg5 arg7 arg8 arg9 x0 x1 x2) (mix 1 1 (aStep (fun _ _ _ => (⊥ : EReal)) (fun _ _ _ => (0 : EReal)) (maskOf 0 (scoresOf K Q (2 * (i 1).val))) (valuesOf V (2 * (i 1).val))) (mix 0 4 (aStep (fun _ _ _ => (⊥ : EReal)) (fun _ _ _ => (0 : EReal)) (maskOf 0 (scoresOf K Q (2 * (i 1).val))) (valuesOf V (2 * (i 1).val))) (fun _ _ _ => (0 : EReal)))) :=
    block_sum (h := 1) (e := 0) (n := 0) (M := (fun _ _ _ => (⊥ : EReal))) (S := (maskOf 0 (scoresOf K Q (2 * (i 1).val))))
      (mv := (arg7.view.readAt (Elt Ideal) (Rect.unit (s := S2x1x1024) ![1, 0, 0] S1x1x256.size (inb_S2x1x1024_S1x1x256_1_0_0)).toLoadRect (arg7.view.writes (Elt Ideal) arg7.view.junk (kernelRun.sl.HS0_6 (F := Ideal) c i arg3 harg3 arg4 harg4 arg7 arg9 x0 x1))))
      (s2 := masked 0#32 (arg9.view.readAt (Elt Ideal) (Rect.unit (s := S2x512x1024) ![1, 0, 0] S1x512x256.size (inb_S2x512x1024_S1x512x256_1_0_0)).toLoadRect (arg9.view.writes (Elt Ideal) arg9.view.junk (kernelRun.sl.HS2_8 (F := Ideal) c i arg3 harg3 arg4 harg4 x0 x1))))
      (A := (fun _ _ _ => (0 : EReal))) (V := (valuesOf V (2 * (i 1).val))) (av := (arg8.view.readAt (Elt Ideal) (Rect.unit (s := S2x80x1024) ![1, 0, 0] S1x80x256.size (inb_S2x80x1024_S1x80x256_1_0_0)).toLoadRect (arg8.view.writes (Elt Ideal) arg8.view.junk (kernelRun.sl.HS1_6 (F := Ideal) c i arg3 harg3 arg4 harg4 arg5 harg5 arg7 arg8 arg9 x0 x1 x2)))) (vv := (arg5.view.readAt (Elt Ideal) (Rect.unit (s := S2x32x80x512) (k0_off8 i) S1x1x80x512.size (k0_off8_inb i)).toLoadRect (harg5.unread x2)))
      a4 rfl rfl (fun z => (m4.load (h := 1) (n := 0) rfl z).trans ((mix_old _ _ rfl _ _).trans (mix_other _ _ (by decide) _ _))) (masked_scores (d := 0) rfl (by decide) (by decide) fun z => s.load (h := 1) (n := 0) rfl z) (fun z => (a4.load (h := 1) (n := 0) rfl z).trans ((mix_old _ _ rfl _ _).trans (mix_other _ _ (by decide) _ _))) (fun z => load_values u (off8_eq i) z)
  have m5 := p4
  have a5 := q4
  have p5 : Reads arg7.view arg7.view.junk (kernelRun.sl.HS0_8 (F := Ideal) c i arg3 harg3 arg4 harg4 arg7 arg9 x0 x1) (mix 1 2 (mStep (fun _ _ _ => (⊥ : EReal)) (maskOf 0 (scoresOf K Q (2 * (i 1).val)))) (mix 0 4 (mStep (fun _ _ _ => (⊥ : EReal)) (maskOf 0 (scoresOf K Q (2 * (i 1).val)))) (fun _ _ _ => (⊥ : EReal)))) :=
    block_max (h := 1) (e := 1) (n := 256) (M := (fun _ _ _ => (⊥ : EReal))) (S := (maskOf 0 (scoresOf K Q (2 * (i 1).val))))
      (mv := (arg7.view.readAt (Elt Ideal) (Rect.unit (s := S2x1x1024) ![1, 0, 256] S1x1x256.size (inb_S2x1x1024_S1x1x256_1_0_256)).toLoadRect (arg7.view.writes (Elt Ideal) arg7.view.junk (kernelRun.sl.HS0_7 (F := Ideal) c i arg3 harg3 arg4 harg4 arg7 arg9 x0 x1))))
      (s2 := masked 4294967040#32 (arg9.view.readAt (Elt Ideal) (Rect.unit (s := S2x512x1024) ![1, 0, 256] S1x512x256.size (inb_S2x512x1024_S1x512x256_1_0_256)).toLoadRect (arg9.view.writes (Elt Ideal) arg9.view.junk (kernelRun.sl.HS2_8 (F := Ideal) c i arg3 harg3 arg4 harg4 x0 x1)))) m5 rfl rfl (fun z => (m5.load (h := 1) (n := 256) rfl z).trans ((mix_old _ _ rfl _ _).trans (mix_other _ _ (by decide) _ _))) (masked_scores (d := 0) rfl (by decide) (by decide) fun z => s.load (h := 1) (n := 256) rfl z)
  have q5 : Reads arg8.view arg8.view.junk (kernelRun.sl.HS1_8 (F := Ideal) c i arg3 harg3 arg4 harg4 arg5 harg5 arg7 arg8 arg9 x0 x1 x2) (mix 1 2 (aStep (fun _ _ _ => (⊥ : EReal)) (fun _ _ _ => (0 : EReal)) (maskOf 0 (scoresOf K Q (2 * (i 1).val))) (valuesOf V (2 * (i 1).val))) (mix 0 4 (aStep (fun _ _ _ => (⊥ : EReal)) (fun _ _ _ => (0 : EReal)) (maskOf 0 (scoresOf K Q (2 * (i 1).val))) (valuesOf V (2 * (i 1).val))) (fun _ _ _ => (0 : EReal)))) :=
    block_sum (h := 1) (e := 1) (n := 256) (M := (fun _ _ _ => (⊥ : EReal))) (S := (maskOf 0 (scoresOf K Q (2 * (i 1).val))))
      (mv := (arg7.view.readAt (Elt Ideal) (Rect.unit (s := S2x1x1024) ![1, 0, 256] S1x1x256.size (inb_S2x1x1024_S1x1x256_1_0_256)).toLoadRect (arg7.view.writes (Elt Ideal) arg7.view.junk (kernelRun.sl.HS0_7 (F := Ideal) c i arg3 harg3 arg4 harg4 arg7 arg9 x0 x1))))
      (s2 := masked 4294967040#32 (arg9.view.readAt (Elt Ideal) (Rect.unit (s := S2x512x1024) ![1, 0, 256] S1x512x256.size (inb_S2x512x1024_S1x512x256_1_0_256)).toLoadRect (arg9.view.writes (Elt Ideal) arg9.view.junk (kernelRun.sl.HS2_8 (F := Ideal) c i arg3 harg3 arg4 harg4 x0 x1))))
      (A := (fun _ _ _ => (0 : EReal))) (V := (valuesOf V (2 * (i 1).val))) (av := (arg8.view.readAt (Elt Ideal) (Rect.unit (s := S2x80x1024) ![1, 0, 256] S1x80x256.size (inb_S2x80x1024_S1x80x256_1_0_256)).toLoadRect (arg8.view.writes (Elt Ideal) arg8.view.junk (kernelRun.sl.HS1_7 (F := Ideal) c i arg3 harg3 arg4 harg4 arg5 harg5 arg7 arg8 arg9 x0 x1 x2)))) (vv := (arg5.view.readAt (Elt Ideal) (Rect.unit (s := S2x32x80x512) (k0_off8 i) S1x1x80x512.size (k0_off8_inb i)).toLoadRect (harg5.unread x2)))
      a5 rfl rfl (fun z => (m5.load (h := 1) (n := 256) rfl z).trans ((mix_old _ _ rfl _ _).trans (mix_other _ _ (by decide) _ _))) (masked_scores (d := 0) rfl (by decide) (by decide) fun z => s.load (h := 1) (n := 256) rfl z) (fun z => (a5.load (h := 1) (n := 256) rfl z).trans ((mix_old _ _ rfl _ _).trans (mix_other _ _ (by decide) _ _))) (fun z => load_values u (off8_eq i) z)
  have m6 := p5
  have a6 := q5
  have p6 : Reads arg7.view arg7.view.junk (kernelRun.sl.HS0_9 (F := Ideal) c i arg3 harg3 arg4 harg4 arg7 arg9 x0 x1) (mix 1 3 (mStep (fun _ _ _ => (⊥ : EReal)) (maskOf 0 (scoresOf K Q (2 * (i 1).val)))) (mix 0 4 (mStep (fun _ _ _ => (⊥ : EReal)) (maskOf 0 (scoresOf K Q (2 * (i 1).val)))) (fun _ _ _ => (⊥ : EReal)))) :=
    block_max (h := 1) (e := 2) (n := 512) (M := (fun _ _ _ => (⊥ : EReal))) (S := (maskOf 0 (scoresOf K Q (2 * (i 1).val))))
      (mv := (arg7.view.readAt (Elt Ideal) (Rect.unit (s := S2x1x1024) ![1, 0, 512] S1x1x256.size (inb_S2x1x1024_S1x1x256_1_0_512)).toLoadRect (arg7.view.writes (Elt Ideal) arg7.view.junk (kernelRun.sl.HS0_8 (F := Ideal) c i arg3 harg3 arg4 harg4 arg7 arg9 x0 x1))))
      (s2 := masked 4294966784#32 (arg9.view.readAt (Elt Ideal) (Rect.unit (s := S2x512x1024) ![1, 0, 512] S1x512x256.size (inb_S2x512x1024_S1x512x256_1_0_512)).toLoadRect (arg9.view.writes (Elt Ideal) arg9.view.junk (kernelRun.sl.HS2_8 (F := Ideal) c i arg3 harg3 arg4 harg4 x0 x1)))) m6 rfl rfl (fun z => (m6.load (h := 1) (n := 512) rfl z).trans ((mix_old _ _ rfl _ _).trans (mix_other _ _ (by decide) _ _))) (masked_scores (d := 0) rfl (by decide) (by decide) fun z => s.load (h := 1) (n := 512) rfl z)
  have q6 : Reads arg8.view arg8.view.junk (kernelRun.sl.HS1_9 (F := Ideal) c i arg3 harg3 arg4 harg4 arg5 harg5 arg7 arg8 arg9 x0 x1 x2) (mix 1 3 (aStep (fun _ _ _ => (⊥ : EReal)) (fun _ _ _ => (0 : EReal)) (maskOf 0 (scoresOf K Q (2 * (i 1).val))) (valuesOf V (2 * (i 1).val))) (mix 0 4 (aStep (fun _ _ _ => (⊥ : EReal)) (fun _ _ _ => (0 : EReal)) (maskOf 0 (scoresOf K Q (2 * (i 1).val))) (valuesOf V (2 * (i 1).val))) (fun _ _ _ => (0 : EReal)))) :=
    block_sum (h := 1) (e := 2) (n := 512) (M := (fun _ _ _ => (⊥ : EReal))) (S := (maskOf 0 (scoresOf K Q (2 * (i 1).val))))
      (mv := (arg7.view.readAt (Elt Ideal) (Rect.unit (s := S2x1x1024) ![1, 0, 512] S1x1x256.size (inb_S2x1x1024_S1x1x256_1_0_512)).toLoadRect (arg7.view.writes (Elt Ideal) arg7.view.junk (kernelRun.sl.HS0_8 (F := Ideal) c i arg3 harg3 arg4 harg4 arg7 arg9 x0 x1))))
      (s2 := masked 4294966784#32 (arg9.view.readAt (Elt Ideal) (Rect.unit (s := S2x512x1024) ![1, 0, 512] S1x512x256.size (inb_S2x512x1024_S1x512x256_1_0_512)).toLoadRect (arg9.view.writes (Elt Ideal) arg9.view.junk (kernelRun.sl.HS2_8 (F := Ideal) c i arg3 harg3 arg4 harg4 x0 x1))))
      (A := (fun _ _ _ => (0 : EReal))) (V := (valuesOf V (2 * (i 1).val))) (av := (arg8.view.readAt (Elt Ideal) (Rect.unit (s := S2x80x1024) ![1, 0, 512] S1x80x256.size (inb_S2x80x1024_S1x80x256_1_0_512)).toLoadRect (arg8.view.writes (Elt Ideal) arg8.view.junk (kernelRun.sl.HS1_8 (F := Ideal) c i arg3 harg3 arg4 harg4 arg5 harg5 arg7 arg8 arg9 x0 x1 x2)))) (vv := (arg5.view.readAt (Elt Ideal) (Rect.unit (s := S2x32x80x512) (k0_off8 i) S1x1x80x512.size (k0_off8_inb i)).toLoadRect (harg5.unread x2)))
      a6 rfl rfl (fun z => (m6.load (h := 1) (n := 512) rfl z).trans ((mix_old _ _ rfl _ _).trans (mix_other _ _ (by decide) _ _))) (masked_scores (d := 0) rfl (by decide) (by decide) fun z => s.load (h := 1) (n := 512) rfl z) (fun z => (a6.load (h := 1) (n := 512) rfl z).trans ((mix_old _ _ rfl _ _).trans (mix_other _ _ (by decide) _ _))) (fun z => load_values u (off8_eq i) z)
  have m7 := p6
  have a7 := q6
  have p7 : Reads arg7.view arg7.view.junk (kernelRun.sl.HS0_10 (F := Ideal) c i arg3 harg3 arg4 harg4 arg7 arg9 x0 x1) (mix 1 4 (mStep (fun _ _ _ => (⊥ : EReal)) (maskOf 0 (scoresOf K Q (2 * (i 1).val)))) (mix 0 4 (mStep (fun _ _ _ => (⊥ : EReal)) (maskOf 0 (scoresOf K Q (2 * (i 1).val)))) (fun _ _ _ => (⊥ : EReal)))) :=
    block_max (h := 1) (e := 3) (n := 768) (M := (fun _ _ _ => (⊥ : EReal))) (S := (maskOf 0 (scoresOf K Q (2 * (i 1).val))))
      (mv := (arg7.view.readAt (Elt Ideal) (Rect.unit (s := S2x1x1024) ![1, 0, 768] S1x1x256.size (inb_S2x1x1024_S1x1x256_1_0_768)).toLoadRect (arg7.view.writes (Elt Ideal) arg7.view.junk (kernelRun.sl.HS0_9 (F := Ideal) c i arg3 harg3 arg4 harg4 arg7 arg9 x0 x1))))
      (s2 := masked 4294966528#32 (arg9.view.readAt (Elt Ideal) (Rect.unit (s := S2x512x1024) ![1, 0, 768] S1x512x256.size (inb_S2x512x1024_S1x512x256_1_0_768)).toLoadRect (arg9.view.writes (Elt Ideal) arg9.view.junk (kernelRun.sl.HS2_8 (F := Ideal) c i arg3 harg3 arg4 harg4 x0 x1)))) m7 rfl rfl (fun z => (m7.load (h := 1) (n := 768) rfl z).trans ((mix_old _ _ rfl _ _).trans (mix_other _ _ (by decide) _ _))) (masked_scores (d := 0) rfl (by decide) (by decide) fun z => s.load (h := 1) (n := 768) rfl z)
  have q7 : Reads arg8.view arg8.view.junk (kernelRun.sl.HS1_10 (F := Ideal) c i arg3 harg3 arg4 harg4 arg5 harg5 arg7 arg8 arg9 x0 x1 x2) (mix 1 4 (aStep (fun _ _ _ => (⊥ : EReal)) (fun _ _ _ => (0 : EReal)) (maskOf 0 (scoresOf K Q (2 * (i 1).val))) (valuesOf V (2 * (i 1).val))) (mix 0 4 (aStep (fun _ _ _ => (⊥ : EReal)) (fun _ _ _ => (0 : EReal)) (maskOf 0 (scoresOf K Q (2 * (i 1).val))) (valuesOf V (2 * (i 1).val))) (fun _ _ _ => (0 : EReal)))) :=
    block_sum (h := 1) (e := 3) (n := 768) (M := (fun _ _ _ => (⊥ : EReal))) (S := (maskOf 0 (scoresOf K Q (2 * (i 1).val))))
      (mv := (arg7.view.readAt (Elt Ideal) (Rect.unit (s := S2x1x1024) ![1, 0, 768] S1x1x256.size (inb_S2x1x1024_S1x1x256_1_0_768)).toLoadRect (arg7.view.writes (Elt Ideal) arg7.view.junk (kernelRun.sl.HS0_9 (F := Ideal) c i arg3 harg3 arg4 harg4 arg7 arg9 x0 x1))))
      (s2 := masked 4294966528#32 (arg9.view.readAt (Elt Ideal) (Rect.unit (s := S2x512x1024) ![1, 0, 768] S1x512x256.size (inb_S2x512x1024_S1x512x256_1_0_768)).toLoadRect (arg9.view.writes (Elt Ideal) arg9.view.junk (kernelRun.sl.HS2_8 (F := Ideal) c i arg3 harg3 arg4 harg4 x0 x1))))
      (A := (fun _ _ _ => (0 : EReal))) (V := (valuesOf V (2 * (i 1).val))) (av := (arg8.view.readAt (Elt Ideal) (Rect.unit (s := S2x80x1024) ![1, 0, 768] S1x80x256.size (inb_S2x80x1024_S1x80x256_1_0_768)).toLoadRect (arg8.view.writes (Elt Ideal) arg8.view.junk (kernelRun.sl.HS1_9 (F := Ideal) c i arg3 harg3 arg4 harg4 arg5 harg5 arg7 arg8 arg9 x0 x1 x2)))) (vv := (arg5.view.readAt (Elt Ideal) (Rect.unit (s := S2x32x80x512) (k0_off8 i) S1x1x80x512.size (k0_off8_inb i)).toLoadRect (harg5.unread x2)))
      a7 rfl rfl (fun z => (m7.load (h := 1) (n := 768) rfl z).trans ((mix_old _ _ rfl _ _).trans (mix_other _ _ (by decide) _ _))) (masked_scores (d := 0) rfl (by decide) (by decide) fun z => s.load (h := 1) (n := 768) rfl z) (fun z => (a7.load (h := 1) (n := 768) rfl z).trans ((mix_old _ _ rfl _ _).trans (mix_other _ _ (by decide) _ _))) (fun z => load_values u (off8_eq i) z)
  exact ⟨p7.done, q7.done⟩

end

end Cert.KernelIdeal.Flash

end
-- ==== Proof.Second.lean ====
/- The attention kernel takes in the second tile on the diagonal: what the running maxima and the running
   sums hold after it. -/
module

public import proofs.«01_k».proof.Proof.Masked
public import proofs.«01_k».proof.Proof.First

@[expose] public section

set_option maxRecDepth 16384

noncomputable section

namespace Cert.KernelIdeal.Flash

open Idealize.ShloMosaic Idealize.ShloMosaic.TcCoe Cert.KernelIdeal.Gen Cert.Flash

section
variable (c : Dev nD) (i : grid0.Coords) (arg3 : Memref sig .tc .vmem S2x1024x128 .bf16) (harg3 : arg3.IsWhole)
  (arg4 : Memref sig .tc .vmem S2x16384x128 .bf16) (harg4 : arg4.IsWhole)
  (arg5 : Memref sig .tc .vmem S2x32x80x512 .bf16) (harg5 : arg5.IsWhole)
  (arg7 : Memref sig .tc .vmem S2x1x1024 .f32) (arg8 : Memref sig .tc .vmem S2x80x1024 .f32)
  (arg9 : Memref sig .tc .vmem S2x512x1024 .f32) (arg10 : Memref sig .tc .vmem S2x512x1024 .f32)
  (x0 : Vec Ideal S2x1024x128 .bf16) (x1 : Vec Ideal S2x16384x128 .bf16) (x2 : Vec Ideal S2x32x80x512 .bf16)
  {Q K : Grid} {V : ℕ → Grid}
  (hQ : ∀ y : S2x1024x128.Idx, x0 y = Q (y 0).val (y 1).val (y 2).val)
  (hK : ∀ y : S2x16384x128.Idx, x1 y = K (y 0).val (y 1).val (y 2).val)
  (hV : ∀ y : S2x32x80x512.Idx, x2 y = V (y 0).val (y 1).val (y 2).val (y 3).val)

set_option maxHeartbeats 800000 in
include hQ hK hV in
/-- The running maxima and sums after the second tile on the diagonal. -/
theorem diagonal_second :
    Reads arg7.view arg7.view.junk (kernelRun.sl.HS0_18 (F := Ideal) c i arg3 harg3 arg4 harg4 arg7 arg9 arg10 x0 x1) (mStep (mStep (fun _ _ _ => (⊥ : EReal)) (maskOf 0 (scoresOf K Q (2 * (i 1).val)))) (maskOf 512 (scoresOf K Q (2 * (i 1).val + 1))))
    ∧ Reads arg8.view arg8.view.junk (kernelRun.sl.HS1_18 (F := Ideal) c i arg3 harg3 arg4 harg4 arg5 harg5 arg7 arg8 arg9 arg10 x0 x1 x2)
      (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) := by
  have u := values_read arg5 harg5 x2 hV
  have s := scores_after c i arg3 harg3 arg4 harg4 arg10 x0 x1 hQ hK
  obtain ⟨bm, ba⟩ := diagonal_first c i arg3 harg3 arg4 harg4 arg5 harg5 arg7 arg8 arg9 x0 x1 x2 hQ hK hV
  have m0 := bm.next 0 (mStep (mStep (fun _ _ _ => (⊥ : EReal)) (maskOf 0 (scoresOf K Q (2 * (i 1).val)))) (maskOf 512 (scoresOf K Q (2 * (i 1).val + 1))))
  have a0 := ba.next 0 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1)))
  have p0 : Reads arg7.view arg7.view.junk (kernelRun.sl.HS0_11 (F := Ideal) c i arg3 harg3 arg4 harg4 arg7 arg9 arg10 x0 x1) (mix 0 1 (mStep (mStep (fun _ _ _ => (⊥ : EReal)) (maskOf 0 (scoresOf K Q (2 * (i 1).val)))) (maskOf 512 (scoresOf K Q (2 * (i 1).val + 1)))) (mStep (fun _ _ _ => (⊥ : EReal)) (maskOf 0 (scoresOf K Q (2 * (i 1).val))))) :=
    block_max (h := 0) (e := 0) (n := 0) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![0, 0, 0] S1x1x256.size (inb_S2x1x1024_S1x1x256_0_0_0)).toLoadRect (arg7.view.writes (Elt Ideal) arg7.view.junk (kernelRun.sl.HS0_10 (F := Ideal) c i arg3 harg3 arg4 harg4 arg7 arg9 x0 x1))))
      (s2 := masked 512#32 (arg10.view.readAt (Elt Ideal) (Rect.unit (s := S2x512x1024) ![0, 0, 0] S1x512x256.size (inb_S2x512x1024_S1x512x256_0_0_0)).toLoadRect (arg10.view.writes (Elt Ideal) arg10.view.junk (kernelRun.sl.HS3_8 (F := Ideal) c i arg3 harg3 arg4 harg4 x0 x1)))) m0 rfl rfl (fun z => (m0.load (h := 0) (n := 0) rfl z).trans (mix_old _ _ rfl _ _)) (masked_scores (d := 512) rfl (by decide) (by decide) fun z => s.load (h := 0) (n := 0) rfl z)
  have q0 : Reads arg8.view arg8.view.junk (kernelRun.sl.HS1_11 (F := Ideal) c i arg3 harg3 arg4 harg4 arg5 harg5 arg7 arg8 arg9 arg10 x0 x1 x2) (mix 0 1 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (aStep (fun _ _ _ => (⊥ : EReal)) (fun _ _ _ => (0 : EReal)) (maskOf 0 (scoresOf K Q (2 * (i 1).val))) (valuesOf V (2 * (i 1).val)))) :=
    block_sum (h := 0) (e := 0) (n := 0) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![0, 0, 0] S1x1x256.size (inb_S2x1x1024_S1x1x256_0_0_0)).toLoadRect (arg7.view.writes (Elt Ideal) arg7.view.junk (kernelRun.sl.HS0_10 (F := Ideal) c i arg3 harg3 arg4 harg4 arg7 arg9 x0 x1))))
      (s2 := masked 512#32 (arg10.view.readAt (Elt Ideal) (Rect.unit (s := S2x512x1024) ![0, 0, 0] S1x512x256.size (inb_S2x512x1024_S1x512x256_0_0_0)).toLoadRect (arg10.view.writes (Elt Ideal) arg10.view.junk (kernelRun.sl.HS3_8 (F := Ideal) c i arg3 harg3 arg4 harg4 x0 x1))))
      (A := (aStep (fun _ _ _ => (⊥ : EReal)) (fun _ _ _ => (0 : EReal)) (maskOf 0 (scoresOf K Q (2 * (i 1).val))) (valuesOf V (2 * (i 1).val)))) (V := (valuesOf V (2 * (i 1).val + 1))) (av := (arg8.view.readAt (Elt Ideal) (Rect.unit (s := S2x80x1024) ![0, 0, 0] S1x80x256.size (inb_S2x80x1024_S1x80x256_0_0_0)).toLoadRect (arg8.view.writes (Elt Ideal) arg8.view.junk (kernelRun.sl.HS1_10 (F := Ideal) c i arg3 harg3 arg4 harg4 arg5 harg5 arg7 arg8 arg9 x0 x1 x2)))) (vv := (arg5.view.readAt (Elt Ideal) (Rect.unit (s := S2x32x80x512) (k0_off10 i) S1x1x80x512.size (k0_off10_inb i)).toLoadRect (harg5.unread x2)))
      a0 rfl rfl (fun z => (m0.load (h := 0) (n := 0) rfl z).trans (mix_old _ _ rfl _ _)) (masked_scores (d := 512) rfl (by decide) (by decide) fun z => s.load (h := 0) (n := 0) rfl z) (fun z => (a0.load (h := 0) (n := 0) rfl z).trans (mix_old _ _ rfl _ _)) (fun z => load_values u (off10_eq i) z)
  have m1 := p0
  have a1 := q0
  have p1 : Reads arg7.view arg7.view.junk (kernelRun.sl.HS0_12 (F := Ideal) c i arg3 harg3 arg4 harg4 arg7 arg9 arg10 x0 x1) (mix 0 2 (mStep (mStep (fun _ _ _ => (⊥ : EReal)) (maskOf 0 (scoresOf K Q (2 * (i 1).val)))) (maskOf 512 (scoresOf K Q (2 * (i 1).val + 1)))) (mStep (fun _ _ _ => (⊥ : EReal)) (maskOf 0 (scoresOf K Q (2 * (i 1).val))))) :=
    block_max (h := 0) (e := 1) (n := 256) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![0, 0, 256] S1x1x256.size (inb_S2x1x1024_S1x1x256_0_0_256)).toLoadRect (arg7.view.writes (Elt Ideal) arg7.view.junk (kernelRun.sl.HS0_11 (F := Ideal) c i arg3 harg3 arg4 harg4 arg7 arg9 arg10 x0 x1))))
      (s2 := masked 256#32 (arg10.view.readAt (Elt Ideal) (Rect.unit (s := S2x512x1024) ![0, 0, 256] S1x512x256.size (inb_S2x512x1024_S1x512x256_0_0_256)).toLoadRect (arg10.view.writes (Elt Ideal) arg10.view.junk (kernelRun.sl.HS3_8 (F := Ideal) c i arg3 harg3 arg4 harg4 x0 x1)))) m1 rfl rfl (fun z => (m1.load (h := 0) (n := 256) rfl z).trans (mix_old _ _ rfl _ _)) (masked_scores (d := 512) rfl (by decide) (by decide) fun z => s.load (h := 0) (n := 256) rfl z)
  have q1 : Reads arg8.view arg8.view.junk (kernelRun.sl.HS1_12 (F := Ideal) c i arg3 harg3 arg4 harg4 arg5 harg5 arg7 arg8 arg9 arg10 x0 x1 x2) (mix 0 2 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (aStep (fun _ _ _ => (⊥ : EReal)) (fun _ _ _ => (0 : EReal)) (maskOf 0 (scoresOf K Q (2 * (i 1).val))) (valuesOf V (2 * (i 1).val)))) :=
    block_sum (h := 0) (e := 1) (n := 256) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![0, 0, 256] S1x1x256.size (inb_S2x1x1024_S1x1x256_0_0_256)).toLoadRect (arg7.view.writes (Elt Ideal) arg7.view.junk (kernelRun.sl.HS0_11 (F := Ideal) c i arg3 harg3 arg4 harg4 arg7 arg9 arg10 x0 x1))))
      (s2 := masked 256#32 (arg10.view.readAt (Elt Ideal) (Rect.unit (s := S2x512x1024) ![0, 0, 256] S1x512x256.size (inb_S2x512x1024_S1x512x256_0_0_256)).toLoadRect (arg10.view.writes (Elt Ideal) arg10.view.junk (kernelRun.sl.HS3_8 (F := Ideal) c i arg3 harg3 arg4 harg4 x0 x1))))
      (A := (aStep (fun _ _ _ => (⊥ : EReal)) (fun _ _ _ => (0 : EReal)) (maskOf 0 (scoresOf K Q (2 * (i 1).val))) (valuesOf V (2 * (i 1).val)))) (V := (valuesOf V (2 * (i 1).val + 1))) (av := (arg8.view.readAt (Elt Ideal) (Rect.unit (s := S2x80x1024) ![0, 0, 256] S1x80x256.size (inb_S2x80x1024_S1x80x256_0_0_256)).toLoadRect (arg8.view.writes (Elt Ideal) arg8.view.junk (kernelRun.sl.HS1_11 (F := Ideal) c i arg3 harg3 arg4 harg4 arg5 harg5 arg7 arg8 arg9 arg10 x0 x1 x2)))) (vv := (arg5.view.readAt (Elt Ideal) (Rect.unit (s := S2x32x80x512) (k0_off10 i) S1x1x80x512.size (k0_off10_inb i)).toLoadRect (harg5.unread x2)))
      a1 rfl rfl (fun z => (m1.load (h := 0) (n := 256) rfl z).trans (mix_old _ _ rfl _ _)) (masked_scores (d := 512) rfl (by decide) (by decide) fun z => s.load (h := 0) (n := 256) rfl z) (fun z => (a1.load (h := 0) (n := 256) rfl z).trans (mix_old _ _ rfl _ _)) (fun z => load_values u (off10_eq i) z)
  have m2 := p1
  have a2 := q1
  have p2 : Reads arg7.view arg7.view.junk (kernelRun.sl.HS0_13 (F := Ideal) c i arg3 harg3 arg4 harg4 arg7 arg9 arg10 x0 x1) (mix 0 3 (mStep (mStep (fun _ _ _ => (⊥ : EReal)) (maskOf 0 (scoresOf K Q (2 * (i 1).val)))) (maskOf 512 (scoresOf K Q (2 * (i 1).val + 1)))) (mStep (fun _ _ _ => (⊥ : EReal)) (maskOf 0 (scoresOf K Q (2 * (i 1).val))))) :=
    block_max (h := 0) (e := 2) (n := 512) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![0, 0, 512] S1x1x256.size (inb_S2x1x1024_S1x1x256_0_0_512)).toLoadRect (arg7.view.writes (Elt Ideal) arg7.view.junk (kernelRun.sl.HS0_12 (F := Ideal) c i arg3 harg3 arg4 harg4 arg7 arg9 arg10 x0 x1))))
      (s2 := masked 0#32 (arg10.view.readAt (Elt Ideal) (Rect.unit (s := S2x512x1024) ![0, 0, 512] S1x512x256.size (inb_S2x512x1024_S1x512x256_0_0_512)).toLoadRect (arg10.view.writes (Elt Ideal) arg10.view.junk (kernelRun.sl.HS3_8 (F := Ideal) c i arg3 harg3 arg4 harg4 x0 x1)))) m2 rfl rfl (fun z => (m2.load (h := 0) (n := 512) rfl z).trans (mix_old _ _ rfl _ _)) (masked_scores (d := 512) rfl (by decide) (by decide) fun z => s.load (h := 0) (n := 512) rfl z)
  have q2 : Reads arg8.view arg8.view.junk (kernelRun.sl.HS1_13 (F := Ideal) c i arg3 harg3 arg4 harg4 arg5 harg5 arg7 arg8 arg9 arg10 x0 x1 x2) (mix 0 3 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (aStep (fun _ _ _ => (⊥ : EReal)) (fun _ _ _ => (0 : EReal)) (maskOf 0 (scoresOf K Q (2 * (i 1).val))) (valuesOf V (2 * (i 1).val)))) :=
    block_sum (h := 0) (e := 2) (n := 512) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![0, 0, 512] S1x1x256.size (inb_S2x1x1024_S1x1x256_0_0_512)).toLoadRect (arg7.view.writes (Elt Ideal) arg7.view.junk (kernelRun.sl.HS0_12 (F := Ideal) c i arg3 harg3 arg4 harg4 arg7 arg9 arg10 x0 x1))))
      (s2 := masked 0#32 (arg10.view.readAt (Elt Ideal) (Rect.unit (s := S2x512x1024) ![0, 0, 512] S1x512x256.size (inb_S2x512x1024_S1x512x256_0_0_512)).toLoadRect (arg10.view.writes (Elt Ideal) arg10.view.junk (kernelRun.sl.HS3_8 (F := Ideal) c i arg3 harg3 arg4 harg4 x0 x1))))
      (A := (aStep (fun _ _ _ => (⊥ : EReal)) (fun _ _ _ => (0 : EReal)) (maskOf 0 (scoresOf K Q (2 * (i 1).val))) (valuesOf V (2 * (i 1).val)))) (V := (valuesOf V (2 * (i 1).val + 1))) (av := (arg8.view.readAt (Elt Ideal) (Rect.unit (s := S2x80x1024) ![0, 0, 512] S1x80x256.size (inb_S2x80x1024_S1x80x256_0_0_512)).toLoadRect (arg8.view.writes (Elt Ideal) arg8.view.junk (kernelRun.sl.HS1_12 (F := Ideal) c i arg3 harg3 arg4 harg4 arg5 harg5 arg7 arg8 arg9 arg10 x0 x1 x2)))) (vv := (arg5.view.readAt (Elt Ideal) (Rect.unit (s := S2x32x80x512) (k0_off10 i) S1x1x80x512.size (k0_off10_inb i)).toLoadRect (harg5.unread x2)))
      a2 rfl rfl (fun z => (m2.load (h := 0) (n := 512) rfl z).trans (mix_old _ _ rfl _ _)) (masked_scores (d := 512) rfl (by decide) (by decide) fun z => s.load (h := 0) (n := 512) rfl z) (fun z => (a2.load (h := 0) (n := 512) rfl z).trans (mix_old _ _ rfl _ _)) (fun z => load_values u (off10_eq i) z)
  have m3 := p2
  have a3 := q2
  have p3 : Reads arg7.view arg7.view.junk (kernelRun.sl.HS0_14 (F := Ideal) c i arg3 harg3 arg4 harg4 arg7 arg9 arg10 x0 x1) (mix 0 4 (mStep (mStep (fun _ _ _ => (⊥ : EReal)) (maskOf 0 (scoresOf K Q (2 * (i 1).val)))) (maskOf 512 (scoresOf K Q (2 * (i 1).val + 1)))) (mStep (fun _ _ _ => (⊥ : EReal)) (maskOf 0 (scoresOf K Q (2 * (i 1).val))))) :=
    block_max (h := 0) (e := 3) (n := 768) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![0, 0, 768] S1x1x256.size (inb_S2x1x1024_S1x1x256_0_0_768)).toLoadRect (arg7.view.writes (Elt Ideal) arg7.view.junk (kernelRun.sl.HS0_13 (F := Ideal) c i arg3 harg3 arg4 harg4 arg7 arg9 arg10 x0 x1))))
      (s2 := masked 4294967040#32 (arg10.view.readAt (Elt Ideal) (Rect.unit (s := S2x512x1024) ![0, 0, 768] S1x512x256.size (inb_S2x512x1024_S1x512x256_0_0_768)).toLoadRect (arg10.view.writes (Elt Ideal) arg10.view.junk (kernelRun.sl.HS3_8 (F := Ideal) c i arg3 harg3 arg4 harg4 x0 x1)))) m3 rfl rfl (fun z => (m3.load (h := 0) (n := 768) rfl z).trans (mix_old _ _ rfl _ _)) (masked_scores (d := 512) rfl (by decide) (by decide) fun z => s.load (h := 0) (n := 768) rfl z)
  have q3 : Reads arg8.view arg8.view.junk (kernelRun.sl.HS1_14 (F := Ideal) c i arg3 harg3 arg4 harg4 arg5 harg5 arg7 arg8 arg9 arg10 x0 x1 x2) (mix 0 4 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (aStep (fun _ _ _ => (⊥ : EReal)) (fun _ _ _ => (0 : EReal)) (maskOf 0 (scoresOf K Q (2 * (i 1).val))) (valuesOf V (2 * (i 1).val)))) :=
    block_sum (h := 0) (e := 3) (n := 768) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![0, 0, 768] S1x1x256.size (inb_S2x1x1024_S1x1x256_0_0_768)).toLoadRect (arg7.view.writes (Elt Ideal) arg7.view.junk (kernelRun.sl.HS0_13 (F := Ideal) c i arg3 harg3 arg4 harg4 arg7 arg9 arg10 x0 x1))))
      (s2 := masked 4294967040#32 (arg10.view.readAt (Elt Ideal) (Rect.unit (s := S2x512x1024) ![0, 0, 768] S1x512x256.size (inb_S2x512x1024_S1x512x256_0_0_768)).toLoadRect (arg10.view.writes (Elt Ideal) arg10.view.junk (kernelRun.sl.HS3_8 (F := Ideal) c i arg3 harg3 arg4 harg4 x0 x1))))
      (A := (aStep (fun _ _ _ => (⊥ : EReal)) (fun _ _ _ => (0 : EReal)) (maskOf 0 (scoresOf K Q (2 * (i 1).val))) (valuesOf V (2 * (i 1).val)))) (V := (valuesOf V (2 * (i 1).val + 1))) (av := (arg8.view.readAt (Elt Ideal) (Rect.unit (s := S2x80x1024) ![0, 0, 768] S1x80x256.size (inb_S2x80x1024_S1x80x256_0_0_768)).toLoadRect (arg8.view.writes (Elt Ideal) arg8.view.junk (kernelRun.sl.HS1_13 (F := Ideal) c i arg3 harg3 arg4 harg4 arg5 harg5 arg7 arg8 arg9 arg10 x0 x1 x2)))) (vv := (arg5.view.readAt (Elt Ideal) (Rect.unit (s := S2x32x80x512) (k0_off10 i) S1x1x80x512.size (k0_off10_inb i)).toLoadRect (harg5.unread x2)))
      a3 rfl rfl (fun z => (m3.load (h := 0) (n := 768) rfl z).trans (mix_old _ _ rfl _ _)) (masked_scores (d := 512) rfl (by decide) (by decide) fun z => s.load (h := 0) (n := 768) rfl z) (fun z => (a3.load (h := 0) (n := 768) rfl z).trans (mix_old _ _ rfl _ _)) (fun z => load_values u (off10_eq i) z)
  have m4 := p3.next 1 (mStep (mStep (fun _ _ _ => (⊥ : EReal)) (maskOf 0 (scoresOf K Q (2 * (i 1).val)))) (maskOf 512 (scoresOf K Q (2 * (i 1).val + 1))))
  have a4 := q3.next 1 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1)))
  have p4 : Reads arg7.view arg7.view.junk (kernelRun.sl.HS0_15 (F := Ideal) c i arg3 harg3 arg4 harg4 arg7 arg9 arg10 x0 x1) (mix 1 1 (mStep (mStep (fun _ _ _ => (⊥ : EReal)) (maskOf 0 (scoresOf K Q (2 * (i 1).val)))) (maskOf 512 (scoresOf K Q (2 * (i 1).val + 1)))) (mix 0 4 (mStep (mStep (fun _ _ _ => (⊥ : EReal)) (maskOf 0 (scoresOf K Q (2 * (i 1).val)))) (maskOf 512 (scoresOf K Q (2 * (i 1).val + 1)))) (mStep (fun _ _ _ => (⊥ : EReal)) (maskOf 0 (scoresOf K Q (2 * (i 1).val)))))) :=
    block_max (h := 1) (e := 0) (n := 0) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![1, 0, 0] S1x1x256.size (inb_S2x1x1024_S1x1x256_1_0_0)).toLoadRect (arg7.view.writes (Elt Ideal) arg7.view.junk (kernelRun.sl.HS0_14 (F := Ideal) c i arg3 harg3 arg4 harg4 arg7 arg9 arg10 x0 x1))))
      (s2 := masked 512#32 (arg10.view.readAt (Elt Ideal) (Rect.unit (s := S2x512x1024) ![1, 0, 0] S1x512x256.size (inb_S2x512x1024_S1x512x256_1_0_0)).toLoadRect (arg10.view.writes (Elt Ideal) arg10.view.junk (kernelRun.sl.HS3_8 (F := Ideal) c i arg3 harg3 arg4 harg4 x0 x1)))) m4 rfl rfl (fun z => (m4.load (h := 1) (n := 0) rfl z).trans ((mix_old _ _ rfl _ _).trans (mix_other _ _ (by decide) _ _))) (masked_scores (d := 512) rfl (by decide) (by decide) fun z => s.load (h := 1) (n := 0) rfl z)
  have q4 : Reads arg8.view arg8.view.junk (kernelRun.sl.HS1_15 (F := Ideal) c i arg3 harg3 arg4 harg4 arg5 harg5 arg7 arg8 arg9 arg10 x0 x1 x2) (mix 1 1 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (mix 0 4 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (aStep (fun _ _ _ => (⊥ : EReal)) (fun _ _ _ => (0 : EReal)) (maskOf 0 (scoresOf K Q (2 * (i 1).val))) (valuesOf V (2 * (i 1).val))))) :=
    block_sum (h := 1) (e := 0) (n := 0) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![1, 0, 0] S1x1x256.size (inb_S2x1x1024_S1x1x256_1_0_0)).toLoadRect (arg7.view.writes (Elt Ideal) arg7.view.junk (kernelRun.sl.HS0_14 (F := Ideal) c i arg3 harg3 arg4 harg4 arg7 arg9 arg10 x0 x1))))
      (s2 := masked 512#32 (arg10.view.readAt (Elt Ideal) (Rect.unit (s := S2x512x1024) ![1, 0, 0] S1x512x256.size (inb_S2x512x1024_S1x512x256_1_0_0)).toLoadRect (arg10.view.writes (Elt Ideal) arg10.view.junk (kernelRun.sl.HS3_8 (F := Ideal) c i arg3 harg3 arg4 harg4 x0 x1))))
      (A := (aStep (fun _ _ _ => (⊥ : EReal)) (fun _ _ _ => (0 : EReal)) (maskOf 0 (scoresOf K Q (2 * (i 1).val))) (valuesOf V (2 * (i 1).val)))) (V := (valuesOf V (2 * (i 1).val + 1))) (av := (arg8.view.readAt (Elt Ideal) (Rect.unit (s := S2x80x1024) ![1, 0, 0] S1x80x256.size (inb_S2x80x1024_S1x80x256_1_0_0)).toLoadRect (arg8.view.writes (Elt Ideal) arg8.view.junk (kernelRun.sl.HS1_14 (F := Ideal) c i arg3 harg3 arg4 harg4 arg5 harg5 arg7 arg8 arg9 arg10 x0 x1 x2)))) (vv := (arg5.view.readAt (Elt Ideal) (Rect.unit (s := S2x32x80x512) (k0_off12 i) S1x1x80x512.size (k0_off12_inb i)).toLoadRect (harg5.unread x2)))
      a4 rfl rfl (fun z => (m4.load (h := 1) (n := 0) rfl z).trans ((mix_old _ _ rfl _ _).trans (mix_other _ _ (by decide) _ _))) (masked_scores (d := 512) rfl (by decide) (by decide) fun z => s.load (h := 1) (n := 0) rfl z) (fun z => (a4.load (h := 1) (n := 0) rfl z).trans ((mix_old _ _ rfl _ _).trans (mix_other _ _ (by decide) _ _))) (fun z => load_values u (off12_eq i) z)
  have m5 := p4
  have a5 := q4
  have p5 : Reads arg7.view arg7.view.junk (kernelRun.sl.HS0_16 (F := Ideal) c i arg3 harg3 arg4 harg4 arg7 arg9 arg10 x0 x1) (mix 1 2 (mStep (mStep (fun _ _ _ => (⊥ : EReal)) (maskOf 0 (scoresOf K Q (2 * (i 1).val)))) (maskOf 512 (scoresOf K Q (2 * (i 1).val + 1)))) (mix 0 4 (mStep (mStep (fun _ _ _ => (⊥ : EReal)) (maskOf 0 (scoresOf K Q (2 * (i 1).val)))) (maskOf 512 (scoresOf K Q (2 * (i 1).val + 1)))) (mStep (fun _ _ _ => (⊥ : EReal)) (maskOf 0 (scoresOf K Q (2 * (i 1).val)))))) :=
    block_max (h := 1) (e := 1) (n := 256) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![1, 0, 256] S1x1x256.size (inb_S2x1x1024_S1x1x256_1_0_256)).toLoadRect (arg7.view.writes (Elt Ideal) arg7.view.junk (kernelRun.sl.HS0_15 (F := Ideal) c i arg3 harg3 arg4 harg4 arg7 arg9 arg10 x0 x1))))
      (s2 := masked 256#32 (arg10.view.readAt (Elt Ideal) (Rect.unit (s := S2x512x1024) ![1, 0, 256] S1x512x256.size (inb_S2x512x1024_S1x512x256_1_0_256)).toLoadRect (arg10.view.writes (Elt Ideal) arg10.view.junk (kernelRun.sl.HS3_8 (F := Ideal) c i arg3 harg3 arg4 harg4 x0 x1)))) m5 rfl rfl (fun z => (m5.load (h := 1) (n := 256) rfl z).trans ((mix_old _ _ rfl _ _).trans (mix_other _ _ (by decide) _ _))) (masked_scores (d := 512) rfl (by decide) (by decide) fun z => s.load (h := 1) (n := 256) rfl z)
  have q5 : Reads arg8.view arg8.view.junk (kernelRun.sl.HS1_16 (F := Ideal) c i arg3 harg3 arg4 harg4 arg5 harg5 arg7 arg8 arg9 arg10 x0 x1 x2) (mix 1 2 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (mix 0 4 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (aStep (fun _ _ _ => (⊥ : EReal)) (fun _ _ _ => (0 : EReal)) (maskOf 0 (scoresOf K Q (2 * (i 1).val))) (valuesOf V (2 * (i 1).val))))) :=
    block_sum (h := 1) (e := 1) (n := 256) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![1, 0, 256] S1x1x256.size (inb_S2x1x1024_S1x1x256_1_0_256)).toLoadRect (arg7.view.writes (Elt Ideal) arg7.view.junk (kernelRun.sl.HS0_15 (F := Ideal) c i arg3 harg3 arg4 harg4 arg7 arg9 arg10 x0 x1))))
      (s2 := masked 256#32 (arg10.view.readAt (Elt Ideal) (Rect.unit (s := S2x512x1024) ![1, 0, 256] S1x512x256.size (inb_S2x512x1024_S1x512x256_1_0_256)).toLoadRect (arg10.view.writes (Elt Ideal) arg10.view.junk (kernelRun.sl.HS3_8 (F := Ideal) c i arg3 harg3 arg4 harg4 x0 x1))))
      (A := (aStep (fun _ _ _ => (⊥ : EReal)) (fun _ _ _ => (0 : EReal)) (maskOf 0 (scoresOf K Q (2 * (i 1).val))) (valuesOf V (2 * (i 1).val)))) (V := (valuesOf V (2 * (i 1).val + 1))) (av := (arg8.view.readAt (Elt Ideal) (Rect.unit (s := S2x80x1024) ![1, 0, 256] S1x80x256.size (inb_S2x80x1024_S1x80x256_1_0_256)).toLoadRect (arg8.view.writes (Elt Ideal) arg8.view.junk (kernelRun.sl.HS1_15 (F := Ideal) c i arg3 harg3 arg4 harg4 arg5 harg5 arg7 arg8 arg9 arg10 x0 x1 x2)))) (vv := (arg5.view.readAt (Elt Ideal) (Rect.unit (s := S2x32x80x512) (k0_off12 i) S1x1x80x512.size (k0_off12_inb i)).toLoadRect (harg5.unread x2)))
      a5 rfl rfl (fun z => (m5.load (h := 1) (n := 256) rfl z).trans ((mix_old _ _ rfl _ _).trans (mix_other _ _ (by decide) _ _))) (masked_scores (d := 512) rfl (by decide) (by decide) fun z => s.load (h := 1) (n := 256) rfl z) (fun z => (a5.load (h := 1) (n := 256) rfl z).trans ((mix_old _ _ rfl _ _).trans (mix_other _ _ (by decide) _ _))) (fun z => load_values u (off12_eq i) z)
  have m6 := p5
  have a6 := q5
  have p6 : Reads arg7.view arg7.view.junk (kernelRun.sl.HS0_17 (F := Ideal) c i arg3 harg3 arg4 harg4 arg7 arg9 arg10 x0 x1) (mix 1 3 (mStep (mStep (fun _ _ _ => (⊥ : EReal)) (maskOf 0 (scoresOf K Q (2 * (i 1).val)))) (maskOf 512 (scoresOf K Q (2 * (i 1).val + 1)))) (mix 0 4 (mStep (mStep (fun _ _ _ => (⊥ : EReal)) (maskOf 0 (scoresOf K Q (2 * (i 1).val)))) (maskOf 512 (scoresOf K Q (2 * (i 1).val + 1)))) (mStep (fun _ _ _ => (⊥ : EReal)) (maskOf 0 (scoresOf K Q (2 * (i 1).val)))))) :=
    block_max (h := 1) (e := 2) (n := 512) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![1, 0, 512] S1x1x256.size (inb_S2x1x1024_S1x1x256_1_0_512)).toLoadRect (arg7.view.writes (Elt Ideal) arg7.view.junk (kernelRun.sl.HS0_16 (F := Ideal) c i arg3 harg3 arg4 harg4 arg7 arg9 arg10 x0 x1))))
      (s2 := masked 0#32 (arg10.view.readAt (Elt Ideal) (Rect.unit (s := S2x512x1024) ![1, 0, 512] S1x512x256.size (inb_S2x512x1024_S1x512x256_1_0_512)).toLoadRect (arg10.view.writes (Elt Ideal) arg10.view.junk (kernelRun.sl.HS3_8 (F := Ideal) c i arg3 harg3 arg4 harg4 x0 x1)))) m6 rfl rfl (fun z => (m6.load (h := 1) (n := 512) rfl z).trans ((mix_old _ _ rfl _ _).trans (mix_other _ _ (by decide) _ _))) (masked_scores (d := 512) rfl (by decide) (by decide) fun z => s.load (h := 1) (n := 512) rfl z)
  have q6 : Reads arg8.view arg8.view.junk (kernelRun.sl.HS1_17 (F := Ideal) c i arg3 harg3 arg4 harg4 arg5 harg5 arg7 arg8 arg9 arg10 x0 x1 x2) (mix 1 3 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (mix 0 4 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (aStep (fun _ _ _ => (⊥ : EReal)) (fun _ _ _ => (0 : EReal)) (maskOf 0 (scoresOf K Q (2 * (i 1).val))) (valuesOf V (2 * (i 1).val))))) :=
    block_sum (h := 1) (e := 2) (n := 512) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![1, 0, 512] S1x1x256.size (inb_S2x1x1024_S1x1x256_1_0_512)).toLoadRect (arg7.view.writes (Elt Ideal) arg7.view.junk (kernelRun.sl.HS0_16 (F := Ideal) c i arg3 harg3 arg4 harg4 arg7 arg9 arg10 x0 x1))))
      (s2 := masked 0#32 (arg10.view.readAt (Elt Ideal) (Rect.unit (s := S2x512x1024) ![1, 0, 512] S1x512x256.size (inb_S2x512x1024_S1x512x256_1_0_512)).toLoadRect (arg10.view.writes (Elt Ideal) arg10.view.junk (kernelRun.sl.HS3_8 (F := Ideal) c i arg3 harg3 arg4 harg4 x0 x1))))
      (A := (aStep (fun _ _ _ => (⊥ : EReal)) (fun _ _ _ => (0 : EReal)) (maskOf 0 (scoresOf K Q (2 * (i 1).val))) (valuesOf V (2 * (i 1).val)))) (V := (valuesOf V (2 * (i 1).val + 1))) (av := (arg8.view.readAt (Elt Ideal) (Rect.unit (s := S2x80x1024) ![1, 0, 512] S1x80x256.size (inb_S2x80x1024_S1x80x256_1_0_512)).toLoadRect (arg8.view.writes (Elt Ideal) arg8.view.junk (kernelRun.sl.HS1_16 (F := Ideal) c i arg3 harg3 arg4 harg4 arg5 harg5 arg7 arg8 arg9 arg10 x0 x1 x2)))) (vv := (arg5.view.readAt (Elt Ideal) (Rect.unit (s := S2x32x80x512) (k0_off12 i) S1x1x80x512.size (k0_off12_inb i)).toLoadRect (harg5.unread x2)))
      a6 rfl rfl (fun z => (m6.load (h := 1) (n := 512) rfl z).trans ((mix_old _ _ rfl _ _).trans (mix_other _ _ (by decide) _ _))) (masked_scores (d := 512) rfl (by decide) (by decide) fun z => s.load (h := 1) (n := 512) rfl z) (fun z => (a6.load (h := 1) (n := 512) rfl z).trans ((mix_old _ _ rfl _ _).trans (mix_other _ _ (by decide) _ _))) (fun z => load_values u (off12_eq i) z)
  have m7 := p6
  have a7 := q6
  have p7 : Reads arg7.view arg7.view.junk (kernelRun.sl.HS0_18 (F := Ideal) c i arg3 harg3 arg4 harg4 arg7 arg9 arg10 x0 x1) (mix 1 4 (mStep (mStep (fun _ _ _ => (⊥ : EReal)) (maskOf 0 (scoresOf K Q (2 * (i 1).val)))) (maskOf 512 (scoresOf K Q (2 * (i 1).val + 1)))) (mix 0 4 (mStep (mStep (fun _ _ _ => (⊥ : EReal)) (maskOf 0 (scoresOf K Q (2 * (i 1).val)))) (maskOf 512 (scoresOf K Q (2 * (i 1).val + 1)))) (mStep (fun _ _ _ => (⊥ : EReal)) (maskOf 0 (scoresOf K Q (2 * (i 1).val)))))) :=
    block_max (h := 1) (e := 3) (n := 768) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![1, 0, 768] S1x1x256.size (inb_S2x1x1024_S1x1x256_1_0_768)).toLoadRect (arg7.view.writes (Elt Ideal) arg7.view.junk (kernelRun.sl.HS0_17 (F := Ideal) c i arg3 harg3 arg4 harg4 arg7 arg9 arg10 x0 x1))))
      (s2 := masked 4294967040#32 (arg10.view.readAt (Elt Ideal) (Rect.unit (s := S2x512x1024) ![1, 0, 768] S1x512x256.size (inb_S2x512x1024_S1x512x256_1_0_768)).toLoadRect (arg10.view.writes (Elt Ideal) arg10.view.junk (kernelRun.sl.HS3_8 (F := Ideal) c i arg3 harg3 arg4 harg4 x0 x1)))) m7 rfl rfl (fun z => (m7.load (h := 1) (n := 768) rfl z).trans ((mix_old _ _ rfl _ _).trans (mix_other _ _ (by decide) _ _))) (masked_scores (d := 512) rfl (by decide) (by decide) fun z => s.load (h := 1) (n := 768) rfl z)
  have q7 : Reads arg8.view arg8.view.junk (kernelRun.sl.HS1_18 (F := Ideal) c i arg3 harg3 arg4 harg4 arg5 harg5 arg7 arg8 arg9 arg10 x0 x1 x2) (mix 1 4 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (mix 0 4 (aStep (mStep (fun _ _ _ => (⊥ : EReal)) (maskOf 0 (scoresOf K Q (2 * (i 1).val)))) (aStep (fun _ _ _ => (⊥ : EReal)) (fun _ _ _ => (0 : EReal)) (maskOf 0 (scoresOf K Q (2 * (i 1).val))) (valuesOf V (2 * (i 1).val))) (maskOf 512 (scoresOf K Q (2 * (i 1).val + 1))) (valuesOf V (2 * (i 1).val + 1))) (aStep (fun _ _ _ => (⊥ : EReal)) (fun _ _ _ => (0 : EReal)) (maskOf 0 (scoresOf K Q (2 * (i 1).val))) (valuesOf V (2 * (i 1).val))))) :=
    block_sum (h := 1) (e := 3) (n := 768) (M := (mStep (fun _ _ _ => (⊥ : EReal)) (maskOf 0 (scoresOf K Q (2 * (i 1).val))))) (S := (maskOf 512 (scoresOf K Q (2 * (i 1).val + 1))))
      (mv := (arg7.view.readAt (Elt Ideal) (Rect.unit (s := S2x1x1024) ![1, 0, 768] S1x1x256.size (inb_S2x1x1024_S1x1x256_1_0_768)).toLoadRect (arg7.view.writes (Elt Ideal) arg7.view.junk (kernelRun.sl.HS0_17 (F := Ideal) c i arg3 harg3 arg4 harg4 arg7 arg9 arg10 x0 x1))))
      (s2 := masked 4294967040#32 (arg10.view.readAt (Elt Ideal) (Rect.unit (s := S2x512x1024) ![1, 0, 768] S1x512x256.size (inb_S2x512x1024_S1x512x256_1_0_768)).toLoadRect (arg10.view.writes (Elt Ideal) arg10.view.junk (kernelRun.sl.HS3_8 (F := Ideal) c i arg3 harg3 arg4 harg4 x0 x1))))
      (A := (aStep (fun _ _ _ => (⊥ : EReal)) (fun _ _ _ => (0 : EReal)) (maskOf 0 (scoresOf K Q (2 * (i 1).val))) (valuesOf V (2 * (i 1).val)))) (V := (valuesOf V (2 * (i 1).val + 1))) (av := (arg8.view.readAt (Elt Ideal) (Rect.unit (s := S2x80x1024) ![1, 0, 768] S1x80x256.size (inb_S2x80x1024_S1x80x256_1_0_768)).toLoadRect (arg8.view.writes (Elt Ideal) arg8.view.junk (kernelRun.sl.HS1_17 (F := Ideal) c i arg3 harg3 arg4 harg4 arg5 harg5 arg7 arg8 arg9 arg10 x0 x1 x2)))) (vv := (arg5.view.readAt (Elt Ideal) (Rect.unit (s := S2x32x80x512) (k0_off12 i) S1x1x80x512.size (k0_off12_inb i)).toLoadRect (harg5.unread x2)))
      a7 rfl rfl (fun z => (m7.load (h := 1) (n := 768) rfl z).trans ((mix_old _ _ rfl _ _).trans (mix_other _ _ (by decide) _ _))) (masked_scores (d := 512) rfl (by decide) (by decide) fun z => s.load (h := 1) (n := 768) rfl z) (fun z => (a7.load (h := 1) (n := 768) rfl z).trans ((mix_old _ _ rfl _ _).trans (mix_other _ _ (by decide) _ _))) (fun z => load_values u (off12_eq i) z)
  exact ⟨p7.done, q7.done⟩

end

end Cert.KernelIdeal.Flash

end
-- ==== Proof.Pair.lean ====
/- One trip of the loop over the pairs of key tiles both heads read: what the running maxima, the
   running sums and the scores hold after it. -/
module

public import proofs.«01_k».proof.Proof.Gen.KernelIdeal.Loops
public import proofs.«01_k».proof.Proof.Loads

@[expose] public section

set_option maxRecDepth 16384

noncomputable section

namespace Cert.KernelIdeal.Flash

open Idealize.ShloMosaic Idealize.ShloMosaic.TcCoe Cert.KernelIdeal.Gen Cert.Flash

section
variable (𝒱 : Variants) (c : Dev nD) (bd : Option 𝒱.V) (i : grid0.Coords) (arg2 : Memref sig .tc .smem S16x16 .i32) (harg2 : arg2.IsWhole) (arg3 : Memref sig .tc .vmem S2x1024x128 .bf16) (harg3 : arg3.IsWhole) (arg4 : Memref sig .tc .vmem S2x16384x128 .bf16) (harg4 : arg4.IsWhole) (arg5 : Memref sig .tc .vmem S2x32x80x512 .bf16) (harg5 : arg5.IsWhole) (arg6 : Memref sig .tc .vmem S1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x512x1024 .f32) (harg9 : arg9.IsWhole) (arg10 : Memref sig .tc .vmem S2x512x1024 .f32) (harg10 : arg10.IsWhole) (arg1 : BitVec 32) (v3 : Elt Ideal .i32) (v8 : Elt Ideal .i32) (k0_hw1 : k0_chk1 i v3 v8) (v9 : BitVec 32) (v10 : BitVec 32) (v868 : FVec Ideal S1x1x256 .f32) (X_arg3 : BufTy.Contents (Elt Ideal) arg3.view.ty) (X_arg4 : BufTy.Contents (Elt Ideal) arg4.view.ty) (X_arg5 : BufTy.Contents (Elt Ideal) arg5.view.ty) (k : Fin (k0_t1_loop i v3 v8).trips)
  (f_arg7 : BufTy.Contents (Elt Ideal) arg7.view.ty) (f_arg8 : BufTy.Contents (Elt Ideal) arg8.view.ty)
  (f_arg9 : BufTy.Contents (Elt Ideal) arg9.view.ty) (f_arg10 : BufTy.Contents (Elt Ideal) arg10.view.ty)
  {Q K M A S : Grid} {V : ℕ → Grid} {t0 t1 t2 : ℕ}
  (hQ : ∀ y : S2x1024x128.Idx, arg3.view.read (Elt Ideal) X_arg3 y = Q (y 0).val (y 1).val (y 2).val)
  (hK : ∀ y : S2x16384x128.Idx, arg4.view.read (Elt Ideal) X_arg4 y = K (y 0).val (y 1).val (y 2).val)
  (hV : ∀ y : S2x32x80x512.Idx, arg5.view.read (Elt Ideal) X_arg5 y = V (y 0).val (y 1).val (y 2).val (y 3).val)
  (h13 : k0_off13 i v3 v8 k = ![0, 512 * t1, 0]) (h14 : k0_off14 i v3 v8 k = ![0, t0, 0, 0])
  (h15 : k0_off15 i v3 v8 k = ![1, 512 * t1, 0]) (h16 : k0_off16 i v3 v8 k = ![1, t0, 0, 0])
  (h17 : k0_off17 i v3 v8 k = ![0, 512 * t2, 0]) (h18 : k0_off18 i v3 v8 k = ![0, t1, 0, 0])
  (h19 : k0_off19 i v3 v8 k = ![1, 512 * t2, 0]) (h20 : k0_off20 i v3 v8 k = ![1, t1, 0, 0])
  (hM : Reads arg7.view f_arg7 [] M) (hA : Reads arg8.view f_arg8 [] A) (hS : Reads arg9.view f_arg9 [] S)

include hM hS in
/-- The maxima after the first tile. -/
theorem pair_max_first (f : BufTy.Contents (Elt Ideal) arg7.view.ty) :
    Reads arg7.view f (trip_k0_t1.sl.HW_arg7_8 arg7 arg9 f_arg7 f_arg9) (mStep M S) :=
  Reads.congr
    (block_max (h := 1) (e := 3) (n := 768) (block_max (h := 1) (e := 2) (n := 512) (block_max (h := 1) (e := 1) (n := 256) (block_max (h := 1) (e := 0) (n := 0) (by rw [mix_zero]; exact (block_max (h := 0) (e := 3) (n := 768) (block_max (h := 0) (e := 2) (n := 512) (block_max (h := 0) (e := 1) (n := 256) (block_max (h := 0) (e := 0) (n := 0) (by rw [mix_zero]; exact reads_held _ _ _) rfl rfl (fun z => hM.load rfl z) (cast_scores fun z => hS.load rfl z)) rfl rfl (fun z => hM.load rfl z) (cast_scores fun z => hS.load rfl z)) rfl rfl (fun z => hM.load rfl z) (cast_scores fun z => hS.load rfl z)) rfl rfl (fun z => hM.load rfl z) (cast_scores fun z => hS.load rfl z))) rfl rfl (fun z => hM.load rfl z) (cast_scores fun z => hS.load rfl z)) rfl rfl (fun z => hM.load rfl z) (cast_scores fun z => hS.load rfl z)) rfl rfl (fun z => hM.load rfl z) (cast_scores fun z => hS.load rfl z)) rfl rfl (fun z => hM.load rfl z) (cast_scores fun z => hS.load rfl z))
    fun a b c ha _ hc => mix_both _ _ b ha hc

include hQ hK h13 h15 in
/-- The scores of the second tile. -/
theorem pair_score_first (f : BufTy.Contents (Elt Ideal) arg10.view.ty) :
    Reads arg10.view f (trip_k0_t1.sl.HW_arg10_8 i arg3 arg4 v3 v8 k0_hw1 X_arg3 X_arg4 k) (scoresOf K Q t1) :=
  Reads.congr
    (block_score (h := 1) (e := 3) (n := 768) (block_score (h := 1) (e := 2) (n := 512) (block_score (h := 1) (e := 1) (n := 256) (block_score (h := 1) (e := 0) (n := 0) (by rw [mix_zero]; exact (block_score (h := 0) (e := 3) (n := 768) (block_score (h := 0) (e := 2) (n := 512) (block_score (h := 0) (e := 1) (n := 256) (block_score (h := 0) (e := 0) (n := 0) (by rw [mix_zero]; exact reads_held _ _ _) rfl rfl (fun z => load_keys hK h13 z) (fun z => load_queries hQ rfl z)) rfl rfl (fun z => load_keys hK h13 z) (fun z => load_queries hQ rfl z)) rfl rfl (fun z => load_keys hK h13 z) (fun z => load_queries hQ rfl z)) rfl rfl (fun z => load_keys hK h13 z) (fun z => load_queries hQ rfl z))) rfl rfl (fun z => load_keys hK h15 z) (fun z => load_queries hQ rfl z)) rfl rfl (fun z => load_keys hK h15 z) (fun z => load_queries hQ rfl z)) rfl rfl (fun z => load_keys hK h15 z) (fun z => load_queries hQ rfl z)) rfl rfl (fun z => load_keys hK h15 z) (fun z => load_queries hQ rfl z))
    fun a b c ha _ hc => mix_both _ _ b ha hc

include hM hS hA hV h14 h16 in
/-- The sums after the first tile. -/
theorem pair_sum_first (f : BufTy.Contents (Elt Ideal) arg8.view.ty) :
    Reads arg8.view f (trip_k0_t1.sl.HW_arg8_8 i arg5 arg7 arg8 arg9 v3 v8 k0_hw1 X_arg5 k f_arg7 f_arg8 f_arg9) (aStep M A S (valuesOf V t0)) :=
  Reads.congr
    (block_sum (h := 1) (e := 3) (n := 768) (block_sum (h := 1) (e := 2) (n := 512) (block_sum (h := 1) (e := 1) (n := 256) (block_sum (h := 1) (e := 0) (n := 0) (by rw [mix_zero]; exact (block_sum (h := 0) (e := 3) (n := 768) (block_sum (h := 0) (e := 2) (n := 512) (block_sum (h := 0) (e := 1) (n := 256) (block_sum (h := 0) (e := 0) (n := 0) (by rw [mix_zero]; exact reads_held _ _ _) rfl rfl (fun z => hM.load rfl z) (cast_scores fun z => hS.load rfl z) (fun z => hA.load rfl z) (fun z => load_values hV h14 z)) rfl rfl (fun z => hM.load rfl z) (cast_scores fun z => hS.load rfl z) (fun z => hA.load rfl z) (fun z => load_values hV h14 z)) rfl rfl (fun z => hM.load rfl z) (cast_scores fun z => hS.load rfl z) (fun z => hA.load rfl z) (fun z => load_values hV h14 z)) rfl rfl (fun z => hM.load rfl z) (cast_scores fun z => hS.load rfl z) (fun z => hA.load rfl z) (fun z => load_values hV h14 z))) rfl rfl (fun z => hM.load rfl z) (cast_scores fun z => hS.load rfl z) (fun z => hA.load rfl z) (fun z => load_values hV h16 z)) rfl rfl (fun z => hM.load rfl z) (cast_scores fun z => hS.load rfl z) (fun z => hA.load rfl z) (fun z => load_values hV h16 z)) rfl rfl (fun z => hM.load rfl z) (cast_scores fun z => hS.load rfl z) (fun z => hA.load rfl z) (fun z => load_values hV h16 z)) rfl rfl (fun z => hM.load rfl z) (cast_scores fun z => hS.load rfl z) (fun z => hA.load rfl z) (fun z => load_values hV h16 z))
    fun a b c ha _ hc => mix_both _ _ b ha hc

set_option maxHeartbeats 4000000 in
include hQ hK hV h13 h14 h15 h16 h17 h18 h19 h20 hM hA hS in
/-- One trip takes in two tiles and leaves the scores of a third. -/
theorem pair_trip :
    Reads arg7.view f_arg7 (tripL_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 k f_arg7 f_arg8 f_arg9 f_arg10).1 (mStep (mStep M S) (scoresOf K Q t1))
    ∧ Reads arg8.view f_arg8 (tripL_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 k f_arg7 f_arg8 f_arg9 f_arg10).2.1
        (aStep (mStep M S) (aStep M A S (valuesOf V t0)) (scoresOf K Q t1) (valuesOf V t1))
    ∧ Reads arg9.view f_arg9 (tripL_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 k f_arg7 f_arg8 f_arg9 f_arg10).2.2.1 (scoresOf K Q t2) := by
  have s8 : ∀ f, Reads arg10.view f (trip_k0_t1.sl.HW_arg10_8 i arg3 arg4 v3 v8 k0_hw1 X_arg3 X_arg4 k) (scoresOf K Q t1) := by
    exact pair_score_first i arg3 arg4 arg10 v3 v8 k0_hw1 X_arg3 X_arg4 k hQ hK h13 h15
  have m8 : ∀ f, Reads arg7.view f (trip_k0_t1.sl.HW_arg7_8 arg7 arg9 f_arg7 f_arg9) (mix 0 0 (mStep (mStep M S) (scoresOf K Q t1)) (mStep M S)) := by
    intro f; rw [mix_zero]; exact pair_max_first arg7 arg9 f_arg7 f_arg9 hM hS f
  have a8 : ∀ f, Reads arg8.view f (trip_k0_t1.sl.HW_arg8_8 i arg5 arg7 arg8 arg9 v3 v8 k0_hw1 X_arg5 k f_arg7 f_arg8 f_arg9) (mix 0 0 (aStep (mStep M S) (aStep M A S (valuesOf V t0)) (scoresOf K Q t1) (valuesOf V t1)) (aStep M A S (valuesOf V t0))) := by
    intro f; rw [mix_zero]; exact pair_sum_first i arg5 arg7 arg8 arg9 v3 v8 k0_hw1 X_arg5 k f_arg7 f_arg8 f_arg9 hV h14 h16 hM hA hS f
  have m9 : ∀ f, Reads arg7.view f (trip_k0_t1.sl.HW_arg7_9 i arg3 arg4 arg7 arg9 arg10 v3 v8 k0_hw1 X_arg3 X_arg4 k f_arg7 f_arg9) (mix 0 1 (mStep (mStep M S) (scoresOf K Q t1)) (mStep M S)) := fun f =>
    block_max (h := 0) (e := 0) (n := 0) (M := mStep M S) (S := scoresOf K Q t1) (m8 f) rfl rfl (fun z => ((m8 _).load (h := 0) (n := 0) rfl z).trans (mix_old _ _ rfl _ _)) (cast_scores fun z => (s8 _).load (h := 0) (n := 0) rfl z)
  have a9 : ∀ f, Reads arg8.view f (trip_k0_t1.sl.HW_arg8_9 i arg3 arg4 arg5 arg7 arg8 arg9 arg10 v3 v8 k0_hw1 X_arg3 X_arg4 X_arg5 k f_arg7 f_arg8 f_arg9) (mix 0 1 (aStep (mStep M S) (aStep M A S (valuesOf V t0)) (scoresOf K Q t1) (valuesOf V t1)) (aStep M A S (valuesOf V t0))) := fun f =>
    block_sum (h := 0) (e := 0) (n := 0) (M := mStep M S) (S := scoresOf K Q t1) (A := aStep M A S (valuesOf V t0)) (V := valuesOf V t1) (a8 f) rfl rfl (fun z => ((m8 _).load (h := 0) (n := 0) rfl z).trans (mix_old _ _ rfl _ _)) (cast_scores fun z => (s8 _).load (h := 0) (n := 0) rfl z) (fun z => ((a8 _).load (h := 0) (n := 0) rfl z).trans (mix_old _ _ rfl _ _)) (fun z => load_values hV h18 z)
  have m10 : ∀ f, Reads arg7.view f (trip_k0_t1.sl.HW_arg7_10 i arg3 arg4 arg7 arg9 arg10 v3 v8 k0_hw1 X_arg3 X_arg4 k f_arg7 f_arg9) (mix 0 2 (mStep (mStep M S) (scoresOf K Q t1)) (mStep M S)) := fun f =>
    block_max (h := 0) (e := 1) (n := 256) (M := mStep M S) (S := scoresOf K Q t1) (m9 f) rfl rfl (fun z => ((m9 _).load (h := 0) (n := 256) rfl z).trans (mix_old _ _ rfl _ _)) (cast_scores fun z => (s8 _).load (h := 0) (n := 256) rfl z)
  have a10 : ∀ f, Reads arg8.view f (trip_k0_t1.sl.HW_arg8_10 i arg3 arg4 arg5 arg7 arg8 arg9 arg10 v3 v8 k0_hw1 X_arg3 X_arg4 X_arg5 k f_arg7 f_arg8 f_arg9) (mix 0 2 (aStep (mStep M S) (aStep M A S (valuesOf V t0)) (scoresOf K Q t1) (valuesOf V t1)) (aStep M A S (valuesOf V t0))) := fun f =>
    block_sum (h := 0) (e := 1) (n := 256) (M := mStep M S) (S := scoresOf K Q t1) (A := aStep M A S (valuesOf V t0)) (V := valuesOf V t1) (a9 f) rfl rfl (fun z => ((m9 _).load (h := 0) (n := 256) rfl z).trans (mix_old _ _ rfl _ _)) (cast_scores fun z => (s8 _).load (h := 0) (n := 256) rfl z) (fun z => ((a9 _).load (h := 0) (n := 256) rfl z).trans (mix_old _ _ rfl _ _)) (fun z => load_values hV h18 z)
  have m11 : ∀ f, Reads arg7.view f (trip_k0_t1.sl.HW_arg7_11 i arg3 arg4 arg7 arg9 arg10 v3 v8 k0_hw1 X_arg3 X_arg4 k f_arg7 f_arg9) (mix 0 3 (mStep (mStep M S) (scoresOf K Q t1)) (mStep M S)) := fun f =>
    block_max (h := 0) (e := 2) (n := 512) (M := mStep M S) (S := scoresOf K Q t1) (m10 f) rfl rfl (fun z => ((m10 _).load (h := 0) (n := 512) rfl z).trans (mix_old _ _ rfl _ _)) (cast_scores fun z => (s8 _).load (h := 0) (n := 512) rfl z)
  have a11 : ∀ f, Reads arg8.view f (trip_k0_t1.sl.HW_arg8_11 i arg3 arg4 arg5 arg7 arg8 arg9 arg10 v3 v8 k0_hw1 X_arg3 X_arg4 X_arg5 k f_arg7 f_arg8 f_arg9) (mix 0 3 (aStep (mStep M S) (aStep M A S (valuesOf V t0)) (scoresOf K Q t1) (valuesOf V t1)) (aStep M A S (valuesOf V t0))) := fun f =>
    block_sum (h := 0) (e := 2) (n := 512) (M := mStep M S) (S := scoresOf K Q t1) (A := aStep M A S (valuesOf V t0)) (V := valuesOf V t1) (a10 f) rfl rfl (fun z => ((m10 _).load (h := 0) (n := 512) rfl z).trans (mix_old _ _ rfl _ _)) (cast_scores fun z => (s8 _).load (h := 0) (n := 512) rfl z) (fun z => ((a10 _).load (h := 0) (n := 512) rfl z).trans (mix_old _ _ rfl _ _)) (fun z => load_values hV h18 z)
  have m12 : ∀ f, Reads arg7.view f (trip_k0_t1.sl.HW_arg7_12 i arg3 arg4 arg7 arg9 arg10 v3 v8 k0_hw1 X_arg3 X_arg4 k f_arg7 f_arg9) (mix 0 4 (mStep (mStep M S) (scoresOf K Q t1)) (mStep M S)) := fun f =>
    block_max (h := 0) (e := 3) (n := 768) (M := mStep M S) (S := scoresOf K Q t1) (m11 f) rfl rfl (fun z => ((m11 _).load (h := 0) (n := 768) rfl z).trans (mix_old _ _ rfl _ _)) (cast_scores fun z => (s8 _).load (h := 0) (n := 768) rfl z)
  have a12 : ∀ f, Reads arg8.view f (trip_k0_t1.sl.HW_arg8_12 i arg3 arg4 arg5 arg7 arg8 arg9 arg10 v3 v8 k0_hw1 X_arg3 X_arg4 X_arg5 k f_arg7 f_arg8 f_arg9) (mix 0 4 (aStep (mStep M S) (aStep M A S (valuesOf V t0)) (scoresOf K Q t1) (valuesOf V t1)) (aStep M A S (valuesOf V t0))) := fun f =>
    block_sum (h := 0) (e := 3) (n := 768) (M := mStep M S) (S := scoresOf K Q t1) (A := aStep M A S (valuesOf V t0)) (V := valuesOf V t1) (a11 f) rfl rfl (fun z => ((m11 _).load (h := 0) (n := 768) rfl z).trans (mix_old _ _ rfl _ _)) (cast_scores fun z => (s8 _).load (h := 0) (n := 768) rfl z) (fun z => ((a11 _).load (h := 0) (n := 768) rfl z).trans (mix_old _ _ rfl _ _)) (fun z => load_values hV h18 z)
  have m12z : ∀ f, Reads arg7.view f (trip_k0_t1.sl.HW_arg7_12 i arg3 arg4 arg7 arg9 arg10 v3 v8 k0_hw1 X_arg3 X_arg4 k f_arg7 f_arg9) (mix 1 0 (mStep (mStep M S) (scoresOf K Q t1)) (mix 0 4 (mStep (mStep M S) (scoresOf K Q t1)) (mStep M S))) := fun f => by rw [mix_zero]; exact m12 f
  have a12z : ∀ f, Reads arg8.view f (trip_k0_t1.sl.HW_arg8_12 i arg3 arg4 arg5 arg7 arg8 arg9 arg10 v3 v8 k0_hw1 X_arg3 X_arg4 X_arg5 k f_arg7 f_arg8 f_arg9) (mix 1 0 (aStep (mStep M S) (aStep M A S (valuesOf V t0)) (scoresOf K Q t1) (valuesOf V t1)) (mix 0 4 (aStep (mStep M S) (aStep M A S (valuesOf V t0)) (scoresOf K Q t1) (valuesOf V t1)) (aStep M A S (valuesOf V t0)))) := fun f => by rw [mix_zero]; exact a12 f
  have m13 : ∀ f, Reads arg7.view f (trip_k0_t1.sl.HW_arg7_13 i arg3 arg4 arg7 arg9 arg10 v3 v8 k0_hw1 X_arg3 X_arg4 k f_arg7 f_arg9) (mix 1 1 (mStep (mStep M S) (scoresOf K Q t1)) (mix 0 4 (mStep (mStep M S) (scoresOf K Q t1)) (mStep M S))) := fun f =>
    block_max (h := 1) (e := 0) (n := 0) (M := mStep M S) (S := scoresOf K Q t1) (m12z f) rfl rfl (fun z => ((m12z _).load (h := 1) (n := 0) rfl z).trans ((mix_old _ _ rfl _ _).trans (mix_other _ _ (by decide) _ _))) (cast_scores fun z => (s8 _).load (h := 1) (n := 0) rfl z)
  have a13 : ∀ f, Reads arg8.view f (trip_k0_t1.sl.HW_arg8_13 i arg3 arg4 arg5 arg7 arg8 arg9 arg10 v3 v8 k0_hw1 X_arg3 X_arg4 X_arg5 k f_arg7 f_arg8 f_arg9) (mix 1 1 (aStep (mStep M S) (aStep M A S (valuesOf V t0)) (scoresOf K Q t1) (valuesOf V t1)) (mix 0 4 (aStep (mStep M S) (aStep M A S (valuesOf V t0)) (scoresOf K Q t1) (valuesOf V t1)) (aStep M A S (valuesOf V t0)))) := fun f =>
    block_sum (h := 1) (e := 0) (n := 0) (M := mStep M S) (S := scoresOf K Q t1) (A := aStep M A S (valuesOf V t0)) (V := valuesOf V t1) (a12z f) rfl rfl (fun z => ((m12z _).load (h := 1) (n := 0) rfl z).trans ((mix_old _ _ rfl _ _).trans (mix_other _ _ (by decide) _ _))) (cast_scores fun z => (s8 _).load (h := 1) (n := 0) rfl z) (fun z => ((a12z _).load (h := 1) (n := 0) rfl z).trans ((mix_old _ _ rfl _ _).trans (mix_other _ _ (by decide) _ _))) (fun z => load_values hV h20 z)
  have m14 : ∀ f, Reads arg7.view f (trip_k0_t1.sl.HW_arg7_14 i arg3 arg4 arg7 arg9 arg10 v3 v8 k0_hw1 X_arg3 X_arg4 k f_arg7 f_arg9) (mix 1 2 (mStep (mStep M S) (scoresOf K Q t1)) (mix 0 4 (mStep (mStep M S) (scoresOf K Q t1)) (mStep M S))) := fun f =>
    block_max (h := 1) (e := 1) (n := 256) (M := mStep M S) (S := scoresOf K Q t1) (m13 f) rfl rfl (fun z => ((m13 _).load (h := 1) (n := 256) rfl z).trans ((mix_old _ _ rfl _ _).trans (mix_other _ _ (by decide) _ _))) (cast_scores fun z => (s8 _).load (h := 1) (n := 256) rfl z)
  have a14 : ∀ f, Reads arg8.view f (trip_k0_t1.sl.HW_arg8_14 i arg3 arg4 arg5 arg7 arg8 arg9 arg10 v3 v8 k0_hw1 X_arg3 X_arg4 X_arg5 k f_arg7 f_arg8 f_arg9) (mix 1 2 (aStep (mStep M S) (aStep M A S (valuesOf V t0)) (scoresOf K Q t1) (valuesOf V t1)) (mix 0 4 (aStep (mStep M S) (aStep M A S (valuesOf V t0)) (scoresOf K Q t1) (valuesOf V t1)) (aStep M A S (valuesOf V t0)))) := fun f =>
    block_sum (h := 1) (e := 1) (n := 256) (M := mStep M S) (S := scoresOf K Q t1) (A := aStep M A S (valuesOf V t0)) (V := valuesOf V t1) (a13 f) rfl rfl (fun z => ((m13 _).load (h := 1) (n := 256) rfl z).trans ((mix_old _ _ rfl _ _).trans (mix_other _ _ (by decide) _ _))) (cast_scores fun z => (s8 _).load (h := 1) (n := 256) rfl z) (fun z => ((a13 _).load (h := 1) (n := 256) rfl z).trans ((mix_old _ _ rfl _ _).trans (mix_other _ _ (by decide) _ _))) (fun z => load_values hV h20 z)
  have m15 : ∀ f, Reads arg7.view f (trip_k0_t1.sl.HW_arg7_15 i arg3 arg4 arg7 arg9 arg10 v3 v8 k0_hw1 X_arg3 X_arg4 k f_arg7 f_arg9) (mix 1 3 (mStep (mStep M S) (scoresOf K Q t1)) (mix 0 4 (mStep (mStep M S) (scoresOf K Q t1)) (mStep M S))) := fun f =>
    block_max (h := 1) (e := 2) (n := 512) (M := mStep M S) (S := scoresOf K Q t1) (m14 f) rfl rfl (fun z => ((m14 _).load (h := 1) (n := 512) rfl z).trans ((mix_old _ _ rfl _ _).trans (mix_other _ _ (by decide) _ _))) (cast_scores fun z => (s8 _).load (h := 1) (n := 512) rfl z)
  have a15 : ∀ f, Reads arg8.view f (trip_k0_t1.sl.HW_arg8_15 i arg3 arg4 arg5 arg7 arg8 arg9 arg10 v3 v8 k0_hw1 X_arg3 X_arg4 X_arg5 k f_arg7 f_arg8 f_arg9) (mix 1 3 (aStep (mStep M S) (aStep M A S (valuesOf V t0)) (scoresOf K Q t1) (valuesOf V t1)) (mix 0 4 (aStep (mStep M S) (aStep M A S (valuesOf V t0)) (scoresOf K Q t1) (valuesOf V t1)) (aStep M A S (valuesOf V t0)))) := fun f =>
    block_sum (h := 1) (e := 2) (n := 512) (M := mStep M S) (S := scoresOf K Q t1) (A := aStep M A S (valuesOf V t0)) (V := valuesOf V t1) (a14 f) rfl rfl (fun z => ((m14 _).load (h := 1) (n := 512) rfl z).trans ((mix_old _ _ rfl _ _).trans (mix_other _ _ (by decide) _ _))) (cast_scores fun z => (s8 _).load (h := 1) (n := 512) rfl z) (fun z => ((a14 _).load (h := 1) (n := 512) rfl z).trans ((mix_old _ _ rfl _ _).trans (mix_other _ _ (by decide) _ _))) (fun z => load_values hV h20 z)
  unfold tripL_k0_t1 trip_k0_t1
  refine ⟨?_, ?_, ?_⟩
  · refine Reads.congr (G := mix 1 4 (mStep (mStep M S) (scoresOf K Q t1)) (mix 0 4 (mStep (mStep M S) (scoresOf K Q t1)) (mStep M S))) ?_ fun a b c ha _ hc => mix_both _ _ b ha hc
    exact block_max (h := 1) (e := 3) (n := 768) (M := mStep M S) (S := scoresOf K Q t1) (m15 f_arg7) rfl rfl (fun z => ((m15 _).load (h := 1) (n := 768) rfl z).trans ((mix_old _ _ rfl _ _).trans (mix_other _ _ (by decide) _ _))) (cast_scores fun z => (s8 _).load (h := 1) (n := 768) rfl z)
  · refine Reads.congr (G := mix 1 4 (aStep (mStep M S) (aStep M A S (valuesOf V t0)) (scoresOf K Q t1) (valuesOf V t1)) (mix 0 4 (aStep (mStep M S) (aStep M A S (valuesOf V t0)) (scoresOf K Q t1) (valuesOf V t1)) (aStep M A S (valuesOf V t0)))) ?_ fun a b c ha _ hc => mix_both _ _ b ha hc
    exact block_sum (h := 1) (e := 3) (n := 768) (M := mStep M S) (S := scoresOf K Q t1) (A := aStep M A S (valuesOf V t0)) (V := valuesOf V t1) (a15 f_arg8) rfl rfl (fun z => ((m15 _).load (h := 1) (n := 768) rfl z).trans ((mix_old _ _ rfl _ _).trans (mix_other _ _ (by decide) _ _))) (cast_scores fun z => (s8 _).load (h := 1) (n := 768) rfl z) (fun z => ((a15 _).load (h := 1) (n := 768) rfl z).trans ((mix_old _ _ rfl _ _).trans (mix_other _ _ (by decide) _ _))) (fun z => load_values hV h20 z)
  · exact Reads.congr
      (block_score (h := 1) (e := 3) (n := 768) (block_score (h := 1) (e := 2) (n := 512) (block_score (h := 1) (e := 1) (n := 256) (block_score (h := 1) (e := 0) (n := 0) (by rw [mix_zero]; exact (block_score (h := 0) (e := 3) (n := 768) (block_score (h := 0) (e := 2) (n := 512) (block_score (h := 0) (e := 1) (n := 256) (block_score (h := 0) (e := 0) (n := 0) (by rw [mix_zero]; exact reads_held _ _ _) rfl rfl (fun z => load_keys hK h17 z) (fun z => load_queries hQ rfl z)) rfl rfl (fun z => load_keys hK h17 z) (fun z => load_queries hQ rfl z)) rfl rfl (fun z => load_keys hK h17 z) (fun z => load_queries hQ rfl z)) rfl rfl (fun z => load_keys hK h17 z) (fun z => load_queries hQ rfl z))) rfl rfl (fun z => load_keys hK h19 z) (fun z => load_queries hQ rfl z)) rfl rfl (fun z => load_keys hK h19 z) (fun z => load_queries hQ rfl z)) rfl rfl (fun z => load_keys hK h19 z) (fun z => load_queries hQ rfl z)) rfl rfl (fun z => load_keys hK h19 z) (fun z => load_queries hQ rfl z))
      fun a b c ha _ hc => mix_both _ _ b ha hc

end

end Cert.KernelIdeal.Flash

end
-- ==== Proof.Pairs.lean ====
/- The loop over the pairs of key tiles both heads read: what the running maxima, the running sums and
   the scores hold after it. -/
module

public import proofs.«01_k».proof.Proof.Pair
public import proofs.«01_k».proof.Proof.Tiles
public import proofs.«01_k».proof.Proof.Seen

@[expose] public section

set_option maxRecDepth 16384

noncomputable section

namespace Cert.KernelIdeal.Flash

open Idealize.ShloMosaic Idealize.ShloMosaic.TcCoe Cert.KernelIdeal.Gen Cert.Flash

section
variable (𝒱 : Variants) (c : Dev nD) (bd : Option 𝒱.V) (i : grid0.Coords) (arg2 : Memref sig .tc .smem S16x16 .i32) (harg2 : arg2.IsWhole) (arg3 : Memref sig .tc .vmem S2x1024x128 .bf16) (harg3 : arg3.IsWhole) (arg4 : Memref sig .tc .vmem S2x16384x128 .bf16) (harg4 : arg4.IsWhole) (arg5 : Memref sig .tc .vmem S2x32x80x512 .bf16) (harg5 : arg5.IsWhole) (arg6 : Memref sig .tc .vmem S1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x512x1024 .f32) (harg9 : arg9.IsWhole) (arg10 : Memref sig .tc .vmem S2x512x1024 .f32) (harg10 : arg10.IsWhole) (arg1 : BitVec 32) (v3 : Elt Ideal .i32) (v8 : Elt Ideal .i32) (k0_hw1 : k0_chk1 i v3 v8) (v9 : BitVec 32) (v10 : BitVec 32) (v868 : FVec Ideal S1x1x256 .f32) (X_arg3 : BufTy.Contents (Elt Ideal) arg3.view.ty) (X_arg4 : BufTy.Contents (Elt Ideal) arg4.view.ty) (X_arg5 : BufTy.Contents (Elt Ideal) arg5.view.ty)
  (G_arg7 : BufTy.Contents (Elt Ideal) arg7.view.ty) (G_arg8 : BufTy.Contents (Elt Ideal) arg8.view.ty)
  (G_arg9 : BufTy.Contents (Elt Ideal) arg9.view.ty) (G_arg10 : BufTy.Contents (Elt Ideal) arg10.view.ty)
  {Q K : Grid} {V : ℕ → Grid}
  (hQ : ∀ y : S2x1024x128.Idx, arg3.view.read (Elt Ideal) X_arg3 y = Q (y 0).val (y 1).val (y 2).val)
  (hK : ∀ y : S2x16384x128.Idx, arg4.view.read (Elt Ideal) X_arg4 y = K (y 0).val (y 1).val (y 2).val)
  (hV : ∀ y : S2x32x80x512.Idx, arg5.view.read (Elt Ideal) X_arg5 y = V (y 0).val (y 1).val (y 2).val (y 3).val)
  (hq : Real3 Q) (hk : Real3 K) (ha : v3.toNat ≤ 32) (hb : v8.toNat ≤ 32)

/-- The tiles taken in after `k` trips. -/
def pairTiles (B k : ℕ) : ℕ → Finset ℕ := fun _ => Finset.Ico (2 * B - 2 * k) (2 * B + 2)

theorem pairTiles_one {B k : ℕ} (h : 2 * k + 2 ≤ 2 * B) :
    insert (2 * B - 1 - 2 * k) (Finset.Ico (2 * B - 2 * k) (2 * B + 2)) = Finset.Ico (2 * B - 1 - 2 * k) (2 * B + 2) := by
  ext t; simp only [Finset.mem_insert, Finset.mem_Ico]; omega

theorem pairTiles_two {B k : ℕ} (h : 2 * k + 2 ≤ 2 * B) :
    insert (2 * B - 2 - 2 * k) (Finset.Ico (2 * B - 1 - 2 * k) (2 * B + 2)) = Finset.Ico (2 * B - 2 * (k + 1)) (2 * B + 2) := by
  ext t; simp only [Finset.mem_insert, Finset.mem_Ico]; omega

set_option maxHeartbeats 1000000 in
include hQ hK hV hq hk ha hb in
/-- After `k` trips. -/
theorem pairs_held
    (hM : Reads arg7.view G_arg7 [] (tops (seen K Q (i 1).val) (pairTiles (i 1).val 0)))
    (hA : Reads arg8.view G_arg8 [] (accs (seen K Q (i 1).val) V (pairTiles (i 1).val 0)))
    (hS : Reads arg9.view G_arg9 [] (scoresOf K Q (2 * (i 1).val - 1))) (k : ℕ) (hkt : k ≤ (k0_t1_loop i v3 v8).trips) :
    Reads arg7.view G_arg7 (pb_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 G_arg7 G_arg8 G_arg9 G_arg10 k).1 (tops (seen K Q (i 1).val) (pairTiles (i 1).val k))
    ∧ Reads arg8.view G_arg8 (pb_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 G_arg7 G_arg8 G_arg9 G_arg10 k).2.1 (accs (seen K Q (i 1).val) V (pairTiles (i 1).val k))
    ∧ Reads arg9.view G_arg9 (pb_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 G_arg7 G_arg8 G_arg9 G_arg10 k).2.2.1 (scoresOf K Q (2 * (i 1).val - 1 - 2 * k)) := by
  induction k with
  | zero => exact ⟨hM, hA, hS⟩
  | succ k ih =>
    obtain ⟨m, a, s⟩ := ih (by omega)
    have hlt := both_lt i ha hb ⟨k, hkt⟩
    have hi := point_lt i
    have hlt' : 2 * k + 2 ≤ 2 * (i 1).val := by have : max v3.toNat v8.toNat + 2 * k + 2 ≤ 2 * (i 1).val := hlt; omega
    have e := pb_k0_t1_succ (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 G_arg7 G_arg8 G_arg9 G_arg10 ⟨k, hkt⟩
    obtain ⟨m', a', s'⟩ := pair_trip 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 ⟨k, hkt⟩ _ _ _ _ hQ hK hV
      (off13_eq i ha hb ⟨k, hkt⟩) (off14_eq i ha hb ⟨k, hkt⟩) (off15_eq i ha hb ⟨k, hkt⟩) (off16_eq i ha hb ⟨k, hkt⟩)
      (off17_eq i ha hb ⟨k, hkt⟩) (off18_eq i ha hb ⟨k, hkt⟩) (off19_eq i ha hb ⟨k, hkt⟩) (off20_eq i ha hb ⟨k, hkt⟩)
      (t0 := 2 * (i 1).val - 1 - 2 * k) (t1 := 2 * (i 1).val - 2 - 2 * k) (t2 := 2 * (i 1).val - 3 - 2 * k)
      (hM := (m : Reads arg7.view (arg7.view.writes (Elt Ideal) G_arg7 (pb_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 G_arg7 G_arg8 G_arg9 G_arg10 k).1) [] _))
      (hA := (a : Reads arg8.view (arg8.view.writes (Elt Ideal) G_arg8 (pb_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 G_arg7 G_arg8 G_arg9 G_arg10 k).2.1) [] _))
      (hS := (s : Reads arg9.view (arg9.view.writes (Elt Ideal) G_arg9 (pb_k0_t1 (F := Ideal) 𝒱 c bd i arg2 harg2 arg3 harg3 arg4 harg4 arg5 harg5 arg6 harg6 arg7 harg7 arg8 harg8 arg9 harg9 arg10 harg10 arg1 v3 v8 k0_hw1 v9 v10 v868 X_arg3 X_arg4 X_arg5 G_arg7 G_arg8 G_arg9 G_arg10 k).2.2.1) [] _))
    have step : ∀ a c : ℕ, _ := fun a c => one_more (V := V) (L := pairTiles (i 1).val k)
      (L' := fun _ => Finset.Ico (2 * (i 1).val - 1 - 2 * k) (2 * (i 1).val + 2)) (M := tops (seen K Q (i 1).val) (pairTiles (i 1).val k))
      (S := scoresOf K Q (2 * (i 1).val - 1 - 2 * k)) (a := a) (c := c)
      hk hq (pairTiles_one hlt').symm (by simp only [pairTiles, Finset.mem_Ico]; omega)
      (.inr (by simp only [pairTiles, Finset.mem_Ico]; omega)) (fun _ => rfl)
      (fun j hj => (seen_before (by omega) hj a c).symm)
    have step' : ∀ a c : ℕ, _ := fun a c => one_more (V := V)
      (L := fun _ => Finset.Ico (2 * (i 1).val - 1 - 2 * k) (2 * (i 1).val + 2)) (L' := pairTiles (i 1).val (k + 1))
      (S := scoresOf K Q (2 * (i 1).val - 2 - 2 * k)) (a := a) (c := c)
      hk hq (pairTiles_two hlt').symm (by simp only [Finset.mem_Ico]; omega)
      (.inr (by simp only [Finset.mem_Ico]; omega)) (step a c).1
      (fun j hj => (seen_before (by omega) hj a c).symm)
    rw [show k + 1 = (⟨k, hkt⟩ : Fin (k0_t1_loop i v3 v8).trips).val + 1 from rfl, e]
    refine ⟨(Reads.append m').congr fun a b c _ _ _ => (step' a c).1 b,
      (Reads.append a').congr fun a b c _ _ _ => (step' a c).2 ((step a c).2 rfl), ?_⟩
    have e3 : 2 * (i 1).val - 1 - 2 * (k + 1) = 2 * (i 1).val - 3 - 2 * k := by omega
    exact (Reads.append s').congr fun a b c _ _ _ => by
      show _ = scoresOf K Q (2 * (i 1).val - 1 - 2 * (k + 1)) a b c
      rw [e3]

end

end Cert.KernelIdeal.Flash

end
-- ==== Proof.Alone.lean ====
/- One trip of the loop over the pairs of key tiles one head alone reads: what the running maxima, the
   running sums and the scores hold after it. -/
module

public import proofs.«01_k».proof.Proof.Gen.KernelIdeal.Loops
public import proofs.«01_k».proof.Proof.Loads

@[expose] public section

set_option maxRecDepth 16384

noncomputable section

namespace Cert.KernelIdeal.Flash

open Idealize.ShloMosaic Idealize.ShloMosaic.TcCoe Cert.KernelIdeal.Gen Cert.Flash

section
variable (𝒱 : Variants) (c : Dev nD) (bd : Option 𝒱.V) (i : grid0.Coords) (arg2 : Memref sig .tc .smem S16x16 .i32) (harg2 : arg2.IsWhole) (arg3 : Memref sig .tc .vmem S2x1024x128 .bf16) (harg3 : arg3.IsWhole) (arg4 : Memref sig .tc .vmem S2x16384x128 .bf16) (harg4 : arg4.IsWhole) (arg5 : Memref sig .tc .vmem S2x32x80x512 .bf16) (harg5 : arg5.IsWhole) (arg6 : Memref sig .tc .vmem S1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x512x1024 .f32) (harg9 : arg9.IsWhole) (arg10 : Memref sig .tc .vmem S2x512x1024 .f32) (harg10 : arg10.IsWhole) (v3 : Elt Ideal .i32) (v8 : Elt Ideal .i32) (k0_hw1 : k0_chk1 i v3 v8) (v9 : BitVec 32) (v12 : BitVec 32) (X_arg3 : BufTy.Contents (Elt Ideal) arg3.view.ty) (X_arg4 : BufTy.Contents (Elt Ideal) arg4.view.ty) (X_arg5 : BufTy.Contents (Elt Ideal) arg5.view.ty) (k : Fin (k0_t3_loop v3 v8).trips)
  (f_arg7 : BufTy.Contents (Elt Ideal) arg7.view.ty) (f_arg8 : BufTy.Contents (Elt Ideal) arg8.view.ty)
  (f_arg9 : BufTy.Contents (Elt Ideal) arg9.view.ty) (f_arg10 : BufTy.Contents (Elt Ideal) arg10.view.ty)
  {Q K M A S : Grid} {V : ℕ → Grid} {hd t0 t1 t2 : ℕ}
  (hQ : ∀ y : S2x1024x128.Idx, arg3.view.read (Elt Ideal) X_arg3 y = Q (y 0).val (y 1).val (y 2).val)
  (hK : ∀ y : S2x16384x128.Idx, arg4.view.read (Elt Ideal) X_arg4 y = K (y 0).val (y 1).val (y 2).val)
  (hV : ∀ y : S2x32x80x512.Idx, arg5.view.read (Elt Ideal) X_arg5 y = V (y 0).val (y 1).val (y 2).val (y 3).val)
  (h29 : k0_off29 v3 v8 = ![hd, 0, 0])
  (h30 : k0_off30 v3 v8 = ![hd, 0, 0])
  (h32 : k0_off32 v3 v8 = ![hd, 0, 0])
  (h34 : k0_off34 v3 v8 = ![hd, 0, 0])
  (h35 : k0_off35 v3 v8 = ![hd, 0, 256])
  (h36 : k0_off36 v3 v8 = ![hd, 256, 0])
  (h37 : k0_off37 v3 v8 = ![hd, 0, 256])
  (h38 : k0_off38 v3 v8 = ![hd, 0, 256])
  (h39 : k0_off39 v3 v8 = ![hd, 0, 512])
  (h40 : k0_off40 v3 v8 = ![hd, 512, 0])
  (h41 : k0_off41 v3 v8 = ![hd, 0, 512])
  (h42 : k0_off42 v3 v8 = ![hd, 0, 512])
  (h43 : k0_off43 v3 v8 = ![hd, 0, 768])
  (h44 : k0_off44 v3 v8 = ![hd, 768, 0])
  (h45 : k0_off45 v3 v8 = ![hd, 0, 768])
  (h46 : k0_off46 v3 v8 = ![hd, 0, 768])
  (h31 : k0_off31 v3 v8 k = ![hd, 512 * t1, 0]) (h33 : k0_off33 v3 v8 k = ![hd, t0, 0, 0])
  (h47 : k0_off47 v3 v8 k = ![hd, 512 * t2, 0]) (h48 : k0_off48 v3 v8 k = ![hd, t1, 0, 0])
  (hM : Reads arg7.view f_arg7 [] M) (hA : Reads arg8.view f_arg8 [] A) (hS : Reads arg9.view f_arg9 [] S)

set_option maxHeartbeats 4000000 in
include hQ hK hV h29 h30 h32 h34 h35 h36 h37 h38 h39 h40 h41 h42 h43 h44 h45 h46 h31 h33 h47 h48 hM hA hS in
/-- One trip takes in two tiles and leaves the scores of a third, all of head `hd`. -/
theorem alone_trip :
    Reads arg7.view f_arg7 (tripL_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 k f_arg7 f_arg8 f_arg9 f_arg10).1 (mix hd 4 (mStep (mStep M S) (scoresOf K Q t1)) M)
    ∧ Reads arg8.view f_arg8 (tripL_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 k f_arg7 f_arg8 f_arg9 f_arg10).2.1
        (mix hd 4 (aStep (mStep M S) (aStep M A S (valuesOf V t0)) (scoresOf K Q t1) (valuesOf V t1)) A)
    ∧ Reads arg9.view f_arg9 (tripL_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 k f_arg7 f_arg8 f_arg9 f_arg10).2.2.1 (mix hd 4 (scoresOf K Q t2) S) := by
  have s0 : Reads arg10.view f_arg10 [] (mix hd 0 (scoresOf K Q t1) (held arg10.view f_arg10 [])) := by
    rw [mix_zero]; exact reads_held _ _ _
  have x0 : Reads arg9.view f_arg9 [] (mix hd 0 (scoresOf K Q t2) S) := by rw [mix_zero]; exact hS
  have m0 : Reads arg7.view f_arg7 [] (mix hd 0 (mStep M S) M) := by rw [mix_zero]; exact hM
  have a0 : Reads arg8.view f_arg8 [] (mix hd 0 (aStep M A S (valuesOf V t0)) A) := by rw [mix_zero]; exact hA
  have s1 : Reads arg10.view f_arg10 (trip_k0_t3.sl.HW_arg10_1 i arg3 arg4 v3 v8 k0_hw1 X_arg3 X_arg4 k) (mix hd 1 (scoresOf K Q t1) (held arg10.view f_arg10 [])) :=
    block_score (h := hd) (e := 0) (n := 0) s0 h29 rfl (fun z => load_keys hK h31 z) (fun z => load_queries hQ h30 z)
  have m1 : Reads arg7.view f_arg7 (trip_k0_t3.sl.HW_arg7_1 i arg7 arg9 v3 v8 k0_hw1 k f_arg7 f_arg9) (mix hd 1 (mStep M S) M) :=
    block_max (h := hd) (e := 0) (n := 0) (M := M) (S := S) m0 h32 rfl (fun z => (m0.load (h := hd) (n := 0) h32 z).trans (mix_old _ _ rfl _ _)) (cast_scores fun z => hS.load (h := hd) (n := 0) h29 z)
  have a1 : Reads arg8.view f_arg8 (trip_k0_t3.sl.HW_arg8_1 i arg5 arg7 arg8 arg9 v3 v8 k0_hw1 X_arg5 k f_arg7 f_arg8 f_arg9) (mix hd 1 (aStep M A S (valuesOf V t0)) A) :=
    block_sum (h := hd) (e := 0) (n := 0) (M := M) (S := S) (A := A) (V := valuesOf V t0) a0 h34 rfl (fun z => (m0.load (h := hd) (n := 0) h32 z).trans (mix_old _ _ rfl _ _)) (cast_scores fun z => hS.load (h := hd) (n := 0) h29 z) (fun z => (a0.load (h := hd) (n := 0) h34 z).trans (mix_old _ _ rfl _ _)) (fun z => load_values hV h33 z)
  have s2 : Reads arg10.view f_arg10 (trip_k0_t3.sl.HW_arg10_2 i arg3 arg4 v3 v8 k0_hw1 X_arg3 X_arg4 k) (mix hd 2 (scoresOf K Q t1) (held arg10.view f_arg10 [])) :=
    block_score (h := hd) (e := 1) (n := 256) s1 h35 rfl (fun z => load_keys hK h31 z) (fun z => load_queries hQ h36 z)
  have m2 : Reads arg7.view f_arg7 (trip_k0_t3.sl.HW_arg7_2 i arg7 arg9 v3 v8 k0_hw1 k f_arg7 f_arg9) (mix hd 2 (mStep M S) M) :=
    block_max (h := hd) (e := 1) (n := 256) (M := M) (S := S) m1 h37 rfl (fun z => (m1.load (h := hd) (n := 256) h37 z).trans (mix_old _ _ rfl _ _)) (cast_scores fun z => hS.load (h := hd) (n := 256) h35 z)
  have a2 : Reads arg8.view f_arg8 (trip_k0_t3.sl.HW_arg8_2 i arg5 arg7 arg8 arg9 v3 v8 k0_hw1 X_arg5 k f_arg7 f_arg8 f_arg9) (mix hd 2 (aStep M A S (valuesOf V t0)) A) :=
    block_sum (h := hd) (e := 1) (n := 256) (M := M) (S := S) (A := A) (V := valuesOf V t0) a1 h38 rfl (fun z => (m1.load (h := hd) (n := 256) h37 z).trans (mix_old _ _ rfl _ _)) (cast_scores fun z => hS.load (h := hd) (n := 256) h35 z) (fun z => (a1.load (h := hd) (n := 256) h38 z).trans (mix_old _ _ rfl _ _)) (fun z => load_values hV h33 z)
  have s3 : Reads arg10.view f_arg10 (trip_k0_t3.sl.HW_arg10_3 i arg3 arg4 v3 v8 k0_hw1 X_arg3 X_arg4 k) (mix hd 3 (scoresOf K Q t1) (held arg10.view f_arg10 [])) :=
    block_score (h := hd) (e := 2) (n := 512) s2 h39 rfl (fun z => load_keys hK h31 z) (fun z => load_queries hQ h40 z)
  have m3 : Reads arg7.view f_arg7 (trip_k0_t3.sl.HW_arg7_3 i arg7 arg9 v3 v8 k0_hw1 k f_arg7 f_arg9) (mix hd 3 (mStep M S) M) :=
    block_max (h := hd) (e := 2) (n := 512) (M := M) (S := S) m2 h41 rfl (fun z => (m2.load (h := hd) (n := 512) h41 z).trans (mix_old _ _ rfl _ _)) (cast_scores fun z => hS.load (h := hd) (n := 512) h39 z)
  have a3 : Reads arg8.view f_arg8 (trip_k0_t3.sl.HW_arg8_3 i arg5 arg7 arg8 arg9 v3 v8 k0_hw1 X_arg5 k f_arg7 f_arg8 f_arg9) (mix hd 3 (aStep M A S (valuesOf V t0)) A) :=
    block_sum (h := hd) (e := 2) (n := 512) (M := M) (S := S) (A := A) (V := valuesOf V t0) a2 h42 rfl (fun z => (m2.load (h := hd) (n := 512) h41 z).trans (mix_old _ _ rfl _ _)) (cast_scores fun z => hS.load (h := hd) (n := 512) h39 z) (fun z => (a2.load (h := hd) (n := 512) h42 z).trans (mix_old _ _ rfl _ _)) (fun z => load_values hV h33 z)
  have s4 : Reads arg10.view f_arg10 (trip_k0_t3.sl.HW_arg10_4 i arg3 arg4 v3 v8 k0_hw1 X_arg3 X_arg4 k) (mix hd 4 (scoresOf K Q t1) (held arg10.view f_arg10 [])) :=
    block_score (h := hd) (e := 3) (n := 768) s3 h43 rfl (fun z => load_keys hK h31 z) (fun z => load_queries hQ h44 z)
  have m4 : Reads arg7.view f_arg7 (trip_k0_t3.sl.HW_arg7_4 i arg7 arg9 v3 v8 k0_hw1 k f_arg7 f_arg9) (mix hd 4 (mStep M S) M) :=
    block_max (h := hd) (e := 3) (n := 768) (M := M) (S := S) m3 h45 rfl (fun z => (m3.load (h := hd) (n := 768) h45 z).trans (mix_old _ _ rfl _ _)) (cast_scores fun z => hS.load (h := hd) (n := 768) h43 z)
  have a4 : Reads arg8.view f_arg8 (trip_k0_t3.sl.HW_arg8_4 i arg5 arg7 arg8 arg9 v3 v8 k0_hw1 X_arg5 k f_arg7 f_arg8 f_arg9) (mix hd 4 (aStep M A S (valuesOf V t0)) A) :=
    block_sum (h := hd) (e := 3) (n := 768) (M := M) (S := S) (A := A) (V := valuesOf V t0) a3 h46 rfl (fun z => (m3.load (h := hd) (n := 768) h45 z).trans (mix_old _ _ rfl _ _)) (cast_scores fun z => hS.load (h := hd) (n := 768) h43 z) (fun z => (a3.load (h := hd) (n := 768) h46 z).trans (mix_old _ _ rfl _ _)) (fun z => load_values hV h33 z)
  have m4z : Reads arg7.view f_arg7 (trip_k0_t3.sl.HW_arg7_4 i arg7 arg9 v3 v8 k0_hw1 k f_arg7 f_arg9) (mix hd 0 (mStep (mStep M S) (scoresOf K Q t1)) (mix hd 4 (mStep M S) M)) := by rw [mix_zero]; exact m4
  have a4z : Reads arg8.view f_arg8 (trip_k0_t3.sl.HW_arg8_4 i arg5 arg7 arg8 arg9 v3 v8 k0_hw1 X_arg5 k f_arg7 f_arg8 f_arg9) (mix hd 0 (aStep (mStep M S) (aStep M A S (valuesOf V t0)) (scoresOf K Q t1) (valuesOf V t1)) (mix hd 4 (aStep M A S (valuesOf V t0)) A)) := by rw [mix_zero]; exact a4
  have m5 : Reads arg7.view f_arg7 (trip_k0_t3.sl.HW_arg7_5 i arg3 arg4 arg7 arg9 arg10 v3 v8 k0_hw1 X_arg3 X_arg4 k f_arg7 f_arg9 f_arg10) (mix hd 1 (mStep (mStep M S) (scoresOf K Q t1)) (mix hd 4 (mStep M S) M)) :=
    block_max (h := hd) (e := 0) (n := 0) (M := mStep M S) (S := scoresOf K Q t1) m4z h32 rfl (fun z => (m4z.load (h := hd) (n := 0) h32 z).trans ((mix_old _ _ rfl _ _).trans (mix_new (e := 0) _ _ rfl (by decide) (z 2).isLt _))) (cast_scores fun z => (s4.load (h := hd) (n := 0) h29 z).trans (mix_new (e := 0) _ _ rfl (by decide) (z 2).isLt _))
  have a5 : Reads arg8.view f_arg8 (trip_k0_t3.sl.HW_arg8_5 i arg3 arg4 arg5 arg7 arg8 arg9 arg10 v3 v8 k0_hw1 X_arg3 X_arg4 X_arg5 k f_arg7 f_arg8 f_arg9 f_arg10) (mix hd 1 (aStep (mStep M S) (aStep M A S (valuesOf V t0)) (scoresOf K Q t1) (valuesOf V t1)) (mix hd 4 (aStep M A S (valuesOf V t0)) A)) :=
    block_sum (h := hd) (e := 0) (n := 0) (M := mStep M S) (S := scoresOf K Q t1) (A := aStep M A S (valuesOf V t0)) (V := valuesOf V t1) a4z h34 rfl (fun z => (m4z.load (h := hd) (n := 0) h32 z).trans ((mix_old _ _ rfl _ _).trans (mix_new (e := 0) _ _ rfl (by decide) (z 2).isLt _))) (cast_scores fun z => (s4.load (h := hd) (n := 0) h29 z).trans (mix_new (e := 0) _ _ rfl (by decide) (z 2).isLt _)) (fun z => (a4z.load (h := hd) (n := 0) h34 z).trans ((mix_old _ _ rfl _ _).trans (mix_new (e := 0) _ _ rfl (by decide) (z 2).isLt _))) (fun z => load_values hV h48 z)
  have m6 : Reads arg7.view f_arg7 (trip_k0_t3.sl.HW_arg7_6 i arg3 arg4 arg7 arg9 arg10 v3 v8 k0_hw1 X_arg3 X_arg4 k f_arg7 f_arg9 f_arg10) (mix hd 2 (mStep (mStep M S) (scoresOf K Q t1)) (mix hd 4 (mStep M S) M)) :=
    block_max (h := hd) (e := 1) (n := 256) (M := mStep M S) (S := scoresOf K Q t1) m5 h37 rfl (fun z => (m5.load (h := hd) (n := 256) h37 z).trans ((mix_old _ _ rfl _ _).trans (mix_new (e := 1) _ _ rfl (by decide) (z 2).isLt _))) (cast_scores fun z => (s4.load (h := hd) (n := 256) h35 z).trans (mix_new (e := 1) _ _ rfl (by decide) (z 2).isLt _))
  have a6 : Reads arg8.view f_arg8 (trip_k0_t3.sl.HW_arg8_6 i arg3 arg4 arg5 arg7 arg8 arg9 arg10 v3 v8 k0_hw1 X_arg3 X_arg4 X_arg5 k f_arg7 f_arg8 f_arg9 f_arg10) (mix hd 2 (aStep (mStep M S) (aStep M A S (valuesOf V t0)) (scoresOf K Q t1) (valuesOf V t1)) (mix hd 4 (aStep M A S (valuesOf V t0)) A)) :=
    block_sum (h := hd) (e := 1) (n := 256) (M := mStep M S) (S := scoresOf K Q t1) (A := aStep M A S (valuesOf V t0)) (V := valuesOf V t1) a5 h38 rfl (fun z => (m5.load (h := hd) (n := 256) h37 z).trans ((mix_old _ _ rfl _ _).trans (mix_new (e := 1) _ _ rfl (by decide) (z 2).isLt _))) (cast_scores fun z => (s4.load (h := hd) (n := 256) h35 z).trans (mix_new (e := 1) _ _ rfl (by decide) (z 2).isLt _)) (fun z => (a5.load (h := hd) (n := 256) h38 z).trans ((mix_old _ _ rfl _ _).trans (mix_new (e := 1) _ _ rfl (by decide) (z 2).isLt _))) (fun z => load_values hV h48 z)
  have m7 : Reads arg7.view f_arg7 (trip_k0_t3.sl.HW_arg7_7 i arg3 arg4 arg7 arg9 arg10 v3 v8 k0_hw1 X_arg3 X_arg4 k f_arg7 f_arg9 f_arg10) (mix hd 3 (mStep (mStep M S) (scoresOf K Q t1)) (mix hd 4 (mStep M S) M)) :=
    block_max (h := hd) (e := 2) (n := 512) (M := mStep M S) (S := scoresOf K Q t1) m6 h41 rfl (fun z => (m6.load (h := hd) (n := 512) h41 z).trans ((mix_old _ _ rfl _ _).trans (mix_new (e := 2) _ _ rfl (by decide) (z 2).isLt _))) (cast_scores fun z => (s4.load (h := hd) (n := 512) h39 z).trans (mix_new (e := 2) _ _ rfl (by decide) (z 2).isLt _))
  have a7 : Reads arg8.view f_arg8 (trip_k0_t3.sl.HW_arg8_7 i arg3 arg4 arg5 arg7 arg8 arg9 arg10 v3 v8 k0_hw1 X_arg3 X_arg4 X_arg5 k f_arg7 f_arg8 f_arg9 f_arg10) (mix hd 3 (aStep (mStep M S) (aStep M A S (valuesOf V t0)) (scoresOf K Q t1) (valuesOf V t1)) (mix hd 4 (aStep M A S (valuesOf V t0)) A)) :=
    block_sum (h := hd) (e := 2) (n := 512) (M := mStep M S) (S := scoresOf K Q t1) (A := aStep M A S (valuesOf V t0)) (V := valuesOf V t1) a6 h42 rfl (fun z => (m6.load (h := hd) (n := 512) h41 z).trans ((mix_old _ _ rfl _ _).trans (mix_new (e := 2) _ _ rfl (by decide) (z 2).isLt _))) (cast_scores fun z => (s4.load (h := hd) (n := 512) h39 z).trans (mix_new (e := 2) _ _ rfl (by decide) (z 2).isLt _)) (fun z => (a6.load (h := hd) (n := 512) h42 z).trans ((mix_old _ _ rfl _ _).trans (mix_new (e := 2) _ _ rfl (by decide) (z 2).isLt _))) (fun z => load_values hV h48 z)
  unfold tripL_k0_t3 trip_k0_t3
  refine ⟨?_, ?_, ?_⟩
  · refine Reads.congr (G := mix hd 4 (mStep (mStep M S) (scoresOf K Q t1)) (mix hd 4 (mStep M S) M)) ?_ fun a b c ha _ hc => mix_twice _ _ _ _ a b hc
    exact block_max (h := hd) (e := 3) (n := 768) (M := mStep M S) (S := scoresOf K Q t1) m7 h45 rfl (fun z => (m7.load (h := hd) (n := 768) h45 z).trans ((mix_old _ _ rfl _ _).trans (mix_new (e := 3) _ _ rfl (by decide) (z 2).isLt _))) (cast_scores fun z => (s4.load (h := hd) (n := 768) h43 z).trans (mix_new (e := 3) _ _ rfl (by decide) (z 2).isLt _))
  · refine Reads.congr (G := mix hd 4 (aStep (mStep M S) (aStep M A S (valuesOf V t0)) (scoresOf K Q t1) (valuesOf V t1)) (mix hd 4 (aStep M A S (valuesOf V t0)) A)) ?_ fun a b c ha _ hc => mix_twice _ _ _ _ a b hc
    exact block_sum (h := hd) (e := 3) (n := 768) (M := mStep M S) (S := scoresOf K Q t1) (A := aStep M A S (valuesOf V t0)) (V := valuesOf V t1) a7 h46 rfl (fun z => (m7.load (h := hd) (n := 768) h45 z).trans ((mix_old _ _ rfl _ _).trans (mix_new (e := 3) _ _ rfl (by decide) (z 2).isLt _))) (cast_scores fun z => (s4.load (h := hd) (n := 768) h43 z).trans (mix_new (e := 3) _ _ rfl (by decide) (z 2).isLt _)) (fun z => (a7.load (h := hd) (n := 768) h46 z).trans ((mix_old _ _ rfl _ _).trans (mix_new (e := 3) _ _ rfl (by decide) (z 2).isLt _))) (fun z => load_values hV h48 z)
  · exact (block_score (h := hd) (e := 3) (n := 768) (block_score (h := hd) (e := 2) (n := 512) (block_score (h := hd) (e := 1) (n := 256) (block_score (h := hd) (e := 0) (n := 0) x0 h29 rfl (fun z => load_keys hK h47 z) (fun z => load_queries hQ h30 z)) h35 rfl (fun z => load_keys hK h47 z) (fun z => load_queries hQ h36 z)) h39 rfl (fun z => load_keys hK h47 z) (fun z => load_queries hQ h40 z)) h43 rfl (fun z => load_keys hK h47 z) (fun z => load_queries hQ h44 z))

end

end Cert.KernelIdeal.Flash

end
-- ==== Proof.Rest.lean ====
/- The loop over the pairs of key tiles one head alone reads: what the running maxima and the running
   sums hold after it. -/
module

public import proofs.«01_k».proof.Proof.Alone
public import proofs.«01_k».proof.Proof.Tiles
public import proofs.«01_k».proof.Proof.Seen

@[expose] public section

set_option maxRecDepth 16384

noncomputable section

namespace Cert.KernelIdeal.Flash

open Idealize.ShloMosaic Idealize.ShloMosaic.TcCoe Cert.KernelIdeal.Gen Cert.Flash

section
variable (𝒱 : Variants) (c : Dev nD) (bd : Option 𝒱.V) (i : grid0.Coords) (arg2 : Memref sig .tc .smem S16x16 .i32) (harg2 : arg2.IsWhole) (arg3 : Memref sig .tc .vmem S2x1024x128 .bf16) (harg3 : arg3.IsWhole) (arg4 : Memref sig .tc .vmem S2x16384x128 .bf16) (harg4 : arg4.IsWhole) (arg5 : Memref sig .tc .vmem S2x32x80x512 .bf16) (harg5 : arg5.IsWhole) (arg6 : Memref sig .tc .vmem S1024x128 .bf16) (harg6 : arg6.IsWhole) (arg7 : Memref sig .tc .vmem S2x1x1024 .f32) (harg7 : arg7.IsWhole) (arg8 : Memref sig .tc .vmem S2x80x1024 .f32) (harg8 : arg8.IsWhole) (arg9 : Memref sig .tc .vmem S2x512x1024 .f32) (harg9 : arg9.IsWhole) (arg10 : Memref sig .tc .vmem S2x512x1024 .f32) (harg10 : arg10.IsWhole) (v3 : Elt Ideal .i32) (v8 : Elt Ideal .i32) (k0_hw1 : k0_chk1 i v3 v8) (v9 : BitVec 32) (v12 : BitVec 32) (X_arg3 : BufTy.Contents (Elt Ideal) arg3.view.ty) (X_arg4 : BufTy.Contents (Elt Ideal) arg4.view.ty) (X_arg5 : BufTy.Contents (Elt Ideal) arg5.view.ty)
  (G_arg7 : BufTy.Contents (Elt Ideal) arg7.view.ty) (G_arg8 : BufTy.Contents (Elt Ideal) arg8.view.ty)
  (G_arg9 : BufTy.Contents (Elt Ideal) arg9.view.ty) (G_arg10 : BufTy.Contents (Elt Ideal) arg10.view.ty)
  {Q K : Grid} {V : ℕ → Grid}
  (hQ : ∀ y : S2x1024x128.Idx, arg3.view.read (Elt Ideal) X_arg3 y = Q (y 0).val (y 1).val (y 2).val)
  (hK : ∀ y : S2x16384x128.Idx, arg4.view.read (Elt Ideal) X_arg4 y = K (y 0).val (y 1).val (y 2).val)
  (hV : ∀ y : S2x32x80x512.Idx, arg5.view.read (Elt Ideal) X_arg5 y = V (y 0).val (y 1).val (y 2).val (y 3).val)
  (hq : Real3 Q) (hk : Real3 K) (ha : v3.toNat ≤ 32) (hb : v8.toNat ≤ 32)

/-- The tiles taken in after `k` trips: head `h` has gone `2 * k` tiles below tile `x`. -/
def aloneTiles (h B x k : ℕ) : ℕ → Finset ℕ := fun a => Finset.Ico (if a = h then x - 2 * k else x) (2 * B + 2)

theorem aloneTiles_one {h B x k : ℕ} (hk : 2 * k + 2 ≤ x) (hx : x ≤ 2 * B) :
    Finset.Ico (x - 1 - 2 * k) (2 * B + 2) = insert (x - 1 - 2 * k) (aloneTiles h B x k h) := by
  unfold aloneTiles; rw [if_pos rfl]
  ext t; simp only [Finset.mem_insert, Finset.mem_Ico]; omega

theorem aloneTiles_two {h B x k : ℕ} (hk : 2 * k + 2 ≤ x) (hx : x ≤ 2 * B) :
    aloneTiles h B x (k + 1) h = insert (x - 2 - 2 * k) (Finset.Ico (x - 1 - 2 * k) (2 * B + 2)) := by
  unfold aloneTiles; rw [if_pos rfl]
  ext t; simp only [Finset.mem_insert, Finset.mem_Ico]; omega

theorem aloneTiles_other {h B x k a : ℕ} (ha : a ≠ h) : aloneTiles h B x (k + 1) a = aloneTiles h B x k a := by
  unfold aloneTiles; rw [if_neg ha, if_neg ha]

set_option maxHeartbeats 1000000 in
include hQ hK hV hq hk ha hb in
/-- After `k` trips. -/
theorem alone_held {B x : ℕ} (hx : x = max v3.toNat v8.toNat) (hxB : x ≤ 2 * B)
    (hM : Reads arg7.view G_arg7 [] (tops (seen K Q B) (aloneTiles (alone v3 v8) B x 0)))
    (hA : Reads arg8.view G_arg8 [] (accs (seen K Q B) V (aloneTiles (alone v3 v8) B x 0)))
    (hS : Reads arg9.view G_arg9 [] (scoresOf K Q (x - 1))) (k : ℕ) (hkt : k ≤ (k0_t3_loop v3 v8).trips) :
    Reads arg7.view G_arg7 (pb_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 G_arg7 G_arg8 G_arg9 G_arg10 k).1 (tops (seen K Q B) (aloneTiles (alone v3 v8) B x k))
    ∧ Reads arg8.view G_arg8 (pb_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 G_arg7 G_arg8 G_arg9 G_arg10 k).2.1 (accs (seen K Q B) V (aloneTiles (alone v3 v8) B x k))
    ∧ ∃ S : Grid, Reads arg9.view G_arg9 (pb_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 G_arg7 G_arg8 G_arg9 G_arg10 k).2.2.1 S ∧ ∀ j c, c < 1024 → S (alone v3 v8) j c = scoresOf K Q (x - 1 - 2 * k) (alone v3 v8) j c := by
  induction k with
  | zero => exact ⟨hM, hA, _, hS, fun _ _ _ => rfl⟩
  | succ k ih =>
    obtain ⟨m, a, S, s, hs⟩ := ih (by omega)
    have hlt := alone_lt ha hb ⟨k, hkt⟩
    have hlt' : 2 * k + 2 ≤ x := by have : min v3.toNat v8.toNat + 2 * k + 2 ≤ max v3.toNat v8.toNat := hlt; omega
    have e := pb_k0_t3_succ (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 G_arg7 G_arg8 G_arg9 G_arg10 ⟨k, hkt⟩
    obtain ⟨m', a', s'⟩ := alone_trip 𝒱 c bd i arg2 harg2 arg3 harg3 arg4 harg4 arg5 harg5 arg6 harg6 arg7 harg7 arg8 harg8 arg9 harg9 arg10 harg10 v3 v8 k0_hw1 v9 v12 X_arg3 X_arg4 X_arg5 ⟨k, hkt⟩ _ _ _ _ hQ hK hV
      (off29_eq ha hb) (off30_eq ha hb) (off32_eq ha hb) (off34_eq ha hb) (off35_eq ha hb) (off36_eq ha hb) (off37_eq ha hb) (off38_eq ha hb) (off39_eq ha hb) (off40_eq ha hb) (off41_eq ha hb) (off42_eq ha hb) (off43_eq ha hb) (off44_eq ha hb) (off45_eq ha hb) (off46_eq ha hb)
      (hd := alone v3 v8) (t0 := x - 1 - 2 * k) (t1 := x - 2 - 2 * k) (t2 := x - 3 - 2 * k)
      ((off31_eq ha hb ⟨k, hkt⟩).trans (by rw [hx])) ((off33_eq ha hb ⟨k, hkt⟩).trans (by rw [hx]))
      ((off47_eq ha hb ⟨k, hkt⟩).trans (by rw [hx])) ((off48_eq ha hb ⟨k, hkt⟩).trans (by rw [hx]))
      (hM := (m : Reads arg7.view (arg7.view.writes (Elt Ideal) G_arg7 (pb_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 G_arg7 G_arg8 G_arg9 G_arg10 k).1) [] _))
      (hA := (a : Reads arg8.view (arg8.view.writes (Elt Ideal) G_arg8 (pb_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 G_arg7 G_arg8 G_arg9 G_arg10 k).2.1) [] _))
      (hS := (s : Reads arg9.view (arg9.view.writes (Elt Ideal) G_arg9 (pb_k0_t3 (F := Ideal) 𝒱 c bd i arg2 harg2 arg3 harg3 arg4 harg4 arg5 harg5 arg6 harg6 arg7 harg7 arg8 harg8 arg9 harg9 arg10 harg10 v3 v8 k0_hw1 v9 v12 X_arg3 X_arg4 X_arg5 G_arg7 G_arg8 G_arg9 G_arg10 k).2.2.1) [] _))
    have step : ∀ c : ℕ, c < 1024 → _ := fun c hc => one_more (V := V) (L := aloneTiles (alone v3 v8) B x k)
      (L' := fun _ => Finset.Ico (x - 1 - 2 * k) (2 * B + 2)) (M := tops (seen K Q B) (aloneTiles (alone v3 v8) B x k))
      (S := S) (a := alone v3 v8) (c := c)
      hk hq (aloneTiles_one hlt' hxB) (by simp only [aloneTiles, if_pos, Finset.mem_Ico]; omega)
      (.inr (by simp only [aloneTiles, if_pos, Finset.mem_Ico]; omega)) (fun _ => rfl)
      (fun j hj => (hs j c hc).trans (seen_before (by omega) hj _ c).symm)
    have step' : ∀ c : ℕ, c < 1024 → _ := fun c hc => one_more (V := V)
      (L := fun _ => Finset.Ico (x - 1 - 2 * k) (2 * B + 2)) (L' := aloneTiles (alone v3 v8) B x (k + 1))
      (S := scoresOf K Q (x - 2 - 2 * k)) (a := alone v3 v8) (c := c)
      hk hq (aloneTiles_two hlt' hxB) (by simp only [Finset.mem_Ico]; omega)
      (.inr (by simp only [Finset.mem_Ico]; omega)) (step c hc).1
      (fun j hj => (seen_before (by omega) hj _ c).symm)
    rw [show k + 1 = (⟨k, hkt⟩ : Fin (k0_t3_loop v3 v8).trips).val + 1 from rfl, e]
    refine ⟨(Reads.append m').congr fun a b c _ _ hc => ?_, (Reads.append a').congr fun a b c _ _ hc => ?_,
      _, Reads.append s', fun j c hc => ?_⟩
    · rw [mix_full _ _ _ _ _ hc]
      split
      · next h => subst h; exact (step' c hc).1 b
      · next h => show top _ _ = top _ _; rw [show aloneTiles _ B x (k + 1) a = _ from aloneTiles_other h]
    · rw [mix_full _ _ _ _ _ hc]
      split
      · next h => subst h; exact (step' c hc).2 ((step c hc).2 rfl)
      · next h => show acc _ _ _ = acc _ _ _; rw [show aloneTiles _ B x (k + 1) a = _ from aloneTiles_other h]
    · rw [mix_full _ _ _ _ _ hc, if_pos rfl]
      have e3 : x - 1 - 2 * (k + 1) = x - 3 - 2 * k := by omega
      show _ = scoresOf K Q (x - 1 - 2 * (k + 1)) _ j c
      rw [e3]

end

end Cert.KernelIdeal.Flash

end
-- ==== Proof.Body.lean ====
/- What the attention kernel's body leaves at one grid point: the scaled sums over every tile a head
   reads, and the block of the output they give. -/
module

public import proofs.«01_k».proof.Proof.Second
public import proofs.«01_k».proof.Proof.Pairs
public import proofs.«01_k».proof.Proof.Rest
public import proofs.«01_k».proof.Proof.Launch

@[expose] public section

set_option maxRecDepth 16384

noncomputable section

namespace Cert.KernelIdeal.Flash

open Idealize.ShloMosaic Idealize.ShloMosaic.TcCoe Cert.KernelIdeal.Gen Cert.Flash

section
variable (c : Dev nD) (i : grid0.Coords) (arg3 : Memref sig .tc .vmem S2x1024x128 .bf16) (harg3 : arg3.IsWhole)
  (arg4 : Memref sig .tc .vmem S2x16384x128 .bf16) (harg4 : arg4.IsWhole)
  (arg5 : Memref sig .tc .vmem S2x32x80x512 .bf16) (harg5 : arg5.IsWhole)
  (arg6 : Memref sig .tc .vmem S1024x128 .bf16) (harg6 : arg6.IsWhole)
  (arg7 : Memref sig .tc .vmem S2x1x1024 .f32) (harg7 : arg7.IsWhole)
  (arg8 : Memref sig .tc .vmem S2x80x1024 .f32) (harg8 : arg8.IsWhole)
  (arg9 : Memref sig .tc .vmem S2x512x1024 .f32) (harg9 : arg9.IsWhole)
  (arg10 : Memref sig .tc .vmem S2x512x1024 .f32) (harg10 : arg10.IsWhole)
  (x0 : Vec Ideal S2x1024x128 .bf16) (x1 : Vec Ideal S2x16384x128 .bf16) (x2 : Vec Ideal S2x32x80x512 .bf16)

/-- The stores into the running sums, last first: those of the two loops, then those before them. -/
def sumStores (v3 v8 : Elt Ideal .i32) (k0_hw1 : k0_chk1 i v3 v8) : List (View.Piece (Elt Ideal) S2x80x1024 .f32) :=
  let p := pb_k0_t1 (F := Ideal) Variants.none c none i tbM0_0 htbM0_0 arg3 harg3 arg4 harg4 arg5 harg5 arg6 harg6 arg7 harg7 arg8 harg8 arg9 harg9 arg10 harg10 (BitVec.ofNat 32 (i 1).val) v3 v8 k0_hw1 0#32 0#32 (fun _ => Scalar.ofBits (F := Ideal) .f32 0#32) (harg3.unread x0) (harg4.unread x1) (harg5.unread x2) (arg7.view.writes (Elt Ideal) arg7.view.junk (kernelRun.sl.HS0_18 (F := Ideal) c i arg3 harg3 arg4 harg4 arg7 arg9 arg10 x0 x1)) (arg8.view.writes (Elt Ideal) arg8.view.junk (kernelRun.sl.HS1_18 (F := Ideal) c i arg3 harg3 arg4 harg4 arg5 harg5 arg7 arg8 arg9 arg10 x0 x1 x2)) (arg9.view.writes (Elt Ideal) arg9.view.junk (kernelRun.sl.HS2_16 (F := Ideal) c i arg3 harg3 arg4 harg4 x0 x1)) (arg10.view.writes (Elt Ideal) arg10.view.junk (kernelRun.sl.HS3_8 (F := Ideal) c i arg3 harg3 arg4 harg4 x0 x1)) (k0_t1_loop i v3 v8).trips
  (pb_k0_t3 (F := Ideal) Variants.none c none i tbM0_0 htbM0_0 arg3 harg3 arg4 harg4 arg5 harg5 arg6 harg6 arg7 harg7 arg8 harg8 arg9 harg9 arg10 harg10 v3 v8 k0_hw1 (Scalar.maxsi v3 v8) (Scalar.select (Scalar.cmpi .slt v3 v8) 0#32 1#32) (harg3.unread x0) (harg4.unread x1) (harg5.unread x2) (arg7.view.writes (Elt Ideal) arg7.view.junk (p.1 ++ (kernelRun.sl.HS0_18 (F := Ideal) c i arg3 harg3 arg4 harg4 arg7 arg9 arg10 x0 x1))) (arg8.view.writes (Elt Ideal) arg8.view.junk (p.2.1 ++ (kernelRun.sl.HS1_18 (F := Ideal) c i arg3 harg3 arg4 harg4 arg5 harg5 arg7 arg8 arg9 arg10 x0 x1 x2)))
      (arg9.view.writes (Elt Ideal) arg9.view.junk (p.2.2.1 ++ (kernelRun.sl.HS2_16 (F := Ideal) c i arg3 harg3 arg4 harg4 x0 x1))) (arg10.view.writes (Elt Ideal) arg10.view.junk (p.2.2.2 ++ (kernelRun.sl.HS3_8 (F := Ideal) c i arg3 harg3 arg4 harg4 x0 x1))) (k0_t3_loop v3 v8).trips).2.1
    ++ (p.2.1 ++ (kernelRun.sl.HS1_18 (F := Ideal) c i arg3 harg3 arg4 harg4 arg5 harg5 arg7 arg8 arg9 arg10 x0 x1 x2))

/-- The block of the output, from the running sums of the two heads. -/
def quotients (a b : Vec Ideal S1x80x1024 .f32) : FVec Ideal S1024x128 .bf16 :=
  k0_pay1 (k0_pay478 a) (k0_pay480 b) (k0_pay481 b)

theorem quotients_apply (a b : Vec Ideal S1x80x1024 .f32) (l : Fin 1024) (h : Fin 2) (j : Fin 64) :
    quotients a b (ix2 l ⟨64 * h.val + j.val, by omega⟩)
      = Ideal.div ((if h.val = 0 then a else b) (ix3 0 ⟨j.val, by omega⟩ l)) ((if h.val = 0 then a else b) (ix3 0 ⟨64, by decide⟩ l)) := by
  match h with
  | ⟨0, _⟩ =>
    unfold quotients k0_pay1 k0_pay478 k0_pay480 k0_pay481 k0_pay479
    pointwise
  | ⟨1, _⟩ =>
    unfold quotients k0_pay1 k0_pay478 k0_pay480 k0_pay481 k0_pay479
    pointwise

/-- What a buffer holds after some stores, these taken for done. -/
theorem reads_rest {sg : RefSig} {kd : Kind} {sp : Space} {R : ℕ} {v : View sg kd sp (⟨3, ![2, R, 1024]⟩ : Shape) .f32}
    {f : v.ty.Contents (Elt Ideal)} {L : List (View.Piece (Elt Ideal) (⟨3, ![2, R, 1024]⟩ : Shape) .f32)} {G : Grid}
    (h : Reads v f L G) : Reads v (v.writes (Elt Ideal) f L) [] G := h

/-- The first tile each head reads. -/
def firsts (v3 v8 : Elt Ideal .i32) (a : ℕ) : ℕ := if a = 0 then BitVec.toNat v3 else BitVec.toNat v8

/-- The tiles each head reads at block `B`. -/
def tilesOf (B : ℕ) (v3 v8 : Elt Ideal .i32) : ℕ → Finset ℕ := fun a => Finset.Ico (firsts v3 v8 a) (2 * B + 2)

theorem tilesOf_eq (B : ℕ) (v3 v8 : Elt Ideal .i32) (h3 : BitVec.toNat v3 % 2 = 0) (h8 : BitVec.toNat v8 % 2 = 0) {a : ℕ} (ha : a < 2) :
    aloneTiles (alone v3 v8) B (max (BitVec.toNat v3) (BitVec.toNat v8)) ((max (BitVec.toNat v3) (BitVec.toNat v8) - min (BitVec.toNat v3) (BitVec.toNat v8)) / 2) a
      = tilesOf B v3 v8 a := by
  unfold aloneTiles tilesOf firsts alone
  congr 1
  split_ifs <;> omega

theorem accs_none (s V : ℕ → Grid) (a b c : ℕ) : accs s V (fun _ => ∅) a b c = 0 := by
  unfold accs acc; rw [Finset.sum_empty]

variable {Q K : Grid} {V : ℕ → Grid}
  (hQ : ∀ y : S2x1024x128.Idx, x0 y = Q (y 0).val (y 1).val (y 2).val)
  (hK : ∀ y : S2x16384x128.Idx, x1 y = K (y 0).val (y 1).val (y 2).val)
  (hV : ∀ y : S2x32x80x512.Idx, x2 y = V (y 0).val (y 1).val (y 2).val (y 3).val)
  (hq : Real3 Q) (hk : Real3 K)
  (v3 v8 : Elt Ideal .i32) (k0_hw1 : k0_chk1 i v3 v8)
  (h3 : BitVec.toNat v3 ≤ 2 * (i 1).val) (h8 : BitVec.toNat v8 ≤ 2 * (i 1).val)
  (e3 : BitVec.toNat v3 % 2 = 0) (e8 : BitVec.toNat v8 % 2 = 0)

set_option maxHeartbeats 400000 in
include hQ hK hV hq hk h3 h8 e3 e8 in
/-- The running sums at the end. -/
theorem sums_held : Reads arg8.view arg8.view.junk (sumStores c i arg3 harg3 arg4 harg4 arg5 harg5 arg6 harg6 arg7 harg7 arg8 harg8 arg9 harg9 arg10 harg10 x0 x1 x2 v3 v8 k0_hw1)
    (accs (seen K Q (i 1).val) V (tilesOf (i 1).val v3 v8)) := by
  have hi := point_lt i
  have q := queries_read arg3 harg3 x0 hQ
  have r := keys_read arg4 harg4 x1 hK
  have u := values_read arg5 harg5 x2 hV
  have ha : BitVec.toNat v3 ≤ 32 := by omega
  have hb : BitVec.toNat v8 ≤ 32 := by omega
  obtain ⟨m, a⟩ := diagonal_second c i arg3 harg3 arg4 harg4 arg5 harg5 arg7 arg8 arg9 arg10 x0 x1 x2 hQ hK hV
  have s := scores_before c i arg3 harg3 arg4 harg4 arg9 x0 x1 hQ hK
  have one : ∀ a c : ℕ, _ := fun a c => one_more (V := V) (L := fun _ => ∅) (L' := fun _ => {2 * (i 1).val}) (M := fun _ _ _ => ⊥)
    (S := maskOf 0 (scoresOf K Q (2 * (i 1).val))) (a := a) (c := c) (t := 2 * (i 1).val) (B := (i 1).val) hk hq rfl (Finset.notMem_empty _) (.inl rfl)
    (fun _ => rfl) (fun j hj => seen_first a j c)
  have two : ∀ a c : ℕ, _ := fun a c => one_more (V := V) (L := fun _ => {2 * (i 1).val}) (L' := pairTiles (i 1).val 0)
    (S := maskOf 512 (scoresOf K Q (2 * (i 1).val + 1))) (a := a) (c := c) (t := 2 * (i 1).val + 1) (B := (i 1).val) hk hq
    (by unfold pairTiles; ext t; simp only [Finset.mem_insert, Finset.mem_Ico, Finset.mem_singleton]; omega)
    (by simp only [Finset.mem_singleton]; omega) (.inr (Finset.mem_singleton_self _))
    (one a c).1 (fun j hj => seen_second a j c)
  have m0 := m.congr (G' := tops (seen K Q (i 1).val) (pairTiles (i 1).val 0)) fun a b c _ _ _ => (two a c).1 b
  have a0 := a.congr (G' := accs (seen K Q (i 1).val) V (pairTiles (i 1).val 0)) fun a b c _ _ _ =>
    (two a c).2 (A := aStep (fun _ _ _ => ⊥) (fun _ _ _ => 0) (maskOf 0 (scoresOf K Q (2 * (i 1).val))) (valuesOf V (2 * (i 1).val))) ((one a c).2 (A := fun _ _ _ => 0) (accs_none (seen K Q (i 1).val) V a b c).symm)
  obtain ⟨m1, a1, s1⟩ := pairs_held Variants.none c none i tbM0_0 htbM0_0 arg3 harg3 arg4 harg4 arg5 harg5 arg6 harg6 arg7 harg7 arg8 harg8 arg9 harg9 arg10 harg10 (BitVec.ofNat 32 (i 1).val) v3 v8 k0_hw1 0#32 0#32 (fun _ => Scalar.ofBits (F := Ideal) .f32 0#32) (harg3.unread x0) (harg4.unread x1) (harg5.unread x2) (arg7.view.writes (Elt Ideal) arg7.view.junk (kernelRun.sl.HS0_18 (F := Ideal) c i arg3 harg3 arg4 harg4 arg7 arg9 arg10 x0 x1)) (arg8.view.writes (Elt Ideal) arg8.view.junk (kernelRun.sl.HS1_18 (F := Ideal) c i arg3 harg3 arg4 harg4 arg5 harg5 arg7 arg8 arg9 arg10 x0 x1 x2)) (arg9.view.writes (Elt Ideal) arg9.view.junk (kernelRun.sl.HS2_16 (F := Ideal) c i arg3 harg3 arg4 harg4 x0 x1)) (arg10.view.writes (Elt Ideal) arg10.view.junk (kernelRun.sl.HS3_8 (F := Ideal) c i arg3 harg3 arg4 harg4 x0 x1)) q r u hq hk ha hb (reads_rest m0) (reads_rest a0) (reads_rest s) (k0_t1_loop i v3 v8).trips le_rfl
  have t1 := (both_loop i ha hb).1
  obtain ⟨x, hmx⟩ : ∃ x, max (BitVec.toNat v3) (BitVec.toNat v8) = x := ⟨_, rfl⟩
  rw [hmx] at t1
  have e1 : pairTiles (i 1).val (k0_t1_loop i v3 v8).trips = aloneTiles (alone v3 v8) (i 1).val x 0 := by
    rw [t1]
    funext a
    unfold pairTiles aloneTiles
    congr 1
    split <;> omega
  rw [e1] at m1 a1
  have e2 : 2 * (i 1).val - 1 - 2 * (k0_t1_loop i v3 v8).trips = x - 1 := by rw [t1]; omega
  rw [e2] at s1
  have t3 := (alone_loop ha hb).1
  obtain ⟨-, a3, -⟩ := alone_held Variants.none c none i tbM0_0 htbM0_0 arg3 harg3 arg4 harg4 arg5 harg5 arg6 harg6 arg7 harg7 arg8 harg8 arg9 harg9 arg10 harg10 v3 v8 k0_hw1 (Scalar.maxsi v3 v8) (Scalar.select (Scalar.cmpi .slt v3 v8) 0#32 1#32) (harg3.unread x0) (harg4.unread x1) (harg5.unread x2) _ _ _ q r u hq hk ha hb (B := (i 1).val) (x := x) hmx.symm (by omega)
    (hM := reads_rest (Reads.append m1))
    (hA := reads_rest (Reads.append a1))
    (hS := reads_rest (Reads.append s1))
    (G_arg10 := arg10.view.writes (Elt Ideal) arg10.view.junk ((pb_k0_t1 (F := Ideal) Variants.none c none i tbM0_0 htbM0_0 arg3 harg3 arg4 harg4 arg5 harg5 arg6 harg6 arg7 harg7 arg8 harg8 arg9 harg9 arg10 harg10 (BitVec.ofNat 32 (i 1).val) v3 v8 k0_hw1 0#32 0#32 (fun _ => Scalar.ofBits (F := Ideal) .f32 0#32) (harg3.unread x0) (harg4.unread x1) (harg5.unread x2) (arg7.view.writes (Elt Ideal) arg7.view.junk (kernelRun.sl.HS0_18 (F := Ideal) c i arg3 harg3 arg4 harg4 arg7 arg9 arg10 x0 x1)) (arg8.view.writes (Elt Ideal) arg8.view.junk (kernelRun.sl.HS1_18 (F := Ideal) c i arg3 harg3 arg4 harg4 arg5 harg5 arg7 arg8 arg9 arg10 x0 x1 x2)) (arg9.view.writes (Elt Ideal) arg9.view.junk (kernelRun.sl.HS2_16 (F := Ideal) c i arg3 harg3 arg4 harg4 x0 x1)) (arg10.view.writes (Elt Ideal) arg10.view.junk (kernelRun.sl.HS3_8 (F := Ideal) c i arg3 harg3 arg4 harg4 x0 x1)) (k0_t1_loop i v3 v8).trips).2.2.2 ++ (kernelRun.sl.HS3_8 (F := Ideal) c i arg3 harg3 arg4 harg4 x0 x1)))
    (k0_t3_loop v3 v8).trips le_rfl
  refine (Reads.append a3).congr fun a b c ha _ _ => ?_
  have e := tilesOf_eq (i 1).val v3 v8 e3 e8 ha
  rw [← t3, hmx] at e
  show acc _ _ _ = acc _ _ _
  rw [e]

/-- One head's running sums, read whole. -/
theorem sums_load {L : List (View.Piece (Elt Ideal) S2x80x1024 .f32)} {G : Grid} (hL : Reads arg8.view arg8.view.junk L G) {h : ℕ}
    {off : Fin 3 → ℕ} {inb : ∀ a, off a + S1x80x1024.size a ≤ S2x80x1024.size a} (hoff : off = ![h, 0, 0]) (z : S1x80x1024.Idx) :
    arg8.view.readAt (Elt Ideal) (Rect.unit (s := S2x80x1024) off S1x80x1024.size inb).toLoadRect
      (arg8.view.writes (Elt Ideal) arg8.view.junk L) z = G h (z 1).val (z 2).val := by
  subst hoff
  refine (hL _).trans ?_
  have h0 : (z 0).val = 0 := Nat.lt_one_iff.mp (z 0).isLt
  show G (h + 1 * (z 0).val) (0 + 1 * (z 1).val) (0 + 1 * (z 2).val) = _
  rw [h0, Nat.mul_zero, Nat.add_zero, Nat.one_mul, Nat.one_mul, Nat.zero_add, Nat.zero_add]

/-- One head's running sums, read whole after all the stores. -/
def sumsOf (v3 v8 : Elt Ideal .i32) (k0_hw1 : k0_chk1 i v3 v8) (h : ℕ) (inb : ∀ a, (![h, 0, 0] : Fin 3 → ℕ) a + S1x80x1024.size a ≤ S2x80x1024.size a) : Vec Ideal S1x80x1024 .f32 :=
  arg8.view.readAt (Elt Ideal) (Rect.unit (s := S2x80x1024) ![h, 0, 0] S1x80x1024.size inb).toLoadRect
    (arg8.view.writes (Elt Ideal) arg8.view.junk (sumStores c i arg3 harg3 arg4 harg4 arg5 harg5 arg6 harg6 arg7 harg7 arg8 harg8 arg9 harg9 arg10 harg10 x0 x1 x2 v3 v8 k0_hw1))

/-- The block of the output the body leaves. -/
theorem outBlk_eq (xt0 : TbBuf0 (F := Ideal) c tbM0_0) (hw) : outBlk (F := Ideal) c i arg3 harg3 arg4 harg4 arg5 harg5 arg6 harg6 arg7 harg7 arg8 harg8 arg9 harg9 arg10 harg10 x0 x1 x2 xt0 hw
    = quotients (sumsOf c i arg3 harg3 arg4 harg4 arg5 harg5 arg6 harg6 arg7 harg7 arg8 harg8 arg9 harg9 arg10 harg10 x0 x1 x2 _ _ hw 0 inb_S2x80x1024_S1x80x1024_0_0_0) (sumsOf c i arg3 harg3 arg4 harg4 arg5 harg5 arg6 harg6 arg7 harg7 arg8 harg8 arg9 harg9 arg10 harg10 x0 x1 x2 _ _ hw 1 inb_S2x80x1024_S1x80x1024_1_0_0) := by
  funext y
  refine (View.read_writes_cons_unit_of_mem VO0_3 VO0_3.junk inb_S1024x128_S1024x128_0_0 _ [] y y rfl fun a => ?_).trans rfl
  match a with
  | ⟨0, _⟩ => exact (Nat.zero_add _).symm
  | ⟨1, _⟩ => exact (Nat.zero_add _).symm

end

end Cert.KernelIdeal.Flash

end
-- ==== Proof.Out.lean ====
/- The attention kernel's output array: each grid point's block of it, and the whole. -/
module

public import proofs.«01_k».proof.Proof.Body
public import proofs.«01_k».proof.Proof.Attended
public import Idealize.ShloMosaic.Lib.Pipeline.Covers

@[expose] public section

set_option maxRecDepth 16384

noncomputable section

namespace Cert.KernelIdeal.Flash

open Idealize.ShloMosaic Idealize.ShloMosaic.TcCoe Cert.KernelIdeal.Gen Cert.Flash

variable (m : (ℓ : Loc nD τ sig) → Buf (Elt Ideal) ℓ)

theorem word_lt {n k : ℕ} (h : n < k) (hk : k ≤ 2 ^ 32) : (BitVec.ofNat 32 n).toNat = n := by
  rw [BitVec.toNat_ofNat, Nat.mod_eq_of_lt (lt_of_lt_of_le h hk)]

/-- The first grid coordinate, the pair of heads. -/
theorem pair_word (i : grid0.Coords) : (BitVec.ofNat 32 (i 0).val).toNat = (i 0).val := word_lt (i 0).isLt (by decide)
/-- The second grid coordinate, the block of rows. -/
theorem row_word (i : grid0.Coords) : (BitVec.ofNat 32 (i 1).val).toNat = (i 1).val := word_lt (i 1).isLt (by decide)

theorem queries_block (hO : Ok m) (c : Dev nD) (t : Fin (cfgM m hO).N) (y : S2x1024x128.Idx) :
    iblk m hO c 0 t y = at3 (m ((c : Thread nD τ).loc main_arg0)) (2 * ((grid0.coords t) 0).val + (y 0).val) (1024 * ((grid0.coords t) 1).val + (y 1).val) (y 2).val := by
  unfold iblk
  refine Eq.trans ?_ ((at3_eq (m ((c : Thread nD τ).loc main_arg0)) ((((cfgM m hO).win 0).blk t).view.emb y)).symm.trans ?_)
  · rfl
  · refine congr (congr (congrArg _ ?_) ?_) ?_
    · blk_simp
      show (BitVec.ofNat 32 ((grid0.coords t) 0).val).toNat * 2 + (y 0).val = _
      rw [pair_word, Nat.mul_comm]
    · blk_simp
      show (BitVec.ofNat 32 ((grid0.coords t) 1).val).toNat * 1024 + (y 1).val = _
      rw [row_word, Nat.mul_comm]
    · blk_simp
      show (0#32).toNat * 128 + (y 2).val = _
      simp

theorem keys_block (hO : Ok m) (c : Dev nD) (t : Fin (cfgM m hO).N) (y : S2x16384x128.Idx) :
    iblk m hO c 1 t y = at3 (m ((c : Thread nD τ).loc main_arg1)) (2 * ((grid0.coords t) 0).val + (y 0).val) (y 1).val (y 2).val := by
  unfold iblk
  refine Eq.trans ?_ ((at3_eq (m ((c : Thread nD τ).loc main_arg1)) ((((cfgM m hO).win 1).blk t).view.emb y)).symm.trans ?_)
  · rfl
  · refine congr (congr (congrArg _ ?_) ?_) ?_
    · blk_simp
      show (BitVec.ofNat 32 ((grid0.coords t) 0).val).toNat * 2 + (y 0).val = _
      rw [pair_word, Nat.mul_comm]
    · blk_simp
      show (0#32).toNat * 16384 + (y 1).val = _
      simp
    · blk_simp
      show (0#32).toNat * 128 + (y 2).val = _
      simp

theorem values_block (hO : Ok m) (c : Dev nD) (t : Fin (cfgM m hO).N) (y : S2x32x80x512.Idx) :
    iblk m hO c 2 t y = at4 (m ((c : Thread nD τ).loc main_arg2)) (2 * ((grid0.coords t) 0).val + (y 0).val) (y 1).val (y 2).val (y 3).val := by
  unfold iblk
  refine Eq.trans ?_ ((at4_eq (m ((c : Thread nD τ).loc main_arg2)) ((((cfgM m hO).win 2).blk t).view.emb y)).symm.trans ?_)
  · rfl
  · refine congr (congr (congr (congrArg _ ?_) ?_) ?_) ?_
    · blk_simp
      show (BitVec.ofNat 32 ((grid0.coords t) 0).val).toNat * 2 + (y 0).val = _
      rw [pair_word, Nat.mul_comm]
    · blk_simp
      show (0#32).toNat * 32 + (y 1).val = _
      simp
    · blk_simp
      show (0#32).toNat * 80 + (y 2).val = _
      simp
    · blk_simp
      show (0#32).toNat * 512 + (y 3).val = _
      simp

theorem heads_table : ∀ n : Fin 8, (Scalar.indexCast (Scalar.muli 2#32 (BitVec.ofNat 32 n.val))).toNat = 2 * n.val
    ∧ (Scalar.indexCast (Scalar.addi (Scalar.muli 2#32 (BitVec.ofNat 32 n.val)) 1#32)).toNat = 2 * n.val + 1 := by
  decide

theorem rows_table : ∀ n : Fin 16, (Scalar.indexCast (BitVec.ofNat 32 n.val)).toNat = n.val := by
  decide

theorem off1_eq (i : grid0.Coords) : k0_off1 i = ![2 * (i 0).val, (i 1).val] :=
  congr (congrArg (fun a b : ℕ => ![a, b]) (heads_table (i 0)).1) (rows_table (i 1))

theorem off2_eq (i : grid0.Coords) : k0_off2 i = ![2 * (i 0).val + 1, (i 1).val] :=
  congr (congrArg (fun a b : ℕ => ![a, b]) (heads_table (i 0)).2) (rows_table (i 1))

/-- The word the body reads of the table for one of its heads. -/
theorem word_read (c : Dev nD) (xt : TbBuf0 (F := Ideal) c tbM0_0) {off : Fin 2 → ℕ} {inb : ∀ a, off a + S1x1.size a ≤ S16x16.size a}
    {a b : ℕ} (hoff : off = ![a, b]) (p : 0 < S1x1.numel) :
    BitVec.toNat (tbM0_0.view.readAt (Elt Ideal) (Rect.unit (s := S16x16) off S1x1.size inb).toLoadRect xt (Shape.Idx.first p))
      = wordAt xt a b := by
  subst hoff
  have e : ∀ d : Fin 2, ((Shape.Idx.first p : S1x1.Idx) d).val = 0 := fun d => by
    match d with
    | ⟨0, _⟩ => exact Nat.lt_one_iff.mp (Fin.isLt _)
    | ⟨1, _⟩ => exact Nat.lt_one_iff.mp (Fin.isLt _)
  refine (wordAt_eq xt _).symm.trans ?_
  show wordAt xt (a + 1 * ((Shape.Idx.first p : S1x1.Idx) 0).val) (b + 1 * ((Shape.Idx.first p : S1x1.Idx) 1).val) = _
  rw [e 0, e 1, Nat.mul_zero, Nat.add_zero, Nat.add_zero]

/-- The body's output block at an index, from its heads' sums. -/
theorem outBlk_at (c : Dev nD) (i : grid0.Coords) (arg3 : Memref sig .tc .vmem S2x1024x128 .bf16) (harg3 : arg3.IsWhole)
    (arg4 : Memref sig .tc .vmem S2x16384x128 .bf16) (harg4 : arg4.IsWhole)
    (arg5 : Memref sig .tc .vmem S2x32x80x512 .bf16) (harg5 : arg5.IsWhole)
    (arg6 : Memref sig .tc .vmem S1024x128 .bf16) (harg6 : arg6.IsWhole)
    (arg7 : Memref sig .tc .vmem S2x1x1024 .f32) (harg7 : arg7.IsWhole)
    (arg8 : Memref sig .tc .vmem S2x80x1024 .f32) (harg8 : arg8.IsWhole)
    (arg9 : Memref sig .tc .vmem S2x512x1024 .f32) (harg9 : arg9.IsWhole)
    (arg10 : Memref sig .tc .vmem S2x512x1024 .f32) (harg10 : arg10.IsWhole)
    (q k : Vec Ideal S16x16384x128 .bf16) (v : Vec Ideal S16x32x80x512 .bf16) (xt0 : TbBuf0 (F := Ideal) c tbM0_0)
    (x0 : Vec Ideal S2x1024x128 .bf16) (x1 : Vec Ideal S2x16384x128 .bf16) (x2 : Vec Ideal S2x32x80x512 .bf16)
    (h0 : ∀ y, x0 y = at3 q (2 * (i 0).val + (y 0).val) (1024 * (i 1).val + (y 1).val) (y 2).val)
    (h1 : ∀ y, x1 y = at3 k (2 * (i 0).val + (y 0).val) (y 1).val (y 2).val)
    (h2 : ∀ y, x2 y = at4 v (2 * (i 0).val + (y 0).val) (y 1).val (y 2).val (y 3).val)
    (hq : ∀ x, ∃ r : ℝ, q x = (r : EReal)) (hk : ∀ x, ∃ r : ℝ, k x = (r : EReal))
    (hle : ∀ x : S16x16.Idx, BitVec.toNat (xt0 x) ≤ 2 * (x 1).val) (hev : ∀ x : S16x16.Idx, BitVec.toNat (xt0 x) % 2 = 0)
    (hw) (l : Fin 1024) (h : Fin 2) (j : Fin 64) :
    outBlk (F := Ideal) c i arg3 harg3 arg4 harg4 arg5 harg5 arg6 harg6 arg7 harg7 arg8 harg8 arg9 harg9 arg10 harg10 x0 x1 x2 xt0 hw (ix2 l ⟨64 * h.val + j.val, by omega⟩)
      = Ideal.div (headSum q k v xt0 (2 * (i 0).val + h.val) (1024 * (i 1).val + l.val) j.val)
          (headSum q k v xt0 (2 * (i 0).val + h.val) (1024 * (i 1).val + l.val) 64) := by
  have i0 : (i 0).val < 8 := (i 0).isLt
  have i1 := point_lt i
  have w3 := word_read c xt0 (a := 2 * (i 0).val) (b := (i 1).val) (inb := k0_off1_inb i) (off1_eq i) (numel1_S1x1.symm ▸ Nat.one_pos)
  have w8 := word_read c xt0 (a := 2 * (i 0).val + 1) (b := (i 1).val) (inb := k0_off2_inb i) (off2_eq i) (numel1_S1x1.symm ▸ Nat.one_pos)
  have hle' : ∀ a, a < 16 → wordAt xt0 a (i 1).val ≤ 2 * (i 1).val := fun a ha => by
    have e := hle (ix2 ⟨a, ha⟩ ⟨(i 1).val, by omega⟩)
    rw [← wordAt_eq] at e
    exact e
  have hev' : ∀ a, a < 16 → wordAt xt0 a (i 1).val % 2 = 0 := fun a ha => by
    have e := hev (ix2 ⟨a, ha⟩ ⟨(i 1).val, by omega⟩)
    rw [← wordAt_eq] at e
    exact e
  have L := sums_held c i arg3 harg3 arg4 harg4 arg5 harg5 arg6 harg6 arg7 harg7 arg8 harg8 arg9 harg9 arg10 harg10 x0 x1 x2 (Q := fun a b d => at3 q (2 * (i 0).val + a) (1024 * (i 1).val + b) d)
    (K := fun a b d => at3 k (2 * (i 0).val + a) b d) (V := fun a t r n => at4 v (2 * (i 0).val + a) t r n) h0 h1 h2
    (fun a b d => at3_real hq _ _ _) (fun a b d => at3_real hk _ _ _) _ _ hw
    (w3.trans_le (hle' _ (by omega))) (w8.trans_le (hle' _ (by omega)))
    ((congrArg (· % 2) w3).trans (hev' _ (by omega))) ((congrArg (· % 2) w8).trans (hev' _ (by omega)))
  have R : (1024 * (i 1).val + l.val) / 1024 = (i 1).val := by omega
  rw [outBlk_eq, quotients_apply]
  match h with
  | ⟨0, _⟩ =>
    rw [if_pos rfl]
    unfold sumsOf
    rw [sums_load arg8 L rfl, sums_load arg8 L rfl]
    unfold headSum
    rw [R]
    exact congrArg (fun n => Ideal.div
      (acc (fun t c => score q k (2 * (i 0).val + 0) (1024 * (i 1).val + l.val) (512 * t + c.val)) (fun t c => at4 v (2 * (i 0).val + 0) t j.val c.val) (Finset.Ico n (2 * (i 1).val + 2)))
      (acc (fun t c => score q k (2 * (i 0).val + 0) (1024 * (i 1).val + l.val) (512 * t + c.val)) (fun t c => at4 v (2 * (i 0).val + 0) t 64 c.val) (Finset.Ico n (2 * (i 1).val + 2)))) w3
  | ⟨1, _⟩ =>
    rw [if_neg Nat.one_ne_zero]
    unfold sumsOf
    rw [sums_load arg8 L rfl, sums_load arg8 L rfl]
    unfold headSum
    rw [R]
    exact congrArg (fun n => Ideal.div
      (acc (fun t c => score q k (2 * (i 0).val + 1) (1024 * (i 1).val + l.val) (512 * t + c.val)) (fun t c => at4 v (2 * (i 0).val + 1) t j.val c.val) (Finset.Ico n (2 * (i 1).val + 2)))
      (acc (fun t c => score q k (2 * (i 0).val + 1) (1024 * (i 1).val + l.val) (512 * t + c.val)) (fun t c => at4 v (2 * (i 0).val + 1) t 64 c.val) (Finset.Ico n (2 * (i 1).val + 2)))) w8

/-- An index of the output's block as a row, a head of the pair and a column of the head. -/
theorem block_idx (y : S1024x128.Idx) : ∃ (l : Fin 1024) (h : Fin 2) (j : Fin 64), y = ix2 l ⟨64 * h.val + j.val, by omega⟩ := by
  have h1 : (y 1).val < 128 := (y 1).isLt
  refine ⟨y 0, ⟨(y 1).val / 64, by omega⟩, ⟨(y 1).val % 64, Nat.mod_lt _ (by decide)⟩, ?_⟩
  funext a
  match a with
  | ⟨0, _⟩ => rfl
  | ⟨1, _⟩ => exact Fin.ext (Nat.div_add_mod _ _).symm

/-- The output array after the run. -/
theorem array_eq (hO : Ok m) (hH : Hyps m hO) (c : Dev nD)
    (hq : ∀ x, ∃ r : ℝ, m ((c : Thread nD τ).loc main_arg0) x = (r : EReal))
    (hk : ∀ x, ∃ r : ℝ, m ((c : Thread nD τ).loc main_arg1) x = (r : EReal))
    (hle : ∀ x : S16x16.Idx, BitVec.toNat (tbl m 0 x) ≤ 2 * (x 1).val) (hev : ∀ x : S16x16.Idx, BitVec.toNat (tbl m 0 x) % 2 = 0) :
    (dats m hO hH 0 c).arrAt 3 (cfgM m hO).N
      = attended (m ((c : Thread nD τ).loc main_arg0)) (m ((c : Thread nD τ).loc main_arg1)) (m ((c : Thread nD τ).loc main_arg2)) (tbl m 0) := by
  refine (dats m hO hH 0 c).arrAt_eq_of_covers 3 _ ?_ fun t hf y => ?_
  · refine ((cfgM m hO).win 3).covers_of_indexMap_surj rfl ?_ fun β => ?_
    · exact (by decide : ∀ a : Fin 2, 0 < (![1024, 128] : Fin 2 → ℕ) a)
    · have b0 : (β (0 : Fin 2)).val < 16 := (β (0 : Fin 2)).isLt.trans_eq (by show (16384 + 1024 - 1) / 1024 = 16; rfl)
      have b1 : (β (1 : Fin 2)).val < 8 := (β (1 : Fin 2)).isLt.trans_eq (by show (1024 + 128 - 1) / 128 = 8; rfl)
      refine ⟨(Fin.cons ⟨(β (1 : Fin 2)).val, b1⟩ (Fin.cons ⟨(β (0 : Fin 2)).val, b0⟩ finZeroElim) : (a : Fin 2) → Fin (grid0.bound a)), fun a => ?_⟩
      match (a : Fin 2) with
      | ⟨0, _⟩ => exact row_word _
      | ⟨1, _⟩ => exact pair_word _
  · obtain ⟨l, h, j, e⟩ := block_idx y
    subst e
    refine Eq.trans ?_ ((outBlk_at c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) scM0_3 (Memref.isWhole_whole _)
      (m ((c : Thread nD τ).loc main_arg0)) (m ((c : Thread nD τ).loc main_arg1)) (m ((c : Thread nD τ).loc main_arg2)) (tbl m 0)
      (iblk m hO c 0 t) (iblk m hO c 1 t) (iblk m hO c 2 t) (queries_block m hO c t) (keys_block m hO c t) (values_block m hO c t)
      hq hk hle hev (Hyps.c0 hH c t) l h j).trans ?_)
    · blk_simp
      rw [after0_3]
      rfl
    · unfold attended
      blk_simp
      have e0 : ((cfgM m hO).win 3).index t (0 : Fin 2) = (grid0.coords t 1).val := row_word _
      have e1 : ((cfgM m hO).win 3).index t (1 : Fin 2) = (grid0.coords t 0).val := pair_word _
      have hj := j.isLt
      have hh := h.isLt
      rw [e0, e1]
      rw [show ((grid0.coords t 0).val * 128 + (64 * h.val + j.val)) / 64 = 2 * (grid0.coords t 0).val + h.val by omega,
        show ((grid0.coords t 0).val * 128 + (64 * h.val + j.val)) % 64 = j.val by omega, Nat.mul_comm 1024]

end Cert.KernelIdeal.Flash

end
-- ==== Proof.lean ====
/- The attention call, the last feed-forward call, the sample's keys and values and the prompt's first short
   convolution, each with its reference: the frames, the named constant, the value claims. -/
module

public import proofs.«01_k».proof.Defs
public import proofs.«01_k».proof.Proof.Gen.Kernel.Frame
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Equate
public import proofs.«01_k».proof.Proof.FeedOut
public import proofs.«01_k».proof.Proof.FeedSoft
public import proofs.«01_k».proof.Proof.KeyOut
public import proofs.«01_k».proof.Proof.KeySoft
public import proofs.«01_k».proof.Proof.MixOut
public import proofs.«01_k».proof.Proof.MixSoft
public import proofs.«01_k».proof.Proof.Launch
public import proofs.«01_k».proof.Proof.Out
public import proofs.«01_k».proof.Proof.Words

@[expose] public section

noncomputable section

namespace Cert.Proof

open Idealize.ShloMosaic Idealize.SL.Sem

theorem frame_bits : Cert.quiescent_Kernel := fun m g h =>
  Cert.Kernel.Gen.frame m g trivial
    (Cert.Flash.hyps_bits m (fun x => Cert.Flash.word_of_tiles _ _ _ _ (h 0) x) trivial)

theorem frame_ideal : Cert.quiescent_KernelIdeal := fun m g h =>
  Cert.KernelIdeal.Flash.frame m g trivial
    (Cert.Flash.hyps_ideal m (fun x => Cert.Flash.word_of_tiles _ _ _ _ (h 0) x) trivial)

/-- The first-tile words `packed` allows are at most 30. -/
theorem word_of_packed {q k : FVec Ideal Cert.Pre_packed.S16x16384x128 .bf16} {v : FVec Ideal Cert.Pre_packed.S16x32x80x512 .bf16}
    {w : IVec Cert.Pre_packed.S16x16 32} (P : Cert.Flash.Packed q k v w) (x : Cert.Pre_packed.S16x16.Idx) : (w x).toNat ≤ 32 := by
  have h := P.first_le x
  have hx : (x 1).val < 16 := (x 1).isLt
  omega

theorem frame_packed : Cert.quiescent_KernelIdeal_pre_packed := fun m g h =>
  Cert.KernelIdeal.Flash.frame m g trivial
    (Cert.Flash.hyps_ideal m (fun x => word_of_packed (Cert.Flash.packed_of _ _ _ _ (h 0)) x) trivial)

theorem frame_reference : Cert.quiescent_ReferenceIdeal := fun m g _ =>
  (θ_run _ _ _).mono (fun r h => ⟨fun c => (h c).2, sem_eq_zero_of_no_sems (by decide) r.2⟩) (Cert.ReferenceIdeal.Value.run m g)

theorem frame_reference_packed : Cert.quiescent_ReferenceIdeal_pre_packed := fun m g _ => frame_reference m g trivial

section value
open Cert.KernelIdeal Cert.KernelIdeal.Gen Cert.KernelIdeal.Flash

/-- The kernel ends with its output at the attention's value. -/
theorem kernel_value (m : (ℓ : Loc nD τ sig) → Buf (Elt Ideal) ℓ) (g : Dev nD → PrngReg) (h : Cert.Pre_KernelIdeal_packed m) :
    θ_run (defs (F := Ideal)) (onTc (τ := τ) (main (F := Ideal))) ⟨m, fun _ => 0, g⟩ (fun r => ∀ c : Dev nD,
      r.2.mem ((c.tc : Thread nD τ).loc main_v0)
        = Cert.Flash.attended (m ((c.tc : Thread nD τ).loc main_arg0)) (m ((c.tc : Thread nD τ).loc main_arg1)) (m ((c.tc : Thread nD τ).loc main_arg2)) (m ((c.tc : Thread nD τ).loc main_arg3))) := by
  have P := Cert.Flash.packed_of _ _ _ _ (h 0)
  have hH : Hyps m trivial := Cert.Flash.hyps_ideal m (fun x => word_of_packed P x) trivial
  refine (θ_run _ _ _).mono (fun r e c => ?_) (run_main m g trivial hH)
  obtain rfl : c = 0 := Subsingleton.elim _ _
  exact (e.out_eq 0 3).trans (array_eq m trivial hH 0 P.query_finite P.key_finite P.first_le P.first_even)

end value

theorem value : Cert.algebraic_KernelIdeal_ReferenceIdeal_pre_packed := fun m g m' g' h he => by
  refine ⟨fun c => Cert.Flash.attended (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run _ _ _).mono (fun r e c => ⟨e.1 c, e.2.1 c⟩) (θ_run_and (kernel_value m g h) (frame_packed m g h))
  · refine (θ_run _ _ _).mono (fun r e c => ⟨(e c).1.trans ?_, (e c).2⟩) (Cert.ReferenceIdeal.Value.run m' g')
    obtain ⟨e0, e1, e2, e3⟩ := he c
    refine (Cert.ReferenceIdeal.Soft.res_eq m' c).trans ?_
    rw [e0, e1, e2, e3]
    exact (Cert.Flash.attended_eq (Cert.Flash.packed_of _ _ _ _ (h c))).symm

theorem frame_feed : Cert.quiescent_Kernel2 := fun m g _ => Cert.Kernel2.Gen.frame m g

theorem frame_feed_ideal : Cert.quiescent_Kernel2Ideal := fun m g _ => Cert.Kernel2Ideal.Gen.frame m g

theorem frame_feed_reference : Cert.quiescent_Reference2Ideal := fun m g _ =>
  (θ_run _ _ _).mono (fun r h => ⟨fun c => (h c).2, sem_eq_zero_of_no_sems (by decide) r.2⟩) (Cert.Reference2Ideal.Value.run m g)

/-- An index of the trunk as its row and its column. -/
theorem trunk_idx (y : Cert.Kernel2Ideal.S16384x1024.Idx) : y = ix2 (y 0) (y 1) := by
  funext a
  match a with
  | ⟨0, _⟩ => rfl
  | ⟨1, _⟩ => rfl

theorem value_feed : Cert.algebraic_Kernel2Ideal_Reference2Ideal := fun m g m' g' _ he => by
  refine ⟨fun c => fun y : Cert.Kernel2Ideal.S16384x1024.Idx => Cert.Kernel2Ideal.Feed.lastOut m c (y 0) (y 1), ?_, ?_⟩
  · exact (θ_run _ _ _).mono (fun r e c => ⟨(e c).1.trans (Cert.Kernel2Ideal.Feed.array_eq m c), (e c).2⟩) (Cert.Kernel2Ideal.Value.run_blocks m g)
  · refine (θ_run _ _ _).mono (fun r e c => ⟨(e c).1.trans ?_, (e c).2⟩) (Cert.Reference2Ideal.Value.run m' g')
    obtain ⟨e0, e1, e2, e3, e4, e5, e6⟩ := he c
    refine (Cert.Reference2Ideal.Feed.res_eq m' c).trans ?_
    rw [e0, e1, e2, e3, e4, e5, e6]
    funext y
    refine (congrArg _ (trunk_idx y)).trans ?_
    exact Cert.Reference2Ideal.Feed.out_at _ _ _ _ _ _ _ (y 0) (y 1)

theorem frame_keys : Cert.quiescent_Kernel3 := fun m g _ => Cert.Kernel3.Gen.frame m g

theorem frame_keys_ideal : Cert.quiescent_Kernel3Ideal := fun m g _ => Cert.Kernel3Ideal.Gen.frame m g

theorem frame_keys_reference : Cert.quiescent_Reference3Ideal := fun m g _ =>
  (θ_run _ _ _).mono (fun r h => ⟨fun c => (h c).2.2.2, sem_eq_zero_of_no_sems (by decide) r.2⟩) (Cert.Reference3Ideal.Value.run m g)

/-- An index of the sample's keys as its row and its column. -/
theorem sample_idx (y : Cert.Kernel3Ideal.S512x1024.Idx) : y = ix2 (y 0) (y 1) := by
  funext a
  match a with
  | ⟨0, _⟩ => rfl
  | ⟨1, _⟩ => rfl

/-- An index of the sample's forget gates as its row and its column. -/
theorem gate_idx (y : Cert.Kernel3Ideal.S512x16.Idx) : y = ix2 (y 0) (y 1) := by
  funext a
  match a with
  | ⟨0, _⟩ => rfl
  | ⟨1, _⟩ => rfl

theorem value_keys : Cert.algebraic_Kernel3Ideal_Reference3Ideal := fun m g m' g' _ he => by
  refine ⟨fun c => fun y : Cert.Kernel3Ideal.S512x1024.Idx => Cert.Kernel3Ideal.Keys.keysOut m c (y 0) (y 1),
    fun c => fun y : Cert.Kernel3Ideal.S512x1024.Idx => Cert.Kernel3Ideal.Keys.valuesOut m c (y 0) (y 1),
    fun c => fun y : Cert.Kernel3Ideal.S512x16.Idx => Cert.Kernel3Ideal.Keys.gatesOut m c (y 0) (y 1), ?_, ?_⟩
  · exact (θ_run _ _ _).mono (fun r e c => ⟨(e c).1.trans (Cert.Kernel3Ideal.Keys.keys_eq m c), (e c).2.1.trans (Cert.Kernel3Ideal.Keys.values_eq m c),
      (e c).2.2.1.trans (Cert.Kernel3Ideal.Keys.gates_eq m c), (e c).2.2.2⟩) (Cert.Kernel3Ideal.Value.run_blocks m g)
  · refine (θ_run _ _ _).mono (fun r e c => ⟨(e c).1.trans ?_, (e c).2.1.trans ?_, (e c).2.2.1.trans ?_, (e c).2.2.2⟩) (Cert.Reference3Ideal.Value.run m' g')
    · obtain ⟨e0, e1, e2, e3, e4, e5⟩ := he c
      show Cert.Reference3Ideal.Keys.project _ _ _ = _
      rw [e0, e1, e2]
      funext y
      refine (congrArg _ (sample_idx y)).trans ?_
      exact Cert.Reference3Ideal.Keys.project_at _ _ _ (y 0) (y 1)
    · obtain ⟨e0, e1, e2, e3, e4, e5⟩ := he c
      show Cert.Reference3Ideal.Keys.project _ _ _ = _
      rw [e0, e1, e3]
      funext y
      refine (congrArg _ (sample_idx y)).trans ?_
      exact Cert.Reference3Ideal.Keys.project_at _ _ _ (y 0) (y 1)
    · obtain ⟨e0, e1, e2, e3, e4, e5⟩ := he c
      refine (Cert.Reference3Ideal.Keys.res_eq m' c).trans ?_
      rw [e0, e1, e4, e5]
      funext y
      refine (congrArg _ (gate_idx y)).trans ?_
      refine (Cert.Reference3Ideal.Keys.forget_at _ (y 0) (y 1)).trans ?_
      exact congrArg Cert.Keys.logGate (Cert.Reference3Ideal.Keys.gate_at _ _ _ _ (y 0) (y 1))

theorem frame_mix : Cert.quiescent_Kernel4 := fun m g _ => Cert.Kernel4.Gen.frame m g

theorem frame_mix_ideal : Cert.quiescent_Kernel4Ideal := fun m g _ => Cert.Kernel4Ideal.Gen.frame m g

theorem frame_mix_reference : Cert.quiescent_Reference4Ideal := fun m g _ =>
  (θ_run _ _ _).mono (fun r h => ⟨fun c => (h c).2.2, sem_eq_zero_of_no_sems (by decide) r.2⟩) (Cert.Reference4Ideal.Value.run m g)

/-- An index of the prompt's stream as its row and its column. -/
theorem stream_idx (y : Cert.Kernel4Ideal.S16384x1024.Idx) : y = ix2 (y 0) (y 1) := by
  funext a
  match a with
  | ⟨0, _⟩ => rfl
  | ⟨1, _⟩ => rfl

/-- An index of the convolution's last rows as its row and its column. -/
theorem tail_idx (y : Cert.Kernel4Ideal.S8x1024.Idx) : y = ix2 (y 0) (y 1) := by
  funext a
  match a with
  | ⟨0, _⟩ => rfl
  | ⟨1, _⟩ => rfl

theorem value_mix : Cert.algebraic_Kernel4Ideal_Reference4Ideal := fun m g m' g' _ he => by
  refine ⟨fun c => fun y : Cert.Kernel4Ideal.S16384x1024.Idx => Cert.Kernel4Ideal.Mix.mixOut m c (y 0) (y 1),
    fun c => fun y : Cert.Kernel4Ideal.S8x1024.Idx => Cert.Kernel4Ideal.Mix.tailOut m c (y 0) (y 1), ?_, ?_⟩
  · exact (θ_run _ _ _).mono (fun r e c => ⟨(e c).1.trans (Cert.Kernel4Ideal.Mix.array_eq m c),
      (e c).2.1.trans (Cert.Kernel4Ideal.Mix.tail_eq_array m c), (e c).2.2⟩) (Cert.Kernel4Ideal.Value.run_blocks m g)
  · refine (θ_run _ _ _).mono (fun r e c => ⟨(e c).1.trans ?_, (e c).2.1.trans ?_, (e c).2.2⟩) (Cert.Reference4Ideal.Value.run m' g')
    · obtain ⟨e0, e1, e2, e3, e4⟩ := he c
      refine (Cert.Reference4Ideal.Mix.res_eq m' c).trans ?_
      rw [e0, e1, e2, e3, e4]
      funext y
      refine (congrArg _ (stream_idx y)).trans ?_
      exact Cert.Reference4Ideal.Mix.out_at _ _ _ _ _ (y 0) (y 1)
    · obtain ⟨e0, e1, e2, e3, e4⟩ := he c
      show Cert.Reference4Ideal.Mix.lastRows (Cert.Reference4Ideal.Mix.padded (Cert.Reference4Ideal.Mix.inputs (Cert.Reference4Ideal.Mix.thrice _ _ _))) = _
      rw [e0, e1, e2]
      funext y
      refine (congrArg _ (tail_idx y)).trans ?_
      exact Cert.Reference4Ideal.Mix.lastRows_at _ _ _ (y 0) (y 1)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Flash.tilesFacts, Cert.Flash.packedFacts,
    frame_bits, frame_ideal, frame_packed, frame_reference, frame_reference_packed, frame_feed, frame_feed_ideal, frame_feed_reference,
    frame_keys, frame_keys_ideal, frame_keys_reference, frame_mix, frame_mix_ideal, frame_mix_reference,
    IdealRules.named_const.statement _ _ _ _ _ rfl, value, trivial, value_feed, trivial, value_keys, trivial, value_mix⟩

end Cert.Proof

end
